-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries [hPre_finite_queries : Cert.Pre_finite_queries.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries [hPre_finite_queries : Cert.Pre_finite_queries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries [hKernelIdeal : Cert.KernelIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries [hReferenceIdeal : Cert.ReferenceIdeal.Facts] [hPre_finite_queries : Cert.Pre_finite_queries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "score_scale_log2e" .f32 0x3DE995B3#32 (((Real.sqrt 160)⁻¹ * (Real.log 2)⁻¹ : ℝ) : EReal)

def algebraic_KernelIdeal_ReferenceIdeal_pre_finite_queries [hKernelIdeal : Cert.KernelIdeal.Facts] [hReferenceIdeal : Cert.ReferenceIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_queries : Cert.Pre_finite_queries.Facts),
    quiescent_Kernel (hKernel := hKernel)
    ∧ quiescent_KernelIdeal (hKernelIdeal := hKernelIdeal)
    ∧ quiescent_KernelIdeal_pre_finite_queries (hKernelIdeal := hKernelIdeal) (hPre_finite_queries := hPre_finite_queries)
    ∧ quiescent_ReferenceIdeal (hReferenceIdeal := hReferenceIdeal)
    ∧ quiescent_ReferenceIdeal_pre_finite_queries (hReferenceIdeal := hReferenceIdeal) (hPre_finite_queries := hPre_finite_queries)
    ∧ preserves_Kernel_KernelIdeal
    ∧ algebraic_KernelIdeal_ReferenceIdeal_pre_finite_queries (hKernelIdeal := hKernelIdeal) (hReferenceIdeal := hReferenceIdeal) (hPre_finite_queries := hPre_finite_queries)
-- ==== Pre_finite_queries.lean ====
abbrev S2x15360x5120 : Shape := ⟨3, ![2, 15360, 5120]⟩
abbrev S2x8x15360x256 : Shape := ⟨4, ![2, 8, 15360, 256]⟩
abbrev S2x8x160x15360 : Shape := ⟨4, ![2, 8, 160, 15360]⟩
abbrev S2x8x240 : Shape := ⟨3, ![2, 8, 240]⟩
abbrev S2x8x160 : Shape := ⟨3, ![2, 8, 160]⟩
abbrev S_ : Shape := ⟨0, ![]⟩

class Facts : Prop where
  bitsLt_bf16_f32 : FTy.bits .bf16 < FTy.bits .f32
  bcast_S_S2x15360x5120 : S_.BroadcastsInDim S2x15360x5120 (![] : Fin 0 → Fin S2x15360x5120.rank)

variable [Facts]

def fn {F : FTy → Type} [FloatOps F] (main_arg0 : FVec F S2x15360x5120 .bf16) (main_arg1 : FVec F S2x8x15360x256 .fp8e4m3) (main_arg2 : FVec F S2x8x160x15360 .fp8e4m3) (main_arg3 : FVec F S2x8x240 .f32) (main_arg4 : FVec F S2x8x160 .f32) : IVec S2x15360x5120 1 :=
  let main_v0 : FVec F S2x15360x5120 .f32 := (extf .f32 · bitsLt_bf16_f32) main_arg0
  let main_v1 : FVec F S2x15360x5120 .f32 := Host.absf main_v0
  let main_cst : FVec F S_ .f32 := constant S_ .f32 0x7F7F0000#32
  let main_v2 : FVec F S2x15360x5120 .f32 := broadcastInDim S2x15360x5120 ![] bcast_S_S2x15360x5120 main_cst
  let main_v3 : IVec S2x15360x5120 1 := cmpf .ole main_v1 main_v2
  main_v3
-- ==== Kernel.lean ====
abbrev S2x15360x5120 : Shape := ⟨3, ![2, 15360, 5120]⟩
abbrev S2x8x15360x256 : Shape := ⟨4, ![2, 8, 15360, 256]⟩
abbrev S2x8x160x15360 : Shape := ⟨4, ![2, 8, 160, 15360]⟩
abbrev S2x8x240 : Shape := ⟨3, ![2, 8, 240]⟩
abbrev S2x8x160 : Shape := ⟨3, ![2, 8, 160]⟩
abbrev S2x8x240x1 : Shape := ⟨4, ![2, 8, 240, 1]⟩
abbrev S2x8x240x128 : Shape := ⟨4, ![2, 8, 240, 128]⟩
abbrev S2x8x160x1 : Shape := ⟨4, ![2, 8, 160, 1]⟩
abbrev S2x8x160x128 : Shape := ⟨4, ![2, 8, 160, 128]⟩
abbrev S16x120x4x128 : Shape := ⟨4, ![16, 120, 4, 128]⟩
abbrev S1x128x640 : Shape := ⟨3, ![1, 128, 640]⟩
abbrev S1x1x15360x256 : Shape := ⟨4, ![1, 1, 15360, 256]⟩
abbrev S1x1x160x15360 : Shape := ⟨4, ![1, 1, 160, 15360]⟩
abbrev S1x1x240x128 : Shape := ⟨4, ![1, 1, 240, 128]⟩
abbrev S1x1x160x128 : Shape := ⟨4, ![1, 1, 160, 128]⟩
abbrev S1x1x4x128 : Shape := ⟨4, ![1, 1, 4, 128]⟩
abbrev S15360x512 : Shape := ⟨2, ![15360, 512]⟩
abbrev S256x512 : Shape := ⟨2, ![256, 512]⟩
abbrev S4x240x128 : Shape := ⟨3, ![4, 240, 128]⟩
abbrev S8x512 : Shape := ⟨2, ![8, 512]⟩
abbrev S160x512 : Shape := ⟨2, ![160, 512]⟩
abbrev S8x128 : Shape := ⟨2, ![8, 128]⟩
abbrev S128x640 : Shape := ⟨2, ![128, 640]⟩
abbrev S1x640 : Shape := ⟨2, ![1, 640]⟩
abbrev S240x128 : Shape := ⟨2, ![240, 128]⟩
abbrev S256x256 : Shape := ⟨2, ![256, 256]⟩
abbrev S128x256 : Shape := ⟨2, ![128, 256]⟩
abbrev S256x128 : Shape := ⟨2, ![256, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x1x1x128 : Shape := ⟨4, ![1, 1, 1, 128]⟩
abbrev S1x240x128 : Shape := ⟨3, ![1, 240, 128]⟩
abbrev S64x128 : Shape := ⟨2, ![64, 128]⟩
abbrev S64x256 : Shape := ⟨2, ![64, 256]⟩
abbrev S1x1x160x256 : Shape := ⟨4, ![1, 1, 160, 256]⟩
abbrev S160x256 : Shape := ⟨2, ![160, 256]⟩
abbrev S1x1x256x256 : Shape := ⟨4, ![1, 1, 256, 256]⟩
abbrev S1x1x128 : Shape := ⟨3, ![1, 1, 128]⟩
abbrev S160x128 : Shape := ⟨2, ![160, 128]⟩
abbrev S640x128 : Shape := ⟨2, ![640, 128]⟩

abbrev nBuf : Space → Nat
  | .hbm => 12
  | .vmem => 21
  | .smem => 0
  | _ => 0

abbrev bufTy : (tb : Table) → Fin (tcTables nBuf tb) → BufTy
  | .hbm, ⟨0, _⟩ => ⟨S2x15360x5120, .bf16⟩
  | .hbm, ⟨1, _⟩ => ⟨S2x8x15360x256, .fp8e4m3⟩
  | .hbm, ⟨2, _⟩ => ⟨S2x8x160x15360, .fp8e4m3⟩
  | .hbm, ⟨3, _⟩ => ⟨S2x8x240, .f32⟩
  | .hbm, ⟨4, _⟩ => ⟨S2x8x160, .f32⟩
  | .hbm, ⟨5, _⟩ => ⟨S2x8x240x1, .f32⟩
  | .hbm, ⟨6, _⟩ => ⟨S2x8x240x128, .f32⟩
  | .hbm, ⟨7, _⟩ => ⟨S2x8x160x1, .f32⟩
  | .hbm, ⟨8, _⟩ => ⟨S2x8x160x128, .f32⟩
  | .hbm, ⟨9, _⟩ => ⟨S2x15360x5120, .bf16⟩
  | .hbm, ⟨10, _⟩ => ⟨S2x15360x5120, .fp8e4m3⟩
  | .hbm, ⟨11, _⟩ => ⟨S16x120x4x128, .f32⟩
  | .local _ .vmem, ⟨0, _⟩ => ⟨S1x128x640, .bf16⟩
  | .local _ .vmem, ⟨1, _⟩ => ⟨S1x128x640, .bf16⟩
  | .local _ .vmem, ⟨2, _⟩ => ⟨S1x1x15360x256, .fp8e4m3⟩
  | .local _ .vmem, ⟨3, _⟩ => ⟨S1x1x15360x256, .fp8e4m3⟩
  | .local _ .vmem, ⟨4, _⟩ => ⟨S1x1x160x15360, .fp8e4m3⟩
  | .local _ .vmem, ⟨5, _⟩ => ⟨S1x1x160x15360, .fp8e4m3⟩
  | .local _ .vmem, ⟨6, _⟩ => ⟨S1x1x240x128, .f32⟩
  | .local _ .vmem, ⟨7, _⟩ => ⟨S1x1x240x128, .f32⟩
  | .local _ .vmem, ⟨8, _⟩ => ⟨S1x1x160x128, .f32⟩
  | .local _ .vmem, ⟨9, _⟩ => ⟨S1x1x160x128, .f32⟩
  | .local _ .vmem, ⟨10, _⟩ => ⟨S1x128x640, .bf16⟩
  | .local _ .vmem, ⟨11, _⟩ => ⟨S1x128x640, .bf16⟩
  | .local _ .vmem, ⟨12, _⟩ => ⟨S1x128x640, .fp8e4m3⟩
  | .local _ .vmem, ⟨13, _⟩ => ⟨S1x128x640, .fp8e4m3⟩
  | .local _ .vmem, ⟨14, _⟩ => ⟨S1x1x4x128, .f32⟩
  | .local _ .vmem, ⟨15, _⟩ => ⟨S1x1x4x128, .f32⟩
  | .local _ .vmem, ⟨16, _⟩ => ⟨S15360x512, .f32⟩
  | .local _ .vmem, ⟨17, _⟩ => ⟨S256x512, .fp8e4m3⟩
  | .local _ .vmem, ⟨18, _⟩ => ⟨S4x240x128, .f32⟩
  | .local _ .vmem, ⟨19, _⟩ => ⟨S8x512, .f32⟩
  | .local _ .vmem, ⟨20, _⟩ => ⟨S160x512, .f32⟩
  | _, _ => ⟨S2x15360x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 121], ![false, false]⟩

def k0_cond1 (i : grid0.Coords) : BitVec 1 :=
  let arg1 : BitVec 32 := BitVec.ofNat 32 (i 1).val
  let c120_i32 : BitVec 32 := 120#32
  let v47 : BitVec 1 := Scalar.cmpi .slt arg1 c120_i32
  let v48 : BitVec 32 := Scalar.extui v47
  let c0_i32_20 : BitVec 32 := 0#32
  let v49 : BitVec 1 := Scalar.cmpi .ne v48 c0_i32_20
  v49

@[reducible] def k0_t1_loop (i : grid0.Coords) : Scf.Loop 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_171 : BitVec 32 := 1#32
  ⟨c0_i32_169, v515, c1_i32_171⟩
def k0_mult1 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_193 : BitVec 32 := 512#32
  let v562 : BitVec 32 := Scalar.muli arg15 c512_i32_193
  let c0_i32_194 : BitVec 32 := 0#32
  let v563 : BitVec 32 := Scalar.addi v562 c0_i32_194
  let c0_i32_195 : BitVec 32 := 0#32
  let v564 : BitVec 32 := Scalar.addi v563 c0_i32_195
  v564
def k0_off1 (i : grid0.Coords) (k0_t1 : Fin (k0_t1_loop i).trips) (c0_i32_194 : BitVec 32) (c0_i32_195 : BitVec 32) : Fin 2 → Nat :=
  let c0_i32_169 : BitVec 32 := 0#32
  let c1_i32_171 : BitVec 32 := 1#32
  let arg15 : BitVec 32 := Scf.iv c0_i32_169 c1_i32_171 k0_t1
  let c512_i32_193 : BitVec 32 := 512#32
  let v562 : BitVec 32 := Scalar.muli arg15 c512_i32_193
  let v563 : BitVec 32 := Scalar.addi v562 c0_i32_194
  let v564 : BitVec 32 := Scalar.addi v563 c0_i32_195
  let v565 : BitVec 32 := v564
  let v566 : Index := Scalar.indexCast v565
  let c0_196 : Index := 0#32
  ![v566.toNat, 0]
def k0_mult2 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_201 : BitVec 32 := 512#32
  let v593 : BitVec 32 := Scalar.muli arg15 c512_i32_201
  let c0_i32_202 : BitVec 32 := 0#32
  let v594 : BitVec 32 := Scalar.addi v593 c0_i32_202
  let c0_i32_203 : BitVec 32 := 0#32
  let v595 : BitVec 32 := Scalar.addi v594 c0_i32_203
  v595
def k0_off2 (i : grid0.Coords) (k0_t1 : Fin (k0_t1_loop i).trips) (c0_i32_202 : BitVec 32) (c0_i32_203 : BitVec 32) : Fin 2 → Nat :=
  let c0_i32_169 : BitVec 32 := 0#32
  let c1_i32_171 : BitVec 32 := 1#32
  let arg15 : BitVec 32 := Scf.iv c0_i32_169 c1_i32_171 k0_t1
  let c512_i32_201 : BitVec 32 := 512#32
  let v593 : BitVec 32 := Scalar.muli arg15 c512_i32_201
  let v594 : BitVec 32 := Scalar.addi v593 c0_i32_202
  let v595 : BitVec 32 := Scalar.addi v594 c0_i32_203
  let v596 : BitVec 32 := v595
  let v597 : Index := Scalar.indexCast v596
  let c128_204 : Index := 128#32
  ![v597.toNat, 128]
def k0_mult3 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_209 : BitVec 32 := 512#32
  let v625 : BitVec 32 := Scalar.muli arg15 c512_i32_209
  let c0_i32_210 : BitVec 32 := 0#32
  let v626 : BitVec 32 := Scalar.addi v625 c0_i32_210
  let c64_i32_211 : BitVec 32 := 64#32
  let v627 : BitVec 32 := Scalar.addi v626 c64_i32_211
  v627
def k0_mult4 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_217 : BitVec 32 := 512#32
  let v656 : BitVec 32 := Scalar.muli arg15 c512_i32_217
  let c0_i32_218 : BitVec 32 := 0#32
  let v657 : BitVec 32 := Scalar.addi v656 c0_i32_218
  let c64_i32_219 : BitVec 32 := 64#32
  let v658 : BitVec 32 := Scalar.addi v657 c64_i32_219
  v658
def k0_mult5 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_225 : BitVec 32 := 512#32
  let v688 : BitVec 32 := Scalar.muli arg15 c512_i32_225
  let c0_i32_226 : BitVec 32 := 0#32
  let v689 : BitVec 32 := Scalar.addi v688 c0_i32_226
  let c128_i32_227 : BitVec 32 := 128#32
  let v690 : BitVec 32 := Scalar.addi v689 c128_i32_227
  v690
def k0_mult6 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_233 : BitVec 32 := 512#32
  let v719 : BitVec 32 := Scalar.muli arg15 c512_i32_233
  let c0_i32_234 : BitVec 32 := 0#32
  let v720 : BitVec 32 := Scalar.addi v719 c0_i32_234
  let c128_i32_235 : BitVec 32 := 128#32
  let v721 : BitVec 32 := Scalar.addi v720 c128_i32_235
  v721
def k0_mult7 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_241 : BitVec 32 := 512#32
  let v751 : BitVec 32 := Scalar.muli arg15 c512_i32_241
  let c0_i32_242 : BitVec 32 := 0#32
  let v752 : BitVec 32 := Scalar.addi v751 c0_i32_242
  let c192_i32 : BitVec 32 := 192#32
  let v753 : BitVec 32 := Scalar.addi v752 c192_i32
  v753
def k0_mult8 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_248 : BitVec 32 := 512#32
  let v782 : BitVec 32 := Scalar.muli arg15 c512_i32_248
  let c0_i32_249 : BitVec 32 := 0#32
  let v783 : BitVec 32 := Scalar.addi v782 c0_i32_249
  let c192_i32_250 : BitVec 32 := 192#32
  let v784 : BitVec 32 := Scalar.addi v783 c192_i32_250
  v784
def k0_mult9 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_256 : BitVec 32 := 512#32
  let v815 : BitVec 32 := Scalar.muli arg15 c512_i32_256
  let c0_i32_257 : BitVec 32 := 0#32
  let v816 : BitVec 32 := Scalar.addi v815 c0_i32_257
  v816
def k0_off3 (i : grid0.Coords) (k0_t1 : Fin (k0_t1_loop i).trips) (c0_i32_257 : BitVec 32) : Fin 4 → Nat :=
  let c0_258 : Index := 0#32
  let c0_259 : Index := 0#32
  let c0_260 : Index := 0#32
  let c0_i32_169 : BitVec 32 := 0#32
  let c1_i32_171 : BitVec 32 := 1#32
  let arg15 : BitVec 32 := Scf.iv c0_i32_169 c1_i32_171 k0_t1
  let c512_i32_256 : BitVec 32 := 512#32
  let v815 : BitVec 32 := Scalar.muli arg15 c512_i32_256
  let v816 : BitVec 32 := Scalar.addi v815 c0_i32_257
  let v817 : BitVec 32 := v816
  let v818 : Index := Scalar.indexCast v817
  ![0, 0, 0, v818.toNat]
def k0_mult10 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_262 : BitVec 32 := 512#32
  let v822 : BitVec 32 := Scalar.muli arg15 c512_i32_262
  let c0_i32_263 : BitVec 32 := 0#32
  let v823 : BitVec 32 := Scalar.addi v822 c0_i32_263
  v823
def k0_off4 (i : grid0.Coords) (k0_t1 : Fin (k0_t1_loop i).trips) (c0_i32_263 : BitVec 32) : Fin 4 → Nat :=
  let c0_264 : Index := 0#32
  let c0_265 : Index := 0#32
  let c0_i32_169 : BitVec 32 := 0#32
  let c1_i32_171 : BitVec 32 := 1#32
  let arg15 : BitVec 32 := Scf.iv c0_i32_169 c1_i32_171 k0_t1
  let c512_i32_262 : BitVec 32 := 512#32
  let v822 : BitVec 32 := Scalar.muli arg15 c512_i32_262
  let v823 : BitVec 32 := Scalar.addi v822 c0_i32_263
  let v824 : BitVec 32 := v823
  let v825 : Index := Scalar.indexCast v824
  let c0_266 : Index := 0#32
  ![0, 0, v825.toNat, 0]
def k0_off5 (i : grid0.Coords) (k0_t1 : Fin (k0_t1_loop i).trips) (c0_i32_270 : BitVec 32) (c0_i32_271 : BitVec 32) : Fin 3 → Nat :=
  let c0_272 : Index := 0#32
  let c0_i32_169 : BitVec 32 := 0#32
  let c1_i32_171 : BitVec 32 := 1#32
  let arg15 : BitVec 32 := Scf.iv c0_i32_169 c1_i32_171 k0_t1
  let c8_i32 : BitVec 32 := 8#32
  let v830 : BitVec 32 := Scalar.muli arg15 c8_i32
  let v831 : BitVec 32 := Scalar.addi v830 c0_i32_270
  let v832 : BitVec 32 := Scalar.addi v831 c0_i32_271
  let v834 : Index := Scalar.indexCast v832
  let c0_273 : Index := 0#32
  ![0, v834.toNat, 0]
def k0_mult11 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_274 : BitVec 32 := 512#32
  let v839 : BitVec 32 := Scalar.muli arg15 c512_i32_274
  let c0_i32_275 : BitVec 32 := 0#32
  let v840 : BitVec 32 := Scalar.addi v839 c0_i32_275
  let c0_i32_276 : BitVec 32 := 0#32
  let v841 : BitVec 32 := Scalar.addi v840 c0_i32_276
  v841
def k0_off6 (i : grid0.Coords) (k0_t1 : Fin (k0_t1_loop i).trips) (c0_i32_279 : BitVec 32) (c0_i32_280 : BitVec 32) : Fin 3 → Nat :=
  let c1_281 : Index := 1#32
  let c0_i32_169 : BitVec 32 := 0#32
  let c1_i32_171 : BitVec 32 := 1#32
  let arg15 : BitVec 32 := Scf.iv c0_i32_169 c1_i32_171 k0_t1
  let c8_i32_278 : BitVec 32 := 8#32
  let v863 : BitVec 32 := Scalar.muli arg15 c8_i32_278
  let v864 : BitVec 32 := Scalar.addi v863 c0_i32_279
  let v865 : BitVec 32 := Scalar.addi v864 c0_i32_280
  let v867 : Index := Scalar.indexCast v865
  let c0_282 : Index := 0#32
  ![1, v867.toNat, 0]
def k0_mult12 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_283 : BitVec 32 := 512#32
  let v872 : BitVec 32 := Scalar.muli arg15 c512_i32_283
  let c0_i32_284 : BitVec 32 := 0#32
  let v873 : BitVec 32 := Scalar.addi v872 c0_i32_284
  let c0_i32_285 : BitVec 32 := 0#32
  let v874 : BitVec 32 := Scalar.addi v873 c0_i32_285
  v874
def k0_mult13 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_292 : BitVec 32 := 512#32
  let v905 : BitVec 32 := Scalar.muli arg15 c512_i32_292
  let c0_i32_293 : BitVec 32 := 0#32
  let v906 : BitVec 32 := Scalar.addi v905 c0_i32_293
  let c64_i32_294 : BitVec 32 := 64#32
  let v907 : BitVec 32 := Scalar.addi v906 c64_i32_294
  v907
def k0_mult14 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_301 : BitVec 32 := 512#32
  let v938 : BitVec 32 := Scalar.muli arg15 c512_i32_301
  let c0_i32_302 : BitVec 32 := 0#32
  let v939 : BitVec 32 := Scalar.addi v938 c0_i32_302
  let c64_i32_303 : BitVec 32 := 64#32
  let v940 : BitVec 32 := Scalar.addi v939 c64_i32_303
  v940
def k0_mult15 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_309 : BitVec 32 := 512#32
  let v971 : BitVec 32 := Scalar.muli arg15 c512_i32_309
  let c0_i32_310 : BitVec 32 := 0#32
  let v972 : BitVec 32 := Scalar.addi v971 c0_i32_310
  let c128_i32_311 : BitVec 32 := 128#32
  let v973 : BitVec 32 := Scalar.addi v972 c128_i32_311
  v973
def k0_mult16 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_318 : BitVec 32 := 512#32
  let v1004 : BitVec 32 := Scalar.muli arg15 c512_i32_318
  let c0_i32_319 : BitVec 32 := 0#32
  let v1005 : BitVec 32 := Scalar.addi v1004 c0_i32_319
  let c128_i32_320 : BitVec 32 := 128#32
  let v1006 : BitVec 32 := Scalar.addi v1005 c128_i32_320
  v1006
def k0_mult17 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_326 : BitVec 32 := 512#32
  let v1037 : BitVec 32 := Scalar.muli arg15 c512_i32_326
  let c0_i32_327 : BitVec 32 := 0#32
  let v1038 : BitVec 32 := Scalar.addi v1037 c0_i32_327
  let c192_i32_328 : BitVec 32 := 192#32
  let v1039 : BitVec 32 := Scalar.addi v1038 c192_i32_328
  v1039
def k0_mult18 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_335 : BitVec 32 := 512#32
  let v1070 : BitVec 32 := Scalar.muli arg15 c512_i32_335
  let c0_i32_336 : BitVec 32 := 0#32
  let v1071 : BitVec 32 := Scalar.addi v1070 c0_i32_336
  let c192_i32_337 : BitVec 32 := 192#32
  let v1072 : BitVec 32 := Scalar.addi v1071 c192_i32_337
  v1072
def k0_mult19 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_339 : BitVec 32 := 512#32
  let v1094 : BitVec 32 := Scalar.muli arg15 c512_i32_339
  let c0_i32_340 : BitVec 32 := 0#32
  let v1095 : BitVec 32 := Scalar.addi v1094 c0_i32_340
  let c0_i32_341 : BitVec 32 := 0#32
  let v1096 : BitVec 32 := Scalar.addi v1095 c0_i32_341
  v1096
def k0_off7 (i : grid0.Coords) (k0_t1 : Fin (k0_t1_loop i).trips) (c0_i32_340 : BitVec 32) (c0_i32_341 : BitVec 32) : Fin 2 → Nat :=
  let c0_i32_169 : BitVec 32 := 0#32
  let c1_i32_171 : BitVec 32 := 1#32
  let arg15 : BitVec 32 := Scf.iv c0_i32_169 c1_i32_171 k0_t1
  let c512_i32_339 : BitVec 32 := 512#32
  let v1094 : BitVec 32 := Scalar.muli arg15 c512_i32_339
  let v1095 : BitVec 32 := Scalar.addi v1094 c0_i32_340
  let v1096 : BitVec 32 := Scalar.addi v1095 c0_i32_341
  let v1097 : BitVec 32 := v1096
  let v1098 : Index := Scalar.indexCast v1097
  let c256_342 : Index := 256#32
  ![v1098.toNat, 256]
def k0_mult20 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_347 : BitVec 32 := 512#32
  let v1125 : BitVec 32 := Scalar.muli arg15 c512_i32_347
  let c0_i32_348 : BitVec 32 := 0#32
  let v1126 : BitVec 32 := Scalar.addi v1125 c0_i32_348
  let c0_i32_349 : BitVec 32 := 0#32
  let v1127 : BitVec 32 := Scalar.addi v1126 c0_i32_349
  v1127
def k0_off8 (i : grid0.Coords) (k0_t1 : Fin (k0_t1_loop i).trips) (c0_i32_348 : BitVec 32) (c0_i32_349 : BitVec 32) : Fin 2 → Nat :=
  let c0_i32_169 : BitVec 32 := 0#32
  let c1_i32_171 : BitVec 32 := 1#32
  let arg15 : BitVec 32 := Scf.iv c0_i32_169 c1_i32_171 k0_t1
  let c512_i32_347 : BitVec 32 := 512#32
  let v1125 : BitVec 32 := Scalar.muli arg15 c512_i32_347
  let v1126 : BitVec 32 := Scalar.addi v1125 c0_i32_348
  let v1127 : BitVec 32 := Scalar.addi v1126 c0_i32_349
  let v1128 : BitVec 32 := v1127
  let v1129 : Index := Scalar.indexCast v1128
  let c384_350 : Index := 384#32
  ![v1129.toNat, 384]
def k0_mult21 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_355 : BitVec 32 := 512#32
  let v1157 : BitVec 32 := Scalar.muli arg15 c512_i32_355
  let c0_i32_356 : BitVec 32 := 0#32
  let v1158 : BitVec 32 := Scalar.addi v1157 c0_i32_356
  let c64_i32_357 : BitVec 32 := 64#32
  let v1159 : BitVec 32 := Scalar.addi v1158 c64_i32_357
  v1159
def k0_mult22 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_363 : BitVec 32 := 512#32
  let v1188 : BitVec 32 := Scalar.muli arg15 c512_i32_363
  let c0_i32_364 : BitVec 32 := 0#32
  let v1189 : BitVec 32 := Scalar.addi v1188 c0_i32_364
  let c64_i32_365 : BitVec 32 := 64#32
  let v1190 : BitVec 32 := Scalar.addi v1189 c64_i32_365
  v1190
def k0_mult23 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_371 : BitVec 32 := 512#32
  let v1220 : BitVec 32 := Scalar.muli arg15 c512_i32_371
  let c0_i32_372 : BitVec 32 := 0#32
  let v1221 : BitVec 32 := Scalar.addi v1220 c0_i32_372
  let c128_i32_373 : BitVec 32 := 128#32
  let v1222 : BitVec 32 := Scalar.addi v1221 c128_i32_373
  v1222
def k0_mult24 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_379 : BitVec 32 := 512#32
  let v1251 : BitVec 32 := Scalar.muli arg15 c512_i32_379
  let c0_i32_380 : BitVec 32 := 0#32
  let v1252 : BitVec 32 := Scalar.addi v1251 c0_i32_380
  let c128_i32_381 : BitVec 32 := 128#32
  let v1253 : BitVec 32 := Scalar.addi v1252 c128_i32_381
  v1253
def k0_mult25 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_387 : BitVec 32 := 512#32
  let v1283 : BitVec 32 := Scalar.muli arg15 c512_i32_387
  let c0_i32_388 : BitVec 32 := 0#32
  let v1284 : BitVec 32 := Scalar.addi v1283 c0_i32_388
  let c192_i32_389 : BitVec 32 := 192#32
  let v1285 : BitVec 32 := Scalar.addi v1284 c192_i32_389
  v1285
def k0_mult26 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_395 : BitVec 32 := 512#32
  let v1314 : BitVec 32 := Scalar.muli arg15 c512_i32_395
  let c0_i32_396 : BitVec 32 := 0#32
  let v1315 : BitVec 32 := Scalar.addi v1314 c0_i32_396
  let c192_i32_397 : BitVec 32 := 192#32
  let v1316 : BitVec 32 := Scalar.addi v1315 c192_i32_397
  v1316
def k0_mult27 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_403 : BitVec 32 := 512#32
  let v1347 : BitVec 32 := Scalar.muli arg15 c512_i32_403
  let c0_i32_404 : BitVec 32 := 0#32
  let v1348 : BitVec 32 := Scalar.addi v1347 c0_i32_404
  v1348
def k0_mult28 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_409 : BitVec 32 := 512#32
  let v1354 : BitVec 32 := Scalar.muli arg15 c512_i32_409
  let c0_i32_410 : BitVec 32 := 0#32
  let v1355 : BitVec 32 := Scalar.addi v1354 c0_i32_410
  v1355
def k0_off9 (i : grid0.Coords) (k0_t1 : Fin (k0_t1_loop i).trips) (c0_i32_418 : BitVec 32) (c0_i32_419 : BitVec 32) : Fin 3 → Nat :=
  let c2_420 : Index := 2#32
  let c0_i32_169 : BitVec 32 := 0#32
  let c1_i32_171 : BitVec 32 := 1#32
  let arg15 : BitVec 32 := Scf.iv c0_i32_169 c1_i32_171 k0_t1
  let c8_i32_417 : BitVec 32 := 8#32
  let v1362 : BitVec 32 := Scalar.muli arg15 c8_i32_417
  let v1363 : BitVec 32 := Scalar.addi v1362 c0_i32_418
  let v1364 : BitVec 32 := Scalar.addi v1363 c0_i32_419
  let v1366 : Index := Scalar.indexCast v1364
  let c0_421 : Index := 0#32
  ![2, v1366.toNat, 0]
def k0_mult29 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_422 : BitVec 32 := 512#32
  let v1371 : BitVec 32 := Scalar.muli arg15 c512_i32_422
  let c0_i32_423 : BitVec 32 := 0#32
  let v1372 : BitVec 32 := Scalar.addi v1371 c0_i32_423
  let c0_i32_424 : BitVec 32 := 0#32
  let v1373 : BitVec 32 := Scalar.addi v1372 c0_i32_424
  v1373
def k0_off10 (i : grid0.Coords) (k0_t1 : Fin (k0_t1_loop i).trips) (c0_i32_427 : BitVec 32) (c0_i32_428 : BitVec 32) : Fin 3 → Nat :=
  let c3_429 : Index := 3#32
  let c0_i32_169 : BitVec 32 := 0#32
  let c1_i32_171 : BitVec 32 := 1#32
  let arg15 : BitVec 32 := Scf.iv c0_i32_169 c1_i32_171 k0_t1
  let c8_i32_426 : BitVec 32 := 8#32
  let v1395 : BitVec 32 := Scalar.muli arg15 c8_i32_426
  let v1396 : BitVec 32 := Scalar.addi v1395 c0_i32_427
  let v1397 : BitVec 32 := Scalar.addi v1396 c0_i32_428
  let v1399 : Index := Scalar.indexCast v1397
  let c0_430 : Index := 0#32
  ![3, v1399.toNat, 0]
def k0_mult30 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_431 : BitVec 32 := 512#32
  let v1404 : BitVec 32 := Scalar.muli arg15 c512_i32_431
  let c0_i32_432 : BitVec 32 := 0#32
  let v1405 : BitVec 32 := Scalar.addi v1404 c0_i32_432
  let c0_i32_433 : BitVec 32 := 0#32
  let v1406 : BitVec 32 := Scalar.addi v1405 c0_i32_433
  v1406
def k0_mult31 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_440 : BitVec 32 := 512#32
  let v1437 : BitVec 32 := Scalar.muli arg15 c512_i32_440
  let c0_i32_441 : BitVec 32 := 0#32
  let v1438 : BitVec 32 := Scalar.addi v1437 c0_i32_441
  let c64_i32_442 : BitVec 32 := 64#32
  let v1439 : BitVec 32 := Scalar.addi v1438 c64_i32_442
  v1439
def k0_mult32 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_449 : BitVec 32 := 512#32
  let v1470 : BitVec 32 := Scalar.muli arg15 c512_i32_449
  let c0_i32_450 : BitVec 32 := 0#32
  let v1471 : BitVec 32 := Scalar.addi v1470 c0_i32_450
  let c64_i32_451 : BitVec 32 := 64#32
  let v1472 : BitVec 32 := Scalar.addi v1471 c64_i32_451
  v1472
def k0_mult33 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_458 : BitVec 32 := 512#32
  let v1503 : BitVec 32 := Scalar.muli arg15 c512_i32_458
  let c0_i32_459 : BitVec 32 := 0#32
  let v1504 : BitVec 32 := Scalar.addi v1503 c0_i32_459
  let c128_i32_460 : BitVec 32 := 128#32
  let v1505 : BitVec 32 := Scalar.addi v1504 c128_i32_460
  v1505
def k0_mult34 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_467 : BitVec 32 := 512#32
  let v1536 : BitVec 32 := Scalar.muli arg15 c512_i32_467
  let c0_i32_468 : BitVec 32 := 0#32
  let v1537 : BitVec 32 := Scalar.addi v1536 c0_i32_468
  let c128_i32_469 : BitVec 32 := 128#32
  let v1538 : BitVec 32 := Scalar.addi v1537 c128_i32_469
  v1538
def k0_mult35 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_476 : BitVec 32 := 512#32
  let v1569 : BitVec 32 := Scalar.muli arg15 c512_i32_476
  let c0_i32_477 : BitVec 32 := 0#32
  let v1570 : BitVec 32 := Scalar.addi v1569 c0_i32_477
  let c192_i32_478 : BitVec 32 := 192#32
  let v1571 : BitVec 32 := Scalar.addi v1570 c192_i32_478
  v1571
def k0_mult36 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_485 : BitVec 32 := 512#32
  let v1602 : BitVec 32 := Scalar.muli arg15 c512_i32_485
  let c0_i32_486 : BitVec 32 := 0#32
  let v1603 : BitVec 32 := Scalar.addi v1602 c0_i32_486
  let c192_i32_487 : BitVec 32 := 192#32
  let v1604 : BitVec 32 := Scalar.addi v1603 c192_i32_487
  v1604
def k0_mult37 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_489 : BitVec 32 := 512#32
  let v1626 : BitVec 32 := Scalar.muli arg15 c512_i32_489
  let c256_i32 : BitVec 32 := 256#32
  let v1627 : BitVec 32 := Scalar.addi v1626 c256_i32
  let c0_i32_490 : BitVec 32 := 0#32
  let v1628 : BitVec 32 := Scalar.addi v1627 c0_i32_490
  v1628
def k0_mult38 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_496 : BitVec 32 := 512#32
  let v1657 : BitVec 32 := Scalar.muli arg15 c512_i32_496
  let c256_i32_497 : BitVec 32 := 256#32
  let v1658 : BitVec 32 := Scalar.addi v1657 c256_i32_497
  let c0_i32_498 : BitVec 32 := 0#32
  let v1659 : BitVec 32 := Scalar.addi v1658 c0_i32_498
  v1659
def k0_mult39 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_504 : BitVec 32 := 512#32
  let v1689 : BitVec 32 := Scalar.muli arg15 c512_i32_504
  let c256_i32_505 : BitVec 32 := 256#32
  let v1690 : BitVec 32 := Scalar.addi v1689 c256_i32_505
  let c64_i32_506 : BitVec 32 := 64#32
  let v1691 : BitVec 32 := Scalar.addi v1690 c64_i32_506
  v1691
def k0_mult40 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_512 : BitVec 32 := 512#32
  let v1720 : BitVec 32 := Scalar.muli arg15 c512_i32_512
  let c256_i32_513 : BitVec 32 := 256#32
  let v1721 : BitVec 32 := Scalar.addi v1720 c256_i32_513
  let c64_i32_514 : BitVec 32 := 64#32
  let v1722 : BitVec 32 := Scalar.addi v1721 c64_i32_514
  v1722
def k0_mult41 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_520 : BitVec 32 := 512#32
  let v1752 : BitVec 32 := Scalar.muli arg15 c512_i32_520
  let c256_i32_521 : BitVec 32 := 256#32
  let v1753 : BitVec 32 := Scalar.addi v1752 c256_i32_521
  let c128_i32_522 : BitVec 32 := 128#32
  let v1754 : BitVec 32 := Scalar.addi v1753 c128_i32_522
  v1754
def k0_mult42 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_528 : BitVec 32 := 512#32
  let v1783 : BitVec 32 := Scalar.muli arg15 c512_i32_528
  let c256_i32_529 : BitVec 32 := 256#32
  let v1784 : BitVec 32 := Scalar.addi v1783 c256_i32_529
  let c128_i32_530 : BitVec 32 := 128#32
  let v1785 : BitVec 32 := Scalar.addi v1784 c128_i32_530
  v1785
def k0_mult43 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_536 : BitVec 32 := 512#32
  let v1815 : BitVec 32 := Scalar.muli arg15 c512_i32_536
  let c256_i32_537 : BitVec 32 := 256#32
  let v1816 : BitVec 32 := Scalar.addi v1815 c256_i32_537
  let c192_i32_538 : BitVec 32 := 192#32
  let v1817 : BitVec 32 := Scalar.addi v1816 c192_i32_538
  v1817
def k0_mult44 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_544 : BitVec 32 := 512#32
  let v1846 : BitVec 32 := Scalar.muli arg15 c512_i32_544
  let c256_i32_545 : BitVec 32 := 256#32
  let v1847 : BitVec 32 := Scalar.addi v1846 c256_i32_545
  let c192_i32_546 : BitVec 32 := 192#32
  let v1848 : BitVec 32 := Scalar.addi v1847 c192_i32_546
  v1848
def k0_mult45 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_552 : BitVec 32 := 512#32
  let v1879 : BitVec 32 := Scalar.muli arg15 c512_i32_552
  let c256_i32_553 : BitVec 32 := 256#32
  let v1880 : BitVec 32 := Scalar.addi v1879 c256_i32_553
  v1880
def k0_mult46 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_558 : BitVec 32 := 512#32
  let v1887 : BitVec 32 := Scalar.muli arg15 c512_i32_558
  let c256_i32_559 : BitVec 32 := 256#32
  let v1888 : BitVec 32 := Scalar.addi v1887 c256_i32_559
  v1888
def k0_mult47 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_570 : BitVec 32 := 512#32
  let v1904 : BitVec 32 := Scalar.muli arg15 c512_i32_570
  let c256_i32_571 : BitVec 32 := 256#32
  let v1905 : BitVec 32 := Scalar.addi v1904 c256_i32_571
  let c0_i32_572 : BitVec 32 := 0#32
  let v1906 : BitVec 32 := Scalar.addi v1905 c0_i32_572
  v1906
def k0_mult48 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_579 : BitVec 32 := 512#32
  let v1937 : BitVec 32 := Scalar.muli arg15 c512_i32_579
  let c256_i32_580 : BitVec 32 := 256#32
  let v1938 : BitVec 32 := Scalar.addi v1937 c256_i32_580
  let c0_i32_581 : BitVec 32 := 0#32
  let v1939 : BitVec 32 := Scalar.addi v1938 c0_i32_581
  v1939
def k0_mult49 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_588 : BitVec 32 := 512#32
  let v1970 : BitVec 32 := Scalar.muli arg15 c512_i32_588
  let c256_i32_589 : BitVec 32 := 256#32
  let v1971 : BitVec 32 := Scalar.addi v1970 c256_i32_589
  let c64_i32_590 : BitVec 32 := 64#32
  let v1972 : BitVec 32 := Scalar.addi v1971 c64_i32_590
  v1972
def k0_mult50 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_597 : BitVec 32 := 512#32
  let v2003 : BitVec 32 := Scalar.muli arg15 c512_i32_597
  let c256_i32_598 : BitVec 32 := 256#32
  let v2004 : BitVec 32 := Scalar.addi v2003 c256_i32_598
  let c64_i32_599 : BitVec 32 := 64#32
  let v2005 : BitVec 32 := Scalar.addi v2004 c64_i32_599
  v2005
def k0_mult51 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_606 : BitVec 32 := 512#32
  let v2036 : BitVec 32 := Scalar.muli arg15 c512_i32_606
  let c256_i32_607 : BitVec 32 := 256#32
  let v2037 : BitVec 32 := Scalar.addi v2036 c256_i32_607
  let c128_i32_608 : BitVec 32 := 128#32
  let v2038 : BitVec 32 := Scalar.addi v2037 c128_i32_608
  v2038
def k0_mult52 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_615 : BitVec 32 := 512#32
  let v2069 : BitVec 32 := Scalar.muli arg15 c512_i32_615
  let c256_i32_616 : BitVec 32 := 256#32
  let v2070 : BitVec 32 := Scalar.addi v2069 c256_i32_616
  let c128_i32_617 : BitVec 32 := 128#32
  let v2071 : BitVec 32 := Scalar.addi v2070 c128_i32_617
  v2071
def k0_mult53 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_624 : BitVec 32 := 512#32
  let v2102 : BitVec 32 := Scalar.muli arg15 c512_i32_624
  let c256_i32_625 : BitVec 32 := 256#32
  let v2103 : BitVec 32 := Scalar.addi v2102 c256_i32_625
  let c192_i32_626 : BitVec 32 := 192#32
  let v2104 : BitVec 32 := Scalar.addi v2103 c192_i32_626
  v2104
def k0_mult54 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_633 : BitVec 32 := 512#32
  let v2135 : BitVec 32 := Scalar.muli arg15 c512_i32_633
  let c256_i32_634 : BitVec 32 := 256#32
  let v2136 : BitVec 32 := Scalar.addi v2135 c256_i32_634
  let c192_i32_635 : BitVec 32 := 192#32
  let v2137 : BitVec 32 := Scalar.addi v2136 c192_i32_635
  v2137
def k0_mult55 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_637 : BitVec 32 := 512#32
  let v2159 : BitVec 32 := Scalar.muli arg15 c512_i32_637
  let c256_i32_638 : BitVec 32 := 256#32
  let v2160 : BitVec 32 := Scalar.addi v2159 c256_i32_638
  let c0_i32_639 : BitVec 32 := 0#32
  let v2161 : BitVec 32 := Scalar.addi v2160 c0_i32_639
  v2161
def k0_mult56 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_645 : BitVec 32 := 512#32
  let v2190 : BitVec 32 := Scalar.muli arg15 c512_i32_645
  let c256_i32_646 : BitVec 32 := 256#32
  let v2191 : BitVec 32 := Scalar.addi v2190 c256_i32_646
  let c0_i32_647 : BitVec 32 := 0#32
  let v2192 : BitVec 32 := Scalar.addi v2191 c0_i32_647
  v2192
def k0_mult57 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_653 : BitVec 32 := 512#32
  let v2222 : BitVec 32 := Scalar.muli arg15 c512_i32_653
  let c256_i32_654 : BitVec 32 := 256#32
  let v2223 : BitVec 32 := Scalar.addi v2222 c256_i32_654
  let c64_i32_655 : BitVec 32 := 64#32
  let v2224 : BitVec 32 := Scalar.addi v2223 c64_i32_655
  v2224
def k0_mult58 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_661 : BitVec 32 := 512#32
  let v2253 : BitVec 32 := Scalar.muli arg15 c512_i32_661
  let c256_i32_662 : BitVec 32 := 256#32
  let v2254 : BitVec 32 := Scalar.addi v2253 c256_i32_662
  let c64_i32_663 : BitVec 32 := 64#32
  let v2255 : BitVec 32 := Scalar.addi v2254 c64_i32_663
  v2255
def k0_mult59 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_669 : BitVec 32 := 512#32
  let v2285 : BitVec 32 := Scalar.muli arg15 c512_i32_669
  let c256_i32_670 : BitVec 32 := 256#32
  let v2286 : BitVec 32 := Scalar.addi v2285 c256_i32_670
  let c128_i32_671 : BitVec 32 := 128#32
  let v2287 : BitVec 32 := Scalar.addi v2286 c128_i32_671
  v2287
def k0_mult60 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_677 : BitVec 32 := 512#32
  let v2316 : BitVec 32 := Scalar.muli arg15 c512_i32_677
  let c256_i32_678 : BitVec 32 := 256#32
  let v2317 : BitVec 32 := Scalar.addi v2316 c256_i32_678
  let c128_i32_679 : BitVec 32 := 128#32
  let v2318 : BitVec 32 := Scalar.addi v2317 c128_i32_679
  v2318
def k0_mult61 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_685 : BitVec 32 := 512#32
  let v2348 : BitVec 32 := Scalar.muli arg15 c512_i32_685
  let c256_i32_686 : BitVec 32 := 256#32
  let v2349 : BitVec 32 := Scalar.addi v2348 c256_i32_686
  let c192_i32_687 : BitVec 32 := 192#32
  let v2350 : BitVec 32 := Scalar.addi v2349 c192_i32_687
  v2350
def k0_mult62 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_693 : BitVec 32 := 512#32
  let v2379 : BitVec 32 := Scalar.muli arg15 c512_i32_693
  let c256_i32_694 : BitVec 32 := 256#32
  let v2380 : BitVec 32 := Scalar.addi v2379 c256_i32_694
  let c192_i32_695 : BitVec 32 := 192#32
  let v2381 : BitVec 32 := Scalar.addi v2380 c192_i32_695
  v2381
def k0_mult63 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_701 : BitVec 32 := 512#32
  let v2412 : BitVec 32 := Scalar.muli arg15 c512_i32_701
  let c256_i32_702 : BitVec 32 := 256#32
  let v2413 : BitVec 32 := Scalar.addi v2412 c256_i32_702
  v2413
def k0_mult64 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_707 : BitVec 32 := 512#32
  let v2420 : BitVec 32 := Scalar.muli arg15 c512_i32_707
  let c256_i32_708 : BitVec 32 := 256#32
  let v2421 : BitVec 32 := Scalar.addi v2420 c256_i32_708
  v2421
def k0_mult65 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_720 : BitVec 32 := 512#32
  let v2437 : BitVec 32 := Scalar.muli arg15 c512_i32_720
  let c256_i32_721 : BitVec 32 := 256#32
  let v2438 : BitVec 32 := Scalar.addi v2437 c256_i32_721
  let c0_i32_722 : BitVec 32 := 0#32
  let v2439 : BitVec 32 := Scalar.addi v2438 c0_i32_722
  v2439
def k0_mult66 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_729 : BitVec 32 := 512#32
  let v2470 : BitVec 32 := Scalar.muli arg15 c512_i32_729
  let c256_i32_730 : BitVec 32 := 256#32
  let v2471 : BitVec 32 := Scalar.addi v2470 c256_i32_730
  let c0_i32_731 : BitVec 32 := 0#32
  let v2472 : BitVec 32 := Scalar.addi v2471 c0_i32_731
  v2472
def k0_mult67 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_738 : BitVec 32 := 512#32
  let v2503 : BitVec 32 := Scalar.muli arg15 c512_i32_738
  let c256_i32_739 : BitVec 32 := 256#32
  let v2504 : BitVec 32 := Scalar.addi v2503 c256_i32_739
  let c64_i32_740 : BitVec 32 := 64#32
  let v2505 : BitVec 32 := Scalar.addi v2504 c64_i32_740
  v2505
def k0_mult68 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_747 : BitVec 32 := 512#32
  let v2536 : BitVec 32 := Scalar.muli arg15 c512_i32_747
  let c256_i32_748 : BitVec 32 := 256#32
  let v2537 : BitVec 32 := Scalar.addi v2536 c256_i32_748
  let c64_i32_749 : BitVec 32 := 64#32
  let v2538 : BitVec 32 := Scalar.addi v2537 c64_i32_749
  v2538
def k0_mult69 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_756 : BitVec 32 := 512#32
  let v2569 : BitVec 32 := Scalar.muli arg15 c512_i32_756
  let c256_i32_757 : BitVec 32 := 256#32
  let v2570 : BitVec 32 := Scalar.addi v2569 c256_i32_757
  let c128_i32_758 : BitVec 32 := 128#32
  let v2571 : BitVec 32 := Scalar.addi v2570 c128_i32_758
  v2571
def k0_mult70 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_765 : BitVec 32 := 512#32
  let v2602 : BitVec 32 := Scalar.muli arg15 c512_i32_765
  let c256_i32_766 : BitVec 32 := 256#32
  let v2603 : BitVec 32 := Scalar.addi v2602 c256_i32_766
  let c128_i32_767 : BitVec 32 := 128#32
  let v2604 : BitVec 32 := Scalar.addi v2603 c128_i32_767
  v2604
def k0_mult71 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_774 : BitVec 32 := 512#32
  let v2635 : BitVec 32 := Scalar.muli arg15 c512_i32_774
  let c256_i32_775 : BitVec 32 := 256#32
  let v2636 : BitVec 32 := Scalar.addi v2635 c256_i32_775
  let c192_i32_776 : BitVec 32 := 192#32
  let v2637 : BitVec 32 := Scalar.addi v2636 c192_i32_776
  v2637
def k0_mult72 (i : grid0.Coords) (k0_t1 : Fin (k0_t1_loop i).trips) : BitVec 32 :=
  let c0_i32_169 : BitVec 32 := 0#32
  let c1_i32_171 : BitVec 32 := 1#32
  let arg15 : BitVec 32 := Scf.iv c0_i32_169 c1_i32_171 k0_t1
  let c512_i32_783 : BitVec 32 := 512#32
  let v2668 : BitVec 32 := Scalar.muli arg15 c512_i32_783
  let c256_i32_784 : BitVec 32 := 256#32
  let v2669 : BitVec 32 := Scalar.addi v2668 c256_i32_784
  let c192_i32_785 : BitVec 32 := 192#32
  let v2670 : BitVec 32 := Scalar.addi v2669 c192_i32_785
  v2670
@[reducible] def k0_t2_loop (i : grid0.Coords) : Scf.Loop 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let v512 : BitVec 32 := Scalar.addi c0_i32_169 v511
  let c1_i32_172 : BitVec 32 := 1#32
  ⟨v515, v512, c1_i32_172⟩
def k0_mult73 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_193 : BitVec 32 := 512#32
  let v562 : BitVec 32 := Scalar.muli arg15 c512_i32_193
  let c0_i32_194 : BitVec 32 := 0#32
  let v563 : BitVec 32 := Scalar.addi v562 c0_i32_194
  let c0_i32_195 : BitVec 32 := 0#32
  let v564 : BitVec 32 := Scalar.addi v563 c0_i32_195
  v564
def k0_off11 (i : grid0.Coords) (k0_t2 : Fin (k0_t2_loop i).trips) (c0_i32_194 : BitVec 32) (c0_i32_195 : BitVec 32) : Fin 2 → Nat :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_193 : BitVec 32 := 512#32
  let v562 : BitVec 32 := Scalar.muli arg15 c512_i32_193
  let v563 : BitVec 32 := Scalar.addi v562 c0_i32_194
  let v564 : BitVec 32 := Scalar.addi v563 c0_i32_195
  let v565 : BitVec 32 := v564
  let v566 : Index := Scalar.indexCast v565
  let c0_196 : Index := 0#32
  ![v566.toNat, 0]
def k0_mult74 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_201 : BitVec 32 := 512#32
  let v593 : BitVec 32 := Scalar.muli arg15 c512_i32_201
  let c0_i32_202 : BitVec 32 := 0#32
  let v594 : BitVec 32 := Scalar.addi v593 c0_i32_202
  let c0_i32_203 : BitVec 32 := 0#32
  let v595 : BitVec 32 := Scalar.addi v594 c0_i32_203
  v595
def k0_off12 (i : grid0.Coords) (k0_t2 : Fin (k0_t2_loop i).trips) (c0_i32_202 : BitVec 32) (c0_i32_203 : BitVec 32) : Fin 2 → Nat :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_201 : BitVec 32 := 512#32
  let v593 : BitVec 32 := Scalar.muli arg15 c512_i32_201
  let v594 : BitVec 32 := Scalar.addi v593 c0_i32_202
  let v595 : BitVec 32 := Scalar.addi v594 c0_i32_203
  let v596 : BitVec 32 := v595
  let v597 : Index := Scalar.indexCast v596
  let c128_204 : Index := 128#32
  ![v597.toNat, 128]
def k0_mult75 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_209 : BitVec 32 := 512#32
  let v625 : BitVec 32 := Scalar.muli arg15 c512_i32_209
  let c0_i32_210 : BitVec 32 := 0#32
  let v626 : BitVec 32 := Scalar.addi v625 c0_i32_210
  let c64_i32_211 : BitVec 32 := 64#32
  let v627 : BitVec 32 := Scalar.addi v626 c64_i32_211
  v627
def k0_mult76 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_217 : BitVec 32 := 512#32
  let v656 : BitVec 32 := Scalar.muli arg15 c512_i32_217
  let c0_i32_218 : BitVec 32 := 0#32
  let v657 : BitVec 32 := Scalar.addi v656 c0_i32_218
  let c64_i32_219 : BitVec 32 := 64#32
  let v658 : BitVec 32 := Scalar.addi v657 c64_i32_219
  v658
def k0_mult77 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_225 : BitVec 32 := 512#32
  let v688 : BitVec 32 := Scalar.muli arg15 c512_i32_225
  let c0_i32_226 : BitVec 32 := 0#32
  let v689 : BitVec 32 := Scalar.addi v688 c0_i32_226
  let c128_i32_227 : BitVec 32 := 128#32
  let v690 : BitVec 32 := Scalar.addi v689 c128_i32_227
  v690
def k0_mult78 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_233 : BitVec 32 := 512#32
  let v719 : BitVec 32 := Scalar.muli arg15 c512_i32_233
  let c0_i32_234 : BitVec 32 := 0#32
  let v720 : BitVec 32 := Scalar.addi v719 c0_i32_234
  let c128_i32_235 : BitVec 32 := 128#32
  let v721 : BitVec 32 := Scalar.addi v720 c128_i32_235
  v721
def k0_mult79 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_241 : BitVec 32 := 512#32
  let v751 : BitVec 32 := Scalar.muli arg15 c512_i32_241
  let c0_i32_242 : BitVec 32 := 0#32
  let v752 : BitVec 32 := Scalar.addi v751 c0_i32_242
  let c192_i32 : BitVec 32 := 192#32
  let v753 : BitVec 32 := Scalar.addi v752 c192_i32
  v753
def k0_mult80 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_248 : BitVec 32 := 512#32
  let v782 : BitVec 32 := Scalar.muli arg15 c512_i32_248
  let c0_i32_249 : BitVec 32 := 0#32
  let v783 : BitVec 32 := Scalar.addi v782 c0_i32_249
  let c192_i32_250 : BitVec 32 := 192#32
  let v784 : BitVec 32 := Scalar.addi v783 c192_i32_250
  v784
def k0_mult81 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_256 : BitVec 32 := 512#32
  let v815 : BitVec 32 := Scalar.muli arg15 c512_i32_256
  let c0_i32_257 : BitVec 32 := 0#32
  let v816 : BitVec 32 := Scalar.addi v815 c0_i32_257
  v816
def k0_off13 (i : grid0.Coords) (k0_t2 : Fin (k0_t2_loop i).trips) (c0_i32_257 : BitVec 32) : Fin 4 → Nat :=
  let c0_258 : Index := 0#32
  let c0_259 : Index := 0#32
  let c0_260 : Index := 0#32
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_256 : BitVec 32 := 512#32
  let v815 : BitVec 32 := Scalar.muli arg15 c512_i32_256
  let v816 : BitVec 32 := Scalar.addi v815 c0_i32_257
  let v817 : BitVec 32 := v816
  let v818 : Index := Scalar.indexCast v817
  ![0, 0, 0, v818.toNat]
def k0_mult82 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_262 : BitVec 32 := 512#32
  let v822 : BitVec 32 := Scalar.muli arg15 c512_i32_262
  let c0_i32_263 : BitVec 32 := 0#32
  let v823 : BitVec 32 := Scalar.addi v822 c0_i32_263
  v823
def k0_off14 (i : grid0.Coords) (k0_t2 : Fin (k0_t2_loop i).trips) (c0_i32_263 : BitVec 32) : Fin 4 → Nat :=
  let c0_264 : Index := 0#32
  let c0_265 : Index := 0#32
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_262 : BitVec 32 := 512#32
  let v822 : BitVec 32 := Scalar.muli arg15 c512_i32_262
  let v823 : BitVec 32 := Scalar.addi v822 c0_i32_263
  let v824 : BitVec 32 := v823
  let v825 : Index := Scalar.indexCast v824
  let c0_266 : Index := 0#32
  ![0, 0, v825.toNat, 0]
def k0_off15 (i : grid0.Coords) (k0_t2 : Fin (k0_t2_loop i).trips) (c0_i32_270 : BitVec 32) (c0_i32_271 : BitVec 32) : Fin 3 → Nat :=
  let c0_272 : Index := 0#32
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c8_i32 : BitVec 32 := 8#32
  let v830 : BitVec 32 := Scalar.muli arg15 c8_i32
  let v831 : BitVec 32 := Scalar.addi v830 c0_i32_270
  let v832 : BitVec 32 := Scalar.addi v831 c0_i32_271
  let v834 : Index := Scalar.indexCast v832
  let c0_273 : Index := 0#32
  ![0, v834.toNat, 0]
def k0_mult83 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_274 : BitVec 32 := 512#32
  let v839 : BitVec 32 := Scalar.muli arg15 c512_i32_274
  let c0_i32_275 : BitVec 32 := 0#32
  let v840 : BitVec 32 := Scalar.addi v839 c0_i32_275
  let c0_i32_276 : BitVec 32 := 0#32
  let v841 : BitVec 32 := Scalar.addi v840 c0_i32_276
  v841
def k0_off16 (i : grid0.Coords) (k0_t2 : Fin (k0_t2_loop i).trips) (c0_i32_279 : BitVec 32) (c0_i32_280 : BitVec 32) : Fin 3 → Nat :=
  let c1_281 : Index := 1#32
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c8_i32_278 : BitVec 32 := 8#32
  let v863 : BitVec 32 := Scalar.muli arg15 c8_i32_278
  let v864 : BitVec 32 := Scalar.addi v863 c0_i32_279
  let v865 : BitVec 32 := Scalar.addi v864 c0_i32_280
  let v867 : Index := Scalar.indexCast v865
  let c0_282 : Index := 0#32
  ![1, v867.toNat, 0]
def k0_mult84 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_283 : BitVec 32 := 512#32
  let v872 : BitVec 32 := Scalar.muli arg15 c512_i32_283
  let c0_i32_284 : BitVec 32 := 0#32
  let v873 : BitVec 32 := Scalar.addi v872 c0_i32_284
  let c0_i32_285 : BitVec 32 := 0#32
  let v874 : BitVec 32 := Scalar.addi v873 c0_i32_285
  v874
def k0_mult85 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_292 : BitVec 32 := 512#32
  let v905 : BitVec 32 := Scalar.muli arg15 c512_i32_292
  let c0_i32_293 : BitVec 32 := 0#32
  let v906 : BitVec 32 := Scalar.addi v905 c0_i32_293
  let c64_i32_294 : BitVec 32 := 64#32
  let v907 : BitVec 32 := Scalar.addi v906 c64_i32_294
  v907
def k0_mult86 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_301 : BitVec 32 := 512#32
  let v938 : BitVec 32 := Scalar.muli arg15 c512_i32_301
  let c0_i32_302 : BitVec 32 := 0#32
  let v939 : BitVec 32 := Scalar.addi v938 c0_i32_302
  let c64_i32_303 : BitVec 32 := 64#32
  let v940 : BitVec 32 := Scalar.addi v939 c64_i32_303
  v940
def k0_mult87 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_309 : BitVec 32 := 512#32
  let v971 : BitVec 32 := Scalar.muli arg15 c512_i32_309
  let c0_i32_310 : BitVec 32 := 0#32
  let v972 : BitVec 32 := Scalar.addi v971 c0_i32_310
  let c128_i32_311 : BitVec 32 := 128#32
  let v973 : BitVec 32 := Scalar.addi v972 c128_i32_311
  v973
def k0_mult88 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_318 : BitVec 32 := 512#32
  let v1004 : BitVec 32 := Scalar.muli arg15 c512_i32_318
  let c0_i32_319 : BitVec 32 := 0#32
  let v1005 : BitVec 32 := Scalar.addi v1004 c0_i32_319
  let c128_i32_320 : BitVec 32 := 128#32
  let v1006 : BitVec 32 := Scalar.addi v1005 c128_i32_320
  v1006
def k0_mult89 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_326 : BitVec 32 := 512#32
  let v1037 : BitVec 32 := Scalar.muli arg15 c512_i32_326
  let c0_i32_327 : BitVec 32 := 0#32
  let v1038 : BitVec 32 := Scalar.addi v1037 c0_i32_327
  let c192_i32_328 : BitVec 32 := 192#32
  let v1039 : BitVec 32 := Scalar.addi v1038 c192_i32_328
  v1039
def k0_mult90 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_335 : BitVec 32 := 512#32
  let v1070 : BitVec 32 := Scalar.muli arg15 c512_i32_335
  let c0_i32_336 : BitVec 32 := 0#32
  let v1071 : BitVec 32 := Scalar.addi v1070 c0_i32_336
  let c192_i32_337 : BitVec 32 := 192#32
  let v1072 : BitVec 32 := Scalar.addi v1071 c192_i32_337
  v1072
def k0_mult91 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_339 : BitVec 32 := 512#32
  let v1094 : BitVec 32 := Scalar.muli arg15 c512_i32_339
  let c0_i32_340 : BitVec 32 := 0#32
  let v1095 : BitVec 32 := Scalar.addi v1094 c0_i32_340
  let c0_i32_341 : BitVec 32 := 0#32
  let v1096 : BitVec 32 := Scalar.addi v1095 c0_i32_341
  v1096
def k0_off17 (i : grid0.Coords) (k0_t2 : Fin (k0_t2_loop i).trips) (c0_i32_340 : BitVec 32) (c0_i32_341 : BitVec 32) : Fin 2 → Nat :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_339 : BitVec 32 := 512#32
  let v1094 : BitVec 32 := Scalar.muli arg15 c512_i32_339
  let v1095 : BitVec 32 := Scalar.addi v1094 c0_i32_340
  let v1096 : BitVec 32 := Scalar.addi v1095 c0_i32_341
  let v1097 : BitVec 32 := v1096
  let v1098 : Index := Scalar.indexCast v1097
  let c256_342 : Index := 256#32
  ![v1098.toNat, 256]
def k0_mult92 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_347 : BitVec 32 := 512#32
  let v1125 : BitVec 32 := Scalar.muli arg15 c512_i32_347
  let c0_i32_348 : BitVec 32 := 0#32
  let v1126 : BitVec 32 := Scalar.addi v1125 c0_i32_348
  let c0_i32_349 : BitVec 32 := 0#32
  let v1127 : BitVec 32 := Scalar.addi v1126 c0_i32_349
  v1127
def k0_off18 (i : grid0.Coords) (k0_t2 : Fin (k0_t2_loop i).trips) (c0_i32_348 : BitVec 32) (c0_i32_349 : BitVec 32) : Fin 2 → Nat :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_347 : BitVec 32 := 512#32
  let v1125 : BitVec 32 := Scalar.muli arg15 c512_i32_347
  let v1126 : BitVec 32 := Scalar.addi v1125 c0_i32_348
  let v1127 : BitVec 32 := Scalar.addi v1126 c0_i32_349
  let v1128 : BitVec 32 := v1127
  let v1129 : Index := Scalar.indexCast v1128
  let c384_350 : Index := 384#32
  ![v1129.toNat, 384]
def k0_mult93 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_355 : BitVec 32 := 512#32
  let v1157 : BitVec 32 := Scalar.muli arg15 c512_i32_355
  let c0_i32_356 : BitVec 32 := 0#32
  let v1158 : BitVec 32 := Scalar.addi v1157 c0_i32_356
  let c64_i32_357 : BitVec 32 := 64#32
  let v1159 : BitVec 32 := Scalar.addi v1158 c64_i32_357
  v1159
def k0_mult94 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_363 : BitVec 32 := 512#32
  let v1188 : BitVec 32 := Scalar.muli arg15 c512_i32_363
  let c0_i32_364 : BitVec 32 := 0#32
  let v1189 : BitVec 32 := Scalar.addi v1188 c0_i32_364
  let c64_i32_365 : BitVec 32 := 64#32
  let v1190 : BitVec 32 := Scalar.addi v1189 c64_i32_365
  v1190
def k0_mult95 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_371 : BitVec 32 := 512#32
  let v1220 : BitVec 32 := Scalar.muli arg15 c512_i32_371
  let c0_i32_372 : BitVec 32 := 0#32
  let v1221 : BitVec 32 := Scalar.addi v1220 c0_i32_372
  let c128_i32_373 : BitVec 32 := 128#32
  let v1222 : BitVec 32 := Scalar.addi v1221 c128_i32_373
  v1222
def k0_mult96 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_379 : BitVec 32 := 512#32
  let v1251 : BitVec 32 := Scalar.muli arg15 c512_i32_379
  let c0_i32_380 : BitVec 32 := 0#32
  let v1252 : BitVec 32 := Scalar.addi v1251 c0_i32_380
  let c128_i32_381 : BitVec 32 := 128#32
  let v1253 : BitVec 32 := Scalar.addi v1252 c128_i32_381
  v1253
def k0_mult97 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_387 : BitVec 32 := 512#32
  let v1283 : BitVec 32 := Scalar.muli arg15 c512_i32_387
  let c0_i32_388 : BitVec 32 := 0#32
  let v1284 : BitVec 32 := Scalar.addi v1283 c0_i32_388
  let c192_i32_389 : BitVec 32 := 192#32
  let v1285 : BitVec 32 := Scalar.addi v1284 c192_i32_389
  v1285
def k0_mult98 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_395 : BitVec 32 := 512#32
  let v1314 : BitVec 32 := Scalar.muli arg15 c512_i32_395
  let c0_i32_396 : BitVec 32 := 0#32
  let v1315 : BitVec 32 := Scalar.addi v1314 c0_i32_396
  let c192_i32_397 : BitVec 32 := 192#32
  let v1316 : BitVec 32 := Scalar.addi v1315 c192_i32_397
  v1316
def k0_mult99 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_403 : BitVec 32 := 512#32
  let v1347 : BitVec 32 := Scalar.muli arg15 c512_i32_403
  let c0_i32_404 : BitVec 32 := 0#32
  let v1348 : BitVec 32 := Scalar.addi v1347 c0_i32_404
  v1348
def k0_mult100 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_409 : BitVec 32 := 512#32
  let v1354 : BitVec 32 := Scalar.muli arg15 c512_i32_409
  let c0_i32_410 : BitVec 32 := 0#32
  let v1355 : BitVec 32 := Scalar.addi v1354 c0_i32_410
  v1355
def k0_off19 (i : grid0.Coords) (k0_t2 : Fin (k0_t2_loop i).trips) (c0_i32_418 : BitVec 32) (c0_i32_419 : BitVec 32) : Fin 3 → Nat :=
  let c2_420 : Index := 2#32
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c8_i32_417 : BitVec 32 := 8#32
  let v1362 : BitVec 32 := Scalar.muli arg15 c8_i32_417
  let v1363 : BitVec 32 := Scalar.addi v1362 c0_i32_418
  let v1364 : BitVec 32 := Scalar.addi v1363 c0_i32_419
  let v1366 : Index := Scalar.indexCast v1364
  let c0_421 : Index := 0#32
  ![2, v1366.toNat, 0]
def k0_mult101 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_422 : BitVec 32 := 512#32
  let v1371 : BitVec 32 := Scalar.muli arg15 c512_i32_422
  let c0_i32_423 : BitVec 32 := 0#32
  let v1372 : BitVec 32 := Scalar.addi v1371 c0_i32_423
  let c0_i32_424 : BitVec 32 := 0#32
  let v1373 : BitVec 32 := Scalar.addi v1372 c0_i32_424
  v1373
def k0_off20 (i : grid0.Coords) (k0_t2 : Fin (k0_t2_loop i).trips) (c0_i32_427 : BitVec 32) (c0_i32_428 : BitVec 32) : Fin 3 → Nat :=
  let c3_429 : Index := 3#32
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c8_i32_426 : BitVec 32 := 8#32
  let v1395 : BitVec 32 := Scalar.muli arg15 c8_i32_426
  let v1396 : BitVec 32 := Scalar.addi v1395 c0_i32_427
  let v1397 : BitVec 32 := Scalar.addi v1396 c0_i32_428
  let v1399 : Index := Scalar.indexCast v1397
  let c0_430 : Index := 0#32
  ![3, v1399.toNat, 0]
def k0_mult102 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_431 : BitVec 32 := 512#32
  let v1404 : BitVec 32 := Scalar.muli arg15 c512_i32_431
  let c0_i32_432 : BitVec 32 := 0#32
  let v1405 : BitVec 32 := Scalar.addi v1404 c0_i32_432
  let c0_i32_433 : BitVec 32 := 0#32
  let v1406 : BitVec 32 := Scalar.addi v1405 c0_i32_433
  v1406
def k0_mult103 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_440 : BitVec 32 := 512#32
  let v1437 : BitVec 32 := Scalar.muli arg15 c512_i32_440
  let c0_i32_441 : BitVec 32 := 0#32
  let v1438 : BitVec 32 := Scalar.addi v1437 c0_i32_441
  let c64_i32_442 : BitVec 32 := 64#32
  let v1439 : BitVec 32 := Scalar.addi v1438 c64_i32_442
  v1439
def k0_mult104 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_449 : BitVec 32 := 512#32
  let v1470 : BitVec 32 := Scalar.muli arg15 c512_i32_449
  let c0_i32_450 : BitVec 32 := 0#32
  let v1471 : BitVec 32 := Scalar.addi v1470 c0_i32_450
  let c64_i32_451 : BitVec 32 := 64#32
  let v1472 : BitVec 32 := Scalar.addi v1471 c64_i32_451
  v1472
def k0_mult105 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_458 : BitVec 32 := 512#32
  let v1503 : BitVec 32 := Scalar.muli arg15 c512_i32_458
  let c0_i32_459 : BitVec 32 := 0#32
  let v1504 : BitVec 32 := Scalar.addi v1503 c0_i32_459
  let c128_i32_460 : BitVec 32 := 128#32
  let v1505 : BitVec 32 := Scalar.addi v1504 c128_i32_460
  v1505
def k0_mult106 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_467 : BitVec 32 := 512#32
  let v1536 : BitVec 32 := Scalar.muli arg15 c512_i32_467
  let c0_i32_468 : BitVec 32 := 0#32
  let v1537 : BitVec 32 := Scalar.addi v1536 c0_i32_468
  let c128_i32_469 : BitVec 32 := 128#32
  let v1538 : BitVec 32 := Scalar.addi v1537 c128_i32_469
  v1538
def k0_mult107 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_476 : BitVec 32 := 512#32
  let v1569 : BitVec 32 := Scalar.muli arg15 c512_i32_476
  let c0_i32_477 : BitVec 32 := 0#32
  let v1570 : BitVec 32 := Scalar.addi v1569 c0_i32_477
  let c192_i32_478 : BitVec 32 := 192#32
  let v1571 : BitVec 32 := Scalar.addi v1570 c192_i32_478
  v1571
def k0_mult108 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_485 : BitVec 32 := 512#32
  let v1602 : BitVec 32 := Scalar.muli arg15 c512_i32_485
  let c0_i32_486 : BitVec 32 := 0#32
  let v1603 : BitVec 32 := Scalar.addi v1602 c0_i32_486
  let c192_i32_487 : BitVec 32 := 192#32
  let v1604 : BitVec 32 := Scalar.addi v1603 c192_i32_487
  v1604
def k0_mult109 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_489 : BitVec 32 := 512#32
  let v1626 : BitVec 32 := Scalar.muli arg15 c512_i32_489
  let c256_i32 : BitVec 32 := 256#32
  let v1627 : BitVec 32 := Scalar.addi v1626 c256_i32
  let c0_i32_490 : BitVec 32 := 0#32
  let v1628 : BitVec 32 := Scalar.addi v1627 c0_i32_490
  v1628
def k0_mult110 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_496 : BitVec 32 := 512#32
  let v1657 : BitVec 32 := Scalar.muli arg15 c512_i32_496
  let c256_i32_497 : BitVec 32 := 256#32
  let v1658 : BitVec 32 := Scalar.addi v1657 c256_i32_497
  let c0_i32_498 : BitVec 32 := 0#32
  let v1659 : BitVec 32 := Scalar.addi v1658 c0_i32_498
  v1659
def k0_mult111 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_504 : BitVec 32 := 512#32
  let v1689 : BitVec 32 := Scalar.muli arg15 c512_i32_504
  let c256_i32_505 : BitVec 32 := 256#32
  let v1690 : BitVec 32 := Scalar.addi v1689 c256_i32_505
  let c64_i32_506 : BitVec 32 := 64#32
  let v1691 : BitVec 32 := Scalar.addi v1690 c64_i32_506
  v1691
def k0_mult112 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_512 : BitVec 32 := 512#32
  let v1720 : BitVec 32 := Scalar.muli arg15 c512_i32_512
  let c256_i32_513 : BitVec 32 := 256#32
  let v1721 : BitVec 32 := Scalar.addi v1720 c256_i32_513
  let c64_i32_514 : BitVec 32 := 64#32
  let v1722 : BitVec 32 := Scalar.addi v1721 c64_i32_514
  v1722
def k0_mult113 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_520 : BitVec 32 := 512#32
  let v1752 : BitVec 32 := Scalar.muli arg15 c512_i32_520
  let c256_i32_521 : BitVec 32 := 256#32
  let v1753 : BitVec 32 := Scalar.addi v1752 c256_i32_521
  let c128_i32_522 : BitVec 32 := 128#32
  let v1754 : BitVec 32 := Scalar.addi v1753 c128_i32_522
  v1754
def k0_mult114 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_528 : BitVec 32 := 512#32
  let v1783 : BitVec 32 := Scalar.muli arg15 c512_i32_528
  let c256_i32_529 : BitVec 32 := 256#32
  let v1784 : BitVec 32 := Scalar.addi v1783 c256_i32_529
  let c128_i32_530 : BitVec 32 := 128#32
  let v1785 : BitVec 32 := Scalar.addi v1784 c128_i32_530
  v1785
def k0_mult115 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_536 : BitVec 32 := 512#32
  let v1815 : BitVec 32 := Scalar.muli arg15 c512_i32_536
  let c256_i32_537 : BitVec 32 := 256#32
  let v1816 : BitVec 32 := Scalar.addi v1815 c256_i32_537
  let c192_i32_538 : BitVec 32 := 192#32
  let v1817 : BitVec 32 := Scalar.addi v1816 c192_i32_538
  v1817
def k0_mult116 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_544 : BitVec 32 := 512#32
  let v1846 : BitVec 32 := Scalar.muli arg15 c512_i32_544
  let c256_i32_545 : BitVec 32 := 256#32
  let v1847 : BitVec 32 := Scalar.addi v1846 c256_i32_545
  let c192_i32_546 : BitVec 32 := 192#32
  let v1848 : BitVec 32 := Scalar.addi v1847 c192_i32_546
  v1848
def k0_mult117 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_552 : BitVec 32 := 512#32
  let v1879 : BitVec 32 := Scalar.muli arg15 c512_i32_552
  let c256_i32_553 : BitVec 32 := 256#32
  let v1880 : BitVec 32 := Scalar.addi v1879 c256_i32_553
  v1880
def k0_mult118 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_558 : BitVec 32 := 512#32
  let v1887 : BitVec 32 := Scalar.muli arg15 c512_i32_558
  let c256_i32_559 : BitVec 32 := 256#32
  let v1888 : BitVec 32 := Scalar.addi v1887 c256_i32_559
  v1888
def k0_mult119 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_570 : BitVec 32 := 512#32
  let v1904 : BitVec 32 := Scalar.muli arg15 c512_i32_570
  let c256_i32_571 : BitVec 32 := 256#32
  let v1905 : BitVec 32 := Scalar.addi v1904 c256_i32_571
  let c0_i32_572 : BitVec 32 := 0#32
  let v1906 : BitVec 32 := Scalar.addi v1905 c0_i32_572
  v1906
def k0_mult120 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_579 : BitVec 32 := 512#32
  let v1937 : BitVec 32 := Scalar.muli arg15 c512_i32_579
  let c256_i32_580 : BitVec 32 := 256#32
  let v1938 : BitVec 32 := Scalar.addi v1937 c256_i32_580
  let c0_i32_581 : BitVec 32 := 0#32
  let v1939 : BitVec 32 := Scalar.addi v1938 c0_i32_581
  v1939
def k0_mult121 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_588 : BitVec 32 := 512#32
  let v1970 : BitVec 32 := Scalar.muli arg15 c512_i32_588
  let c256_i32_589 : BitVec 32 := 256#32
  let v1971 : BitVec 32 := Scalar.addi v1970 c256_i32_589
  let c64_i32_590 : BitVec 32 := 64#32
  let v1972 : BitVec 32 := Scalar.addi v1971 c64_i32_590
  v1972
def k0_mult122 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_597 : BitVec 32 := 512#32
  let v2003 : BitVec 32 := Scalar.muli arg15 c512_i32_597
  let c256_i32_598 : BitVec 32 := 256#32
  let v2004 : BitVec 32 := Scalar.addi v2003 c256_i32_598
  let c64_i32_599 : BitVec 32 := 64#32
  let v2005 : BitVec 32 := Scalar.addi v2004 c64_i32_599
  v2005
def k0_mult123 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_606 : BitVec 32 := 512#32
  let v2036 : BitVec 32 := Scalar.muli arg15 c512_i32_606
  let c256_i32_607 : BitVec 32 := 256#32
  let v2037 : BitVec 32 := Scalar.addi v2036 c256_i32_607
  let c128_i32_608 : BitVec 32 := 128#32
  let v2038 : BitVec 32 := Scalar.addi v2037 c128_i32_608
  v2038
def k0_mult124 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_615 : BitVec 32 := 512#32
  let v2069 : BitVec 32 := Scalar.muli arg15 c512_i32_615
  let c256_i32_616 : BitVec 32 := 256#32
  let v2070 : BitVec 32 := Scalar.addi v2069 c256_i32_616
  let c128_i32_617 : BitVec 32 := 128#32
  let v2071 : BitVec 32 := Scalar.addi v2070 c128_i32_617
  v2071
def k0_mult125 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_624 : BitVec 32 := 512#32
  let v2102 : BitVec 32 := Scalar.muli arg15 c512_i32_624
  let c256_i32_625 : BitVec 32 := 256#32
  let v2103 : BitVec 32 := Scalar.addi v2102 c256_i32_625
  let c192_i32_626 : BitVec 32 := 192#32
  let v2104 : BitVec 32 := Scalar.addi v2103 c192_i32_626
  v2104
def k0_mult126 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_633 : BitVec 32 := 512#32
  let v2135 : BitVec 32 := Scalar.muli arg15 c512_i32_633
  let c256_i32_634 : BitVec 32 := 256#32
  let v2136 : BitVec 32 := Scalar.addi v2135 c256_i32_634
  let c192_i32_635 : BitVec 32 := 192#32
  let v2137 : BitVec 32 := Scalar.addi v2136 c192_i32_635
  v2137
def k0_mult127 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_637 : BitVec 32 := 512#32
  let v2159 : BitVec 32 := Scalar.muli arg15 c512_i32_637
  let c256_i32_638 : BitVec 32 := 256#32
  let v2160 : BitVec 32 := Scalar.addi v2159 c256_i32_638
  let c0_i32_639 : BitVec 32 := 0#32
  let v2161 : BitVec 32 := Scalar.addi v2160 c0_i32_639
  v2161
def k0_mult128 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_645 : BitVec 32 := 512#32
  let v2190 : BitVec 32 := Scalar.muli arg15 c512_i32_645
  let c256_i32_646 : BitVec 32 := 256#32
  let v2191 : BitVec 32 := Scalar.addi v2190 c256_i32_646
  let c0_i32_647 : BitVec 32 := 0#32
  let v2192 : BitVec 32 := Scalar.addi v2191 c0_i32_647
  v2192
def k0_mult129 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_653 : BitVec 32 := 512#32
  let v2222 : BitVec 32 := Scalar.muli arg15 c512_i32_653
  let c256_i32_654 : BitVec 32 := 256#32
  let v2223 : BitVec 32 := Scalar.addi v2222 c256_i32_654
  let c64_i32_655 : BitVec 32 := 64#32
  let v2224 : BitVec 32 := Scalar.addi v2223 c64_i32_655
  v2224
def k0_mult130 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_661 : BitVec 32 := 512#32
  let v2253 : BitVec 32 := Scalar.muli arg15 c512_i32_661
  let c256_i32_662 : BitVec 32 := 256#32
  let v2254 : BitVec 32 := Scalar.addi v2253 c256_i32_662
  let c64_i32_663 : BitVec 32 := 64#32
  let v2255 : BitVec 32 := Scalar.addi v2254 c64_i32_663
  v2255
def k0_mult131 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_669 : BitVec 32 := 512#32
  let v2285 : BitVec 32 := Scalar.muli arg15 c512_i32_669
  let c256_i32_670 : BitVec 32 := 256#32
  let v2286 : BitVec 32 := Scalar.addi v2285 c256_i32_670
  let c128_i32_671 : BitVec 32 := 128#32
  let v2287 : BitVec 32 := Scalar.addi v2286 c128_i32_671
  v2287
def k0_mult132 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_677 : BitVec 32 := 512#32
  let v2316 : BitVec 32 := Scalar.muli arg15 c512_i32_677
  let c256_i32_678 : BitVec 32 := 256#32
  let v2317 : BitVec 32 := Scalar.addi v2316 c256_i32_678
  let c128_i32_679 : BitVec 32 := 128#32
  let v2318 : BitVec 32 := Scalar.addi v2317 c128_i32_679
  v2318
def k0_mult133 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_685 : BitVec 32 := 512#32
  let v2348 : BitVec 32 := Scalar.muli arg15 c512_i32_685
  let c256_i32_686 : BitVec 32 := 256#32
  let v2349 : BitVec 32 := Scalar.addi v2348 c256_i32_686
  let c192_i32_687 : BitVec 32 := 192#32
  let v2350 : BitVec 32 := Scalar.addi v2349 c192_i32_687
  v2350
def k0_mult134 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_693 : BitVec 32 := 512#32
  let v2379 : BitVec 32 := Scalar.muli arg15 c512_i32_693
  let c256_i32_694 : BitVec 32 := 256#32
  let v2380 : BitVec 32 := Scalar.addi v2379 c256_i32_694
  let c192_i32_695 : BitVec 32 := 192#32
  let v2381 : BitVec 32 := Scalar.addi v2380 c192_i32_695
  v2381
def k0_mult135 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_701 : BitVec 32 := 512#32
  let v2412 : BitVec 32 := Scalar.muli arg15 c512_i32_701
  let c256_i32_702 : BitVec 32 := 256#32
  let v2413 : BitVec 32 := Scalar.addi v2412 c256_i32_702
  v2413
def k0_mult136 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_707 : BitVec 32 := 512#32
  let v2420 : BitVec 32 := Scalar.muli arg15 c512_i32_707
  let c256_i32_708 : BitVec 32 := 256#32
  let v2421 : BitVec 32 := Scalar.addi v2420 c256_i32_708
  v2421
def k0_mult137 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_720 : BitVec 32 := 512#32
  let v2437 : BitVec 32 := Scalar.muli arg15 c512_i32_720
  let c256_i32_721 : BitVec 32 := 256#32
  let v2438 : BitVec 32 := Scalar.addi v2437 c256_i32_721
  let c0_i32_722 : BitVec 32 := 0#32
  let v2439 : BitVec 32 := Scalar.addi v2438 c0_i32_722
  v2439
def k0_mult138 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_729 : BitVec 32 := 512#32
  let v2470 : BitVec 32 := Scalar.muli arg15 c512_i32_729
  let c256_i32_730 : BitVec 32 := 256#32
  let v2471 : BitVec 32 := Scalar.addi v2470 c256_i32_730
  let c0_i32_731 : BitVec 32 := 0#32
  let v2472 : BitVec 32 := Scalar.addi v2471 c0_i32_731
  v2472
def k0_mult139 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_738 : BitVec 32 := 512#32
  let v2503 : BitVec 32 := Scalar.muli arg15 c512_i32_738
  let c256_i32_739 : BitVec 32 := 256#32
  let v2504 : BitVec 32 := Scalar.addi v2503 c256_i32_739
  let c64_i32_740 : BitVec 32 := 64#32
  let v2505 : BitVec 32 := Scalar.addi v2504 c64_i32_740
  v2505
def k0_mult140 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_747 : BitVec 32 := 512#32
  let v2536 : BitVec 32 := Scalar.muli arg15 c512_i32_747
  let c256_i32_748 : BitVec 32 := 256#32
  let v2537 : BitVec 32 := Scalar.addi v2536 c256_i32_748
  let c64_i32_749 : BitVec 32 := 64#32
  let v2538 : BitVec 32 := Scalar.addi v2537 c64_i32_749
  v2538
def k0_mult141 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_756 : BitVec 32 := 512#32
  let v2569 : BitVec 32 := Scalar.muli arg15 c512_i32_756
  let c256_i32_757 : BitVec 32 := 256#32
  let v2570 : BitVec 32 := Scalar.addi v2569 c256_i32_757
  let c128_i32_758 : BitVec 32 := 128#32
  let v2571 : BitVec 32 := Scalar.addi v2570 c128_i32_758
  v2571
def k0_mult142 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_765 : BitVec 32 := 512#32
  let v2602 : BitVec 32 := Scalar.muli arg15 c512_i32_765
  let c256_i32_766 : BitVec 32 := 256#32
  let v2603 : BitVec 32 := Scalar.addi v2602 c256_i32_766
  let c128_i32_767 : BitVec 32 := 128#32
  let v2604 : BitVec 32 := Scalar.addi v2603 c128_i32_767
  v2604
def k0_mult143 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_774 : BitVec 32 := 512#32
  let v2635 : BitVec 32 := Scalar.muli arg15 c512_i32_774
  let c256_i32_775 : BitVec 32 := 256#32
  let v2636 : BitVec 32 := Scalar.addi v2635 c256_i32_775
  let c192_i32_776 : BitVec 32 := 192#32
  let v2637 : BitVec 32 := Scalar.addi v2636 c192_i32_776
  v2637
def k0_mult144 (i : grid0.Coords) (k0_t2 : Fin (k0_t2_loop i).trips) : BitVec 32 :=
  let c0_i32_169 : BitVec 32 := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_168 : BitVec 32 := 1#32
  let v510 : BitVec 32 := Scalar.subi v40 c1_i32_168
  let v511 : BitVec 32 := Scalar.subi v510 c0_i32_169
  let c1_i32_170 : BitVec 32 := 1#32
  let v513 : BitVec 32 := Scalar.divsi v511 c1_i32_170
  let v514 : BitVec 32 := Scalar.muli v513 c1_i32_170
  let v515 : BitVec 32 := Scalar.addi c0_i32_169 v514
  let c1_i32_172 : BitVec 32 := 1#32
  let arg15 : BitVec 32 := Scf.iv v515 c1_i32_172 k0_t2
  let c512_i32_783 : BitVec 32 := 512#32
  let v2668 : BitVec 32 := Scalar.muli arg15 c512_i32_783
  let c256_i32_784 : BitVec 32 := 256#32
  let v2669 : BitVec 32 := Scalar.addi v2668 c256_i32_784
  let c192_i32_785 : BitVec 32 := 192#32
  let v2670 : BitVec 32 := Scalar.addi v2669 c192_i32_785
  v2670
def k0_cond2 (i : grid0.Coords) : BitVec 1 :=
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let v519 : BitVec 1 := Scalar.cmpi .eq v19 v40
  let v520 : BitVec 32 := Scalar.extui v519
  let c0_i32_174 : BitVec 32 := 0#32
  let v521 : BitVec 1 := Scalar.cmpi .ne v520 c0_i32_174
  v521

def k0_mult145 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_194 : BitVec 32 := 512#32
  let v563 : BitVec 32 := Scalar.muli v518 c512_i32_194
  let c0_i32_195 : BitVec 32 := 0#32
  let v564 : BitVec 32 := Scalar.addi v563 c0_i32_195
  let c0_i32_196 : BitVec 32 := 0#32
  let v565 : BitVec 32 := Scalar.addi v564 c0_i32_196
  v565
def k0_off21 (i : grid0.Coords) (c0_i32_195 : BitVec 32) (c0_i32_196 : BitVec 32) : Fin 2 → Nat :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_194 : BitVec 32 := 512#32
  let v563 : BitVec 32 := Scalar.muli v518 c512_i32_194
  let v564 : BitVec 32 := Scalar.addi v563 c0_i32_195
  let v565 : BitVec 32 := Scalar.addi v564 c0_i32_196
  let v566 : BitVec 32 := v565
  let v567 : Index := Scalar.indexCast v566
  let c0_197 : Index := 0#32
  ![v567.toNat, 0]
def k0_mult146 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_202 : BitVec 32 := 512#32
  let v594 : BitVec 32 := Scalar.muli v518 c512_i32_202
  let c0_i32_203 : BitVec 32 := 0#32
  let v595 : BitVec 32 := Scalar.addi v594 c0_i32_203
  let c0_i32_204 : BitVec 32 := 0#32
  let v596 : BitVec 32 := Scalar.addi v595 c0_i32_204
  v596
def k0_off22 (i : grid0.Coords) (c0_i32_203 : BitVec 32) (c0_i32_204 : BitVec 32) : Fin 2 → Nat :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_202 : BitVec 32 := 512#32
  let v594 : BitVec 32 := Scalar.muli v518 c512_i32_202
  let v595 : BitVec 32 := Scalar.addi v594 c0_i32_203
  let v596 : BitVec 32 := Scalar.addi v595 c0_i32_204
  let v597 : BitVec 32 := v596
  let v598 : Index := Scalar.indexCast v597
  let c128_205 : Index := 128#32
  ![v598.toNat, 128]
def k0_mult147 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_210 : BitVec 32 := 512#32
  let v626 : BitVec 32 := Scalar.muli v518 c512_i32_210
  let c0_i32_211 : BitVec 32 := 0#32
  let v627 : BitVec 32 := Scalar.addi v626 c0_i32_211
  let c64_i32_212 : BitVec 32 := 64#32
  let v628 : BitVec 32 := Scalar.addi v627 c64_i32_212
  v628
def k0_mult148 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_218 : BitVec 32 := 512#32
  let v657 : BitVec 32 := Scalar.muli v518 c512_i32_218
  let c0_i32_219 : BitVec 32 := 0#32
  let v658 : BitVec 32 := Scalar.addi v657 c0_i32_219
  let c64_i32_220 : BitVec 32 := 64#32
  let v659 : BitVec 32 := Scalar.addi v658 c64_i32_220
  v659
def k0_mult149 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_226 : BitVec 32 := 512#32
  let v689 : BitVec 32 := Scalar.muli v518 c512_i32_226
  let c0_i32_227 : BitVec 32 := 0#32
  let v690 : BitVec 32 := Scalar.addi v689 c0_i32_227
  let c128_i32_228 : BitVec 32 := 128#32
  let v691 : BitVec 32 := Scalar.addi v690 c128_i32_228
  v691
def k0_mult150 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_234 : BitVec 32 := 512#32
  let v720 : BitVec 32 := Scalar.muli v518 c512_i32_234
  let c0_i32_235 : BitVec 32 := 0#32
  let v721 : BitVec 32 := Scalar.addi v720 c0_i32_235
  let c128_i32_236 : BitVec 32 := 128#32
  let v722 : BitVec 32 := Scalar.addi v721 c128_i32_236
  v722
def k0_mult151 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_242 : BitVec 32 := 512#32
  let v752 : BitVec 32 := Scalar.muli v518 c512_i32_242
  let c0_i32_243 : BitVec 32 := 0#32
  let v753 : BitVec 32 := Scalar.addi v752 c0_i32_243
  let c192_i32 : BitVec 32 := 192#32
  let v754 : BitVec 32 := Scalar.addi v753 c192_i32
  v754
def k0_mult152 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_249 : BitVec 32 := 512#32
  let v783 : BitVec 32 := Scalar.muli v518 c512_i32_249
  let c0_i32_250 : BitVec 32 := 0#32
  let v784 : BitVec 32 := Scalar.addi v783 c0_i32_250
  let c192_i32_251 : BitVec 32 := 192#32
  let v785 : BitVec 32 := Scalar.addi v784 c192_i32_251
  v785
def k0_mult153 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_257 : BitVec 32 := 512#32
  let v816 : BitVec 32 := Scalar.muli v518 c512_i32_257
  let c0_i32_258 : BitVec 32 := 0#32
  let v817 : BitVec 32 := Scalar.addi v816 c0_i32_258
  v817
def k0_off23 (i : grid0.Coords) (c0_i32_258 : BitVec 32) : Fin 4 → Nat :=
  let c0_259 : Index := 0#32
  let c0_260 : Index := 0#32
  let c0_261 : Index := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_257 : BitVec 32 := 512#32
  let v816 : BitVec 32 := Scalar.muli v518 c512_i32_257
  let v817 : BitVec 32 := Scalar.addi v816 c0_i32_258
  let v818 : BitVec 32 := v817
  let v819 : Index := Scalar.indexCast v818
  ![0, 0, 0, v819.toNat]
def k0_mult154 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_263 : BitVec 32 := 512#32
  let v823 : BitVec 32 := Scalar.muli v518 c512_i32_263
  let c0_i32_264 : BitVec 32 := 0#32
  let v824 : BitVec 32 := Scalar.addi v823 c0_i32_264
  v824
def k0_off24 (i : grid0.Coords) (c0_i32_264 : BitVec 32) : Fin 4 → Nat :=
  let c0_265 : Index := 0#32
  let c0_266 : Index := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_263 : BitVec 32 := 512#32
  let v823 : BitVec 32 := Scalar.muli v518 c512_i32_263
  let v824 : BitVec 32 := Scalar.addi v823 c0_i32_264
  let v825 : BitVec 32 := v824
  let v826 : Index := Scalar.indexCast v825
  let c0_267 : Index := 0#32
  ![0, 0, v826.toNat, 0]
def k0_off25 (i : grid0.Coords) (c0_i32_271 : BitVec 32) (c0_i32_272 : BitVec 32) : Fin 3 → Nat :=
  let c0_273 : Index := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c8_i32 : BitVec 32 := 8#32
  let v831 : BitVec 32 := Scalar.muli v518 c8_i32
  let v832 : BitVec 32 := Scalar.addi v831 c0_i32_271
  let v833 : BitVec 32 := Scalar.addi v832 c0_i32_272
  let v835 : Index := Scalar.indexCast v833
  let c0_274 : Index := 0#32
  ![0, v835.toNat, 0]
def k0_mult155 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_275 : BitVec 32 := 512#32
  let v840 : BitVec 32 := Scalar.muli v518 c512_i32_275
  let c0_i32_276 : BitVec 32 := 0#32
  let v841 : BitVec 32 := Scalar.addi v840 c0_i32_276
  let c0_i32_277 : BitVec 32 := 0#32
  let v842 : BitVec 32 := Scalar.addi v841 c0_i32_277
  v842
def k0_off26 (i : grid0.Coords) (c0_i32_281 : BitVec 32) (c0_i32_282 : BitVec 32) : Fin 3 → Nat :=
  let c1_283 : Index := 1#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c8_i32_280 : BitVec 32 := 8#32
  let v873 : BitVec 32 := Scalar.muli v518 c8_i32_280
  let v874 : BitVec 32 := Scalar.addi v873 c0_i32_281
  let v875 : BitVec 32 := Scalar.addi v874 c0_i32_282
  let v877 : Index := Scalar.indexCast v875
  let c0_284 : Index := 0#32
  ![1, v877.toNat, 0]
def k0_mult156 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_285 : BitVec 32 := 512#32
  let v882 : BitVec 32 := Scalar.muli v518 c512_i32_285
  let c0_i32_286 : BitVec 32 := 0#32
  let v883 : BitVec 32 := Scalar.addi v882 c0_i32_286
  let c0_i32_287 : BitVec 32 := 0#32
  let v884 : BitVec 32 := Scalar.addi v883 c0_i32_287
  v884
def k0_mult157 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_295 : BitVec 32 := 512#32
  let v924 : BitVec 32 := Scalar.muli v518 c512_i32_295
  let c0_i32_296 : BitVec 32 := 0#32
  let v925 : BitVec 32 := Scalar.addi v924 c0_i32_296
  let c64_i32_297 : BitVec 32 := 64#32
  let v926 : BitVec 32 := Scalar.addi v925 c64_i32_297
  v926
def k0_mult158 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_305 : BitVec 32 := 512#32
  let v966 : BitVec 32 := Scalar.muli v518 c512_i32_305
  let c0_i32_306 : BitVec 32 := 0#32
  let v967 : BitVec 32 := Scalar.addi v966 c0_i32_306
  let c64_i32_307 : BitVec 32 := 64#32
  let v968 : BitVec 32 := Scalar.addi v967 c64_i32_307
  v968
def k0_mult159 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_314 : BitVec 32 := 512#32
  let v1008 : BitVec 32 := Scalar.muli v518 c512_i32_314
  let c0_i32_315 : BitVec 32 := 0#32
  let v1009 : BitVec 32 := Scalar.addi v1008 c0_i32_315
  let c128_i32_316 : BitVec 32 := 128#32
  let v1010 : BitVec 32 := Scalar.addi v1009 c128_i32_316
  v1010
def k0_mult160 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_324 : BitVec 32 := 512#32
  let v1050 : BitVec 32 := Scalar.muli v518 c512_i32_324
  let c0_i32_325 : BitVec 32 := 0#32
  let v1051 : BitVec 32 := Scalar.addi v1050 c0_i32_325
  let c128_i32_326 : BitVec 32 := 128#32
  let v1052 : BitVec 32 := Scalar.addi v1051 c128_i32_326
  v1052
def k0_mult161 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_333 : BitVec 32 := 512#32
  let v1092 : BitVec 32 := Scalar.muli v518 c512_i32_333
  let c0_i32_334 : BitVec 32 := 0#32
  let v1093 : BitVec 32 := Scalar.addi v1092 c0_i32_334
  let c192_i32_335 : BitVec 32 := 192#32
  let v1094 : BitVec 32 := Scalar.addi v1093 c192_i32_335
  v1094
def k0_mult162 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_343 : BitVec 32 := 512#32
  let v1134 : BitVec 32 := Scalar.muli v518 c512_i32_343
  let c0_i32_344 : BitVec 32 := 0#32
  let v1135 : BitVec 32 := Scalar.addi v1134 c0_i32_344
  let c192_i32_345 : BitVec 32 := 192#32
  let v1136 : BitVec 32 := Scalar.addi v1135 c192_i32_345
  v1136
def k0_mult163 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_348 : BitVec 32 := 512#32
  let v1167 : BitVec 32 := Scalar.muli v518 c512_i32_348
  let c0_i32_349 : BitVec 32 := 0#32
  let v1168 : BitVec 32 := Scalar.addi v1167 c0_i32_349
  let c0_i32_350 : BitVec 32 := 0#32
  let v1169 : BitVec 32 := Scalar.addi v1168 c0_i32_350
  v1169
def k0_off27 (i : grid0.Coords) (c0_i32_349 : BitVec 32) (c0_i32_350 : BitVec 32) : Fin 2 → Nat :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_348 : BitVec 32 := 512#32
  let v1167 : BitVec 32 := Scalar.muli v518 c512_i32_348
  let v1168 : BitVec 32 := Scalar.addi v1167 c0_i32_349
  let v1169 : BitVec 32 := Scalar.addi v1168 c0_i32_350
  let v1170 : BitVec 32 := v1169
  let v1171 : Index := Scalar.indexCast v1170
  let c256_351 : Index := 256#32
  ![v1171.toNat, 256]
def k0_mult164 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_356 : BitVec 32 := 512#32
  let v1198 : BitVec 32 := Scalar.muli v518 c512_i32_356
  let c0_i32_357 : BitVec 32 := 0#32
  let v1199 : BitVec 32 := Scalar.addi v1198 c0_i32_357
  let c0_i32_358 : BitVec 32 := 0#32
  let v1200 : BitVec 32 := Scalar.addi v1199 c0_i32_358
  v1200
def k0_off28 (i : grid0.Coords) (c0_i32_357 : BitVec 32) (c0_i32_358 : BitVec 32) : Fin 2 → Nat :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_356 : BitVec 32 := 512#32
  let v1198 : BitVec 32 := Scalar.muli v518 c512_i32_356
  let v1199 : BitVec 32 := Scalar.addi v1198 c0_i32_357
  let v1200 : BitVec 32 := Scalar.addi v1199 c0_i32_358
  let v1201 : BitVec 32 := v1200
  let v1202 : Index := Scalar.indexCast v1201
  let c384_359 : Index := 384#32
  ![v1202.toNat, 384]
def k0_mult165 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_364 : BitVec 32 := 512#32
  let v1230 : BitVec 32 := Scalar.muli v518 c512_i32_364
  let c0_i32_365 : BitVec 32 := 0#32
  let v1231 : BitVec 32 := Scalar.addi v1230 c0_i32_365
  let c64_i32_366 : BitVec 32 := 64#32
  let v1232 : BitVec 32 := Scalar.addi v1231 c64_i32_366
  v1232
def k0_mult166 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_372 : BitVec 32 := 512#32
  let v1261 : BitVec 32 := Scalar.muli v518 c512_i32_372
  let c0_i32_373 : BitVec 32 := 0#32
  let v1262 : BitVec 32 := Scalar.addi v1261 c0_i32_373
  let c64_i32_374 : BitVec 32 := 64#32
  let v1263 : BitVec 32 := Scalar.addi v1262 c64_i32_374
  v1263
def k0_mult167 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_380 : BitVec 32 := 512#32
  let v1293 : BitVec 32 := Scalar.muli v518 c512_i32_380
  let c0_i32_381 : BitVec 32 := 0#32
  let v1294 : BitVec 32 := Scalar.addi v1293 c0_i32_381
  let c128_i32_382 : BitVec 32 := 128#32
  let v1295 : BitVec 32 := Scalar.addi v1294 c128_i32_382
  v1295
def k0_mult168 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_388 : BitVec 32 := 512#32
  let v1324 : BitVec 32 := Scalar.muli v518 c512_i32_388
  let c0_i32_389 : BitVec 32 := 0#32
  let v1325 : BitVec 32 := Scalar.addi v1324 c0_i32_389
  let c128_i32_390 : BitVec 32 := 128#32
  let v1326 : BitVec 32 := Scalar.addi v1325 c128_i32_390
  v1326
def k0_mult169 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_396 : BitVec 32 := 512#32
  let v1356 : BitVec 32 := Scalar.muli v518 c512_i32_396
  let c0_i32_397 : BitVec 32 := 0#32
  let v1357 : BitVec 32 := Scalar.addi v1356 c0_i32_397
  let c192_i32_398 : BitVec 32 := 192#32
  let v1358 : BitVec 32 := Scalar.addi v1357 c192_i32_398
  v1358
def k0_mult170 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_404 : BitVec 32 := 512#32
  let v1387 : BitVec 32 := Scalar.muli v518 c512_i32_404
  let c0_i32_405 : BitVec 32 := 0#32
  let v1388 : BitVec 32 := Scalar.addi v1387 c0_i32_405
  let c192_i32_406 : BitVec 32 := 192#32
  let v1389 : BitVec 32 := Scalar.addi v1388 c192_i32_406
  v1389
def k0_mult171 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_412 : BitVec 32 := 512#32
  let v1420 : BitVec 32 := Scalar.muli v518 c512_i32_412
  let c0_i32_413 : BitVec 32 := 0#32
  let v1421 : BitVec 32 := Scalar.addi v1420 c0_i32_413
  v1421
def k0_mult172 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_418 : BitVec 32 := 512#32
  let v1427 : BitVec 32 := Scalar.muli v518 c512_i32_418
  let c0_i32_419 : BitVec 32 := 0#32
  let v1428 : BitVec 32 := Scalar.addi v1427 c0_i32_419
  v1428
def k0_off29 (i : grid0.Coords) (c0_i32_427 : BitVec 32) (c0_i32_428 : BitVec 32) : Fin 3 → Nat :=
  let c2_429 : Index := 2#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c8_i32_426 : BitVec 32 := 8#32
  let v1435 : BitVec 32 := Scalar.muli v518 c8_i32_426
  let v1436 : BitVec 32 := Scalar.addi v1435 c0_i32_427
  let v1437 : BitVec 32 := Scalar.addi v1436 c0_i32_428
  let v1439 : Index := Scalar.indexCast v1437
  let c0_430 : Index := 0#32
  ![2, v1439.toNat, 0]
def k0_mult173 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_431 : BitVec 32 := 512#32
  let v1444 : BitVec 32 := Scalar.muli v518 c512_i32_431
  let c0_i32_432 : BitVec 32 := 0#32
  let v1445 : BitVec 32 := Scalar.addi v1444 c0_i32_432
  let c0_i32_433 : BitVec 32 := 0#32
  let v1446 : BitVec 32 := Scalar.addi v1445 c0_i32_433
  v1446
def k0_off30 (i : grid0.Coords) (c0_i32_437 : BitVec 32) (c0_i32_438 : BitVec 32) : Fin 3 → Nat :=
  let c3_439 : Index := 3#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c8_i32_436 : BitVec 32 := 8#32
  let v1477 : BitVec 32 := Scalar.muli v518 c8_i32_436
  let v1478 : BitVec 32 := Scalar.addi v1477 c0_i32_437
  let v1479 : BitVec 32 := Scalar.addi v1478 c0_i32_438
  let v1481 : Index := Scalar.indexCast v1479
  let c0_440 : Index := 0#32
  ![3, v1481.toNat, 0]
def k0_mult174 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_441 : BitVec 32 := 512#32
  let v1486 : BitVec 32 := Scalar.muli v518 c512_i32_441
  let c0_i32_442 : BitVec 32 := 0#32
  let v1487 : BitVec 32 := Scalar.addi v1486 c0_i32_442
  let c0_i32_443 : BitVec 32 := 0#32
  let v1488 : BitVec 32 := Scalar.addi v1487 c0_i32_443
  v1488
def k0_mult175 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_451 : BitVec 32 := 512#32
  let v1528 : BitVec 32 := Scalar.muli v518 c512_i32_451
  let c0_i32_452 : BitVec 32 := 0#32
  let v1529 : BitVec 32 := Scalar.addi v1528 c0_i32_452
  let c64_i32_453 : BitVec 32 := 64#32
  let v1530 : BitVec 32 := Scalar.addi v1529 c64_i32_453
  v1530
def k0_mult176 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_461 : BitVec 32 := 512#32
  let v1570 : BitVec 32 := Scalar.muli v518 c512_i32_461
  let c0_i32_462 : BitVec 32 := 0#32
  let v1571 : BitVec 32 := Scalar.addi v1570 c0_i32_462
  let c64_i32_463 : BitVec 32 := 64#32
  let v1572 : BitVec 32 := Scalar.addi v1571 c64_i32_463
  v1572
def k0_mult177 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_471 : BitVec 32 := 512#32
  let v1612 : BitVec 32 := Scalar.muli v518 c512_i32_471
  let c0_i32_472 : BitVec 32 := 0#32
  let v1613 : BitVec 32 := Scalar.addi v1612 c0_i32_472
  let c128_i32_473 : BitVec 32 := 128#32
  let v1614 : BitVec 32 := Scalar.addi v1613 c128_i32_473
  v1614
def k0_mult178 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_481 : BitVec 32 := 512#32
  let v1654 : BitVec 32 := Scalar.muli v518 c512_i32_481
  let c0_i32_482 : BitVec 32 := 0#32
  let v1655 : BitVec 32 := Scalar.addi v1654 c0_i32_482
  let c128_i32_483 : BitVec 32 := 128#32
  let v1656 : BitVec 32 := Scalar.addi v1655 c128_i32_483
  v1656
def k0_mult179 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_491 : BitVec 32 := 512#32
  let v1696 : BitVec 32 := Scalar.muli v518 c512_i32_491
  let c0_i32_492 : BitVec 32 := 0#32
  let v1697 : BitVec 32 := Scalar.addi v1696 c0_i32_492
  let c192_i32_493 : BitVec 32 := 192#32
  let v1698 : BitVec 32 := Scalar.addi v1697 c192_i32_493
  v1698
def k0_mult180 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_501 : BitVec 32 := 512#32
  let v1738 : BitVec 32 := Scalar.muli v518 c512_i32_501
  let c0_i32_502 : BitVec 32 := 0#32
  let v1739 : BitVec 32 := Scalar.addi v1738 c0_i32_502
  let c192_i32_503 : BitVec 32 := 192#32
  let v1740 : BitVec 32 := Scalar.addi v1739 c192_i32_503
  v1740
def k0_mult181 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_506 : BitVec 32 := 512#32
  let v1771 : BitVec 32 := Scalar.muli v518 c512_i32_506
  let c256_i32 : BitVec 32 := 256#32
  let v1772 : BitVec 32 := Scalar.addi v1771 c256_i32
  let c0_i32_507 : BitVec 32 := 0#32
  let v1773 : BitVec 32 := Scalar.addi v1772 c0_i32_507
  v1773
def k0_mult182 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_513 : BitVec 32 := 512#32
  let v1802 : BitVec 32 := Scalar.muli v518 c512_i32_513
  let c256_i32_514 : BitVec 32 := 256#32
  let v1803 : BitVec 32 := Scalar.addi v1802 c256_i32_514
  let c0_i32_515 : BitVec 32 := 0#32
  let v1804 : BitVec 32 := Scalar.addi v1803 c0_i32_515
  v1804
def k0_mult183 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_521 : BitVec 32 := 512#32
  let v1834 : BitVec 32 := Scalar.muli v518 c512_i32_521
  let c256_i32_522 : BitVec 32 := 256#32
  let v1835 : BitVec 32 := Scalar.addi v1834 c256_i32_522
  let c64_i32_523 : BitVec 32 := 64#32
  let v1836 : BitVec 32 := Scalar.addi v1835 c64_i32_523
  v1836
def k0_mult184 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_529 : BitVec 32 := 512#32
  let v1865 : BitVec 32 := Scalar.muli v518 c512_i32_529
  let c256_i32_530 : BitVec 32 := 256#32
  let v1866 : BitVec 32 := Scalar.addi v1865 c256_i32_530
  let c64_i32_531 : BitVec 32 := 64#32
  let v1867 : BitVec 32 := Scalar.addi v1866 c64_i32_531
  v1867
def k0_mult185 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_537 : BitVec 32 := 512#32
  let v1897 : BitVec 32 := Scalar.muli v518 c512_i32_537
  let c256_i32_538 : BitVec 32 := 256#32
  let v1898 : BitVec 32 := Scalar.addi v1897 c256_i32_538
  let c128_i32_539 : BitVec 32 := 128#32
  let v1899 : BitVec 32 := Scalar.addi v1898 c128_i32_539
  v1899
def k0_mult186 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_545 : BitVec 32 := 512#32
  let v1928 : BitVec 32 := Scalar.muli v518 c512_i32_545
  let c256_i32_546 : BitVec 32 := 256#32
  let v1929 : BitVec 32 := Scalar.addi v1928 c256_i32_546
  let c128_i32_547 : BitVec 32 := 128#32
  let v1930 : BitVec 32 := Scalar.addi v1929 c128_i32_547
  v1930
def k0_mult187 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_553 : BitVec 32 := 512#32
  let v1960 : BitVec 32 := Scalar.muli v518 c512_i32_553
  let c256_i32_554 : BitVec 32 := 256#32
  let v1961 : BitVec 32 := Scalar.addi v1960 c256_i32_554
  let c192_i32_555 : BitVec 32 := 192#32
  let v1962 : BitVec 32 := Scalar.addi v1961 c192_i32_555
  v1962
def k0_mult188 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_561 : BitVec 32 := 512#32
  let v1991 : BitVec 32 := Scalar.muli v518 c512_i32_561
  let c256_i32_562 : BitVec 32 := 256#32
  let v1992 : BitVec 32 := Scalar.addi v1991 c256_i32_562
  let c192_i32_563 : BitVec 32 := 192#32
  let v1993 : BitVec 32 := Scalar.addi v1992 c192_i32_563
  v1993
def k0_mult189 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_569 : BitVec 32 := 512#32
  let v2024 : BitVec 32 := Scalar.muli v518 c512_i32_569
  let c256_i32_570 : BitVec 32 := 256#32
  let v2025 : BitVec 32 := Scalar.addi v2024 c256_i32_570
  v2025
def k0_mult190 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_575 : BitVec 32 := 512#32
  let v2032 : BitVec 32 := Scalar.muli v518 c512_i32_575
  let c256_i32_576 : BitVec 32 := 256#32
  let v2033 : BitVec 32 := Scalar.addi v2032 c256_i32_576
  v2033
def k0_mult191 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_587 : BitVec 32 := 512#32
  let v2049 : BitVec 32 := Scalar.muli v518 c512_i32_587
  let c256_i32_588 : BitVec 32 := 256#32
  let v2050 : BitVec 32 := Scalar.addi v2049 c256_i32_588
  let c0_i32_589 : BitVec 32 := 0#32
  let v2051 : BitVec 32 := Scalar.addi v2050 c0_i32_589
  v2051
def k0_mult192 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_597 : BitVec 32 := 512#32
  let v2091 : BitVec 32 := Scalar.muli v518 c512_i32_597
  let c256_i32_598 : BitVec 32 := 256#32
  let v2092 : BitVec 32 := Scalar.addi v2091 c256_i32_598
  let c0_i32_599 : BitVec 32 := 0#32
  let v2093 : BitVec 32 := Scalar.addi v2092 c0_i32_599
  v2093
def k0_mult193 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_607 : BitVec 32 := 512#32
  let v2133 : BitVec 32 := Scalar.muli v518 c512_i32_607
  let c256_i32_608 : BitVec 32 := 256#32
  let v2134 : BitVec 32 := Scalar.addi v2133 c256_i32_608
  let c64_i32_609 : BitVec 32 := 64#32
  let v2135 : BitVec 32 := Scalar.addi v2134 c64_i32_609
  v2135
def k0_mult194 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_617 : BitVec 32 := 512#32
  let v2175 : BitVec 32 := Scalar.muli v518 c512_i32_617
  let c256_i32_618 : BitVec 32 := 256#32
  let v2176 : BitVec 32 := Scalar.addi v2175 c256_i32_618
  let c64_i32_619 : BitVec 32 := 64#32
  let v2177 : BitVec 32 := Scalar.addi v2176 c64_i32_619
  v2177
def k0_mult195 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_627 : BitVec 32 := 512#32
  let v2217 : BitVec 32 := Scalar.muli v518 c512_i32_627
  let c256_i32_628 : BitVec 32 := 256#32
  let v2218 : BitVec 32 := Scalar.addi v2217 c256_i32_628
  let c128_i32_629 : BitVec 32 := 128#32
  let v2219 : BitVec 32 := Scalar.addi v2218 c128_i32_629
  v2219
def k0_mult196 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_637 : BitVec 32 := 512#32
  let v2259 : BitVec 32 := Scalar.muli v518 c512_i32_637
  let c256_i32_638 : BitVec 32 := 256#32
  let v2260 : BitVec 32 := Scalar.addi v2259 c256_i32_638
  let c128_i32_639 : BitVec 32 := 128#32
  let v2261 : BitVec 32 := Scalar.addi v2260 c128_i32_639
  v2261
def k0_mult197 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_647 : BitVec 32 := 512#32
  let v2301 : BitVec 32 := Scalar.muli v518 c512_i32_647
  let c256_i32_648 : BitVec 32 := 256#32
  let v2302 : BitVec 32 := Scalar.addi v2301 c256_i32_648
  let c192_i32_649 : BitVec 32 := 192#32
  let v2303 : BitVec 32 := Scalar.addi v2302 c192_i32_649
  v2303
def k0_mult198 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_657 : BitVec 32 := 512#32
  let v2343 : BitVec 32 := Scalar.muli v518 c512_i32_657
  let c256_i32_658 : BitVec 32 := 256#32
  let v2344 : BitVec 32 := Scalar.addi v2343 c256_i32_658
  let c192_i32_659 : BitVec 32 := 192#32
  let v2345 : BitVec 32 := Scalar.addi v2344 c192_i32_659
  v2345
def k0_mult199 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_662 : BitVec 32 := 512#32
  let v2376 : BitVec 32 := Scalar.muli v518 c512_i32_662
  let c256_i32_663 : BitVec 32 := 256#32
  let v2377 : BitVec 32 := Scalar.addi v2376 c256_i32_663
  let c0_i32_664 : BitVec 32 := 0#32
  let v2378 : BitVec 32 := Scalar.addi v2377 c0_i32_664
  v2378
def k0_mult200 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_670 : BitVec 32 := 512#32
  let v2407 : BitVec 32 := Scalar.muli v518 c512_i32_670
  let c256_i32_671 : BitVec 32 := 256#32
  let v2408 : BitVec 32 := Scalar.addi v2407 c256_i32_671
  let c0_i32_672 : BitVec 32 := 0#32
  let v2409 : BitVec 32 := Scalar.addi v2408 c0_i32_672
  v2409
def k0_mult201 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_678 : BitVec 32 := 512#32
  let v2439 : BitVec 32 := Scalar.muli v518 c512_i32_678
  let c256_i32_679 : BitVec 32 := 256#32
  let v2440 : BitVec 32 := Scalar.addi v2439 c256_i32_679
  let c64_i32_680 : BitVec 32 := 64#32
  let v2441 : BitVec 32 := Scalar.addi v2440 c64_i32_680
  v2441
def k0_mult202 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_686 : BitVec 32 := 512#32
  let v2470 : BitVec 32 := Scalar.muli v518 c512_i32_686
  let c256_i32_687 : BitVec 32 := 256#32
  let v2471 : BitVec 32 := Scalar.addi v2470 c256_i32_687
  let c64_i32_688 : BitVec 32 := 64#32
  let v2472 : BitVec 32 := Scalar.addi v2471 c64_i32_688
  v2472
def k0_mult203 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_694 : BitVec 32 := 512#32
  let v2502 : BitVec 32 := Scalar.muli v518 c512_i32_694
  let c256_i32_695 : BitVec 32 := 256#32
  let v2503 : BitVec 32 := Scalar.addi v2502 c256_i32_695
  let c128_i32_696 : BitVec 32 := 128#32
  let v2504 : BitVec 32 := Scalar.addi v2503 c128_i32_696
  v2504
def k0_mult204 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_702 : BitVec 32 := 512#32
  let v2533 : BitVec 32 := Scalar.muli v518 c512_i32_702
  let c256_i32_703 : BitVec 32 := 256#32
  let v2534 : BitVec 32 := Scalar.addi v2533 c256_i32_703
  let c128_i32_704 : BitVec 32 := 128#32
  let v2535 : BitVec 32 := Scalar.addi v2534 c128_i32_704
  v2535
def k0_mult205 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_710 : BitVec 32 := 512#32
  let v2565 : BitVec 32 := Scalar.muli v518 c512_i32_710
  let c256_i32_711 : BitVec 32 := 256#32
  let v2566 : BitVec 32 := Scalar.addi v2565 c256_i32_711
  let c192_i32_712 : BitVec 32 := 192#32
  let v2567 : BitVec 32 := Scalar.addi v2566 c192_i32_712
  v2567
def k0_mult206 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_718 : BitVec 32 := 512#32
  let v2596 : BitVec 32 := Scalar.muli v518 c512_i32_718
  let c256_i32_719 : BitVec 32 := 256#32
  let v2597 : BitVec 32 := Scalar.addi v2596 c256_i32_719
  let c192_i32_720 : BitVec 32 := 192#32
  let v2598 : BitVec 32 := Scalar.addi v2597 c192_i32_720
  v2598
def k0_mult207 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_726 : BitVec 32 := 512#32
  let v2629 : BitVec 32 := Scalar.muli v518 c512_i32_726
  let c256_i32_727 : BitVec 32 := 256#32
  let v2630 : BitVec 32 := Scalar.addi v2629 c256_i32_727
  v2630
def k0_mult208 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_732 : BitVec 32 := 512#32
  let v2637 : BitVec 32 := Scalar.muli v518 c512_i32_732
  let c256_i32_733 : BitVec 32 := 256#32
  let v2638 : BitVec 32 := Scalar.addi v2637 c256_i32_733
  v2638
def k0_mult209 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_745 : BitVec 32 := 512#32
  let v2654 : BitVec 32 := Scalar.muli v518 c512_i32_745
  let c256_i32_746 : BitVec 32 := 256#32
  let v2655 : BitVec 32 := Scalar.addi v2654 c256_i32_746
  let c0_i32_747 : BitVec 32 := 0#32
  let v2656 : BitVec 32 := Scalar.addi v2655 c0_i32_747
  v2656
def k0_mult210 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_755 : BitVec 32 := 512#32
  let v2696 : BitVec 32 := Scalar.muli v518 c512_i32_755
  let c256_i32_756 : BitVec 32 := 256#32
  let v2697 : BitVec 32 := Scalar.addi v2696 c256_i32_756
  let c0_i32_757 : BitVec 32 := 0#32
  let v2698 : BitVec 32 := Scalar.addi v2697 c0_i32_757
  v2698
def k0_mult211 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_765 : BitVec 32 := 512#32
  let v2738 : BitVec 32 := Scalar.muli v518 c512_i32_765
  let c256_i32_766 : BitVec 32 := 256#32
  let v2739 : BitVec 32 := Scalar.addi v2738 c256_i32_766
  let c64_i32_767 : BitVec 32 := 64#32
  let v2740 : BitVec 32 := Scalar.addi v2739 c64_i32_767
  v2740
def k0_mult212 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_775 : BitVec 32 := 512#32
  let v2780 : BitVec 32 := Scalar.muli v518 c512_i32_775
  let c256_i32_776 : BitVec 32 := 256#32
  let v2781 : BitVec 32 := Scalar.addi v2780 c256_i32_776
  let c64_i32_777 : BitVec 32 := 64#32
  let v2782 : BitVec 32 := Scalar.addi v2781 c64_i32_777
  v2782
def k0_mult213 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_785 : BitVec 32 := 512#32
  let v2822 : BitVec 32 := Scalar.muli v518 c512_i32_785
  let c256_i32_786 : BitVec 32 := 256#32
  let v2823 : BitVec 32 := Scalar.addi v2822 c256_i32_786
  let c128_i32_787 : BitVec 32 := 128#32
  let v2824 : BitVec 32 := Scalar.addi v2823 c128_i32_787
  v2824
def k0_mult214 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_795 : BitVec 32 := 512#32
  let v2864 : BitVec 32 := Scalar.muli v518 c512_i32_795
  let c256_i32_796 : BitVec 32 := 256#32
  let v2865 : BitVec 32 := Scalar.addi v2864 c256_i32_796
  let c128_i32_797 : BitVec 32 := 128#32
  let v2866 : BitVec 32 := Scalar.addi v2865 c128_i32_797
  v2866
def k0_mult215 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_805 : BitVec 32 := 512#32
  let v2906 : BitVec 32 := Scalar.muli v518 c512_i32_805
  let c256_i32_806 : BitVec 32 := 256#32
  let v2907 : BitVec 32 := Scalar.addi v2906 c256_i32_806
  let c192_i32_807 : BitVec 32 := 192#32
  let v2908 : BitVec 32 := Scalar.addi v2907 c192_i32_807
  v2908
def k0_mult216 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_815 : BitVec 32 := 512#32
  let v2948 : BitVec 32 := Scalar.muli v518 c512_i32_815
  let c256_i32_816 : BitVec 32 := 256#32
  let v2949 : BitVec 32 := Scalar.addi v2948 c256_i32_816
  let c192_i32_817 : BitVec 32 := 192#32
  let v2950 : BitVec 32 := Scalar.addi v2949 c192_i32_817
  v2950
def k0_mult217 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_194 : BitVec 32 := 512#32
  let v563 : BitVec 32 := Scalar.muli v518 c512_i32_194
  let c0_i32_195 : BitVec 32 := 0#32
  let v564 : BitVec 32 := Scalar.addi v563 c0_i32_195
  v564
def k0_off31 (i : grid0.Coords) (c0_i32_195 : BitVec 32) : Fin 4 → Nat :=
  let c0_196 : Index := 0#32
  let c0_197 : Index := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_194 : BitVec 32 := 512#32
  let v563 : BitVec 32 := Scalar.muli v518 c512_i32_194
  let v564 : BitVec 32 := Scalar.addi v563 c0_i32_195
  let v565 : BitVec 32 := v564
  let v566 : Index := Scalar.indexCast v565
  let c0_198 : Index := 0#32
  ![0, 0, v566.toNat, 0]
def k0_off32 (i : grid0.Coords) (c0_i32_202 : BitVec 32) (c0_i32_203 : BitVec 32) : Fin 3 → Nat :=
  let c0_204 : Index := 0#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c8_i32 : BitVec 32 := 8#32
  let v571 : BitVec 32 := Scalar.muli v518 c8_i32
  let v572 : BitVec 32 := Scalar.addi v571 c0_i32_202
  let v573 : BitVec 32 := Scalar.addi v572 c0_i32_203
  let v575 : Index := Scalar.indexCast v573
  let c0_205 : Index := 0#32
  ![0, v575.toNat, 0]
def k0_mult218 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_206 : BitVec 32 := 512#32
  let v580 : BitVec 32 := Scalar.muli v518 c512_i32_206
  let c0_i32_207 : BitVec 32 := 0#32
  let v581 : BitVec 32 := Scalar.addi v580 c0_i32_207
  let c0_i32_208 : BitVec 32 := 0#32
  let v582 : BitVec 32 := Scalar.addi v581 c0_i32_208
  v582
def k0_off33 (i : grid0.Coords) (c0_i32_207 : BitVec 32) (c0_i32_208 : BitVec 32) : Fin 2 → Nat :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_206 : BitVec 32 := 512#32
  let v580 : BitVec 32 := Scalar.muli v518 c512_i32_206
  let v581 : BitVec 32 := Scalar.addi v580 c0_i32_207
  let v582 : BitVec 32 := Scalar.addi v581 c0_i32_208
  let v592 : BitVec 32 := v582
  let v593 : Index := Scalar.indexCast v592
  let c0_210 : Index := 0#32
  ![v593.toNat, 0]
def k0_off34 (i : grid0.Coords) (c0_i32_212 : BitVec 32) (c0_i32_213 : BitVec 32) : Fin 3 → Nat :=
  let c1_214 : Index := 1#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c8_i32_211 : BitVec 32 := 8#32
  let v613 : BitVec 32 := Scalar.muli v518 c8_i32_211
  let v614 : BitVec 32 := Scalar.addi v613 c0_i32_212
  let v615 : BitVec 32 := Scalar.addi v614 c0_i32_213
  let v617 : Index := Scalar.indexCast v615
  let c0_215 : Index := 0#32
  ![1, v617.toNat, 0]
def k0_mult219 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_216 : BitVec 32 := 512#32
  let v622 : BitVec 32 := Scalar.muli v518 c512_i32_216
  let c0_i32_217 : BitVec 32 := 0#32
  let v623 : BitVec 32 := Scalar.addi v622 c0_i32_217
  let c0_i32_218 : BitVec 32 := 0#32
  let v624 : BitVec 32 := Scalar.addi v623 c0_i32_218
  v624
def k0_off35 (i : grid0.Coords) (c0_i32_217 : BitVec 32) (c0_i32_218 : BitVec 32) : Fin 2 → Nat :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_216 : BitVec 32 := 512#32
  let v622 : BitVec 32 := Scalar.muli v518 c512_i32_216
  let v623 : BitVec 32 := Scalar.addi v622 c0_i32_217
  let v624 : BitVec 32 := Scalar.addi v623 c0_i32_218
  let v634 : BitVec 32 := v624
  let v635 : Index := Scalar.indexCast v634
  let c128_220 : Index := 128#32
  ![v635.toNat, 128]
def k0_mult220 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_226 : BitVec 32 := 512#32
  let v664 : BitVec 32 := Scalar.muli v518 c512_i32_226
  let c0_i32_227 : BitVec 32 := 0#32
  let v665 : BitVec 32 := Scalar.addi v664 c0_i32_227
  let c64_i32_228 : BitVec 32 := 64#32
  let v666 : BitVec 32 := Scalar.addi v665 c64_i32_228
  v666
def k0_mult221 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_236 : BitVec 32 := 512#32
  let v706 : BitVec 32 := Scalar.muli v518 c512_i32_236
  let c0_i32_237 : BitVec 32 := 0#32
  let v707 : BitVec 32 := Scalar.addi v706 c0_i32_237
  let c64_i32_238 : BitVec 32 := 64#32
  let v708 : BitVec 32 := Scalar.addi v707 c64_i32_238
  v708
def k0_mult222 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_245 : BitVec 32 := 512#32
  let v748 : BitVec 32 := Scalar.muli v518 c512_i32_245
  let c0_i32_246 : BitVec 32 := 0#32
  let v749 : BitVec 32 := Scalar.addi v748 c0_i32_246
  let c128_i32_247 : BitVec 32 := 128#32
  let v750 : BitVec 32 := Scalar.addi v749 c128_i32_247
  v750
def k0_mult223 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_255 : BitVec 32 := 512#32
  let v790 : BitVec 32 := Scalar.muli v518 c512_i32_255
  let c0_i32_256 : BitVec 32 := 0#32
  let v791 : BitVec 32 := Scalar.addi v790 c0_i32_256
  let c128_i32_257 : BitVec 32 := 128#32
  let v792 : BitVec 32 := Scalar.addi v791 c128_i32_257
  v792
def k0_mult224 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_264 : BitVec 32 := 512#32
  let v832 : BitVec 32 := Scalar.muli v518 c512_i32_264
  let c0_i32_265 : BitVec 32 := 0#32
  let v833 : BitVec 32 := Scalar.addi v832 c0_i32_265
  let c192_i32 : BitVec 32 := 192#32
  let v834 : BitVec 32 := Scalar.addi v833 c192_i32
  v834
def k0_mult225 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_273 : BitVec 32 := 512#32
  let v874 : BitVec 32 := Scalar.muli v518 c512_i32_273
  let c0_i32_274 : BitVec 32 := 0#32
  let v875 : BitVec 32 := Scalar.addi v874 c0_i32_274
  let c192_i32_275 : BitVec 32 := 192#32
  let v876 : BitVec 32 := Scalar.addi v875 c192_i32_275
  v876
def k0_mult226 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_278 : BitVec 32 := 512#32
  let v907 : BitVec 32 := Scalar.muli v518 c512_i32_278
  let c0_i32_279 : BitVec 32 := 0#32
  let v908 : BitVec 32 := Scalar.addi v907 c0_i32_279
  v908
def k0_off36 (i : grid0.Coords) (c0_i32_287 : BitVec 32) (c0_i32_288 : BitVec 32) : Fin 3 → Nat :=
  let c2_289 : Index := 2#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c8_i32_286 : BitVec 32 := 8#32
  let v915 : BitVec 32 := Scalar.muli v518 c8_i32_286
  let v916 : BitVec 32 := Scalar.addi v915 c0_i32_287
  let v917 : BitVec 32 := Scalar.addi v916 c0_i32_288
  let v919 : Index := Scalar.indexCast v917
  let c0_290 : Index := 0#32
  ![2, v919.toNat, 0]
def k0_mult227 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_291 : BitVec 32 := 512#32
  let v924 : BitVec 32 := Scalar.muli v518 c512_i32_291
  let c0_i32_292 : BitVec 32 := 0#32
  let v925 : BitVec 32 := Scalar.addi v924 c0_i32_292
  let c0_i32_293 : BitVec 32 := 0#32
  let v926 : BitVec 32 := Scalar.addi v925 c0_i32_293
  v926
def k0_off37 (i : grid0.Coords) (c0_i32_292 : BitVec 32) (c0_i32_293 : BitVec 32) : Fin 2 → Nat :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_291 : BitVec 32 := 512#32
  let v924 : BitVec 32 := Scalar.muli v518 c512_i32_291
  let v925 : BitVec 32 := Scalar.addi v924 c0_i32_292
  let v926 : BitVec 32 := Scalar.addi v925 c0_i32_293
  let v936 : BitVec 32 := v926
  let v937 : Index := Scalar.indexCast v936
  let c256_295 : Index := 256#32
  ![v937.toNat, 256]
def k0_off38 (i : grid0.Coords) (c0_i32_297 : BitVec 32) (c0_i32_298 : BitVec 32) : Fin 3 → Nat :=
  let c3_299 : Index := 3#32
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c8_i32_296 : BitVec 32 := 8#32
  let v957 : BitVec 32 := Scalar.muli v518 c8_i32_296
  let v958 : BitVec 32 := Scalar.addi v957 c0_i32_297
  let v959 : BitVec 32 := Scalar.addi v958 c0_i32_298
  let v961 : Index := Scalar.indexCast v959
  let c0_300 : Index := 0#32
  ![3, v961.toNat, 0]
def k0_mult228 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_301 : BitVec 32 := 512#32
  let v966 : BitVec 32 := Scalar.muli v518 c512_i32_301
  let c0_i32_302 : BitVec 32 := 0#32
  let v967 : BitVec 32 := Scalar.addi v966 c0_i32_302
  let c0_i32_303 : BitVec 32 := 0#32
  let v968 : BitVec 32 := Scalar.addi v967 c0_i32_303
  v968
def k0_off39 (i : grid0.Coords) (c0_i32_302 : BitVec 32) (c0_i32_303 : BitVec 32) : Fin 2 → Nat :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_301 : BitVec 32 := 512#32
  let v966 : BitVec 32 := Scalar.muli v518 c512_i32_301
  let v967 : BitVec 32 := Scalar.addi v966 c0_i32_302
  let v968 : BitVec 32 := Scalar.addi v967 c0_i32_303
  let v978 : BitVec 32 := v968
  let v979 : Index := Scalar.indexCast v978
  let c384_305 : Index := 384#32
  ![v979.toNat, 384]
def k0_mult229 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_311 : BitVec 32 := 512#32
  let v1008 : BitVec 32 := Scalar.muli v518 c512_i32_311
  let c0_i32_312 : BitVec 32 := 0#32
  let v1009 : BitVec 32 := Scalar.addi v1008 c0_i32_312
  let c64_i32_313 : BitVec 32 := 64#32
  let v1010 : BitVec 32 := Scalar.addi v1009 c64_i32_313
  v1010
def k0_mult230 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_321 : BitVec 32 := 512#32
  let v1050 : BitVec 32 := Scalar.muli v518 c512_i32_321
  let c0_i32_322 : BitVec 32 := 0#32
  let v1051 : BitVec 32 := Scalar.addi v1050 c0_i32_322
  let c64_i32_323 : BitVec 32 := 64#32
  let v1052 : BitVec 32 := Scalar.addi v1051 c64_i32_323
  v1052
def k0_mult231 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_331 : BitVec 32 := 512#32
  let v1092 : BitVec 32 := Scalar.muli v518 c512_i32_331
  let c0_i32_332 : BitVec 32 := 0#32
  let v1093 : BitVec 32 := Scalar.addi v1092 c0_i32_332
  let c128_i32_333 : BitVec 32 := 128#32
  let v1094 : BitVec 32 := Scalar.addi v1093 c128_i32_333
  v1094
def k0_mult232 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_341 : BitVec 32 := 512#32
  let v1134 : BitVec 32 := Scalar.muli v518 c512_i32_341
  let c0_i32_342 : BitVec 32 := 0#32
  let v1135 : BitVec 32 := Scalar.addi v1134 c0_i32_342
  let c128_i32_343 : BitVec 32 := 128#32
  let v1136 : BitVec 32 := Scalar.addi v1135 c128_i32_343
  v1136
def k0_mult233 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_351 : BitVec 32 := 512#32
  let v1176 : BitVec 32 := Scalar.muli v518 c512_i32_351
  let c0_i32_352 : BitVec 32 := 0#32
  let v1177 : BitVec 32 := Scalar.addi v1176 c0_i32_352
  let c192_i32_353 : BitVec 32 := 192#32
  let v1178 : BitVec 32 := Scalar.addi v1177 c192_i32_353
  v1178
def k0_mult234 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_361 : BitVec 32 := 512#32
  let v1218 : BitVec 32 := Scalar.muli v518 c512_i32_361
  let c0_i32_362 : BitVec 32 := 0#32
  let v1219 : BitVec 32 := Scalar.addi v1218 c0_i32_362
  let c192_i32_363 : BitVec 32 := 192#32
  let v1220 : BitVec 32 := Scalar.addi v1219 c192_i32_363
  v1220
def k0_mult235 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_366 : BitVec 32 := 512#32
  let v1251 : BitVec 32 := Scalar.muli v518 c512_i32_366
  let c256_i32 : BitVec 32 := 256#32
  let v1252 : BitVec 32 := Scalar.addi v1251 c256_i32
  v1252
def k0_mult236 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_377 : BitVec 32 := 512#32
  let v1268 : BitVec 32 := Scalar.muli v518 c512_i32_377
  let c256_i32_378 : BitVec 32 := 256#32
  let v1269 : BitVec 32 := Scalar.addi v1268 c256_i32_378
  let c0_i32_379 : BitVec 32 := 0#32
  let v1270 : BitVec 32 := Scalar.addi v1269 c0_i32_379
  v1270
def k0_mult237 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_387 : BitVec 32 := 512#32
  let v1310 : BitVec 32 := Scalar.muli v518 c512_i32_387
  let c256_i32_388 : BitVec 32 := 256#32
  let v1311 : BitVec 32 := Scalar.addi v1310 c256_i32_388
  let c0_i32_389 : BitVec 32 := 0#32
  let v1312 : BitVec 32 := Scalar.addi v1311 c0_i32_389
  v1312
def k0_mult238 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_397 : BitVec 32 := 512#32
  let v1352 : BitVec 32 := Scalar.muli v518 c512_i32_397
  let c256_i32_398 : BitVec 32 := 256#32
  let v1353 : BitVec 32 := Scalar.addi v1352 c256_i32_398
  let c64_i32_399 : BitVec 32 := 64#32
  let v1354 : BitVec 32 := Scalar.addi v1353 c64_i32_399
  v1354
def k0_mult239 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_407 : BitVec 32 := 512#32
  let v1394 : BitVec 32 := Scalar.muli v518 c512_i32_407
  let c256_i32_408 : BitVec 32 := 256#32
  let v1395 : BitVec 32 := Scalar.addi v1394 c256_i32_408
  let c64_i32_409 : BitVec 32 := 64#32
  let v1396 : BitVec 32 := Scalar.addi v1395 c64_i32_409
  v1396
def k0_mult240 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_417 : BitVec 32 := 512#32
  let v1436 : BitVec 32 := Scalar.muli v518 c512_i32_417
  let c256_i32_418 : BitVec 32 := 256#32
  let v1437 : BitVec 32 := Scalar.addi v1436 c256_i32_418
  let c128_i32_419 : BitVec 32 := 128#32
  let v1438 : BitVec 32 := Scalar.addi v1437 c128_i32_419
  v1438
def k0_mult241 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_427 : BitVec 32 := 512#32
  let v1478 : BitVec 32 := Scalar.muli v518 c512_i32_427
  let c256_i32_428 : BitVec 32 := 256#32
  let v1479 : BitVec 32 := Scalar.addi v1478 c256_i32_428
  let c128_i32_429 : BitVec 32 := 128#32
  let v1480 : BitVec 32 := Scalar.addi v1479 c128_i32_429
  v1480
def k0_mult242 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_437 : BitVec 32 := 512#32
  let v1520 : BitVec 32 := Scalar.muli v518 c512_i32_437
  let c256_i32_438 : BitVec 32 := 256#32
  let v1521 : BitVec 32 := Scalar.addi v1520 c256_i32_438
  let c192_i32_439 : BitVec 32 := 192#32
  let v1522 : BitVec 32 := Scalar.addi v1521 c192_i32_439
  v1522
def k0_mult243 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_447 : BitVec 32 := 512#32
  let v1562 : BitVec 32 := Scalar.muli v518 c512_i32_447
  let c256_i32_448 : BitVec 32 := 256#32
  let v1563 : BitVec 32 := Scalar.addi v1562 c256_i32_448
  let c192_i32_449 : BitVec 32 := 192#32
  let v1564 : BitVec 32 := Scalar.addi v1563 c192_i32_449
  v1564
def k0_mult244 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_452 : BitVec 32 := 512#32
  let v1595 : BitVec 32 := Scalar.muli v518 c512_i32_452
  let c256_i32_453 : BitVec 32 := 256#32
  let v1596 : BitVec 32 := Scalar.addi v1595 c256_i32_453
  v1596
def k0_mult245 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_465 : BitVec 32 := 512#32
  let v1612 : BitVec 32 := Scalar.muli v518 c512_i32_465
  let c256_i32_466 : BitVec 32 := 256#32
  let v1613 : BitVec 32 := Scalar.addi v1612 c256_i32_466
  let c0_i32_467 : BitVec 32 := 0#32
  let v1614 : BitVec 32 := Scalar.addi v1613 c0_i32_467
  v1614
def k0_mult246 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_475 : BitVec 32 := 512#32
  let v1654 : BitVec 32 := Scalar.muli v518 c512_i32_475
  let c256_i32_476 : BitVec 32 := 256#32
  let v1655 : BitVec 32 := Scalar.addi v1654 c256_i32_476
  let c0_i32_477 : BitVec 32 := 0#32
  let v1656 : BitVec 32 := Scalar.addi v1655 c0_i32_477
  v1656
def k0_mult247 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_485 : BitVec 32 := 512#32
  let v1696 : BitVec 32 := Scalar.muli v518 c512_i32_485
  let c256_i32_486 : BitVec 32 := 256#32
  let v1697 : BitVec 32 := Scalar.addi v1696 c256_i32_486
  let c64_i32_487 : BitVec 32 := 64#32
  let v1698 : BitVec 32 := Scalar.addi v1697 c64_i32_487
  v1698
def k0_mult248 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_495 : BitVec 32 := 512#32
  let v1738 : BitVec 32 := Scalar.muli v518 c512_i32_495
  let c256_i32_496 : BitVec 32 := 256#32
  let v1739 : BitVec 32 := Scalar.addi v1738 c256_i32_496
  let c64_i32_497 : BitVec 32 := 64#32
  let v1740 : BitVec 32 := Scalar.addi v1739 c64_i32_497
  v1740
def k0_mult249 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_505 : BitVec 32 := 512#32
  let v1780 : BitVec 32 := Scalar.muli v518 c512_i32_505
  let c256_i32_506 : BitVec 32 := 256#32
  let v1781 : BitVec 32 := Scalar.addi v1780 c256_i32_506
  let c128_i32_507 : BitVec 32 := 128#32
  let v1782 : BitVec 32 := Scalar.addi v1781 c128_i32_507
  v1782
def k0_mult250 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_515 : BitVec 32 := 512#32
  let v1822 : BitVec 32 := Scalar.muli v518 c512_i32_515
  let c256_i32_516 : BitVec 32 := 256#32
  let v1823 : BitVec 32 := Scalar.addi v1822 c256_i32_516
  let c128_i32_517 : BitVec 32 := 128#32
  let v1824 : BitVec 32 := Scalar.addi v1823 c128_i32_517
  v1824
def k0_mult251 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_525 : BitVec 32 := 512#32
  let v1864 : BitVec 32 := Scalar.muli v518 c512_i32_525
  let c256_i32_526 : BitVec 32 := 256#32
  let v1865 : BitVec 32 := Scalar.addi v1864 c256_i32_526
  let c192_i32_527 : BitVec 32 := 192#32
  let v1866 : BitVec 32 := Scalar.addi v1865 c192_i32_527
  v1866
def k0_mult252 (i : grid0.Coords) : BitVec 32 :=
  let arg1 : BitVec 32 := BitVec.ofNat 32 (i 1).val
  let c1_i32_6 : BitVec 32 := 1#32
  let v20 : BitVec 32 := Scalar.addi arg1 c1_i32_6
  let c128_i32_7 : BitVec 32 := 128#32
  let v21 : BitVec 32 := Scalar.muli v20 c128_i32_7
  let c512_i32_8 : BitVec 32 := 512#32
  let v22 : BitVec 32 := Scalar.addi v21 c512_i32_8
  let c1_i32_9 : BitVec 32 := 1#32
  let v23 : BitVec 32 := Scalar.subi v22 c1_i32_9
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c512_i32_10 : BitVec 32 := 512#32
  let c0_i32_13 : BitVec 32 := 0#32
  let v30 : BitVec 1 := Scalar.cmpi .sgt c512_i32_10 c0_i32_13
  let v31 : BitVec 32 := Scalar.extui v30
  let c0_i32_14 : BitVec 32 := 0#32
  let v32 : BitVec 1 := Scalar.cmpi .slt c512_i32_10 c0_i32_14
  let v33 : BitVec 32 := Scalar.extui v32
  let v34 : BitVec 32 := Scalar.subi v31 v33
  let v35 : BitVec 1 := Scalar.cmpi .ne v29 v34
  let v36 : BitVec 32 := Scalar.remsi v23 c512_i32_10
  let c0_i32_15 : BitVec 32 := 0#32
  let v37 : BitVec 1 := Scalar.cmpi .ne v36 c0_i32_15
  let v38 : BitVec 1 := Scalar.andi v35 v37
  let v24 : BitVec 32 := Scalar.divsi v23 c512_i32_10
  let c1_i32_16 : BitVec 32 := 1#32
  let v39 : BitVec 32 := Scalar.subi v24 c1_i32_16
  let v40 : BitVec 32 := Scalar.select v38 v39 v24
  let c1_i32_173 : BitVec 32 := 1#32
  let v518 : BitVec 32 := Scalar.subi v40 c1_i32_173
  let c512_i32_535 : BitVec 32 := 512#32
  let v1906 : BitVec 32 := Scalar.muli v518 c512_i32_535
  let c256_i32_536 : BitVec 32 := 256#32
  let v1907 : BitVec 32 := Scalar.addi v1906 c256_i32_536
  let c192_i32_537 : BitVec 32 := 192#32
  let v1908 : BitVec 32 := Scalar.addi v1907 c192_i32_537
  v1908
def k0_cond4 (i : grid0.Coords) : BitVec 1 :=
  let arg1 : BitVec 32 := BitVec.ofNat 32 (i 1).val
  let c120_i32_21 : BitVec 32 := 120#32
  let v50 : BitVec 1 := Scalar.cmpi .eq arg1 c120_i32_21
  let v51 : BitVec 32 := Scalar.extui v50
  let c0_i32_22 : BitVec 32 := 0#32
  let v52 : BitVec 1 := Scalar.cmpi .ne v51 c0_i32_22
  v52

@[reducible] def k0_t3_loop (i : grid0.Coords) : Scf.Loop 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_25 : BitVec 32 := 1#32
  ⟨c0_i32_23, v57, c1_i32_25⟩
def k0_mult253 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_55 : BitVec 32 := 512#32
  let v101 : BitVec 32 := Scalar.muli arg15 c512_i32_55
  let c0_i32_56 : BitVec 32 := 0#32
  let v102 : BitVec 32 := Scalar.addi v101 c0_i32_56
  let c0_i32_57 : BitVec 32 := 0#32
  let v103 : BitVec 32 := Scalar.addi v102 c0_i32_57
  v103
def k0_off40 (i : grid0.Coords) (k0_t3 : Fin (k0_t3_loop i).trips) (c0_i32_56 : BitVec 32) (c0_i32_57 : BitVec 32) : Fin 2 → Nat :=
  let c0_i32_23 : BitVec 32 := 0#32
  let c1_i32_25 : BitVec 32 := 1#32
  let arg15 : BitVec 32 := Scf.iv c0_i32_23 c1_i32_25 k0_t3
  let c512_i32_55 : BitVec 32 := 512#32
  let v101 : BitVec 32 := Scalar.muli arg15 c512_i32_55
  let v102 : BitVec 32 := Scalar.addi v101 c0_i32_56
  let v103 : BitVec 32 := Scalar.addi v102 c0_i32_57
  let v104 : BitVec 32 := v103
  let v105 : Index := Scalar.indexCast v104
  let c0_58 : Index := 0#32
  ![v105.toNat, 0]
def k0_mult254 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_63 : BitVec 32 := 512#32
  let v132 : BitVec 32 := Scalar.muli arg15 c512_i32_63
  let c0_i32_64 : BitVec 32 := 0#32
  let v133 : BitVec 32 := Scalar.addi v132 c0_i32_64
  let c0_i32_65 : BitVec 32 := 0#32
  let v134 : BitVec 32 := Scalar.addi v133 c0_i32_65
  v134
def k0_off41 (i : grid0.Coords) (k0_t3 : Fin (k0_t3_loop i).trips) (c0_i32_64 : BitVec 32) (c0_i32_65 : BitVec 32) : Fin 2 → Nat :=
  let c0_i32_23 : BitVec 32 := 0#32
  let c1_i32_25 : BitVec 32 := 1#32
  let arg15 : BitVec 32 := Scf.iv c0_i32_23 c1_i32_25 k0_t3
  let c512_i32_63 : BitVec 32 := 512#32
  let v132 : BitVec 32 := Scalar.muli arg15 c512_i32_63
  let v133 : BitVec 32 := Scalar.addi v132 c0_i32_64
  let v134 : BitVec 32 := Scalar.addi v133 c0_i32_65
  let v135 : BitVec 32 := v134
  let v136 : Index := Scalar.indexCast v135
  let c128_66 : Index := 128#32
  ![v136.toNat, 128]
def k0_mult255 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_71 : BitVec 32 := 512#32
  let v164 : BitVec 32 := Scalar.muli arg15 c512_i32_71
  let c0_i32_72 : BitVec 32 := 0#32
  let v165 : BitVec 32 := Scalar.addi v164 c0_i32_72
  let c64_i32 : BitVec 32 := 64#32
  let v166 : BitVec 32 := Scalar.addi v165 c64_i32
  v166
def k0_mult256 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_78 : BitVec 32 := 512#32
  let v195 : BitVec 32 := Scalar.muli arg15 c512_i32_78
  let c0_i32_79 : BitVec 32 := 0#32
  let v196 : BitVec 32 := Scalar.addi v195 c0_i32_79
  let c64_i32_80 : BitVec 32 := 64#32
  let v197 : BitVec 32 := Scalar.addi v196 c64_i32_80
  v197
def k0_mult257 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_86 : BitVec 32 := 512#32
  let v227 : BitVec 32 := Scalar.muli arg15 c512_i32_86
  let c0_i32_87 : BitVec 32 := 0#32
  let v228 : BitVec 32 := Scalar.addi v227 c0_i32_87
  let c128_i32_88 : BitVec 32 := 128#32
  let v229 : BitVec 32 := Scalar.addi v228 c128_i32_88
  v229
def k0_mult258 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_94 : BitVec 32 := 512#32
  let v258 : BitVec 32 := Scalar.muli arg15 c512_i32_94
  let c0_i32_95 : BitVec 32 := 0#32
  let v259 : BitVec 32 := Scalar.addi v258 c0_i32_95
  let c128_i32_96 : BitVec 32 := 128#32
  let v260 : BitVec 32 := Scalar.addi v259 c128_i32_96
  v260
def k0_mult259 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_102 : BitVec 32 := 512#32
  let v290 : BitVec 32 := Scalar.muli arg15 c512_i32_102
  let c0_i32_103 : BitVec 32 := 0#32
  let v291 : BitVec 32 := Scalar.addi v290 c0_i32_103
  let c192_i32 : BitVec 32 := 192#32
  let v292 : BitVec 32 := Scalar.addi v291 c192_i32
  v292
def k0_mult260 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_109 : BitVec 32 := 512#32
  let v321 : BitVec 32 := Scalar.muli arg15 c512_i32_109
  let c0_i32_110 : BitVec 32 := 0#32
  let v322 : BitVec 32 := Scalar.addi v321 c0_i32_110
  let c192_i32_111 : BitVec 32 := 192#32
  let v323 : BitVec 32 := Scalar.addi v322 c192_i32_111
  v323
def k0_mult261 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_117 : BitVec 32 := 512#32
  let v354 : BitVec 32 := Scalar.muli arg15 c512_i32_117
  let c0_i32_118 : BitVec 32 := 0#32
  let v355 : BitVec 32 := Scalar.addi v354 c0_i32_118
  v355
def k0_off42 (i : grid0.Coords) (k0_t3 : Fin (k0_t3_loop i).trips) (c0_i32_118 : BitVec 32) : Fin 4 → Nat :=
  let c0_119 : Index := 0#32
  let c0_120 : Index := 0#32
  let c0_121 : Index := 0#32
  let c0_i32_23 : BitVec 32 := 0#32
  let c1_i32_25 : BitVec 32 := 1#32
  let arg15 : BitVec 32 := Scf.iv c0_i32_23 c1_i32_25 k0_t3
  let c512_i32_117 : BitVec 32 := 512#32
  let v354 : BitVec 32 := Scalar.muli arg15 c512_i32_117
  let v355 : BitVec 32 := Scalar.addi v354 c0_i32_118
  let v356 : BitVec 32 := v355
  let v357 : Index := Scalar.indexCast v356
  ![0, 0, 0, v357.toNat]
def k0_mult262 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_123 : BitVec 32 := 512#32
  let v361 : BitVec 32 := Scalar.muli arg15 c512_i32_123
  let c0_i32_124 : BitVec 32 := 0#32
  let v362 : BitVec 32 := Scalar.addi v361 c0_i32_124
  let c0_i32_125 : BitVec 32 := 0#32
  let v363 : BitVec 32 := Scalar.addi v362 c0_i32_125
  v363
def k0_off43 (i : grid0.Coords) (k0_t3 : Fin (k0_t3_loop i).trips) (c0_i32_124 : BitVec 32) (c0_i32_125 : BitVec 32) : Fin 2 → Nat :=
  let c0_i32_23 : BitVec 32 := 0#32
  let c1_i32_25 : BitVec 32 := 1#32
  let arg15 : BitVec 32 := Scf.iv c0_i32_23 c1_i32_25 k0_t3
  let c512_i32_123 : BitVec 32 := 512#32
  let v361 : BitVec 32 := Scalar.muli arg15 c512_i32_123
  let v362 : BitVec 32 := Scalar.addi v361 c0_i32_124
  let v363 : BitVec 32 := Scalar.addi v362 c0_i32_125
  let v364 : BitVec 32 := v363
  let v365 : Index := Scalar.indexCast v364
  let c256_126 : Index := 256#32
  ![v365.toNat, 256]
def k0_mult263 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_131 : BitVec 32 := 512#32
  let v392 : BitVec 32 := Scalar.muli arg15 c512_i32_131
  let c0_i32_132 : BitVec 32 := 0#32
  let v393 : BitVec 32 := Scalar.addi v392 c0_i32_132
  let c0_i32_133 : BitVec 32 := 0#32
  let v394 : BitVec 32 := Scalar.addi v393 c0_i32_133
  v394
def k0_off44 (i : grid0.Coords) (k0_t3 : Fin (k0_t3_loop i).trips) (c0_i32_132 : BitVec 32) (c0_i32_133 : BitVec 32) : Fin 2 → Nat :=
  let c0_i32_23 : BitVec 32 := 0#32
  let c1_i32_25 : BitVec 32 := 1#32
  let arg15 : BitVec 32 := Scf.iv c0_i32_23 c1_i32_25 k0_t3
  let c512_i32_131 : BitVec 32 := 512#32
  let v392 : BitVec 32 := Scalar.muli arg15 c512_i32_131
  let v393 : BitVec 32 := Scalar.addi v392 c0_i32_132
  let v394 : BitVec 32 := Scalar.addi v393 c0_i32_133
  let v395 : BitVec 32 := v394
  let v396 : Index := Scalar.indexCast v395
  let c384_134 : Index := 384#32
  ![v396.toNat, 384]
def k0_mult264 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_139 : BitVec 32 := 512#32
  let v424 : BitVec 32 := Scalar.muli arg15 c512_i32_139
  let c0_i32_140 : BitVec 32 := 0#32
  let v425 : BitVec 32 := Scalar.addi v424 c0_i32_140
  let c64_i32_141 : BitVec 32 := 64#32
  let v426 : BitVec 32 := Scalar.addi v425 c64_i32_141
  v426
def k0_mult265 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_147 : BitVec 32 := 512#32
  let v455 : BitVec 32 := Scalar.muli arg15 c512_i32_147
  let c0_i32_148 : BitVec 32 := 0#32
  let v456 : BitVec 32 := Scalar.addi v455 c0_i32_148
  let c64_i32_149 : BitVec 32 := 64#32
  let v457 : BitVec 32 := Scalar.addi v456 c64_i32_149
  v457
def k0_mult266 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_155 : BitVec 32 := 512#32
  let v487 : BitVec 32 := Scalar.muli arg15 c512_i32_155
  let c0_i32_156 : BitVec 32 := 0#32
  let v488 : BitVec 32 := Scalar.addi v487 c0_i32_156
  let c128_i32_157 : BitVec 32 := 128#32
  let v489 : BitVec 32 := Scalar.addi v488 c128_i32_157
  v489
def k0_mult267 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_163 : BitVec 32 := 512#32
  let v518 : BitVec 32 := Scalar.muli arg15 c512_i32_163
  let c0_i32_164 : BitVec 32 := 0#32
  let v519 : BitVec 32 := Scalar.addi v518 c0_i32_164
  let c128_i32_165 : BitVec 32 := 128#32
  let v520 : BitVec 32 := Scalar.addi v519 c128_i32_165
  v520
def k0_mult268 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_171 : BitVec 32 := 512#32
  let v550 : BitVec 32 := Scalar.muli arg15 c512_i32_171
  let c0_i32_172 : BitVec 32 := 0#32
  let v551 : BitVec 32 := Scalar.addi v550 c0_i32_172
  let c192_i32_173 : BitVec 32 := 192#32
  let v552 : BitVec 32 := Scalar.addi v551 c192_i32_173
  v552
def k0_mult269 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_179 : BitVec 32 := 512#32
  let v581 : BitVec 32 := Scalar.muli arg15 c512_i32_179
  let c0_i32_180 : BitVec 32 := 0#32
  let v582 : BitVec 32 := Scalar.addi v581 c0_i32_180
  let c192_i32_181 : BitVec 32 := 192#32
  let v583 : BitVec 32 := Scalar.addi v582 c192_i32_181
  v583
def k0_mult270 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_187 : BitVec 32 := 512#32
  let v614 : BitVec 32 := Scalar.muli arg15 c512_i32_187
  let c0_i32_188 : BitVec 32 := 0#32
  let v615 : BitVec 32 := Scalar.addi v614 c0_i32_188
  v615
def k0_mult271 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_193 : BitVec 32 := 512#32
  let v621 : BitVec 32 := Scalar.muli arg15 c512_i32_193
  let c256_i32 : BitVec 32 := 256#32
  let v622 : BitVec 32 := Scalar.addi v621 c256_i32
  let c0_i32_194 : BitVec 32 := 0#32
  let v623 : BitVec 32 := Scalar.addi v622 c0_i32_194
  v623
def k0_mult272 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_200 : BitVec 32 := 512#32
  let v652 : BitVec 32 := Scalar.muli arg15 c512_i32_200
  let c256_i32_201 : BitVec 32 := 256#32
  let v653 : BitVec 32 := Scalar.addi v652 c256_i32_201
  let c0_i32_202 : BitVec 32 := 0#32
  let v654 : BitVec 32 := Scalar.addi v653 c0_i32_202
  v654
def k0_mult273 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_208 : BitVec 32 := 512#32
  let v684 : BitVec 32 := Scalar.muli arg15 c512_i32_208
  let c256_i32_209 : BitVec 32 := 256#32
  let v685 : BitVec 32 := Scalar.addi v684 c256_i32_209
  let c64_i32_210 : BitVec 32 := 64#32
  let v686 : BitVec 32 := Scalar.addi v685 c64_i32_210
  v686
def k0_mult274 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_216 : BitVec 32 := 512#32
  let v715 : BitVec 32 := Scalar.muli arg15 c512_i32_216
  let c256_i32_217 : BitVec 32 := 256#32
  let v716 : BitVec 32 := Scalar.addi v715 c256_i32_217
  let c64_i32_218 : BitVec 32 := 64#32
  let v717 : BitVec 32 := Scalar.addi v716 c64_i32_218
  v717
def k0_mult275 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_224 : BitVec 32 := 512#32
  let v747 : BitVec 32 := Scalar.muli arg15 c512_i32_224
  let c256_i32_225 : BitVec 32 := 256#32
  let v748 : BitVec 32 := Scalar.addi v747 c256_i32_225
  let c128_i32_226 : BitVec 32 := 128#32
  let v749 : BitVec 32 := Scalar.addi v748 c128_i32_226
  v749
def k0_mult276 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_232 : BitVec 32 := 512#32
  let v778 : BitVec 32 := Scalar.muli arg15 c512_i32_232
  let c256_i32_233 : BitVec 32 := 256#32
  let v779 : BitVec 32 := Scalar.addi v778 c256_i32_233
  let c128_i32_234 : BitVec 32 := 128#32
  let v780 : BitVec 32 := Scalar.addi v779 c128_i32_234
  v780
def k0_mult277 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_240 : BitVec 32 := 512#32
  let v810 : BitVec 32 := Scalar.muli arg15 c512_i32_240
  let c256_i32_241 : BitVec 32 := 256#32
  let v811 : BitVec 32 := Scalar.addi v810 c256_i32_241
  let c192_i32_242 : BitVec 32 := 192#32
  let v812 : BitVec 32 := Scalar.addi v811 c192_i32_242
  v812
def k0_mult278 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_248 : BitVec 32 := 512#32
  let v841 : BitVec 32 := Scalar.muli arg15 c512_i32_248
  let c256_i32_249 : BitVec 32 := 256#32
  let v842 : BitVec 32 := Scalar.addi v841 c256_i32_249
  let c192_i32_250 : BitVec 32 := 192#32
  let v843 : BitVec 32 := Scalar.addi v842 c192_i32_250
  v843
def k0_mult279 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_256 : BitVec 32 := 512#32
  let v874 : BitVec 32 := Scalar.muli arg15 c512_i32_256
  let c256_i32_257 : BitVec 32 := 256#32
  let v875 : BitVec 32 := Scalar.addi v874 c256_i32_257
  v875
def k0_mult280 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_262 : BitVec 32 := 512#32
  let v882 : BitVec 32 := Scalar.muli arg15 c512_i32_262
  let c256_i32_263 : BitVec 32 := 256#32
  let v883 : BitVec 32 := Scalar.addi v882 c256_i32_263
  let c0_i32_264 : BitVec 32 := 0#32
  let v884 : BitVec 32 := Scalar.addi v883 c0_i32_264
  v884
def k0_mult281 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_270 : BitVec 32 := 512#32
  let v913 : BitVec 32 := Scalar.muli arg15 c512_i32_270
  let c256_i32_271 : BitVec 32 := 256#32
  let v914 : BitVec 32 := Scalar.addi v913 c256_i32_271
  let c0_i32_272 : BitVec 32 := 0#32
  let v915 : BitVec 32 := Scalar.addi v914 c0_i32_272
  v915
def k0_mult282 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_278 : BitVec 32 := 512#32
  let v945 : BitVec 32 := Scalar.muli arg15 c512_i32_278
  let c256_i32_279 : BitVec 32 := 256#32
  let v946 : BitVec 32 := Scalar.addi v945 c256_i32_279
  let c64_i32_280 : BitVec 32 := 64#32
  let v947 : BitVec 32 := Scalar.addi v946 c64_i32_280
  v947
def k0_mult283 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_286 : BitVec 32 := 512#32
  let v976 : BitVec 32 := Scalar.muli arg15 c512_i32_286
  let c256_i32_287 : BitVec 32 := 256#32
  let v977 : BitVec 32 := Scalar.addi v976 c256_i32_287
  let c64_i32_288 : BitVec 32 := 64#32
  let v978 : BitVec 32 := Scalar.addi v977 c64_i32_288
  v978
def k0_mult284 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_294 : BitVec 32 := 512#32
  let v1008 : BitVec 32 := Scalar.muli arg15 c512_i32_294
  let c256_i32_295 : BitVec 32 := 256#32
  let v1009 : BitVec 32 := Scalar.addi v1008 c256_i32_295
  let c128_i32_296 : BitVec 32 := 128#32
  let v1010 : BitVec 32 := Scalar.addi v1009 c128_i32_296
  v1010
def k0_mult285 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_302 : BitVec 32 := 512#32
  let v1039 : BitVec 32 := Scalar.muli arg15 c512_i32_302
  let c256_i32_303 : BitVec 32 := 256#32
  let v1040 : BitVec 32 := Scalar.addi v1039 c256_i32_303
  let c128_i32_304 : BitVec 32 := 128#32
  let v1041 : BitVec 32 := Scalar.addi v1040 c128_i32_304
  v1041
def k0_mult286 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_310 : BitVec 32 := 512#32
  let v1071 : BitVec 32 := Scalar.muli arg15 c512_i32_310
  let c256_i32_311 : BitVec 32 := 256#32
  let v1072 : BitVec 32 := Scalar.addi v1071 c256_i32_311
  let c192_i32_312 : BitVec 32 := 192#32
  let v1073 : BitVec 32 := Scalar.addi v1072 c192_i32_312
  v1073
def k0_mult287 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_318 : BitVec 32 := 512#32
  let v1102 : BitVec 32 := Scalar.muli arg15 c512_i32_318
  let c256_i32_319 : BitVec 32 := 256#32
  let v1103 : BitVec 32 := Scalar.addi v1102 c256_i32_319
  let c192_i32_320 : BitVec 32 := 192#32
  let v1104 : BitVec 32 := Scalar.addi v1103 c192_i32_320
  v1104
def k0_mult288 (i : grid0.Coords) (k0_t3 : Fin (k0_t3_loop i).trips) : BitVec 32 :=
  let c0_i32_23 : BitVec 32 := 0#32
  let c1_i32_25 : BitVec 32 := 1#32
  let arg15 : BitVec 32 := Scf.iv c0_i32_23 c1_i32_25 k0_t3
  let c512_i32_326 : BitVec 32 := 512#32
  let v1135 : BitVec 32 := Scalar.muli arg15 c512_i32_326
  let c256_i32_327 : BitVec 32 := 256#32
  let v1136 : BitVec 32 := Scalar.addi v1135 c256_i32_327
  v1136
@[reducible] def k0_t4_loop (i : grid0.Coords) : Scf.Loop 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let v54 : BitVec 32 := Scalar.addi c0_i32_23 v53
  let c1_i32_26 : BitVec 32 := 1#32
  ⟨v57, v54, c1_i32_26⟩
def k0_mult289 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_55 : BitVec 32 := 512#32
  let v101 : BitVec 32 := Scalar.muli arg15 c512_i32_55
  let c0_i32_56 : BitVec 32 := 0#32
  let v102 : BitVec 32 := Scalar.addi v101 c0_i32_56
  let c0_i32_57 : BitVec 32 := 0#32
  let v103 : BitVec 32 := Scalar.addi v102 c0_i32_57
  v103
def k0_off45 (i : grid0.Coords) (k0_t4 : Fin (k0_t4_loop i).trips) (c0_i32_56 : BitVec 32) (c0_i32_57 : BitVec 32) : Fin 2 → Nat :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_55 : BitVec 32 := 512#32
  let v101 : BitVec 32 := Scalar.muli arg15 c512_i32_55
  let v102 : BitVec 32 := Scalar.addi v101 c0_i32_56
  let v103 : BitVec 32 := Scalar.addi v102 c0_i32_57
  let v104 : BitVec 32 := v103
  let v105 : Index := Scalar.indexCast v104
  let c0_58 : Index := 0#32
  ![v105.toNat, 0]
def k0_mult290 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_63 : BitVec 32 := 512#32
  let v132 : BitVec 32 := Scalar.muli arg15 c512_i32_63
  let c0_i32_64 : BitVec 32 := 0#32
  let v133 : BitVec 32 := Scalar.addi v132 c0_i32_64
  let c0_i32_65 : BitVec 32 := 0#32
  let v134 : BitVec 32 := Scalar.addi v133 c0_i32_65
  v134
def k0_off46 (i : grid0.Coords) (k0_t4 : Fin (k0_t4_loop i).trips) (c0_i32_64 : BitVec 32) (c0_i32_65 : BitVec 32) : Fin 2 → Nat :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_63 : BitVec 32 := 512#32
  let v132 : BitVec 32 := Scalar.muli arg15 c512_i32_63
  let v133 : BitVec 32 := Scalar.addi v132 c0_i32_64
  let v134 : BitVec 32 := Scalar.addi v133 c0_i32_65
  let v135 : BitVec 32 := v134
  let v136 : Index := Scalar.indexCast v135
  let c128_66 : Index := 128#32
  ![v136.toNat, 128]
def k0_mult291 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_71 : BitVec 32 := 512#32
  let v164 : BitVec 32 := Scalar.muli arg15 c512_i32_71
  let c0_i32_72 : BitVec 32 := 0#32
  let v165 : BitVec 32 := Scalar.addi v164 c0_i32_72
  let c64_i32 : BitVec 32 := 64#32
  let v166 : BitVec 32 := Scalar.addi v165 c64_i32
  v166
def k0_mult292 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_78 : BitVec 32 := 512#32
  let v195 : BitVec 32 := Scalar.muli arg15 c512_i32_78
  let c0_i32_79 : BitVec 32 := 0#32
  let v196 : BitVec 32 := Scalar.addi v195 c0_i32_79
  let c64_i32_80 : BitVec 32 := 64#32
  let v197 : BitVec 32 := Scalar.addi v196 c64_i32_80
  v197
def k0_mult293 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_86 : BitVec 32 := 512#32
  let v227 : BitVec 32 := Scalar.muli arg15 c512_i32_86
  let c0_i32_87 : BitVec 32 := 0#32
  let v228 : BitVec 32 := Scalar.addi v227 c0_i32_87
  let c128_i32_88 : BitVec 32 := 128#32
  let v229 : BitVec 32 := Scalar.addi v228 c128_i32_88
  v229
def k0_mult294 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_94 : BitVec 32 := 512#32
  let v258 : BitVec 32 := Scalar.muli arg15 c512_i32_94
  let c0_i32_95 : BitVec 32 := 0#32
  let v259 : BitVec 32 := Scalar.addi v258 c0_i32_95
  let c128_i32_96 : BitVec 32 := 128#32
  let v260 : BitVec 32 := Scalar.addi v259 c128_i32_96
  v260
def k0_mult295 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_102 : BitVec 32 := 512#32
  let v290 : BitVec 32 := Scalar.muli arg15 c512_i32_102
  let c0_i32_103 : BitVec 32 := 0#32
  let v291 : BitVec 32 := Scalar.addi v290 c0_i32_103
  let c192_i32 : BitVec 32 := 192#32
  let v292 : BitVec 32 := Scalar.addi v291 c192_i32
  v292
def k0_mult296 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_109 : BitVec 32 := 512#32
  let v321 : BitVec 32 := Scalar.muli arg15 c512_i32_109
  let c0_i32_110 : BitVec 32 := 0#32
  let v322 : BitVec 32 := Scalar.addi v321 c0_i32_110
  let c192_i32_111 : BitVec 32 := 192#32
  let v323 : BitVec 32 := Scalar.addi v322 c192_i32_111
  v323
def k0_mult297 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_117 : BitVec 32 := 512#32
  let v354 : BitVec 32 := Scalar.muli arg15 c512_i32_117
  let c0_i32_118 : BitVec 32 := 0#32
  let v355 : BitVec 32 := Scalar.addi v354 c0_i32_118
  v355
def k0_off47 (i : grid0.Coords) (k0_t4 : Fin (k0_t4_loop i).trips) (c0_i32_118 : BitVec 32) : Fin 4 → Nat :=
  let c0_119 : Index := 0#32
  let c0_120 : Index := 0#32
  let c0_121 : Index := 0#32
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_117 : BitVec 32 := 512#32
  let v354 : BitVec 32 := Scalar.muli arg15 c512_i32_117
  let v355 : BitVec 32 := Scalar.addi v354 c0_i32_118
  let v356 : BitVec 32 := v355
  let v357 : Index := Scalar.indexCast v356
  ![0, 0, 0, v357.toNat]
def k0_mult298 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_123 : BitVec 32 := 512#32
  let v361 : BitVec 32 := Scalar.muli arg15 c512_i32_123
  let c0_i32_124 : BitVec 32 := 0#32
  let v362 : BitVec 32 := Scalar.addi v361 c0_i32_124
  let c0_i32_125 : BitVec 32 := 0#32
  let v363 : BitVec 32 := Scalar.addi v362 c0_i32_125
  v363
def k0_off48 (i : grid0.Coords) (k0_t4 : Fin (k0_t4_loop i).trips) (c0_i32_124 : BitVec 32) (c0_i32_125 : BitVec 32) : Fin 2 → Nat :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_123 : BitVec 32 := 512#32
  let v361 : BitVec 32 := Scalar.muli arg15 c512_i32_123
  let v362 : BitVec 32 := Scalar.addi v361 c0_i32_124
  let v363 : BitVec 32 := Scalar.addi v362 c0_i32_125
  let v364 : BitVec 32 := v363
  let v365 : Index := Scalar.indexCast v364
  let c256_126 : Index := 256#32
  ![v365.toNat, 256]
def k0_mult299 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_131 : BitVec 32 := 512#32
  let v392 : BitVec 32 := Scalar.muli arg15 c512_i32_131
  let c0_i32_132 : BitVec 32 := 0#32
  let v393 : BitVec 32 := Scalar.addi v392 c0_i32_132
  let c0_i32_133 : BitVec 32 := 0#32
  let v394 : BitVec 32 := Scalar.addi v393 c0_i32_133
  v394
def k0_off49 (i : grid0.Coords) (k0_t4 : Fin (k0_t4_loop i).trips) (c0_i32_132 : BitVec 32) (c0_i32_133 : BitVec 32) : Fin 2 → Nat :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_131 : BitVec 32 := 512#32
  let v392 : BitVec 32 := Scalar.muli arg15 c512_i32_131
  let v393 : BitVec 32 := Scalar.addi v392 c0_i32_132
  let v394 : BitVec 32 := Scalar.addi v393 c0_i32_133
  let v395 : BitVec 32 := v394
  let v396 : Index := Scalar.indexCast v395
  let c384_134 : Index := 384#32
  ![v396.toNat, 384]
def k0_mult300 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_139 : BitVec 32 := 512#32
  let v424 : BitVec 32 := Scalar.muli arg15 c512_i32_139
  let c0_i32_140 : BitVec 32 := 0#32
  let v425 : BitVec 32 := Scalar.addi v424 c0_i32_140
  let c64_i32_141 : BitVec 32 := 64#32
  let v426 : BitVec 32 := Scalar.addi v425 c64_i32_141
  v426
def k0_mult301 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_147 : BitVec 32 := 512#32
  let v455 : BitVec 32 := Scalar.muli arg15 c512_i32_147
  let c0_i32_148 : BitVec 32 := 0#32
  let v456 : BitVec 32 := Scalar.addi v455 c0_i32_148
  let c64_i32_149 : BitVec 32 := 64#32
  let v457 : BitVec 32 := Scalar.addi v456 c64_i32_149
  v457
def k0_mult302 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_155 : BitVec 32 := 512#32
  let v487 : BitVec 32 := Scalar.muli arg15 c512_i32_155
  let c0_i32_156 : BitVec 32 := 0#32
  let v488 : BitVec 32 := Scalar.addi v487 c0_i32_156
  let c128_i32_157 : BitVec 32 := 128#32
  let v489 : BitVec 32 := Scalar.addi v488 c128_i32_157
  v489
def k0_mult303 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_163 : BitVec 32 := 512#32
  let v518 : BitVec 32 := Scalar.muli arg15 c512_i32_163
  let c0_i32_164 : BitVec 32 := 0#32
  let v519 : BitVec 32 := Scalar.addi v518 c0_i32_164
  let c128_i32_165 : BitVec 32 := 128#32
  let v520 : BitVec 32 := Scalar.addi v519 c128_i32_165
  v520
def k0_mult304 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_171 : BitVec 32 := 512#32
  let v550 : BitVec 32 := Scalar.muli arg15 c512_i32_171
  let c0_i32_172 : BitVec 32 := 0#32
  let v551 : BitVec 32 := Scalar.addi v550 c0_i32_172
  let c192_i32_173 : BitVec 32 := 192#32
  let v552 : BitVec 32 := Scalar.addi v551 c192_i32_173
  v552
def k0_mult305 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_179 : BitVec 32 := 512#32
  let v581 : BitVec 32 := Scalar.muli arg15 c512_i32_179
  let c0_i32_180 : BitVec 32 := 0#32
  let v582 : BitVec 32 := Scalar.addi v581 c0_i32_180
  let c192_i32_181 : BitVec 32 := 192#32
  let v583 : BitVec 32 := Scalar.addi v582 c192_i32_181
  v583
def k0_mult306 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_187 : BitVec 32 := 512#32
  let v614 : BitVec 32 := Scalar.muli arg15 c512_i32_187
  let c0_i32_188 : BitVec 32 := 0#32
  let v615 : BitVec 32 := Scalar.addi v614 c0_i32_188
  v615
def k0_mult307 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_193 : BitVec 32 := 512#32
  let v621 : BitVec 32 := Scalar.muli arg15 c512_i32_193
  let c256_i32 : BitVec 32 := 256#32
  let v622 : BitVec 32 := Scalar.addi v621 c256_i32
  let c0_i32_194 : BitVec 32 := 0#32
  let v623 : BitVec 32 := Scalar.addi v622 c0_i32_194
  v623
def k0_mult308 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_200 : BitVec 32 := 512#32
  let v652 : BitVec 32 := Scalar.muli arg15 c512_i32_200
  let c256_i32_201 : BitVec 32 := 256#32
  let v653 : BitVec 32 := Scalar.addi v652 c256_i32_201
  let c0_i32_202 : BitVec 32 := 0#32
  let v654 : BitVec 32 := Scalar.addi v653 c0_i32_202
  v654
def k0_mult309 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_208 : BitVec 32 := 512#32
  let v684 : BitVec 32 := Scalar.muli arg15 c512_i32_208
  let c256_i32_209 : BitVec 32 := 256#32
  let v685 : BitVec 32 := Scalar.addi v684 c256_i32_209
  let c64_i32_210 : BitVec 32 := 64#32
  let v686 : BitVec 32 := Scalar.addi v685 c64_i32_210
  v686
def k0_mult310 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_216 : BitVec 32 := 512#32
  let v715 : BitVec 32 := Scalar.muli arg15 c512_i32_216
  let c256_i32_217 : BitVec 32 := 256#32
  let v716 : BitVec 32 := Scalar.addi v715 c256_i32_217
  let c64_i32_218 : BitVec 32 := 64#32
  let v717 : BitVec 32 := Scalar.addi v716 c64_i32_218
  v717
def k0_mult311 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_224 : BitVec 32 := 512#32
  let v747 : BitVec 32 := Scalar.muli arg15 c512_i32_224
  let c256_i32_225 : BitVec 32 := 256#32
  let v748 : BitVec 32 := Scalar.addi v747 c256_i32_225
  let c128_i32_226 : BitVec 32 := 128#32
  let v749 : BitVec 32 := Scalar.addi v748 c128_i32_226
  v749
def k0_mult312 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_232 : BitVec 32 := 512#32
  let v778 : BitVec 32 := Scalar.muli arg15 c512_i32_232
  let c256_i32_233 : BitVec 32 := 256#32
  let v779 : BitVec 32 := Scalar.addi v778 c256_i32_233
  let c128_i32_234 : BitVec 32 := 128#32
  let v780 : BitVec 32 := Scalar.addi v779 c128_i32_234
  v780
def k0_mult313 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_240 : BitVec 32 := 512#32
  let v810 : BitVec 32 := Scalar.muli arg15 c512_i32_240
  let c256_i32_241 : BitVec 32 := 256#32
  let v811 : BitVec 32 := Scalar.addi v810 c256_i32_241
  let c192_i32_242 : BitVec 32 := 192#32
  let v812 : BitVec 32 := Scalar.addi v811 c192_i32_242
  v812
def k0_mult314 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_248 : BitVec 32 := 512#32
  let v841 : BitVec 32 := Scalar.muli arg15 c512_i32_248
  let c256_i32_249 : BitVec 32 := 256#32
  let v842 : BitVec 32 := Scalar.addi v841 c256_i32_249
  let c192_i32_250 : BitVec 32 := 192#32
  let v843 : BitVec 32 := Scalar.addi v842 c192_i32_250
  v843
def k0_mult315 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_256 : BitVec 32 := 512#32
  let v874 : BitVec 32 := Scalar.muli arg15 c512_i32_256
  let c256_i32_257 : BitVec 32 := 256#32
  let v875 : BitVec 32 := Scalar.addi v874 c256_i32_257
  v875
def k0_mult316 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_262 : BitVec 32 := 512#32
  let v882 : BitVec 32 := Scalar.muli arg15 c512_i32_262
  let c256_i32_263 : BitVec 32 := 256#32
  let v883 : BitVec 32 := Scalar.addi v882 c256_i32_263
  let c0_i32_264 : BitVec 32 := 0#32
  let v884 : BitVec 32 := Scalar.addi v883 c0_i32_264
  v884
def k0_mult317 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_270 : BitVec 32 := 512#32
  let v913 : BitVec 32 := Scalar.muli arg15 c512_i32_270
  let c256_i32_271 : BitVec 32 := 256#32
  let v914 : BitVec 32 := Scalar.addi v913 c256_i32_271
  let c0_i32_272 : BitVec 32 := 0#32
  let v915 : BitVec 32 := Scalar.addi v914 c0_i32_272
  v915
def k0_mult318 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_278 : BitVec 32 := 512#32
  let v945 : BitVec 32 := Scalar.muli arg15 c512_i32_278
  let c256_i32_279 : BitVec 32 := 256#32
  let v946 : BitVec 32 := Scalar.addi v945 c256_i32_279
  let c64_i32_280 : BitVec 32 := 64#32
  let v947 : BitVec 32 := Scalar.addi v946 c64_i32_280
  v947
def k0_mult319 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_286 : BitVec 32 := 512#32
  let v976 : BitVec 32 := Scalar.muli arg15 c512_i32_286
  let c256_i32_287 : BitVec 32 := 256#32
  let v977 : BitVec 32 := Scalar.addi v976 c256_i32_287
  let c64_i32_288 : BitVec 32 := 64#32
  let v978 : BitVec 32 := Scalar.addi v977 c64_i32_288
  v978
def k0_mult320 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_294 : BitVec 32 := 512#32
  let v1008 : BitVec 32 := Scalar.muli arg15 c512_i32_294
  let c256_i32_295 : BitVec 32 := 256#32
  let v1009 : BitVec 32 := Scalar.addi v1008 c256_i32_295
  let c128_i32_296 : BitVec 32 := 128#32
  let v1010 : BitVec 32 := Scalar.addi v1009 c128_i32_296
  v1010
def k0_mult321 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_302 : BitVec 32 := 512#32
  let v1039 : BitVec 32 := Scalar.muli arg15 c512_i32_302
  let c256_i32_303 : BitVec 32 := 256#32
  let v1040 : BitVec 32 := Scalar.addi v1039 c256_i32_303
  let c128_i32_304 : BitVec 32 := 128#32
  let v1041 : BitVec 32 := Scalar.addi v1040 c128_i32_304
  v1041
def k0_mult322 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_310 : BitVec 32 := 512#32
  let v1071 : BitVec 32 := Scalar.muli arg15 c512_i32_310
  let c256_i32_311 : BitVec 32 := 256#32
  let v1072 : BitVec 32 := Scalar.addi v1071 c256_i32_311
  let c192_i32_312 : BitVec 32 := 192#32
  let v1073 : BitVec 32 := Scalar.addi v1072 c192_i32_312
  v1073
def k0_mult323 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_318 : BitVec 32 := 512#32
  let v1102 : BitVec 32 := Scalar.muli arg15 c512_i32_318
  let c256_i32_319 : BitVec 32 := 256#32
  let v1103 : BitVec 32 := Scalar.addi v1102 c256_i32_319
  let c192_i32_320 : BitVec 32 := 192#32
  let v1104 : BitVec 32 := Scalar.addi v1103 c192_i32_320
  v1104
def k0_mult324 (i : grid0.Coords) (k0_t4 : Fin (k0_t4_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c512_i32 : BitVec 32 := 512#32
  let v1 : BitVec 32 := Scalar.addi v0 c512_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32_5 : BitVec 32 := 1#32
  let v18 : BitVec 32 := Scalar.subi v3 c1_i32_5
  let v19 : BitVec 32 := Scalar.select v17 v18 v3
  let v53 : BitVec 32 := Scalar.subi v19 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg15 : BitVec 32 := Scf.iv v57 c1_i32_26 k0_t4
  let c512_i32_326 : BitVec 32 := 512#32
  let v1135 : BitVec 32 := Scalar.muli arg15 c512_i32_326
  let c256_i32_327 : BitVec 32 := 256#32
  let v1136 : BitVec 32 := Scalar.addi v1135 c256_i32_327
  v1136
def k0_cond3 (i : grid0.Coords) : BitVec 1 :=
  let arg1 : BitVec 32 := BitVec.ofNat 32 (i 1).val
  let c0_i32_175 : BitVec 32 := 0#32
  let v523 : BitVec 1 := Scalar.cmpi .sgt arg1 c0_i32_175
  let v524 : BitVec 32 := Scalar.extui v523
  let c0_i32_176 : BitVec 32 := 0#32
  let v525 : BitVec 1 := Scalar.cmpi .ne v524 c0_i32_176
  v525

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c119_i32 : BitVec 32 := 119#32
  let v27 : BitVec 32 := Scalar.minsi arg1 c119_i32
  let c8_i32_10 : BitVec 32 := 8#32
  let v28 : BitVec 32 := Scalar.divsi arg0 c8_i32_10
  let c0_i32_11 : BitVec 32 := 0#32
  let v29 : BitVec 1 := Scalar.cmpi .sgt arg0 c0_i32_11
  let v30 : BitVec 32 := Scalar.extui v29
  let c0_i32_12 : BitVec 32 := 0#32
  let v31 : BitVec 1 := Scalar.cmpi .slt arg0 c0_i32_12
  let v32 : BitVec 32 := Scalar.extui v31
  let v33 : BitVec 32 := Scalar.subi v30 v32
  let c0_i32_13 : BitVec 32 := 0#32
  let v34 : BitVec 1 := Scalar.cmpi .sgt c8_i32_10 c0_i32_13
  let v35 : BitVec 32 := Scalar.extui v34
  let c0_i32_14 : BitVec 32 := 0#32
  let v36 : BitVec 1 := Scalar.cmpi .slt c8_i32_10 c0_i32_14
  let v37 : BitVec 32 := Scalar.extui v36
  let v38 : BitVec 32 := Scalar.subi v35 v37
  let v39 : BitVec 1 := Scalar.cmpi .ne v33 v38
  let v40 : BitVec 32 := Scalar.remsi arg0 c8_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let c8_i32_17 : BitVec 32 := 8#32
  let c0_i32_18 : BitVec 32 := 0#32
  let v45 : BitVec 1 := Scalar.cmpi .eq c8_i32_17 c0_i32_18
  let c1_i32_19 : BitVec 32 := 1#32
  let v46 : BitVec 32 := Scalar.select v45 c1_i32_19 c8_i32_17
  let v47 : BitVec 32 := Scalar.remsi arg0 v46
  let c0_i32_20 : BitVec 32 := 0#32
  let v48 : BitVec 1 := Scalar.cmpi .ne v47 c0_i32_20
  let c0_i32_21 : BitVec 32 := 0#32
  let v49 : BitVec 1 := Scalar.cmpi .slt v47 c0_i32_21
  let c0_i32_22 : BitVec 32 := 0#32
  let v50 : BitVec 1 := Scalar.cmpi .slt v46 c0_i32_22
  let v51 : BitVec 1 := Scalar.xori v49 v50
  let v52 : BitVec 1 := Scalar.andi v51 v48
  let v53 : BitVec 32 := Scalar.addi v47 v46
  let v54 : BitVec 32 := Scalar.select v52 v53 v47
  let c0_i32_23 : BitVec 32 := 0#32
  ![v16.toNat, v27.toNat, v54.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.subi arg1 c1_i32_10
  let c0_i32_11 : BitVec 32 := 0#32
  let v28 : BitVec 32 := Scalar.maxsi v27 c0_i32_11
  let c8_i32_12 : BitVec 32 := 8#32
  let v29 : BitVec 32 := Scalar.divsi arg0 c8_i32_12
  let c0_i32_13 : BitVec 32 := 0#32
  let v30 : BitVec 1 := Scalar.cmpi .sgt arg0 c0_i32_13
  let v31 : BitVec 32 := Scalar.extui v30
  let c0_i32_14 : BitVec 32 := 0#32
  let v32 : BitVec 1 := Scalar.cmpi .slt arg0 c0_i32_14
  let v33 : BitVec 32 := Scalar.extui v32
  let v34 : BitVec 32 := Scalar.subi v31 v33
  let c0_i32_15 : BitVec 32 := 0#32
  let v35 : BitVec 1 := Scalar.cmpi .sgt c8_i32_12 c0_i32_15
  let v36 : BitVec 32 := Scalar.extui v35
  let c0_i32_16 : BitVec 32 := 0#32
  let v37 : BitVec 1 := Scalar.cmpi .slt c8_i32_12 c0_i32_16
  let v38 : BitVec 32 := Scalar.extui v37
  let v39 : BitVec 32 := Scalar.subi v36 v38
  let v40 : BitVec 1 := Scalar.cmpi .ne v34 v39
  let v41 : BitVec 32 := Scalar.remsi arg0 c8_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c8_i32_19 : BitVec 32 := 8#32
  let c0_i32_20 : BitVec 32 := 0#32
  let v46 : BitVec 1 := Scalar.cmpi .eq c8_i32_19 c0_i32_20
  let c1_i32_21 : BitVec 32 := 1#32
  let v47 : BitVec 32 := Scalar.select v46 c1_i32_21 c8_i32_19
  let v48 : BitVec 32 := Scalar.remsi arg0 v47
  let c0_i32_22 : BitVec 32 := 0#32
  let v49 : BitVec 1 := Scalar.cmpi .ne v48 c0_i32_22
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let v53 : BitVec 1 := Scalar.andi v52 v49
  let v54 : BitVec 32 := Scalar.addi v48 v47
  let v55 : BitVec 32 := Scalar.select v53 v54 v48
  let c0_i32_25 : BitVec 32 := 0#32
  ![v16.toNat, v28.toNat, v55.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c119_i32 : BitVec 32 := 119#32
  let v27 : BitVec 32 := Scalar.minsi arg1 c119_i32
  let c8_i32_10 : BitVec 32 := 8#32
  let v28 : BitVec 32 := Scalar.divsi arg0 c8_i32_10
  let c0_i32_11 : BitVec 32 := 0#32
  let v29 : BitVec 1 := Scalar.cmpi .sgt arg0 c0_i32_11
  let v30 : BitVec 32 := Scalar.extui v29
  let c0_i32_12 : BitVec 32 := 0#32
  let v31 : BitVec 1 := Scalar.cmpi .slt arg0 c0_i32_12
  let v32 : BitVec 32 := Scalar.extui v31
  let v33 : BitVec 32 := Scalar.subi v30 v32
  let c0_i32_13 : BitVec 32 := 0#32
  let v34 : BitVec 1 := Scalar.cmpi .sgt c8_i32_10 c0_i32_13
  let v35 : BitVec 32 := Scalar.extui v34
  let c0_i32_14 : BitVec 32 := 0#32
  let v36 : BitVec 1 := Scalar.cmpi .slt c8_i32_10 c0_i32_14
  let v37 : BitVec 32 := Scalar.extui v36
  let v38 : BitVec 32 := Scalar.subi v35 v37
  let v39 : BitVec 1 := Scalar.cmpi .ne v33 v38
  let v40 : BitVec 32 := Scalar.remsi arg0 c8_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let c8_i32_17 : BitVec 32 := 8#32
  let c0_i32_18 : BitVec 32 := 0#32
  let v45 : BitVec 1 := Scalar.cmpi .eq c8_i32_17 c0_i32_18
  let c1_i32_19 : BitVec 32 := 1#32
  let v46 : BitVec 32 := Scalar.select v45 c1_i32_19 c8_i32_17
  let v47 : BitVec 32 := Scalar.remsi arg0 v46
  let c0_i32_20 : BitVec 32 := 0#32
  let v48 : BitVec 1 := Scalar.cmpi .ne v47 c0_i32_20
  let c0_i32_21 : BitVec 32 := 0#32
  let v49 : BitVec 1 := Scalar.cmpi .slt v47 c0_i32_21
  let c0_i32_22 : BitVec 32 := 0#32
  let v50 : BitVec 1 := Scalar.cmpi .slt v46 c0_i32_22
  let v51 : BitVec 1 := Scalar.xori v49 v50
  let v52 : BitVec 1 := Scalar.andi v51 v48
  let v53 : BitVec 32 := Scalar.addi v47 v46
  let v54 : BitVec 32 := Scalar.select v52 v53 v47
  let c0_i32_23 : BitVec 32 := 0#32
  ![v16.toNat, v27.toNat, v54.toNat]

def cc0_transform_7 (i : grid0.Coords) : Fin 4 → Nat :=
  let arg0 : BitVec 32 := BitVec.ofNat 32 (i 0).val
  let arg1 : BitVec 32 := BitVec.ofNat 32 (i 1).val
  let c119_i32 : BitVec 32 := 119#32
  let v0 : BitVec 32 := Scalar.minsi arg1 c119_i32
  let c0_i32 : BitVec 32 := 0#32
  let c0_i32_0 : BitVec 32 := 0#32
  let c0_i32_1 : BitVec 32 := 0#32
  ![arg0.toNat, v0.toNat, c0_i32.toNat, c0_i32_0.toNat]

abbrev stage0_0 : Fin 2 → Memref sig .tc .vmem S1x128x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x15360x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x160x15360 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x240x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x160x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x640 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "score_scale_log2e" => some (((Real.sqrt 160)⁻¹ * (Real.log 2)⁻¹ : ℝ) : EReal)
  | _ => none
-- ==== ReferenceIdeal.lean ====
abbrev S2x15360x5120 : Shape := ⟨3, ![2, 15360, 5120]⟩
abbrev S2x8x15360x256 : Shape := ⟨4, ![2, 8, 15360, 256]⟩
abbrev S2x8x160x15360 : Shape := ⟨4, ![2, 8, 160, 15360]⟩
abbrev S2x8x240 : Shape := ⟨3, ![2, 8, 240]⟩
abbrev S2x8x160 : Shape := ⟨3, ![2, 8, 160]⟩
abbrev S16x120x4x128 : Shape := ⟨4, ![16, 120, 4, 128]⟩
abbrev S2x120x128x32x160 : Shape := ⟨5, ![2, 120, 128, 32, 160]⟩
abbrev S2x120x128x32 : Shape := ⟨4, ![2, 120, 128, 32]⟩
abbrev S2x120x128x32x1 : Shape := ⟨5, ![2, 120, 128, 32, 1]⟩
abbrev S2x120x32x1 : Shape := ⟨4, ![2, 120, 32, 1]⟩
abbrev S2x120x1x32x1 : Shape := ⟨5, ![2, 120, 1, 32, 1]⟩
abbrev S2x120x8x4 : Shape := ⟨4, ![2, 120, 8, 4]⟩
abbrev S2x8x120x4 : Shape := ⟨4, ![2, 8, 120, 4]⟩
abbrev S16x120x4x1 : Shape := ⟨4, ![16, 120, 4, 1]⟩
abbrev S2x15360x8x4x160 : Shape := ⟨5, ![2, 15360, 8, 4, 160]⟩
abbrev S2x8x4x15360x160 : Shape := ⟨5, ![2, 8, 4, 15360, 160]⟩
abbrev S64x15360x160 : Shape := ⟨3, ![64, 15360, 160]⟩
abbrev S2x8x15360x160 : Shape := ⟨4, ![2, 8, 15360, 160]⟩
abbrev S2x8x1x15360x160 : Shape := ⟨5, ![2, 8, 1, 15360, 160]⟩
abbrev S2x8x1x160x15360 : Shape := ⟨5, ![2, 8, 1, 160, 15360]⟩
abbrev S2x8x4x160x15360 : Shape := ⟨5, ![2, 8, 4, 160, 15360]⟩
abbrev S64x160x15360 : Shape := ⟨3, ![64, 160, 15360]⟩
abbrev S64x15360x15360 : Shape := ⟨3, ![64, 15360, 15360]⟩
abbrev S2x8x4x120 : Shape := ⟨4, ![2, 8, 4, 120]⟩
abbrev S2x8x4x120x1 : Shape := ⟨5, ![2, 8, 4, 120, 1]⟩
abbrev S2x8x4x120x128 : Shape := ⟨5, ![2, 8, 4, 120, 128]⟩
abbrev S2x8x1x240x1 : Shape := ⟨5, ![2, 8, 1, 240, 1]⟩
abbrev S2x8x4x240x64 : Shape := ⟨5, ![2, 8, 4, 240, 64]⟩
abbrev S64x15360x1 : Shape := ⟨3, ![64, 15360, 1]⟩
abbrev S64x1x15360 : Shape := ⟨3, ![64, 1, 15360]⟩
abbrev S64x15360 : Shape := ⟨2, ![64, 15360]⟩
abbrev S2x8x1x160 : Shape := ⟨4, ![2, 8, 1, 160]⟩
abbrev S2x8x4x160 : Shape := ⟨4, ![2, 8, 4, 160]⟩
abbrev S64x1x160 : Shape := ⟨3, ![64, 1, 160]⟩

abbrev nBuf : Space → Nat
  | .hbm => 8
  | .vmem => 8
  | .smem => 0
  | _ => 0

abbrev bufTy : (tb : Table) → Fin (tcTables nBuf tb) → BufTy
  | .hbm, ⟨0, _⟩ => ⟨S2x15360x5120, .bf16⟩
  | .hbm, ⟨1, _⟩ => ⟨S2x8x15360x256, .fp8e4m3⟩
  | .hbm, ⟨2, _⟩ => ⟨S2x8x160x15360, .fp8e4m3⟩
  | .hbm, ⟨3, _⟩ => ⟨S2x8x240, .f32⟩
  | .hbm, ⟨4, _⟩ => ⟨S2x8x160, .f32⟩
  | .hbm, ⟨5, _⟩ => ⟨S2x15360x5120, .bf16⟩
  | .hbm, ⟨6, _⟩ => ⟨S2x15360x5120, .fp8e4m3⟩
  | .hbm, ⟨7, _⟩ => ⟨S16x120x4x128, .f32⟩
  | .local _ .vmem, ⟨0, _⟩ => ⟨S2x15360x5120, .bf16⟩
  | .local _ .vmem, ⟨1, _⟩ => ⟨S2x8x15360x256, .fp8e4m3⟩
  | .local _ .vmem, ⟨2, _⟩ => ⟨S2x8x160x15360, .fp8e4m3⟩
  | .local _ .vmem, ⟨3, _⟩ => ⟨S2x8x240, .f32⟩
  | .local _ .vmem, ⟨4, _⟩ => ⟨S2x8x160, .f32⟩
  | .local _ .vmem, ⟨5, _⟩ => ⟨S2x15360x5120, .bf16⟩
  | .local _ .vmem, ⟨6, _⟩ => ⟨S2x15360x5120, .fp8e4m3⟩
  | .local _ .vmem, ⟨7, _⟩ => ⟨S16x120x4x128, .f32⟩
  | _, _ => ⟨S2x15360x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_log_2" => some (((Real.log 2)⁻¹ : ℝ) : EReal)
  | "score_scale" => some (((Real.sqrt 160)⁻¹ : ℝ) : EReal)
  | _ => none

abbrev grid0 : Pipeline.Grid := .none

abbrev stage0_0 : Fin 1 → Memref sig .tc .vmem S2x15360x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x15360x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x160x15360 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x15360x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x15360x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x120x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Bits.Text.lean ====
/-
  The attention body written compactly, over any monad that offers its loads and stores (`Ops`): the quantisation of
  the query block, one chunk of scores and probabilities, the loops over chunks, and the normalisation. Read in the
  machine's programs (`progOps`, Same.lean) it is the printed body; read in the state monad (Sem.lean) it is what the
  body does to its buffers.
-/
module

public import proofs.«01_k».proof.Kernel

@[expose] public section

noncomputable section

namespace Cert.Kernel.Hand

open Cert.Kernel
open Idealize.ShloMosaic Idealize.SL.Sem

variable {F : FTy → Type} [FloatOps F]

universe u

/-- The loads and stores of the body, each at the offsets it varies. -/
structure Ops (F : FTy → Type) (m : Type → Type u) where
  ldX : m (Vec F S1x128x640 .bf16)
  ldKsl : m (Vec F S1x1x240x128 .f32)
  ldVs : m (Vec F S1x1x160x128 .f32)
  ldKp (r : Nat) (h : r + 256 ≤ 15360) : m (Vec F S1x1x256x256 .fp8e4m3)
  ldVt (r : Nat) (h : r + 256 ≤ 15360) : m (Vec F S1x1x160x256 .fp8e4m3)
  ldOut : m (Vec F S1x128x640 .bf16)
  stOut (v : FVec F S1x128x640 .bf16) : m PUnit
  ldQc : m (Vec F S1x128x640 .fp8e4m3)
  stQc (v : FVec F S1x128x640 .fp8e4m3) : m PUnit
  ldQs (h : Nat) (hh : h < 4) : m (Vec F S1x1x1x128 .f32)
  stQs (h : Nat) (hh : h < 4) (v : FVec F S1x1x1x128 .f32) : m PUnit
  ldS (r c : Nat) (h : r + 64 ≤ 15360) (hc : c + 128 ≤ 512) : m (Vec F S64x128 .f32)
  stS (r c : Nat) (h : r + 64 ≤ 15360) (hc : c + 128 ≤ 512) (v : FVec F S64x128 .f32) : m PUnit
  ldQt1 (c : Nat) (hc : c = 0 ∨ c = 128 ∨ c = 256 ∨ c = 384) : m (Vec F S256x128 .fp8e4m3)
  stQt1 (c : Nat) (hc : c = 0 ∨ c = 128 ∨ c = 256 ∨ c = 384) (v : FVec F S256x128 .fp8e4m3) : m PUnit
  ldQt2 (c : Nat) (hc : c + 256 ≤ 512) : m (Vec F S256x256 .fp8e4m3)
  ldA (h : Nat) (hh : h < 4) : m (Vec F S1x240x128 .f32)
  stA (h : Nat) (hh : h < 4) (v : FVec F S1x240x128 .f32) : m PUnit
  ldARow (h r : Nat) (hh : h < 4) (hr : r < 240) : m (Vec F S1x1x128 .f32)
  ldM8Row (c : Nat) (hc : c + 128 ≤ 512) : m (Vec F S1x128 .f32)
  ldM8 (c : Nat) (hc : c + 128 ≤ 512) : m (Vec F S8x128 .f32)
  stM8 (c : Nat) (hc : c + 128 ≤ 512) (v : FVec F S8x128 .f32) : m PUnit
  ldAcc : m (Vec F S160x512 .f32)
  stAcc (v : FVec F S160x512 .f32) : m PUnit
  ldAcc1 (c : Nat) (hc : c + 128 ≤ 512) : m (Vec F S160x128 .f32)
  ldAcc2 (c : Nat) (hc : c + 256 ≤ 512) : m (Vec F S160x256 .f32)
  stAcc2 (c : Nat) (hc : c + 256 ≤ 512) (v : FVec F S160x256 .f32) : m PUnit
  loop {σ : Type} (l : Scf.Loop 32) (ok : l.OK) (init : σ) (body : Fin l.trips → σ → m σ) : m σ

/-! ## Rows of the scratch -/

/-- The first row of the block of 64 that starts `a + b` rows into chunk `j`; -/
def row (j a b : BitVec 32) : Nat :=
  (Scalar.indexCast (Scalar.addi (Scalar.addi (Scalar.muli j 512#32) a) b)).toNat
/-- the first row of the half `a` of chunk `j`; -/
def half (j a : BitVec 32) : Nat := (Scalar.indexCast (Scalar.addi (Scalar.muli j 512#32) a)).toNat
/-- the row of the key scales for block `a + b` of chunk `j`. -/
def arow (j a b : BitVec 32) : Nat :=
  (Scalar.indexCast (Scalar.addi (Scalar.addi (Scalar.muli j 8#32) a) b)).toNat

theorem row_eq {j a b : BitVec 32} (hj : j.toNat < 30) (ha : a.toNat ≤ 256) (hb : b.toNat ≤ 192) :
    row j a b = j.toNat * 512 + a.toNat + b.toNat := by
  show (((j * 512#32) + a) + b).toNat = _
  simp only [BitVec.toNat_add, BitVec.toNat_mul, BitVec.toNat_ofNat]
  omega

theorem half_eq {j a : BitVec 32} (hj : j.toNat < 30) (ha : a.toNat ≤ 256) : half j a = j.toNat * 512 + a.toNat := by
  show ((j * 512#32) + a).toNat = _
  simp only [BitVec.toNat_add, BitVec.toNat_mul, BitVec.toNat_ofNat]
  omega

theorem arow_eq {j a b : BitVec 32} (hj : j.toNat < 30) (ha : a.toNat ≤ 4) (hb : b.toNat ≤ 3) :
    arow j a b = j.toNat * 8 + a.toNat + b.toNat := by
  show (((j * 8#32) + a) + b).toNat = _
  simp only [BitVec.toNat_add, BitVec.toNat_mul, BitVec.toNat_ofNat]
  omega

theorem row_le {j a b : BitVec 32} (hj : j.toNat < 30) (ha : a.toNat ≤ 256) (hb : b.toNat ≤ 192) :
    row j a b + 64 ≤ 15360 := by rw [row_eq hj ha hb]; omega
theorem half_le {j a : BitVec 32} (hj : j.toNat < 30) (ha : a.toNat ≤ 256) : half j a + 256 ≤ 15360 := by
  rw [half_eq hj ha]; omega
theorem arow_lt {j a b : BitVec 32} (hj : j.toNat < 30) (ha : a.toNat ≤ 4) (hb : b.toNat ≤ 3) : arow j a b < 240 := by
  rw [arow_eq hj ha hb]; omega

/-! ## Pure pieces -/

variable [Facts]
open Facts₀ Facts

/-- Eight rows at a time, the 64 rows of `p` added to `s`; -/
def sum8 (p : FVec F S64x128 .f32) (s : FVec F S8x128 .f32) : FVec F S8x128 .f32 :=
  addf (addf (addf (addf (addf (addf (addf (addf s
    (extractStridedSlice S8x128 ![0, 0] p slices_S64x128_o0_0_S8x128))
    (extractStridedSlice S8x128 ![8, 0] p slices_S64x128_o8_0_S8x128))
    (extractStridedSlice S8x128 ![16, 0] p slices_S64x128_o16_0_S8x128))
    (extractStridedSlice S8x128 ![24, 0] p slices_S64x128_o24_0_S8x128))
    (extractStridedSlice S8x128 ![32, 0] p slices_S64x128_o32_0_S8x128))
    (extractStridedSlice S8x128 ![40, 0] p slices_S64x128_o40_0_S8x128))
    (extractStridedSlice S8x128 ![48, 0] p slices_S64x128_o48_0_S8x128))
    (extractStridedSlice S8x128 ![56, 0] p slices_S64x128_o56_0_S8x128)

/-- and the running maximum of `s` with them. -/
def max8 (p : FVec F S64x128 .f32) (s : FVec F S8x128 .f32) : FVec F S8x128 .f32 :=
  maximumf (maximumf (maximumf (maximumf (maximumf (maximumf (maximumf (maximumf s
    (extractStridedSlice S8x128 ![0, 0] p slices_S64x128_o0_0_S8x128))
    (extractStridedSlice S8x128 ![8, 0] p slices_S64x128_o8_0_S8x128))
    (extractStridedSlice S8x128 ![16, 0] p slices_S64x128_o16_0_S8x128))
    (extractStridedSlice S8x128 ![24, 0] p slices_S64x128_o24_0_S8x128))
    (extractStridedSlice S8x128 ![32, 0] p slices_S64x128_o32_0_S8x128))
    (extractStridedSlice S8x128 ![40, 0] p slices_S64x128_o40_0_S8x128))
    (extractStridedSlice S8x128 ![48, 0] p slices_S64x128_o48_0_S8x128))
    (extractStridedSlice S8x128 ![56, 0] p slices_S64x128_o56_0_S8x128)

/-- The probabilities of a block of scores, times 256; -/
def prob (y : FVec F S64x128 .f32) (m8 : FVec F S1x128 .f32) : FVec F S64x128 .f32 :=
  exp2 (subf y (broadcastTo S64x128 m8 broadcasts_S1x128_S64x128))

/-- their codes; -/
def pcode (p : FVec F S64x128 .f32) : FVec F S64x128 .fp8e4m3 :=
  truncf .fp8e4m3 (minimumf (broadcast S64x128 (Scalar.ofBits .f32 0x43E00000#32))
    (maximumf (broadcast S64x128 (Scalar.ofBits .f32 0x00000000#32)) p)) bitsLt_fp8e4m3_f32

/-- two blocks side by side; -/
def beside (p q : FVec F S64x128 .fp8e4m3) : FVec F S64x256 .fp8e4m3 :=
  concatenate S64x256 1 [⟨S64x128, p⟩, ⟨S64x128, q⟩] concatenates_S64x128_S64x128_S64x256_d1

/-- four of them on top of each other. -/
def stack (a b c d : FVec F S64x256 .fp8e4m3) : FVec F S256x256 .fp8e4m3 :=
  concatenate S256x256 0 [⟨S64x256, a⟩, ⟨S64x256, b⟩, ⟨S64x256, c⟩, ⟨S64x256, d⟩]
    concatenates_S64x256_S64x256_S64x256_S64x256_S256x256_d0

/-- The product of value codes and probability codes. -/
def pv (v : Vec F S1x1x160x256 .fp8e4m3) (p : FVec F S256x256 .fp8e4m3) : FVec F S160x256 .f32 :=
  matmul dot_S160x256_S256x256_S160x256_1_0_0_1_n_n none
    (shapeCast S160x256 v shapeCasts_S1x1x160x256_S160x256 : FVec F S160x256 .fp8e4m3) p (constant S160x256 .f32 0x00000000#32)

/-- The product of key codes and query codes. -/
def kq (k : Vec F S1x1x256x256 .fp8e4m3) (q : Vec F S256x256 .fp8e4m3) : FVec F S256x256 .f32 :=
  matmul dot_S256x256_S256x256_S256x256_1_0_0_1_n_n none
    (shapeCast S256x256 k shapeCasts_S1x1x256x256_S256x256 : FVec F S256x256 .fp8e4m3) (q : FVec F S256x256 .fp8e4m3)
    (constant S256x256 .f32 0x00000000#32)

/-- A block of products times its row of scales. -/
def scaled (y : FVec F S64x128 .f32) (a : Vec F S1x1x128 .f32) : FVec F S64x128 .f32 :=
  mulf y (broadcastTo S64x128 (shapeCast S1x128 a shapeCasts_S1x1x128_S1x128 : FVec F S1x128 .f32) broadcasts_S1x128_S64x128)

/-- The causal mask of the block whose first key is `k` and whose first query is `q`. -/
def causal (q k : BitVec 32) (y : FVec F S64x128 .f32) : FVec F S64x128 .f32 :=
  select (cmpi .sle (addi (broadcast S64x128 k) (iota .tc S64x128 32 [0] iota_S64x128_d0_w32))
    (addi (broadcast S64x128 q) (iota .tc S64x128 32 [1] iota_S64x128_d1_w32))) y
    (broadcast S64x128 (Scalar.ofBits .f32 0xFF800000#32))

/-! ## One chunk -/

variable {m : Type → Type u} [Monad m] (o : Ops F m)

/-- The codes and running sums of one block of 64 keys and 128 queries. -/
def probSub (j a b : BitVec 32) (hj : j.toNat < 30) (ha : a.toNat ≤ 256) (hb : b.toNat ≤ 192) (c : Nat) (hc : c + 128 ≤ 512)
    (s : FVec F S8x128 .f32) : m (FVec F S64x128 .fp8e4m3 × FVec F S8x128 .f32) := do
  let y ← o.ldS (row j a b) c (row_le hj ha hb) hc
  let m8 ← o.ldM8Row c hc
  pure (pcode (prob y m8), sum8 (prob y m8) s)

/-- Two such blocks side by side. -/
def probRow (j a b : BitVec 32) (hj : j.toNat < 30) (ha : a.toNat ≤ 256) (hb : b.toNat ≤ 192) (c c' : Nat)
    (hc : c + 128 ≤ 512) (hc' : c' + 128 ≤ 512) (s : FVec F S8x128 .f32 × FVec F S8x128 .f32) :
    m (FVec F S64x256 .fp8e4m3 × FVec F S8x128 .f32 × FVec F S8x128 .f32) := do
  let p ← probSub o j a b hj ha hb c hc s.1
  let q ← probSub o j a b hj ha hb c' hc' s.2
  pure (beside p.1 q.1, p.2, q.2)

/-- The codes of 256 keys and 256 queries, times the value codes. -/
def probPiece (j a : BitVec 32) (hj : j.toNat < 30) (ha : a.toNat ≤ 256) (c c' : Nat)
    (hc : c + 128 ≤ 512) (hc' : c' + 128 ≤ 512) (s : FVec F S8x128 .f32 × FVec F S8x128 .f32) :
    m (FVec F S160x256 .f32 × FVec F S8x128 .f32 × FVec F S8x128 .f32) := do
  let r0 ← probRow o j a 0#32 hj ha (by decide) c c' hc hc' s
  let r1 ← probRow o j a 64#32 hj ha (by decide) c c' hc hc' r0.2
  let r2 ← probRow o j a 128#32 hj ha (by decide) c c' hc hc' r1.2
  let r3 ← probRow o j a 192#32 hj ha (by decide) c c' hc hc' r2.2
  let v ← o.ldVt (half j a) (half_le hj ha)
  pure (pv v (stack r0.1 r1.1 r2.1 r3.1), r3.2)

/-- The scores of one block of 64 keys and 128 queries. -/
def scoreSub (mk : BitVec 32 → FVec F S64x128 .f32 → FVec F S64x128 .f32)
    (j a a' b b' : BitVec 32) (hj : j.toNat < 30) (ha : a.toNat ≤ 256) (hb : b.toNat ≤ 192) (ha' : a'.toNat ≤ 4) (hb' : b'.toNat ≤ 3)
    (h : Nat) (hh : h < 4) (c : Nat) (hc : c + 128 ≤ 512)
    (y : FVec F S64x128 .f32) (x : FVec F S8x128 .f32) : m (FVec F S8x128 .f32) := do
  let r ← o.ldARow h (arow j a' b') hh (arow_lt hj ha' hb')
  let _ ← o.ldS (row j a b) c (row_le hj ha hb) hc
  o.stS (row j a b) c (row_le hj ha hb) hc
    (shapeCast S64x128 (mk (Scalar.addi (Scalar.addi (Scalar.muli j 512#32) a) b) (scaled y r)) shapeCasts_S64x128_S64x128)
  pure (max8 (mk (Scalar.addi (Scalar.addi (Scalar.muli j 512#32) a) b) (scaled y r)) x)

/-- The scores of 256 keys and 256 queries. -/
def scorePiece (mk : BitVec 32 → FVec F S64x128 .f32 → FVec F S64x128 .f32)
    (j a a' : BitVec 32) (hj : j.toNat < 30) (ha : a.toNat ≤ 256) (ha' : a'.toNat ≤ 4)
    (h h' : Nat) (hh : h < 4) (hh' : h' < 4) (c c' : Nat) (hc : c + 128 ≤ 512) (hc' : c' + 128 ≤ 512) (hcc : c + 256 ≤ 512)
    (x : FVec F S8x128 .f32 × FVec F S8x128 .f32) : m (FVec F S8x128 .f32 × FVec F S8x128 .f32) := do
  let k ← o.ldKp (half j a) (half_le hj ha)
  let q ← o.ldQt2 c hcc
  let x0 ← scoreSub o mk j a a' 0#32 0#32 hj ha (by decide) ha' (by decide) h hh c hc
    (extractStridedSlice S64x128 ![0, 0] (kq k q) slices_S256x256_o0_0_S64x128) x.1
  let y0 ← scoreSub o mk j a a' 0#32 0#32 hj ha (by decide) ha' (by decide) h' hh' c' hc'
    (extractStridedSlice S64x128 ![0, 128] (kq k q) slices_S256x256_o0_128_S64x128) x.2
  let x1 ← scoreSub o mk j a a' 64#32 1#32 hj ha (by decide) ha' (by decide) h hh c hc
    (extractStridedSlice S64x128 ![64, 0] (kq k q) slices_S256x256_o64_0_S64x128) x0
  let y1 ← scoreSub o mk j a a' 64#32 1#32 hj ha (by decide) ha' (by decide) h' hh' c' hc'
    (extractStridedSlice S64x128 ![64, 128] (kq k q) slices_S256x256_o64_128_S64x128) y0
  let x2 ← scoreSub o mk j a a' 128#32 2#32 hj ha (by decide) ha' (by decide) h hh c hc
    (extractStridedSlice S64x128 ![128, 0] (kq k q) slices_S256x256_o128_0_S64x128) x1
  let y2 ← scoreSub o mk j a a' 128#32 2#32 hj ha (by decide) ha' (by decide) h' hh' c' hc'
    (extractStridedSlice S64x128 ![128, 128] (kq k q) slices_S256x256_o128_128_S64x128) y1
  let x3 ← scoreSub o mk j a a' 192#32 3#32 hj ha (by decide) ha' (by decide) h hh c hc
    (extractStridedSlice S64x128 ![192, 0] (kq k q) slices_S256x256_o192_0_S64x128) x2
  let y3 ← scoreSub o mk j a a' 192#32 3#32 hj ha (by decide) ha' (by decide) h' hh' c' hc'
    (extractStridedSlice S64x128 ![192, 128] (kq k q) slices_S256x256_o192_128_S64x128) y2
  pure (x3, y3)

/-- Four vectors of 8 × 128, one for each block of 128 columns. -/
abbrev Quad (F : FTy → Type) := FVec F S8x128 .f32 × FVec F S8x128 .f32 × FVec F S8x128 .f32 × FVec F S8x128 .f32
/-- Eight: the running maxima and the running sums. -/
abbrev Oct (F : FTy → Type) := FVec F S8x128 .f32 × FVec F S8x128 .f32 × FVec F S8x128 .f32 × FVec F S8x128 .f32 ×
  FVec F S8x128 .f32 × FVec F S8x128 .f32 × FVec F S8x128 .f32 × FVec F S8x128 .f32

/-- A chunk's products added to the accumulator. -/
def accAdd (g0 g1 : FVec F S160x256 .f32) : m PUnit := do
  let a ← o.ldAcc2 0 (by decide)
  let _ ← o.ldAcc2 0 (by decide)
  o.stAcc2 0 (by decide) (shapeCast S160x256 (addf a g0) shapeCasts_S160x256_S160x256)
  let b ← o.ldAcc2 256 (by decide)
  let _ ← o.ldAcc2 256 (by decide)
  o.stAcc2 256 (by decide) (shapeCast S160x256 (addf b g1) shapeCasts_S160x256_S160x256)

/-- A chunk: probabilities of the previous block of queries, scores of the current one. -/
def chunkBoth (mk : BitVec 32 → FVec F S64x128 .f32 → FVec F S64x128 .f32) (j : BitVec 32) (hj : j.toNat < 30)
    (x : Oct F) : m (Oct F) := do
  let p0 ← probPiece o j 0#32 hj (by decide) 0 128 (by decide) (by decide) (x.2.2.2.2.1, x.2.2.2.2.2.1)
  let m0 ← scorePiece o mk j 0#32 0#32 hj (by decide) (by decide) 0 1 (by decide) (by decide) 0 128 (by decide) (by decide) (by decide)
    (x.1, x.2.1)
  let p1 ← probPiece o j 0#32 hj (by decide) 256 384 (by decide) (by decide) (x.2.2.2.2.2.2.1, x.2.2.2.2.2.2.2)
  let m1 ← scorePiece o mk j 0#32 0#32 hj (by decide) (by decide) 2 3 (by decide) (by decide) 256 384 (by decide) (by decide) (by decide)
    (x.2.2.1, x.2.2.2.1)
  let p2 ← probPiece o j 256#32 hj (by decide) 0 128 (by decide) (by decide) p0.2
  let m2 ← scorePiece o mk j 256#32 4#32 hj (by decide) (by decide) 0 1 (by decide) (by decide) 0 128 (by decide) (by decide) (by decide) m0
  let p3 ← probPiece o j 256#32 hj (by decide) 256 384 (by decide) (by decide) p1.2
  let m3 ← scorePiece o mk j 256#32 4#32 hj (by decide) (by decide) 2 3 (by decide) (by decide) 256 384 (by decide) (by decide) (by decide) m1
  accAdd o (addf p0.1 p2.1) (addf p1.1 p3.1)
  pure (m2.1, m2.2, m3.1, m3.2, p2.2.1, p2.2.2, p3.2.1, p3.2.2)

/-- A chunk of scores alone; -/
def chunkScore (mk : BitVec 32 → FVec F S64x128 .f32 → FVec F S64x128 .f32) (j : BitVec 32) (hj : j.toNat < 30)
    (x : Oct F) : m (Oct F) := do
  let m0 ← scorePiece o mk j 0#32 0#32 hj (by decide) (by decide) 0 1 (by decide) (by decide) 0 128 (by decide) (by decide) (by decide)
    (x.1, x.2.1)
  let m1 ← scorePiece o mk j 0#32 0#32 hj (by decide) (by decide) 2 3 (by decide) (by decide) 256 384 (by decide) (by decide) (by decide)
    (x.2.2.1, x.2.2.2.1)
  let m2 ← scorePiece o mk j 256#32 4#32 hj (by decide) (by decide) 0 1 (by decide) (by decide) 0 128 (by decide) (by decide) (by decide) m0
  let m3 ← scorePiece o mk j 256#32 4#32 hj (by decide) (by decide) 2 3 (by decide) (by decide) 256 384 (by decide) (by decide) (by decide) m1
  pure (m2.1, m2.2, m3.1, m3.2, x.2.2.2.2.1, x.2.2.2.2.2.1, x.2.2.2.2.2.2.1, x.2.2.2.2.2.2.2)

/-- of probabilities alone. -/
def chunkProb (j : BitVec 32) (hj : j.toNat < 30) (x : Quad F) : m (Quad F) := do
  let p0 ← probPiece o j 0#32 hj (by decide) 0 128 (by decide) (by decide) (x.1, x.2.1)
  let p1 ← probPiece o j 0#32 hj (by decide) 256 384 (by decide) (by decide) (x.2.2.1, x.2.2.2)
  let p2 ← probPiece o j 256#32 hj (by decide) 0 128 (by decide) (by decide) p0.2
  let p3 ← probPiece o j 256#32 hj (by decide) 256 384 (by decide) (by decide) p1.2
  accAdd o (addf p0.1 p2.1) (addf p1.1 p3.1)
  pure (p2.2.1, p2.2.2, p3.2.1, p3.2.2)

/-! ## The queries -/

/-- One step of the search for the exponent's bits. -/
def bitStep (t : FVec F S1x1 .f32) (k : BitVec 32) (b : IVec S1x1 32) : IVec S1x1 32 :=
  select (cmpf .olt t (bitcastToFloat .f32 (addi b (broadcast S1x1 k)) : FVec F S1x1 .f32)) b (addi b (broadcast S1x1 k))

/-- The bits of `t` with the mantissa cleared; -/
def expBits (t : FVec F S1x1 .f32) : IVec S1x1 32 :=
  bitStep t 8388608#32 (bitStep t 16777216#32 (bitStep t 33554432#32 (bitStep t 67108864#32 (bitStep t 134217728#32
    (bitStep t 268435456#32 (bitStep t 536870912#32 (bitStep t 1073741824#32 (broadcast S1x1 0#32))))))))

/-- the exponent; -/
def expo (t : FVec F S1x1 .f32) : IVec S1x1 32 :=
  select (cmpi .slt (expBits t) (broadcast S1x1 8388608#32)) (broadcast S1x1 0#32)
    (subi (shrsi (expBits t) (broadcast S1x1 23#32)) (broadcast S1x1 126#32))

/-- the scale; -/
def scaleOf (t : FVec F S1x1 .f32) : FVec F S1x1 .f32 :=
  bitcastToFloat .f32 (shli (addi (expo t) (broadcast S1x1 127#32)) (broadcast S1x1 23#32))

/-- its inverse. -/
def invOf (t : FVec F S1x1 .f32) : FVec F S1x1 .f32 :=
  bitcastToFloat .f32 (shli (subi (broadcast S1x1 127#32) (expo t)) (broadcast S1x1 23#32))

/-- The matrix that takes lane `d + off` to row `d`, for the 160 lanes of a head. -/
def headSel (off : BitVec 32) : FVec F S256x256 .bf16 :=
  truncf .bf16 (select (andi (cmpi .eq (iota .tc S256x256 32 [1] iota_S256x256_d1_w32)
      (addi (iota .tc S256x256 32 [0] iota_S256x256_d0_w32) (broadcast S256x256 off)))
      (cmpi .slt (iota .tc S256x256 32 [0] iota_S256x256_d0_w32) (broadcast S256x256 160#32)))
    (broadcast S256x256 (Scalar.ofBits .f32 0x3F800000#32)) (broadcast S256x256 (Scalar.ofBits .f32 0x00000000#32)) : FVec F S256x256 .f32)
    bitsLt_bf16_f32

/-- A head's queries, transposed. -/
def headT (off : BitVec 32) (w : FVec F S128x256 .bf16) : FVec F S256x128 .f32 :=
  matmul dot_S256x256_S128x256_S256x128_1_1_0_0_n_n none (headSel off) w (constant S256x128 .f32 0x00000000#32)

/-- The largest magnitude over 448. -/
def absT (q : FVec F S256x128 .f32) : FVec F S1x1 .f32 :=
  mulf (shapeCast S1x1 (multiReduction .maximumf [1] S1
      (shapeCast S1x128 (multiReduction .maximumf [0] S128 (absf q) 0xFF800000#32 reduces_S256x128_S128 (.inl rfl) rfl : FVec F S128 .f32)
        shapeCasts_S128_S1x128 : FVec F S1x128 .f32) 0xFF800000#32 reduces_S1x128_S1 (.inl rfl) rfl : FVec F S1 .f32) shapeCasts_S1_S1x1)
    (broadcast S1x1 (Scalar.ofBits .f32 0x3B124925#32))

/-- The head's codes. -/
def codeT (q : FVec F S256x128 .f32) (i : FVec F S1x1 .f32) : FVec F S256x128 .fp8e4m3 :=
  truncf .fp8e4m3 (minimumf (broadcast S256x128 (Scalar.ofBits .f32 0x43E00000#32))
    (maximumf (broadcast S256x128 (Scalar.ofBits .f32 0xC3E00000#32))
      (mulf q (broadcastTo S256x128 i broadcasts_S1x1_S256x128)))) bitsLt_fp8e4m3_f32

/-- The inverse scales of the lanes, with those of head lanes `lo` to `hi` put in. -/
def laneInv (lo hi : BitVec 32) (i : FVec F S1x1 .f32) (l : FVec F S1x640 .f32) : FVec F S1x640 .f32 :=
  select (andi (cmpi .sge (iota .tc S1x640 32 [1] iota_S1x640_d1_w32) (broadcast S1x640 lo))
      (cmpi .slt (iota .tc S1x640 32 [1] iota_S1x640_d1_w32) (broadcast S1x640 hi)))
    (broadcastTo S1x640 (shapeCast S1x1 i shapeCasts_S1x1_S1x1 : FVec F S1x1 .f32) broadcasts_S1x1_S1x640) l

/-- A head of the block of queries `q`: its codes, its scale, its key scales. -/
def quantHead (h : Nat) (hh : h < 4) (c : Nat) (hc : c = 0 ∨ c = 128 ∨ c = 256 ∨ c = 384) (ksl : FVec F S240x128 .f32) (q : FVec F S256x128 .f32) :
    m PUnit := do
  let _ ← o.ldQt1 c hc
  o.stQt1 c hc (shapeCast S256x128 (codeT q (invOf (absT q))) shapeCasts_S256x128_S256x128)
  let _ ← o.ldQs h hh
  o.stQs h hh (shapeCast S1x1x1x128 (broadcastTo S1x128 (shapeCast S1x1 (scaleOf (absT q)) shapeCasts_S1x1_S1x1 : FVec F S1x1 .f32)
    broadcasts_S1x1_S1x128 : FVec F S1x128 .f32) shapeCasts_S1x128_S1x1x1x128)
  let _ ← o.ldA h hh
  o.stA h hh (shapeCast S1x240x128 (mulf ksl (broadcastTo S240x128
    (mulf (scaleOf (absT q)) (broadcast S1x1 (Scalar.ofBits .f32 0x3DE995B3#32))) broadcasts_S1x1_S240x128))
    shapeCasts_S240x128_S1x240x128)

/-- The four heads' rows of a block of queries. -/
def qT0 (x : FVec F S128x640 .bf16) : FVec F S256x128 .f32 :=
  headT 0#32 (extractStridedSlice S128x256 ![0, 0] x slices_S128x640_o0_0_S128x256)
def qT1 (x : FVec F S128x640 .bf16) : FVec F S256x128 .f32 :=
  headT 32#32 (extractStridedSlice S128x256 ![0, 128] x slices_S128x640_o0_128_S128x256)
def qT2 (x : FVec F S128x640 .bf16) : FVec F S256x128 .f32 :=
  headT 64#32 (extractStridedSlice S128x256 ![0, 256] x slices_S128x640_o0_256_S128x256)
def qT3 (x : FVec F S128x640 .bf16) : FVec F S256x128 .f32 :=
  headT 96#32 (extractStridedSlice S128x256 ![0, 384] x slices_S128x640_o0_384_S128x256)

/-- The lanes' inverse scales of the whole block. -/
def lanesOf (x : FVec F S128x640 .bf16) : FVec F S1x640 .f32 :=
  laneInv 480#32 640#32 (invOf (absT (qT3 x))) (laneInv 320#32 480#32 (invOf (absT (qT2 x)))
    (laneInv 160#32 320#32 (invOf (absT (qT1 x))) (laneInv 0#32 160#32 (invOf (absT (qT0 x)))
      (broadcast S1x640 (Scalar.ofBits .f32 0x3F800000#32)))))

/-- The block's codes. -/
def blockCodes (x : FVec F S128x640 .bf16) : FVec F S128x640 .fp8e4m3 :=
  truncf .fp8e4m3 (minimumf (broadcast S128x640 (Scalar.ofBits .f32 0x43E00000#32))
    (maximumf (broadcast S128x640 (Scalar.ofBits .f32 0xC3E00000#32))
      (mulf (extf .f32 x bitsLt_bf16_f32) (broadcastTo S128x640 (lanesOf x) broadcasts_S1x640_S128x640)))) bitsLt_fp8e4m3_f32

/-- The quantisation of the block of queries. -/
def quantise : m PUnit := do
  let x' ← o.ldX
  let k' ← o.ldKsl
  let x : FVec F S128x640 .bf16 := shapeCast S128x640 x' shapeCasts_S1x128x640_S128x640
  let ksl : FVec F S240x128 .f32 := shapeCast S240x128 k' shapeCasts_S1x1x240x128_S240x128
  quantHead o 0 (by decide) 0 (by decide) ksl (qT0 x)
  quantHead o 1 (by decide) 128 (by decide) ksl (qT1 x)
  quantHead o 2 (by decide) 256 (by decide) ksl (qT2 x)
  quantHead o 3 (by decide) 384 (by decide) ksl (qT3 x)
  let _ ← o.ldQc
  o.stQc (shapeCast S1x128x640 (blockCodes x) shapeCasts_S128x640_S1x128x640)

/-! ## The results -/

/-- A head's result from its accumulator, the value scales and its sums. -/
def normal (a : Vec F S160x128 .f32) (v : Vec F S1x1x160x128 .f32) (s : FVec F S8x128 .f32) : FVec F S160x128 .bf16 :=
  truncf .bf16 (divf (mulf (a : FVec F S160x128 .f32) (shapeCast S160x128 v shapeCasts_S1x1x160x128_S160x128 : FVec F S160x128 .f32))
    (broadcastTo S160x128 (shapeCast S1x128 (multiReduction .add [0] S128 s 0x00000000#32 reduces_S8x128_S128 (.inl rfl) rfl : FVec F S128 .f32)
      shapeCasts_S128_S1x128 : FVec F S1x128 .f32) broadcasts_S1x128_S160x128)) bitsLt_bf16_f32

/-- The four heads' results, transposed. -/
def joined (a b c d : FVec F S160x128 .bf16) : FVec F S128x640 .bf16 :=
  transpose S128x640 [1, 0] (concatenate S640x128 0 [⟨S160x128, a⟩, ⟨S160x128, b⟩, ⟨S160x128, c⟩, ⟨S160x128, d⟩]
    concatenates_S160x128_S160x128_S160x128_S160x128_S640x128_d0) transposes_S640x128_p1_0_S128x640

/-- The previous block's results written out. -/
def finishPrev (s0 s1 s2 s3 : FVec F S8x128 .f32) : m PUnit := do
  let a0 ← o.ldAcc1 0 (by decide)
  let v0 ← o.ldVs
  let a1 ← o.ldAcc1 128 (by decide)
  let v1 ← o.ldVs
  let a2 ← o.ldAcc1 256 (by decide)
  let v2 ← o.ldVs
  let a3 ← o.ldAcc1 384 (by decide)
  let v3 ← o.ldVs
  let _ ← o.ldOut
  o.stOut (shapeCast S1x128x640 (joined (normal a0 v0 s0) (normal a1 v1 s1) (normal a2 v2 s2) (normal a3 v3 s3))
    shapeCasts_S128x640_S1x128x640)

/-- The reference point of a head's probabilities: its maximum less 8. -/
def less8 (x : FVec F S8x128 .f32) : FVec F S8x128 .f32 :=
  broadcastTo S8x128 (shapeCast S1x128 (subf (shapeCast S1x128 (multiReduction .maximumf [0] S128 x 0xFF800000#32
    reduces_S8x128_S128 (.inl rfl) rfl : FVec F S128 .f32) shapeCasts_S128_S1x128 : FVec F S1x128 .f32)
    (broadcast S1x128 (Scalar.ofBits .f32 0x41000000#32))) shapeCasts_S1x128_S1x128 : FVec F S1x128 .f32) broadcasts_S1x128_S8x128

/-- A head's maximum kept for the next point. -/
def keepMax (c : Nat) (hc : c + 128 ≤ 512) (x : FVec F S8x128 .f32) : m PUnit := do
  let _ ← o.ldM8 c hc
  o.stM8 c hc (shapeCast S8x128 (less8 x) shapeCasts_S8x128_S8x128)

/-! ## The body -/

/-- The number of chunks of the block before point `b` of the queries' axis; -/
def nPrev (b : BitVec 32) : BitVec 32 :=
  let e := Scalar.subi (Scalar.addi (Scalar.muli b 128#32) 512#32) 1#32
  Scalar.select (Scalar.andi (Scalar.cmpi .ne (Scalar.subi (Scalar.extui (Scalar.cmpi .sgt e 0#32)) (Scalar.extui (Scalar.cmpi .slt e 0#32)))
      (Scalar.subi (Scalar.extui (Scalar.cmpi .sgt 512#32 0#32)) (Scalar.extui (Scalar.cmpi .slt 512#32 0#32))) : BitVec 1)
      (Scalar.cmpi .ne (Scalar.remsi e 512#32) 0#32))
    (Scalar.subi (Scalar.divsi e 512#32) 1#32) (Scalar.divsi e 512#32)

/-- of the block at the point. -/
def nCur (b : BitVec 32) : BitVec 32 := nPrev (Scalar.addi b 1#32)

/-- The point on the queries' axis. -/
def pt (i : grid0.Coords) : BitVec 32 := BitVec.ofNat 32 (i 1).val

theorem nPrev_eq : ∀ n : Fin 122, nPrev (BitVec.ofNat 32 n.val) = BitVec.ofNat 32 ((n.val + 3) / 4) := by decide +kernel
theorem nCur_eq (n : Fin 121) : nCur (BitVec.ofNat 32 n.val) = BitVec.ofNat 32 ((n.val + 4) / 4) := by
  have h := nPrev_eq ⟨n.val + 1, by omega⟩
  have e : Scalar.addi (BitVec.ofNat 32 n.val) 1#32 = BitVec.ofNat 32 (n.val + 1) := by
    show BitVec.ofNat 32 n.val + 1#32 = _
    rw [BitVec.ofNat_add]
  rw [nCur, e]; exact h

/-- The last chunk of the point's block. -/
def lastOf (i : grid0.Coords) : BitVec 32 := Scalar.subi (nCur (pt i)) 1#32

theorem cond1_iff : ∀ n : Fin 121, (Scalar.cmpi .ne (Scalar.extui (Scalar.cmpi .slt (BitVec.ofNat 32 n.val) 120#32) : BitVec 32) 0#32 = 1#1) ↔
    n.val < 120 := by decide +kernel

theorem k0_cond1_iff (i : grid0.Coords) : k0_cond1 i = 1#1 ↔ (i 1).val < 120 := cond1_iff (i 1)

theorem ofNat_toNat_small {n : Nat} (h : n < 4294967296) : (BitVec.ofNat 32 n).toNat = n := by
  rw [BitVec.toNat_ofNat]; exact Nat.mod_eq_of_lt h

theorem last_lt (i : grid0.Coords) (h : k0_cond1 i = 1#1) : (lastOf i).toNat < 30 := by
  have h' := (k0_cond1_iff i).1 h
  rw [lastOf, pt, nCur_eq (i 1)]
  show (BitVec.ofNat 32 _ - 1#32).toNat < 30
  rw [BitVec.toNat_sub, ofNat_toNat_small (by omega), ofNat_toNat_small (by omega)]
  omega

/-- The loops' bounds. -/
theorem t1_loop_eq (i : grid0.Coords) : k0_t1_loop i = ⟨0#32, Scalar.addi 0#32 (Scalar.muli (Scalar.divsi (Scalar.subi (lastOf i) 0#32) 1#32) 1#32), 1#32⟩ := rfl

theorem trips1 : ∀ n : Fin 121, Scf.trips 0#32 (Scalar.addi 0#32 (Scalar.muli (Scalar.divsi (Scalar.subi (Scalar.subi (nCur (BitVec.ofNat 32 n.val)) 1#32) 0#32) 1#32) 1#32)) 1#32
    = n.val / 4 := by decide +kernel

theorem t1_trips (i : grid0.Coords) : (k0_t1_loop i).trips = (i 1).val / 4 := trips1 (i 1)

theorem trips2 : ∀ n : Fin 121, Scf.trips (Scalar.addi 0#32 (Scalar.muli (Scalar.divsi (Scalar.subi (Scalar.subi (nCur (BitVec.ofNat 32 n.val)) 1#32) 0#32) 1#32) 1#32))
    (Scalar.addi 0#32 (Scalar.subi (Scalar.subi (nCur (BitVec.ofNat 32 n.val)) 1#32) 0#32)) 1#32 = 0 := by decide +kernel

theorem t2_trips (i : grid0.Coords) : (k0_t2_loop i).trips = 0 := trips2 (i 1)

theorem trips3 : ∀ n : Fin 121, Scf.trips 0#32 (Scalar.addi 0#32 (Scalar.muli (Scalar.divsi (Scalar.subi (nPrev (BitVec.ofNat 32 n.val)) 0#32) 1#32) 1#32)) 1#32
    = (n.val + 3) / 4 := by decide +kernel

theorem t3_trips (i : grid0.Coords) : (k0_t3_loop i).trips = ((i 1).val + 3) / 4 := trips3 (i 1)

theorem trips4 : ∀ n : Fin 121, Scf.trips (Scalar.addi 0#32 (Scalar.muli (Scalar.divsi (Scalar.subi (nPrev (BitVec.ofNat 32 n.val)) 0#32) 1#32) 1#32))
    (Scalar.addi 0#32 (Scalar.subi (nPrev (BitVec.ofNat 32 n.val)) 0#32)) 1#32 = 0 := by decide +kernel

theorem t4_trips (i : grid0.Coords) : (k0_t4_loop i).trips = 0 := trips4 (i 1)

theorem iv_small (k : Nat) (h : k < 30) : (Scf.iv 0#32 1#32 k).toNat = k := by
  show ((0#32 : BitVec 32) + BitVec.ofNat 32 k * 1#32).toNat = k
  rw [BitVec.zero_add, BitVec.mul_one, ofNat_toNat_small (by omega)]

theorem lt_of_t {a b : Nat} (e : a = b) (hb : b ≤ 30) (k : Fin a) : k.val < 30 := by have := k.2; omega

theorem iv1_lt (i : grid0.Coords) (k : Fin (k0_t1_loop i).trips) : (Scf.iv 0#32 1#32 k.val).toNat < 30 := by
  have h : k.val < 30 := lt_of_t (t1_trips i) (by have : (i 1).val < 121 := (i 1).2; omega) k
  rw [iv_small _ h]; exact h
theorem iv3_lt (i : grid0.Coords) (k : Fin (k0_t3_loop i).trips) : (Scf.iv 0#32 1#32 k.val).toNat < 30 := by
  have h : k.val < 30 := lt_of_t (t3_trips i) (by have : (i 1).val < 121 := (i 1).2; omega) k
  rw [iv_small _ h]; exact h
theorem no_trip {a : Nat} (e : a = 0) (k : Fin a) {p : Prop} : p := by have := k.2; omega

/-- Zeros and bottoms to start from. -/
def zero8 : FVec F S8x128 .f32 := broadcast S8x128 (Scalar.ofBits .f32 0x00000000#32)
def bot8 : FVec F S8x128 .f32 := broadcast S8x128 (Scalar.ofBits .f32 0xFF800000#32)

/-- The mask of the last chunk. -/
def mkLast (i : grid0.Coords) : BitVec 32 → FVec F S64x128 .f32 → FVec F S64x128 .f32 := causal (Scalar.muli (pt i) 128#32)

/-- The scores of the point's block and the probabilities of the block before: the eight running vectors, one by one (with
    the printed program's zero). -/
def scores (i : grid0.Coords) (h1 : k0_cond1 i = 1#1) :
    m (Σ' (_ : FVec F S8x128 .f32) (_ : FVec F S8x128 .f32) (_ : FVec F S8x128 .f32) (_ : FVec F S8x128 .f32)
      (_ : FVec F S8x128 .f32) (_ : FVec F S8x128 .f32) (_ : FVec F S8x128 .f32) (_ : FVec F S8x128 .f32), BitVec 32) := do
  let x ← o.loop (k0_t1_loop i) (k0_t1_ok i h1) ((bot8, bot8, bot8, bot8, zero8, zero8, zero8, zero8) : Oct F) fun k x =>
    chunkBoth o (fun _ y => y) (Scf.iv 0#32 1#32 k.val) (iv1_lt i k) x
  let y ← o.loop (k0_t2_loop i) (k0_t2_ok i h1) x fun k x =>
    chunkBoth o (fun _ y => y) (Scf.iv (Scalar.addi 0#32 (Scalar.muli (Scalar.divsi (Scalar.subi (lastOf i) 0#32) 1#32) 1#32)) 1#32 k.val)
      (no_trip (t2_trips i) k) x
  let z ← if h2 : k0_cond2 i = 1#1 then chunkBoth o (mkLast i) (lastOf i) (last_lt i h1) y
    else chunkScore o (mkLast i) (lastOf i) (last_lt i h1) y
  pure ⟨z.1, z.2.1, z.2.2.1, z.2.2.2.1, z.2.2.2.2.1, z.2.2.2.2.2.1, z.2.2.2.2.2.2.1, z.2.2.2.2.2.2.2, 0#32⟩

/-- The block before written out, the maxima of the point's block kept; the fourth head's is returned. -/
def closing (i : grid0.Coords) (x0 x1 x2 x3 s0 s1 s2 s3 : FVec F S8x128 .f32) : m (FVec F S8x128 .f32) := do
  if h3 : k0_cond3 i = 1#1 then finishPrev o s0 s1 s2 s3 else pure ⟨⟩
  keepMax o 0 (by decide) x0
  keepMax o 128 (by decide) x1
  keepMax o 256 (by decide) x2
  let _ ← o.ldM8 384 (by decide)
  pure (shapeCast S8x128 (less8 x3) shapeCasts_S8x128_S8x128)

/-- The last block's probabilities, and three heads' results. -/
def lastProbs (i : grid0.Coords) (h4 : k0_cond4 i = 1#1) :
    m (Σ' (_ : FVec F S8x128 .f32) (_ : FVec F S160x128 .bf16) (_ : FVec F S160x128 .bf16), FVec F S160x128 .bf16) := do
  let x ← o.loop (k0_t3_loop i) (k0_t3_ok i h4) ((zero8, zero8, zero8, zero8) : Quad F) fun k x =>
    chunkProb o (Scf.iv 0#32 1#32 k.val) (iv3_lt i k) x
  let y ← o.loop (k0_t4_loop i) (k0_t4_ok i h4) x fun k x =>
    chunkProb o (Scf.iv (Scalar.addi 0#32 (Scalar.muli (Scalar.divsi (Scalar.subi (nPrev (pt i)) 0#32) 1#32) 1#32)) 1#32 k.val)
      (no_trip (t4_trips i) k) x
  let a0 ← o.ldAcc1 0 (by decide)
  let v0 ← o.ldVs
  let a1 ← o.ldAcc1 128 (by decide)
  let v1 ← o.ldVs
  let a2 ← o.ldAcc1 256 (by decide)
  let v2 ← o.ldVs
  pure ⟨y.2.2.2, normal a0 v0 y.1, normal a1 v1 y.2.1, normal a2 v2 y.2.2.1⟩

/-- The body at a grid point. -/
def body (i : grid0.Coords) : m PUnit := do
  let _ ← o.ldAcc
  o.stAcc (shapeCast S160x512 (broadcast S160x512 (Scalar.ofBits .f32 0x00000000#32) : FVec F S160x512 .f32) shapeCasts_S160x512_S160x512)
  if h1 : k0_cond1 i = 1#1 then
    quantise o
    let z ← scores o i h1
    let w ← closing o i z.1 z.2.1 z.2.2.1 z.2.2.2.1 z.2.2.2.2.1 z.2.2.2.2.2.1 z.2.2.2.2.2.2.1 z.2.2.2.2.2.2.2.1
    o.stM8 384 (by decide) w
  else pure ⟨⟩
  if h4 : k0_cond4 i = 1#1 then
    let z ← lastProbs o i h4
    let a3 ← o.ldAcc1 384 (by decide)
    let v3 ← o.ldVs
    let _ ← o.ldOut
    o.stOut (shapeCast S1x128x640 (joined z.2.1 z.2.2.1 z.2.2.2 (normal a3 v3 z.1)) shapeCasts_S128x640_S1x128x640)
  else pure ⟨⟩

end Cert.Kernel.Hand
-- ==== Proof.Bits.Same.lean ====
/-
  The printed attention body is the compact text (Text.lean) read in the machine's programs.
-/
module

public import proofs.«01_k».proof.Proof.Bits.Text

@[expose] public section

noncomputable section

namespace Cert.Kernel.Hand

open Cert.Kernel
open Idealize.ShloMosaic Idealize.SL.Sem

variable {F : FTy → Type} [FloatOps F]

/-- The body's operands: five inputs, three results, five scratch buffers, each a whole buffer. -/
structure Refs where
  x : Memref sig .tc .vmem S1x128x640 .bf16
  hx : x.IsWhole
  kp : Memref sig .tc .vmem S1x1x15360x256 .fp8e4m3
  hkp : kp.IsWhole
  vt : Memref sig .tc .vmem S1x1x160x15360 .fp8e4m3
  hvt : vt.IsWhole
  ksl : Memref sig .tc .vmem S1x1x240x128 .f32
  hksl : ksl.IsWhole
  vs : Memref sig .tc .vmem S1x1x160x128 .f32
  hvs : vs.IsWhole
  out : Memref sig .tc .vmem S1x128x640 .bf16
  hout : out.IsWhole
  qc : Memref sig .tc .vmem S1x128x640 .fp8e4m3
  hqc : qc.IsWhole
  qs : Memref sig .tc .vmem S1x1x4x128 .f32
  hqs : qs.IsWhole
  s : Memref sig .tc .vmem S15360x512 .f32
  hs : s.IsWhole
  qt : Memref sig .tc .vmem S256x512 .fp8e4m3
  hqt : qt.IsWhole
  a : Memref sig .tc .vmem S4x240x128 .f32
  ha : a.IsWhole
  m8 : Memref sig .tc .vmem S8x512 .f32
  hm8 : m8.IsWhole
  acc : Memref sig .tc .vmem S160x512 .f32
  hacc : acc.IsWhole

/-! ## Every access is inside its buffer -/

theorem inS (r c : Nat) (h : r + 64 ≤ 15360) (hc : c + 128 ≤ 512) :
    ∀ a, (![r, c] : Fin 2 → Nat) a + S64x128.size a ≤ S15360x512.size a := Fin.forall_fin_two.2 ⟨h, hc⟩
theorem inKp (r : Nat) (h : r + 256 ≤ 15360) :
    ∀ a, (![0, 0, r, 0] : Fin 4 → Nat) a + S1x1x256x256.size a ≤ S1x1x15360x256.size a
  | 0 => Nat.le_refl _ | 1 => Nat.le_refl _ | 2 => h | 3 => Nat.le_refl _
theorem inVt (r : Nat) (h : r + 256 ≤ 15360) :
    ∀ a, (![0, 0, 0, r] : Fin 4 → Nat) a + S1x1x160x256.size a ≤ S1x1x160x15360.size a
  | 0 => Nat.le_refl _ | 1 => Nat.le_refl _ | 2 => Nat.le_refl _ | 3 => h
theorem inQs (h : Nat) (hh : h < 4) :
    ∀ a, (![0, 0, h, 0] : Fin 4 → Nat) a + S1x1x1x128.size a ≤ S1x1x4x128.size a
  | 0 => Nat.le_refl _ | 1 => Nat.le_refl _ | 2 => hh | 3 => Nat.le_refl _
theorem inQt1 (c : Nat) (hc : c = 0 ∨ c = 128 ∨ c = 256 ∨ c = 384) :
    ∀ a, (![0, c] : Fin 2 → Nat) a + S256x128.size a ≤ S256x512.size a :=
  Fin.forall_fin_two.2 ⟨Nat.le_refl _, by show c + 128 ≤ 512; omega⟩
theorem inQt2 (c : Nat) (hc : c + 256 ≤ 512) :
    ∀ a, (![0, c] : Fin 2 → Nat) a + S256x256.size a ≤ S256x512.size a := Fin.forall_fin_two.2 ⟨Nat.le_refl _, hc⟩
theorem inA (h : Nat) (hh : h < 4) :
    ∀ a, (![h, 0, 0] : Fin 3 → Nat) a + S1x240x128.size a ≤ S4x240x128.size a
  | 0 => hh | 1 => Nat.le_refl _ | 2 => Nat.le_refl _
theorem inARow (h r : Nat) (hh : h < 4) (hr : r < 240) :
    ∀ a, (![h, r, 0] : Fin 3 → Nat) a + S1x1x128.size a ≤ S4x240x128.size a
  | 0 => hh | 1 => hr | 2 => Nat.le_refl _
theorem inM8Row (c : Nat) (hc : c + 128 ≤ 512) :
    ∀ a, (![0, c] : Fin 2 → Nat) a + S1x128.size a ≤ S8x512.size a := Fin.forall_fin_two.2 ⟨(by decide : 0 + 1 ≤ 8), hc⟩
theorem inM8 (c : Nat) (hc : c + 128 ≤ 512) :
    ∀ a, (![0, c] : Fin 2 → Nat) a + S8x128.size a ≤ S8x512.size a := Fin.forall_fin_two.2 ⟨Nat.le_refl _, hc⟩
theorem inAcc1 (c : Nat) (hc : c + 128 ≤ 512) :
    ∀ a, (![0, c] : Fin 2 → Nat) a + S160x128.size a ≤ S160x512.size a := Fin.forall_fin_two.2 ⟨Nat.le_refl _, hc⟩
theorem inAcc2 (c : Nat) (hc : c + 256 ≤ 512) :
    ∀ a, (![0, c] : Fin 2 → Nat) a + S160x256.size a ≤ S160x512.size a := Fin.forall_fin_two.2 ⟨Nat.le_refl _, hc⟩

variable [Facts]
open Facts₀ Facts

theorem packedQt (c : Nat) (hc : c = 0 ∨ c = 128 ∨ c = 256 ∨ c = 384) :
    (Rect.unit (s := S256x512) ![0, c] S256x128.size (inQt1 c hc)).PackedRows (EltTy.packing .fp8e4m3) := by
  rcases hc with rfl | rfl | rfl | rfl
  · exact packedfp8e4m3_S256x512_S256x128_0_0
  · exact packedfp8e4m3_S256x512_S256x128_0_128
  · exact packedfp8e4m3_S256x512_S256x128_0_256
  · exact packedfp8e4m3_S256x512_S256x128_0_384

/-- The machine's programs over the kernel's labels. -/
abbrev Pr (F : FTy → Type) := Prog (TpuEff nD τ sig (Elt F) Λ₀ .tc)

/-- The loads and stores as the machine's. -/
def progOps (R : Refs) : Ops F (Pr F) where
  ldX := Prog.lift (.load R.x (Rect.unit (s := S1x128x640) ![0, 0, 0] S1x128x640.size inb_S1x128x640_S1x128x640_0_0_0).toLoadRect (View.loadsAt_vmem h_S1x128x640))
  ldKsl := Prog.lift (.load R.ksl (Rect.unit (s := S1x1x240x128) ![0, 0, 0, 0] S1x1x240x128.size inb_S1x1x240x128_S1x1x240x128_0_0_0_0).toLoadRect (View.loadsAt_vmem h_S1x1x240x128))
  ldVs := Prog.lift (.load R.vs (Rect.unit (s := S1x1x160x128) ![0, 0, 0, 0] S1x1x160x128.size inb_S1x1x160x128_S1x1x160x128_0_0_0_0).toLoadRect (View.loadsAt_vmem h_S1x1x160x128))
  ldKp r h := Prog.lift (.load R.kp (Rect.unit (s := S1x1x15360x256) ![0, 0, r, 0] S1x1x256x256.size (inKp r h)).toLoadRect (View.loadsAt_vmem h_S1x1x256x256))
  ldVt r h := Prog.lift (.load R.vt (Rect.unit (s := S1x1x160x15360) ![0, 0, 0, r] S1x1x160x256.size (inVt r h)).toLoadRect (View.loadsAt_vmem h_S1x1x160x256))
  ldOut := Prog.lift (.load R.out (Rect.unit (s := S1x128x640) ![0, 0, 0] S1x128x640.size inb_S1x128x640_S1x128x640_0_0_0).toLoadRect (View.loadsAt_vmem h_S1x128x640))
  stOut v := Prog.lift (.store R.out (Rect.unit (s := S1x128x640) ![0, 0, 0] S1x128x640.size inb_S1x128x640_S1x128x640_0_0_0) v Finset.univ (View.stores_vmem h_S1x128x640 (R.hout.storeExact_slice rfl _ packedbf16_S1x128x640_S1x128x640_0_0_0) (fun _ => rfl)) (.inl rfl))
  ldQc := Prog.lift (.load R.qc (Rect.unit (s := S1x128x640) ![0, 0, 0] S1x128x640.size inb_S1x128x640_S1x128x640_0_0_0).toLoadRect (View.loadsAt_vmem h_S1x128x640))
  stQc v := Prog.lift (.store R.qc (Rect.unit (s := S1x128x640) ![0, 0, 0] S1x128x640.size inb_S1x128x640_S1x128x640_0_0_0) v Finset.univ (View.stores_vmem h_S1x128x640 (R.hqc.storeExact_slice rfl _ packedfp8e4m3_S1x128x640_S1x128x640_0_0_0) (fun _ => rfl)) (.inl rfl))
  ldQs h hh := Prog.lift (.load R.qs (Rect.unit (s := S1x1x4x128) ![0, 0, h, 0] S1x1x1x128.size (inQs h hh)).toLoadRect (View.loadsAt_vmem h_S1x1x1x128))
  stQs h hh v := Prog.lift (.store R.qs (Rect.unit (s := S1x1x4x128) ![0, 0, h, 0] S1x1x1x128.size (inQs h hh)) v Finset.univ (View.stores_vmem_bits_univ h_S1x1x1x128 rfl) (.inl rfl))
  ldS r c h hc := Prog.lift (.load R.s (Rect.unit (s := S15360x512) ![r, c] S64x128.size (inS r c h hc)).toLoadRect (View.loadsAt_vmem h_S64x128))
  stS r c h hc v := Prog.lift (.store R.s (Rect.unit (s := S15360x512) ![r, c] S64x128.size (inS r c h hc)) v Finset.univ (View.stores_vmem_bits_univ h_S64x128 rfl) (.inl rfl))
  ldQt1 c hc := Prog.lift (.load R.qt (Rect.unit (s := S256x512) ![0, c] S256x128.size (inQt1 c hc)).toLoadRect (View.loadsAt_vmem h_S256x128))
  stQt1 c hc v := Prog.lift (.store R.qt (Rect.unit (s := S256x512) ![0, c] S256x128.size (inQt1 c hc)) v Finset.univ (View.stores_vmem h_S256x128 (R.hqt.storeExact_slice rfl _ (packedQt c hc)) (fun _ => rfl)) (.inl rfl))
  ldQt2 c hc := Prog.lift (.load R.qt (Rect.unit (s := S256x512) ![0, c] S256x256.size (inQt2 c hc)).toLoadRect (View.loadsAt_vmem h_S256x256))
  ldA h hh := Prog.lift (.load R.a (Rect.unit (s := S4x240x128) ![h, 0, 0] S1x240x128.size (inA h hh)).toLoadRect (View.loadsAt_vmem h_S1x240x128))
  stA h hh v := Prog.lift (.store R.a (Rect.unit (s := S4x240x128) ![h, 0, 0] S1x240x128.size (inA h hh)) v Finset.univ (View.stores_vmem_bits_univ h_S1x240x128 rfl) (.inl rfl))
  ldARow h r hh hr := Prog.lift (.load R.a (Rect.unit (s := S4x240x128) ![h, r, 0] S1x1x128.size (inARow h r hh hr)).toLoadRect (View.loadsAt_vmem h_S1x1x128))
  ldM8Row c hc := Prog.lift (.load R.m8 (Rect.unit (s := S8x512) ![0, c] S1x128.size (inM8Row c hc)).toLoadRect (View.loadsAt_vmem h_S1x128))
  ldM8 c hc := Prog.lift (.load R.m8 (Rect.unit (s := S8x512) ![0, c] S8x128.size (inM8 c hc)).toLoadRect (View.loadsAt_vmem h_S8x128))
  stM8 c hc v := Prog.lift (.store R.m8 (Rect.unit (s := S8x512) ![0, c] S8x128.size (inM8 c hc)) v Finset.univ (View.stores_vmem_bits_univ h_S8x128 rfl) (.inl rfl))
  ldAcc := Prog.lift (.load R.acc (Rect.unit (s := S160x512) ![0, 0] S160x512.size inb_S160x512_S160x512_0_0).toLoadRect (View.loadsAt_vmem h_S160x512))
  stAcc v := Prog.lift (.store R.acc (Rect.unit (s := S160x512) ![0, 0] S160x512.size inb_S160x512_S160x512_0_0) v Finset.univ (View.stores_vmem_bits_univ h_S160x512 rfl) (.inl rfl))
  ldAcc1 c hc := Prog.lift (.load R.acc (Rect.unit (s := S160x512) ![0, c] S160x128.size (inAcc1 c hc)).toLoadRect (View.loadsAt_vmem h_S160x128))
  ldAcc2 c hc := Prog.lift (.load R.acc (Rect.unit (s := S160x512) ![0, c] S160x256.size (inAcc2 c hc)).toLoadRect (View.loadsAt_vmem h_S160x256))
  stAcc2 c hc v := Prog.lift (.store R.acc (Rect.unit (s := S160x512) ![0, c] S160x256.size (inAcc2 c hc)) v Finset.univ (View.stores_vmem_bits_univ h_S160x256 rfl) (.inl rfl))
  loop l ok init body := Scf.Loop.for l ok init body

end Cert.Kernel.Hand
-- ==== Proof.Bits.Sem.lean ====
/-
  What the attention body does to its buffers. `St` is the contents of the thirteen buffers; `stOps` reads the compact text
  (Text.lean) as a function on them. `Ref p f` says that the program `p`, run by a core that owns the buffers at some contents,
  returns what `f` returns and leaves the buffers as `f` leaves them; the rules below give it for the loads, the stores,
  sequences and loops.
-/
module

public import proofs.«01_k».proof.Proof.Bits.Same
public import Idealize.ShloMosaic.Lib.Pipeline.Frame
public import Idealize.ShloMosaic.Lib.Tactic

@[expose] public section

noncomputable section

namespace Cert.Kernel.Hand

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The contents of the thirteen buffers, in the order of the operands. -/
structure St (F : FTy → Type) where
  x : Vec F S1x128x640 .bf16
  kp : Vec F S1x1x15360x256 .fp8e4m3
  vt : Vec F S1x1x160x15360 .fp8e4m3
  ksl : Vec F S1x1x240x128 .f32
  vs : Vec F S1x1x160x128 .f32
  out : Vec F S1x128x640 .bf16
  qc : Vec F S1x128x640 .fp8e4m3
  qs : Vec F S1x1x4x128 .f32
  s : Vec F S15360x512 .f32
  qt : Vec F S256x512 .fp8e4m3
  a : Vec F S4x240x128 .f32
  m8 : Vec F S8x512 .f32
  acc : Vec F S160x512 .f32

/-- `X` read at the rectangle; -/
def rd {s : Shape} {α : Type} (r : Rect s) (X : s.Idx → α) : r.shape.Idx → α := fun y => X (r.emb y)
/-- `X` with `w` put at the rectangle. -/
def wr {s : Shape} {α : Type} (r : Rect s) (X : s.Idx → α) (w : r.shape.Idx → α) : s.Idx → α := Function.extend r.emb w X

theorem wr_emb {s : Shape} {α : Type} (r : Rect s) (X : s.Idx → α) (w : r.shape.Idx → α) (y : r.shape.Idx) :
    wr r X w (r.emb y) = w y := r.emb.injective.extend_apply w X y
theorem wr_off {s : Shape} {α : Type} (r : Rect s) (X : s.Idx → α) (w : r.shape.Idx → α) (y : s.Idx)
    (h : ∀ x, r.emb x ≠ y) : wr r X w y = X y := Function.extend_apply' w X y fun ⟨x, hx⟩ => h x hx

section Ops

variable {F : FTy → Type} [FloatOps F] [Facts]
open Facts₀ Facts

/-- The loads and stores as functions on the contents. -/
def stOps : Ops F (StateM (St F)) where
  ldX := fun st => (rd (Rect.unit (s := S1x128x640) ![0, 0, 0] S1x128x640.size inb_S1x128x640_S1x128x640_0_0_0) st.x, st)
  ldKsl := fun st => (rd (Rect.unit (s := S1x1x240x128) ![0, 0, 0, 0] S1x1x240x128.size inb_S1x1x240x128_S1x1x240x128_0_0_0_0) st.ksl, st)
  ldVs := fun st => (rd (Rect.unit (s := S1x1x160x128) ![0, 0, 0, 0] S1x1x160x128.size inb_S1x1x160x128_S1x1x160x128_0_0_0_0) st.vs, st)
  ldKp r h := fun st => (rd (Rect.unit (s := S1x1x15360x256) ![0, 0, r, 0] S1x1x256x256.size (inKp r h)) st.kp, st)
  ldVt r h := fun st => (rd (Rect.unit (s := S1x1x160x15360) ![0, 0, 0, r] S1x1x160x256.size (inVt r h)) st.vt, st)
  ldOut := fun st => (rd (Rect.unit (s := S1x128x640) ![0, 0, 0] S1x128x640.size inb_S1x128x640_S1x128x640_0_0_0) st.out, st)
  stOut v := fun st => (⟨⟩, { st with out := wr (Rect.unit (s := S1x128x640) ![0, 0, 0] S1x128x640.size inb_S1x128x640_S1x128x640_0_0_0) st.out v })
  ldQc := fun st => (rd (Rect.unit (s := S1x128x640) ![0, 0, 0] S1x128x640.size inb_S1x128x640_S1x128x640_0_0_0) st.qc, st)
  stQc v := fun st => (⟨⟩, { st with qc := wr (Rect.unit (s := S1x128x640) ![0, 0, 0] S1x128x640.size inb_S1x128x640_S1x128x640_0_0_0) st.qc v })
  ldQs h hh := fun st => (rd (Rect.unit (s := S1x1x4x128) ![0, 0, h, 0] S1x1x1x128.size (inQs h hh)) st.qs, st)
  stQs h hh v := fun st => (⟨⟩, { st with qs := wr (Rect.unit (s := S1x1x4x128) ![0, 0, h, 0] S1x1x1x128.size (inQs h hh)) st.qs v })
  ldS r c h hc := fun st => (rd (Rect.unit (s := S15360x512) ![r, c] S64x128.size (inS r c h hc)) st.s, st)
  stS r c h hc v := fun st => (⟨⟩, { st with s := wr (Rect.unit (s := S15360x512) ![r, c] S64x128.size (inS r c h hc)) st.s v })
  ldQt1 c hc := fun st => (rd (Rect.unit (s := S256x512) ![0, c] S256x128.size (inQt1 c hc)) st.qt, st)
  stQt1 c hc v := fun st => (⟨⟩, { st with qt := wr (Rect.unit (s := S256x512) ![0, c] S256x128.size (inQt1 c hc)) st.qt v })
  ldQt2 c hc := fun st => (rd (Rect.unit (s := S256x512) ![0, c] S256x256.size (inQt2 c hc)) st.qt, st)
  ldA h hh := fun st => (rd (Rect.unit (s := S4x240x128) ![h, 0, 0] S1x240x128.size (inA h hh)) st.a, st)
  stA h hh v := fun st => (⟨⟩, { st with a := wr (Rect.unit (s := S4x240x128) ![h, 0, 0] S1x240x128.size (inA h hh)) st.a v })
  ldARow h r hh hr := fun st => (rd (Rect.unit (s := S4x240x128) ![h, r, 0] S1x1x128.size (inARow h r hh hr)) st.a, st)
  ldM8Row c hc := fun st => (rd (Rect.unit (s := S8x512) ![0, c] S1x128.size (inM8Row c hc)) st.m8, st)
  ldM8 c hc := fun st => (rd (Rect.unit (s := S8x512) ![0, c] S8x128.size (inM8 c hc)) st.m8, st)
  stM8 c hc v := fun st => (⟨⟩, { st with m8 := wr (Rect.unit (s := S8x512) ![0, c] S8x128.size (inM8 c hc)) st.m8 v })
  ldAcc := fun st => (rd (Rect.unit (s := S160x512) ![0, 0] S160x512.size inb_S160x512_S160x512_0_0) st.acc, st)
  stAcc v := fun st => (⟨⟩, { st with acc := wr (Rect.unit (s := S160x512) ![0, 0] S160x512.size inb_S160x512_S160x512_0_0) st.acc v })
  ldAcc1 c hc := fun st => (rd (Rect.unit (s := S160x512) ![0, c] S160x128.size (inAcc1 c hc)) st.acc, st)
  ldAcc2 c hc := fun st => (rd (Rect.unit (s := S160x512) ![0, c] S160x256.size (inAcc2 c hc)) st.acc, st)
  stAcc2 c hc v := fun st => (⟨⟩, { st with acc := wr (Rect.unit (s := S160x512) ![0, c] S160x256.size (inAcc2 c hc)) st.acc v })
  loop l ok init body := (List.finRange l.trips).foldlM (fun x k => body k x) init

end Ops

section Rules

variable {F : FTy → Type} [FloatOps F] [Facts] [∀ e, Nonempty (Elt F e)]
open Facts₀ Facts

local notation "𝕄" => MT nD τ sig Unit (Elt F) ℕ (UR sig nD τ) ℕ

variable (c : Dev nD) (R : Refs)

/-- One buffer owned whole. -/
abbrev own1 {sh : Shape} {e : EltTy} (m : Memref sig .tc .vmem sh e) (X : sh.Idx → Elt F e) : sProp 𝕄 :=
  owns (c : Thread nD τ) m fullShare X

/-- The thirteen buffers owned at the contents `st`. -/
def own (st : St F) : sProp 𝕄 :=
  iprop(own1 c R.x st.x ∗ own1 c R.kp st.kp ∗ own1 c R.vt st.vt ∗ own1 c R.ksl st.ksl ∗ own1 c R.vs st.vs
    ∗ own1 c R.out st.out ∗ own1 c R.qc st.qc ∗ own1 c R.qs st.qs
    ∗ own1 c R.s st.s ∗ own1 c R.qt st.qt ∗ own1 c R.a st.a ∗ own1 c R.m8 st.m8 ∗ own1 c R.acc st.acc)

/-- The program `p` does to the buffers what `f` does to their contents. -/
def Ref {α : Type} (p : Pr F α) (f : StateM (St F) α) : Prop :=
  ∀ (st : St F) (Q : α → sProp 𝕄), iprop(own c R st ∗ (own c R (f st).2 -∗ Q (f st).1))
    ⊢ wp frame (wpE (defs₀ (F := F)) Variants.none (c : Thread nD τ) none) Set.univ p Q

variable {c R}

theorem Ref.pure {α : Type} (a : α) : Ref c R (Pure.pure a : Pr F α) (Pure.pure a) := by
  intro st Q
  show iprop(own c R st ∗ (own c R st -∗ Q a)) ⊢ wp _ _ _ (Prog.ret a) Q
  rw [wp_ret]
  iintro ⟨H, HQ⟩
  imodintro
  iapply HQ
  iexact H

theorem Ref.bind {α β : Type} {p : Pr F α} {f : StateM (St F) α} {k : α → Pr F β} {g : α → StateM (St F) β}
    (h : Ref c R p f) (hk : ∀ a, Ref c R (k a) (g a)) : Ref c R (p >>= k) (f >>= g) := by
  intro st Q
  rw [wp_bind]
  refine BIBase.Entails.trans ?_ (h st _)
  iintro ⟨H, HQ⟩
  isplitl [H]; · iexact H
  iintro H
  iapply (hk (f st).1 (f st).2 Q)
  isplitl [H]; · iexact H
  iexact HQ

theorem Ref.dite {α : Type} {P : Prop} [Decidable P] {p : P → Pr F α} {q : ¬P → Pr F α} {f : P → StateM (St F) α} {g : ¬P → StateM (St F) α}
    (h : ∀ x, Ref c R (p x) (f x)) (h' : ∀ x, Ref c R (q x) (g x)) :
    Ref c R (if x : P then p x else q x) (if x : P then f x else g x) := by
  by_cases x : P
  · rw [dif_pos x, dif_pos x]; exact h x
  · rw [dif_neg x, dif_neg x]; exact h' x

theorem Ref.loop {σ : Type} (l : Scf.Loop 32) (ok : l.OK) (init : σ) {b : Fin l.trips → σ → Pr F σ}
    {b' : Fin l.trips → σ → StateM (St F) σ} (h : ∀ k x, Ref c R (b k x) (b' k x)) :
    Ref c R ((progOps R).loop l ok init b) (stOps.loop l ok init b') := by
  show Ref c R (Scf.for l.lb l.ub l.st ok init b) ((List.finRange l.trips).foldlM (fun x k => b' k x) init)
  rw [Scf.for_eq]
  show Ref c R (Scf.forFrom b (List.finRange l.trips) init) _
  generalize List.finRange l.trips = L
  induction L generalizing init with
  | nil => exact Ref.pure init
  | cons k L ih =>
    rw [Scf.forFrom_cons, List.foldlM_cons]
    exact Ref.bind (h k init) fun a => ih a

/-- A load of a buffer, given how the buffer is taken from the thirteen. -/
theorem Ref.load {sh : Shape} {e : EltTy} (m : Memref sig .tc .vmem sh e) (r : Rect sh) (hl : m.view.LoadsAt r)
    (get : St F → sh.Idx → Elt F e) (rest : St F → sProp 𝕄)
    (h : ∀ st, own c R st ⊢ iprop(own1 c m (get st) ∗ rest st)) (h' : ∀ st, iprop(own1 c m (get st) ∗ rest st) ⊢ own c R st) :
    Ref c R (Prog.lift (.load m r.toLoadRect hl) : Pr F _) (fun st => (rd r (get st), st)) := by
  intro st Q
  refine BIBase.Entails.trans (sep_mono_left (h st)) ?_
  unfold own1 owns Prog.lift
  iintro ⟨⟨⟨%f, %hf, H⟩, HR⟩, HQ⟩
  iapply (wp_load_rect Variants.none (c : Thread nD τ) none Set.univ (m := m) (r := r) (hl := hl) (S := m.view.set) (f := f)
    (View.set_slice_subset _ _)) $$ H
  iintro H
  rw [wp_ret]
  imodintro
  have e : (m.access r).read (Elt F) f = rd r (get st) := by rw [← hf]; rfl
  rw [e]
  iapply HQ
  iapply (h' st)
  isplitl [H]
  · unfold own1 owns; iexists f; isplitr; · ipureintro; exact hf
    iexact H
  · iexact HR

/-- A store, likewise. -/
theorem Ref.store {sh : Shape} {e : EltTy} (m : Memref sig .tc .vmem sh e) (r : Rect sh) (w : r.shape.Idx → Elt F e)
    (hx : (m.access r).Stores Finset.univ) (hm : Finset.univ = Finset.univ ∨ ∀ a, r.stride a = 1)
    (get : St F → sh.Idx → Elt F e) (set : St F → (sh.Idx → Elt F e) → St F) (rest : St F → sProp 𝕄)
    (h : ∀ st, own c R st ⊢ iprop(own1 c m (get st) ∗ rest st))
    (h' : ∀ st X, iprop(own1 c m X ∗ rest st) ⊢ own c R (set st X)) :
    Ref c R (Prog.lift (.store m r w Finset.univ hx hm) : Pr F _) (fun st => (⟨⟩, set st (wr r (get st) w))) := by
  intro st Q
  refine BIBase.Entails.trans (sep_mono_left (h st)) ?_
  unfold own1 owns Prog.lift
  iintro ⟨⟨⟨%f, %hf, H⟩, HR⟩, HQ⟩
  iapply (wp_store Variants.none (c : Thread nD τ) none Set.univ (m := m) (r := r) (w := w) (Mk := Finset.univ) (hx := hx) (hm := hm)
    (S := m.view.set) (f := f) (by rw [View.setOn_univ]; exact View.set_slice_subset _ _)) $$ H
  iintro H
  rw [wp_ret]
  imodintro
  iapply HQ
  iapply (h' st (wr r (get st) w))
  isplitl [H]
  · unfold own1 owns; iexists _; isplitr; swap; · iexact H
    ipureintro
    rw [← hf]
    funext y
    by_cases hy : ∃ x, r.emb x = y
    · obtain ⟨x, rfl⟩ := hy
      rw [wr_emb]
      exact View.read_slice_write_emb r f w (Finset.mem_univ x)
    · rw [wr_off _ _ _ _ fun x hx => hy ⟨x, hx⟩]
      refine View.read_slice_write_of_not_mem r f w Finset.univ fun hmem => hy ?_
      obtain ⟨x, -, hx⟩ := Finset.mem_map.mp hmem
      exact ⟨x, hx⟩
  · iexact HR

/-- The same, the program and the function given up to equality. -/
theorem Ref.store_of {sh : Shape} {e : EltTy} {p : Pr F PUnit} {f : StateM (St F) PUnit} (m : Memref sig .tc .vmem sh e) (r : Rect sh)
    (w : r.shape.Idx → Elt F e)
    (hp : ∃ hx hm, p = Prog.lift (.store m r w Finset.univ hx hm))
    (get : St F → sh.Idx → Elt F e) (set : St F → (sh.Idx → Elt F e) → St F) (rest : St F → sProp 𝕄)
    (hf : ∀ st, f st = (⟨⟩, set st (wr r (get st) w)))
    (h : ∀ st, own c R st ⊢ iprop(own1 c m (get st) ∗ rest st))
    (h' : ∀ st X, iprop(own1 c m X ∗ rest st) ⊢ own c R (set st X)) : Ref c R p f := by
  obtain ⟨hx, hm, rfl⟩ := hp
  obtain rfl : f = _ := funext hf
  exact Ref.store m r w hx hm get set rest h h'

end Rules

end Cert.Kernel.Hand
-- ==== Proof.Bits.Takes.lean ====
/-
  Each of the body's loads and stores does what `stOps` says: the buffer it touches is taken from the thirteen and put back.
-/
module

public import proofs.«01_k».proof.Proof.Bits.Sem
public import Idealize.ShloMosaic.Lib.Tactic

@[expose] public section

noncomputable section

namespace Cert.Kernel.Hand

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts] [∀ e, Nonempty (Elt F e)]
open Facts₀ Facts

local notation "𝕄" => MT nD τ sig Unit (Elt F) ℕ (UR sig nD τ) ℕ

/-- The buffers other than `x`. -/
def rest_x (c : Dev nD) (R : Refs) (st : St F) : sProp 𝕄 :=
  iprop(own1 c R.kp st.kp ∗ own1 c R.vt st.vt ∗ own1 c R.ksl st.ksl ∗ own1 c R.vs st.vs ∗ own1 c R.out st.out ∗ own1 c R.qc st.qc ∗ own1 c R.qs st.qs ∗ own1 c R.s st.s ∗ own1 c R.qt st.qt ∗ own1 c R.a st.a ∗ own1 c R.m8 st.m8 ∗ own1 c R.acc st.acc)
theorem take_x (c : Dev nD) (R : Refs) (st : St F) : own c R st ⊢ iprop(own1 c R.x st.x ∗ rest_x c R st) := by
  unfold own rest_x
  iintro ⟨H_x, H_kp, H_vt, H_ksl, H_vs, H_out, H_qc, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc
theorem put_x (c : Dev nD) (R : Refs) (st : St F) (X) : iprop(own1 c R.x X ∗ rest_x c R st) ⊢ own c R { st with x := X } := by
  unfold own rest_x
  iintro ⟨H_x, H_kp, H_vt, H_ksl, H_vs, H_out, H_qc, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `kp`. -/
def rest_kp (c : Dev nD) (R : Refs) (st : St F) : sProp 𝕄 :=
  iprop(own1 c R.x st.x ∗ own1 c R.vt st.vt ∗ own1 c R.ksl st.ksl ∗ own1 c R.vs st.vs ∗ own1 c R.out st.out ∗ own1 c R.qc st.qc ∗ own1 c R.qs st.qs ∗ own1 c R.s st.s ∗ own1 c R.qt st.qt ∗ own1 c R.a st.a ∗ own1 c R.m8 st.m8 ∗ own1 c R.acc st.acc)
theorem take_kp (c : Dev nD) (R : Refs) (st : St F) : own c R st ⊢ iprop(own1 c R.kp st.kp ∗ rest_kp c R st) := by
  unfold own rest_kp
  iintro ⟨H_x, H_kp, H_vt, H_ksl, H_vs, H_out, H_qc, H_qs, H_s, H_qt, H_a, H_m8, H_acc⟩
  isplitl [H_kp]; · iexact H_kp
  isplitl [H_x]; · iexact H_x
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc
theorem put_kp (c : Dev nD) (R : Refs) (st : St F) (X) : iprop(own1 c R.kp X ∗ rest_kp c R st) ⊢ own c R { st with kp := X } := by
  unfold own rest_kp
  iintro ⟨H_kp, H_x, H_vt, H_ksl, H_vs, H_out, H_qc, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `vt`. -/
def rest_vt (c : Dev nD) (R : Refs) (st : St F) : sProp 𝕄 :=
  iprop(own1 c R.x st.x ∗ own1 c R.kp st.kp ∗ own1 c R.ksl st.ksl ∗ own1 c R.vs st.vs ∗ own1 c R.out st.out ∗ own1 c R.qc st.qc ∗ own1 c R.qs st.qs ∗ own1 c R.s st.s ∗ own1 c R.qt st.qt ∗ own1 c R.a st.a ∗ own1 c R.m8 st.m8 ∗ own1 c R.acc st.acc)
theorem take_vt (c : Dev nD) (R : Refs) (st : St F) : own c R st ⊢ iprop(own1 c R.vt st.vt ∗ rest_vt c R st) := by
  unfold own rest_vt
  iintro ⟨H_x, H_kp, H_vt, H_ksl, H_vs, H_out, H_qc, H_qs, H_s, H_qt, H_a, H_m8, H_acc⟩
  isplitl [H_vt]; · iexact H_vt
  isplitl [H_x]; · iexact H_x
  isplitl [H_kp]; · iexact H_kp
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc
theorem put_vt (c : Dev nD) (R : Refs) (st : St F) (X) : iprop(own1 c R.vt X ∗ rest_vt c R st) ⊢ own c R { st with vt := X } := by
  unfold own rest_vt
  iintro ⟨H_vt, H_x, H_kp, H_ksl, H_vs, H_out, H_qc, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `ksl`. -/
def rest_ksl (c : Dev nD) (R : Refs) (st : St F) : sProp 𝕄 :=
  iprop(own1 c R.x st.x ∗ own1 c R.kp st.kp ∗ own1 c R.vt st.vt ∗ own1 c R.vs st.vs ∗ own1 c R.out st.out ∗ own1 c R.qc st.qc ∗ own1 c R.qs st.qs ∗ own1 c R.s st.s ∗ own1 c R.qt st.qt ∗ own1 c R.a st.a ∗ own1 c R.m8 st.m8 ∗ own1 c R.acc st.acc)
theorem take_ksl (c : Dev nD) (R : Refs) (st : St F) : own c R st ⊢ iprop(own1 c R.ksl st.ksl ∗ rest_ksl c R st) := by
  unfold own rest_ksl
  iintro ⟨H_x, H_kp, H_vt, H_ksl, H_vs, H_out, H_qc, H_qs, H_s, H_qt, H_a, H_m8, H_acc⟩
  isplitl [H_ksl]; · iexact H_ksl
  isplitl [H_x]; · iexact H_x
  isplitl [H_kp]; · iexact H_kp
  isplitl [H_vt]; · iexact H_vt
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc
theorem put_ksl (c : Dev nD) (R : Refs) (st : St F) (X) : iprop(own1 c R.ksl X ∗ rest_ksl c R st) ⊢ own c R { st with ksl := X } := by
  unfold own rest_ksl
  iintro ⟨H_ksl, H_x, H_kp, H_vt, H_vs, H_out, H_qc, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `vs`. -/
def rest_vs (c : Dev nD) (R : Refs) (st : St F) : sProp 𝕄 :=
  iprop(own1 c R.x st.x ∗ own1 c R.kp st.kp ∗ own1 c R.vt st.vt ∗ own1 c R.ksl st.ksl ∗ own1 c R.out st.out ∗ own1 c R.qc st.qc ∗ own1 c R.qs st.qs ∗ own1 c R.s st.s ∗ own1 c R.qt st.qt ∗ own1 c R.a st.a ∗ own1 c R.m8 st.m8 ∗ own1 c R.acc st.acc)
theorem take_vs (c : Dev nD) (R : Refs) (st : St F) : own c R st ⊢ iprop(own1 c R.vs st.vs ∗ rest_vs c R st) := by
  unfold own rest_vs
  iintro ⟨H_x, H_kp, H_vt, H_ksl, H_vs, H_out, H_qc, H_qs, H_s, H_qt, H_a, H_m8, H_acc⟩
  isplitl [H_vs]; · iexact H_vs
  isplitl [H_x]; · iexact H_x
  isplitl [H_kp]; · iexact H_kp
  isplitl [H_vt]; · iexact H_vt
  isplitl [H_ksl]; · iexact H_ksl
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc
theorem put_vs (c : Dev nD) (R : Refs) (st : St F) (X) : iprop(own1 c R.vs X ∗ rest_vs c R st) ⊢ own c R { st with vs := X } := by
  unfold own rest_vs
  iintro ⟨H_vs, H_x, H_kp, H_vt, H_ksl, H_out, H_qc, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `out`. -/
def rest_out (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.qc st.qc ∗ own1 c R.qs st.qs ∗ own1 c R.s st.s ∗ own1 c R.qt st.qt ∗ own1 c R.a st.a ∗ own1 c R.m8 st.m8 ∗ own1 c R.acc st.acc)
theorem take_out (c : Dev nD) (R : Refs) (st : St F) : own c R st ⊢ iprop(own1 c R.out st.out ∗ rest_out c R st) := by
  unfold own rest_out
  iintro ⟨H_x, H_kp, H_vt, H_ksl, H_vs, H_out, H_qc, H_qs, H_s, H_qt, H_a, H_m8, H_acc⟩
  isplitl [H_out]; · iexact H_out
  isplitl [H_x]; · iexact H_x
  isplitl [H_kp]; · iexact H_kp
  isplitl [H_vt]; · iexact H_vt
  isplitl [H_ksl]; · iexact H_ksl
  isplitl [H_vs]; · iexact H_vs
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc
theorem put_out (c : Dev nD) (R : Refs) (st : St F) (X) : iprop(own1 c R.out X ∗ rest_out c R st) ⊢ own c R { st with out := X } := by
  unfold own rest_out
  iintro ⟨H_out, H_x, H_kp, H_vt, H_ksl, H_vs, H_qc, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `qc`. -/
def rest_qc (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.out st.out ∗ own1 c R.qs st.qs ∗ own1 c R.s st.s ∗ own1 c R.qt st.qt ∗ own1 c R.a st.a ∗ own1 c R.m8 st.m8 ∗ own1 c R.acc st.acc)
theorem take_qc (c : Dev nD) (R : Refs) (st : St F) : own c R st ⊢ iprop(own1 c R.qc st.qc ∗ rest_qc c R st) := by
  unfold own rest_qc
  iintro ⟨H_x, H_kp, H_vt, H_ksl, H_vs, H_out, H_qc, H_qs, H_s, H_qt, H_a, H_m8, H_acc⟩
  isplitl [H_qc]; · iexact H_qc
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qs]; · iexact H_qs
  isplitl [H_s]; · iexact H_s
  isplitl [H_qt]; · iexact H_qt
  isplitl [H_a]; · iexact H_a
  isplitl [H_m8]; · iexact H_m8
  iexact H_acc
theorem put_qc (c : Dev nD) (R : Refs) (st : St F) (X) : iprop(own1 c R.qc X ∗ rest_qc c R st) ⊢ own c R { st with qc := X } := by
  unfold own rest_qc
  iintro ⟨H_qc, H_x, H_kp, H_vt, H_ksl, H_vs, H_out, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `qs`. -/
def rest_qs (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.out st.out ∗ own1 c R.qc st.qc ∗ own1 c R.s st.s ∗ own1 c R.qt st.qt ∗ own1 c R.a st.a ∗ own1 c R.m8 st.m8 ∗ own1 c R.acc st.acc)
theorem take_qs (c : Dev nD) (R : Refs) (st : St F) : own c R st ⊢ iprop(own1 c R.qs st.qs ∗ rest_qs c R st) := by
  unfold own rest_qs
  iintro ⟨H_x, H_kp, H_vt, H_ksl, H_vs, H_out, H_qc, H_qs, H_s, H_qt, H_a, H_m8, H_acc⟩
  isplitl [H_qs]; · iexact H_qs
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_s]; · iexact H_s
  isplitl [H_qt]; · iexact H_qt
  isplitl [H_a]; · iexact H_a
  isplitl [H_m8]; · iexact H_m8
  iexact H_acc
theorem put_qs (c : Dev nD) (R : Refs) (st : St F) (X) : iprop(own1 c R.qs X ∗ rest_qs c R st) ⊢ own c R { st with qs := X } := by
  unfold own rest_qs
  iintro ⟨H_qs, H_x, H_kp, H_vt, H_ksl, H_vs, H_out, H_qc, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `s`. -/
def rest_s (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.out st.out ∗ own1 c R.qc st.qc ∗ own1 c R.qs st.qs ∗ own1 c R.qt st.qt ∗ own1 c R.a st.a ∗ own1 c R.m8 st.m8 ∗ own1 c R.acc st.acc)
theorem take_s (c : Dev nD) (R : Refs) (st : St F) : own c R st ⊢ iprop(own1 c R.s st.s ∗ rest_s c R st) := by
  unfold own rest_s
  iintro ⟨H_x, H_kp, H_vt, H_ksl, H_vs, H_out, H_qc, H_qs, H_s, H_qt, H_a, H_m8, H_acc⟩
  isplitl [H_s]; · iexact H_s
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_qt]; · iexact H_qt
  isplitl [H_a]; · iexact H_a
  isplitl [H_m8]; · iexact H_m8
  iexact H_acc
theorem put_s (c : Dev nD) (R : Refs) (st : St F) (X) : iprop(own1 c R.s X ∗ rest_s c R st) ⊢ own c R { st with s := X } := by
  unfold own rest_s
  iintro ⟨H_s, H_x, H_kp, H_vt, H_ksl, H_vs, H_out, H_qc, H_qs, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `qt`. -/
def rest_qt (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.out st.out ∗ own1 c R.qc st.qc ∗ own1 c R.qs st.qs ∗ own1 c R.s st.s ∗ own1 c R.a st.a ∗ own1 c R.m8 st.m8 ∗ own1 c R.acc st.acc)
theorem take_qt (c : Dev nD) (R : Refs) (st : St F) : own c R st ⊢ iprop(own1 c R.qt st.qt ∗ rest_qt c R st) := by
  unfold own rest_qt
  iintro ⟨H_x, H_kp, H_vt, H_ksl, H_vs, H_out, H_qc, H_qs, H_s, H_qt, H_a, H_m8, H_acc⟩
  isplitl [H_qt]; · iexact H_qt
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_a]; · iexact H_a
  isplitl [H_m8]; · iexact H_m8
  iexact H_acc
theorem put_qt (c : Dev nD) (R : Refs) (st : St F) (X) : iprop(own1 c R.qt X ∗ rest_qt c R st) ⊢ own c R { st with qt := X } := by
  unfold own rest_qt
  iintro ⟨H_qt, H_x, H_kp, H_vt, H_ksl, H_vs, H_out, H_qc, H_qs, H_s, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `a`. -/
def rest_a (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.out st.out ∗ own1 c R.qc st.qc ∗ own1 c R.qs st.qs ∗ own1 c R.s st.s ∗ own1 c R.qt st.qt ∗ own1 c R.m8 st.m8 ∗ own1 c R.acc st.acc)
theorem take_a (c : Dev nD) (R : Refs) (st : St F) : own c R st ⊢ iprop(own1 c R.a st.a ∗ rest_a c R st) := by
  unfold own rest_a
  iintro ⟨H_x, H_kp, H_vt, H_ksl, H_vs, H_out, H_qc, H_qs, H_s, H_qt, H_a, H_m8, H_acc⟩
  isplitl [H_a]; · iexact H_a
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_m8]; · iexact H_m8
  iexact H_acc
theorem put_a (c : Dev nD) (R : Refs) (st : St F) (X) : iprop(own1 c R.a X ∗ rest_a c R st) ⊢ own c R { st with a := X } := by
  unfold own rest_a
  iintro ⟨H_a, H_x, H_kp, H_vt, H_ksl, H_vs, H_out, H_qc, H_qs, H_s, H_qt, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `m8`. -/
def rest_m8 (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.out st.out ∗ own1 c R.qc st.qc ∗ own1 c R.qs st.qs ∗ own1 c R.s st.s ∗ own1 c R.qt st.qt ∗ own1 c R.a st.a ∗ own1 c R.acc st.acc)
theorem take_m8 (c : Dev nD) (R : Refs) (st : St F) : own c R st ⊢ iprop(own1 c R.m8 st.m8 ∗ rest_m8 c R st) := by
  unfold own rest_m8
  iintro ⟨H_x, H_kp, H_vt, H_ksl, H_vs, H_out, H_qc, H_qs, H_s, H_qt, H_a, H_m8, H_acc⟩
  isplitl [H_m8]; · iexact H_m8
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  iexact H_acc
theorem put_m8 (c : Dev nD) (R : Refs) (st : St F) (X) : iprop(own1 c R.m8 X ∗ rest_m8 c R st) ⊢ own c R { st with m8 := X } := by
  unfold own rest_m8
  iintro ⟨H_m8, H_x, H_kp, H_vt, H_ksl, H_vs, H_out, H_qc, H_qs, H_s, H_qt, H_a, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `acc`. -/
def rest_acc (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.out st.out ∗ own1 c R.qc st.qc ∗ own1 c R.qs st.qs ∗ own1 c R.s st.s ∗ own1 c R.qt st.qt ∗ own1 c R.a st.a ∗ own1 c R.m8 st.m8)
theorem take_acc (c : Dev nD) (R : Refs) (st : St F) : own c R st ⊢ iprop(own1 c R.acc st.acc ∗ rest_acc c R st) := by
  unfold own rest_acc
  iintro ⟨H_x, H_kp, H_vt, H_ksl, H_vs, H_out, H_qc, H_qs, H_s, H_qt, H_a, H_m8, H_acc⟩
  isplitl [H_acc]; · iexact H_acc
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  iexact H_m8
theorem put_acc (c : Dev nD) (R : Refs) (st : St F) (X) : iprop(own1 c R.acc X ∗ rest_acc c R st) ⊢ own c R { st with acc := X } := by
  unfold own rest_acc
  iintro ⟨H_acc, H_x, H_kp, H_vt, H_ksl, H_vs, H_out, H_qc, H_qs, H_s, H_qt, H_a, H_m8⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

variable {c : Dev nD} {R : Refs}

theorem ref_ldX : Ref c R ((progOps (F := F) R).ldX) (stOps.ldX) :=
  Ref.load R.x _ _ (fun st => st.x) (rest_x c R) (take_x c R) fun st => put_x c R st st.x
theorem ref_ldKsl : Ref c R ((progOps (F := F) R).ldKsl) (stOps.ldKsl) :=
  Ref.load R.ksl _ _ (fun st => st.ksl) (rest_ksl c R) (take_ksl c R) fun st => put_ksl c R st st.ksl
theorem ref_ldVs : Ref c R ((progOps (F := F) R).ldVs) (stOps.ldVs) :=
  Ref.load R.vs _ _ (fun st => st.vs) (rest_vs c R) (take_vs c R) fun st => put_vs c R st st.vs
theorem ref_ldKp (r h) : Ref c R ((progOps (F := F) R).ldKp r h) (stOps.ldKp r h) :=
  Ref.load R.kp _ _ (fun st => st.kp) (rest_kp c R) (take_kp c R) fun st => put_kp c R st st.kp
theorem ref_ldVt (r h) : Ref c R ((progOps (F := F) R).ldVt r h) (stOps.ldVt r h) :=
  Ref.load R.vt _ _ (fun st => st.vt) (rest_vt c R) (take_vt c R) fun st => put_vt c R st st.vt
theorem ref_ldOut : Ref c R ((progOps (F := F) R).ldOut) (stOps.ldOut) :=
  Ref.load R.out _ _ (fun st => st.out) (rest_out c R) (take_out c R) fun st => put_out c R st st.out
theorem ref_ldQc : Ref c R ((progOps (F := F) R).ldQc) (stOps.ldQc) :=
  Ref.load R.qc _ _ (fun st => st.qc) (rest_qc c R) (take_qc c R) fun st => put_qc c R st st.qc
theorem ref_ldQs (h hh) : Ref c R ((progOps (F := F) R).ldQs h hh) (stOps.ldQs h hh) :=
  Ref.load R.qs _ _ (fun st => st.qs) (rest_qs c R) (take_qs c R) fun st => put_qs c R st st.qs
theorem ref_ldS (r k h hc) : Ref c R ((progOps (F := F) R).ldS r k h hc) (stOps.ldS r k h hc) :=
  Ref.load R.s _ _ (fun st => st.s) (rest_s c R) (take_s c R) fun st => put_s c R st st.s
theorem ref_ldQt1 (k hc) : Ref c R ((progOps (F := F) R).ldQt1 k hc) (stOps.ldQt1 k hc) :=
  Ref.load R.qt _ _ (fun st => st.qt) (rest_qt c R) (take_qt c R) fun st => put_qt c R st st.qt
theorem ref_ldQt2 (k hc) : Ref c R ((progOps (F := F) R).ldQt2 k hc) (stOps.ldQt2 k hc) :=
  Ref.load R.qt _ _ (fun st => st.qt) (rest_qt c R) (take_qt c R) fun st => put_qt c R st st.qt
theorem ref_ldA (h hh) : Ref c R ((progOps (F := F) R).ldA h hh) (stOps.ldA h hh) :=
  Ref.load R.a _ _ (fun st => st.a) (rest_a c R) (take_a c R) fun st => put_a c R st st.a
theorem ref_ldARow (h r hh hr) : Ref c R ((progOps (F := F) R).ldARow h r hh hr) (stOps.ldARow h r hh hr) :=
  Ref.load R.a _ _ (fun st => st.a) (rest_a c R) (take_a c R) fun st => put_a c R st st.a
theorem ref_ldM8Row (k hc) : Ref c R ((progOps (F := F) R).ldM8Row k hc) (stOps.ldM8Row k hc) :=
  Ref.load R.m8 _ _ (fun st => st.m8) (rest_m8 c R) (take_m8 c R) fun st => put_m8 c R st st.m8
theorem ref_ldM8 (k hc) : Ref c R ((progOps (F := F) R).ldM8 k hc) (stOps.ldM8 k hc) :=
  Ref.load R.m8 _ _ (fun st => st.m8) (rest_m8 c R) (take_m8 c R) fun st => put_m8 c R st st.m8
theorem ref_ldAcc : Ref c R ((progOps (F := F) R).ldAcc) (stOps.ldAcc) :=
  Ref.load R.acc _ _ (fun st => st.acc) (rest_acc c R) (take_acc c R) fun st => put_acc c R st st.acc
theorem ref_ldAcc1 (k hc) : Ref c R ((progOps (F := F) R).ldAcc1 k hc) (stOps.ldAcc1 k hc) :=
  Ref.load R.acc _ _ (fun st => st.acc) (rest_acc c R) (take_acc c R) fun st => put_acc c R st st.acc
theorem ref_ldAcc2 (k hc) : Ref c R ((progOps (F := F) R).ldAcc2 k hc) (stOps.ldAcc2 k hc) :=
  Ref.load R.acc _ _ (fun st => st.acc) (rest_acc c R) (take_acc c R) fun st => put_acc c R st st.acc
theorem ref_stOut (v) : Ref c R ((progOps (F := F) R).stOut v) (stOps.stOut v) :=
  Ref.store_of R.out (Rect.unit (s := S1x128x640) ![0, 0, 0] S1x128x640.size inb_S1x128x640_S1x128x640_0_0_0) v ⟨_, _, rfl⟩ (fun st => st.out) (fun st X => { st with out := X }) (rest_out c R) (fun _ => rfl) (take_out c R) (put_out c R)
theorem ref_stQc (v) : Ref c R ((progOps (F := F) R).stQc v) (stOps.stQc v) :=
  Ref.store_of R.qc (Rect.unit (s := S1x128x640) ![0, 0, 0] S1x128x640.size inb_S1x128x640_S1x128x640_0_0_0) v ⟨_, _, rfl⟩ (fun st => st.qc) (fun st X => { st with qc := X }) (rest_qc c R) (fun _ => rfl) (take_qc c R) (put_qc c R)
theorem ref_stQs (h hh) (v) : Ref c R ((progOps (F := F) R).stQs h hh v) (stOps.stQs h hh v) :=
  Ref.store_of R.qs (Rect.unit (s := S1x1x4x128) ![0, 0, h, 0] S1x1x1x128.size (inQs h hh)) v ⟨_, _, rfl⟩ (fun st => st.qs) (fun st X => { st with qs := X }) (rest_qs c R) (fun _ => rfl) (take_qs c R) (put_qs c R)
theorem ref_stS (r k h hc) (v) : Ref c R ((progOps (F := F) R).stS r k h hc v) (stOps.stS r k h hc v) :=
  Ref.store_of R.s (Rect.unit (s := S15360x512) ![r, k] S64x128.size (inS r k h hc)) v ⟨_, _, rfl⟩ (fun st => st.s) (fun st X => { st with s := X }) (rest_s c R) (fun _ => rfl) (take_s c R) (put_s c R)
theorem ref_stQt1 (k hc) (v) : Ref c R ((progOps (F := F) R).stQt1 k hc v) (stOps.stQt1 k hc v) :=
  Ref.store_of R.qt (Rect.unit (s := S256x512) ![0, k] S256x128.size (inQt1 k hc)) v ⟨_, _, rfl⟩ (fun st => st.qt) (fun st X => { st with qt := X }) (rest_qt c R) (fun _ => rfl) (take_qt c R) (put_qt c R)
theorem ref_stA (h hh) (v) : Ref c R ((progOps (F := F) R).stA h hh v) (stOps.stA h hh v) :=
  Ref.store_of R.a (Rect.unit (s := S4x240x128) ![h, 0, 0] S1x240x128.size (inA h hh)) v ⟨_, _, rfl⟩ (fun st => st.a) (fun st X => { st with a := X }) (rest_a c R) (fun _ => rfl) (take_a c R) (put_a c R)
theorem ref_stM8 (k hc) (v) : Ref c R ((progOps (F := F) R).stM8 k hc v) (stOps.stM8 k hc v) :=
  Ref.store_of R.m8 (Rect.unit (s := S8x512) ![0, k] S8x128.size (inM8 k hc)) v ⟨_, _, rfl⟩ (fun st => st.m8) (fun st X => { st with m8 := X }) (rest_m8 c R) (fun _ => rfl) (take_m8 c R) (put_m8 c R)
theorem ref_stAcc (v) : Ref c R ((progOps (F := F) R).stAcc v) (stOps.stAcc v) :=
  Ref.store_of R.acc (Rect.unit (s := S160x512) ![0, 0] S160x512.size inb_S160x512_S160x512_0_0) v ⟨_, _, rfl⟩ (fun st => st.acc) (fun st X => { st with acc := X }) (rest_acc c R) (fun _ => rfl) (take_acc c R) (put_acc c R)
theorem ref_stAcc2 (k hc) (v) : Ref c R ((progOps (F := F) R).stAcc2 k hc v) (stOps.stAcc2 k hc v) :=
  Ref.store_of R.acc (Rect.unit (s := S160x512) ![0, k] S160x256.size (inAcc2 k hc)) v ⟨_, _, rfl⟩ (fun st => st.acc) (fun st X => { st with acc := X }) (rest_acc c R) (fun _ => rfl) (take_acc c R) (put_acc c R)

end Cert.Kernel.Hand
-- ==== Proof.Bits.Equal.lean ====
/-
  The printed body is the compact text.
-/
module

public import proofs.«01_k».proof.Proof.Bits.Same
public import Idealize.ShloMosaic.Lib.Tactic

@[expose] public section

set_option maxRecDepth 100000
set_option maxHeartbeats 0

noncomputable section

namespace Cert.Kernel.Hand

open Cert.Kernel
open Idealize.ShloMosaic Idealize.SL.Sem

variable {F : FTy → Type} [FloatOps F] [Facts]

theorem attention_eq (R : Refs) (i : grid0.Coords) :
    cc0_attention (F := F) i R.x R.hx R.kp R.hkp R.vt R.hvt R.ksl R.hksl R.vs R.hvs R.out R.hout R.qc R.hqc R.qs R.hqs
      R.s R.hs R.qt R.hqt R.a R.ha R.m8 R.hm8 R.acc R.hacc = body (progOps R) i := by sl_kernel_rfl

end Cert.Kernel.Hand
-- ==== Proof.Bits.Refine.lean ====
/-
  The printed attention body, run by a core that owns its thirteen buffers, does to them what the compact text read in the state
  monad does to their contents: piece by piece, along the text.
-/
module

public import proofs.«01_k».proof.Proof.Bits.Takes
public import proofs.«01_k».proof.Proof.Bits.Equal
public import Idealize.ShloMosaic.Lib.Tactic

@[expose] public section

noncomputable section

namespace Cert.Kernel.Hand

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts] [∀ e, Nonempty (Elt F e)]
open Facts₀ Facts

local notation "𝕄" => MT nD τ sig Unit (Elt F) ℕ (UR sig nD τ) ℕ

variable {c : Dev nD} {R : Refs}

theorem ref_probSub (j a b hj ha hb k hc s) : Ref c R (probSub (progOps (F := F) R) j a b hj ha hb k hc s) (probSub stOps j a b hj ha hb k hc s) := by
  unfold probSub
  refine Ref.bind (ref_ldS _ _ _ _) fun _ => ?_
  refine Ref.bind (ref_ldM8Row _ _) fun _ => ?_
  exact Ref.pure _

theorem ref_probRow (j a b hj ha hb k k' hc hc' s) : Ref c R (probRow (progOps (F := F) R) j a b hj ha hb k k' hc hc' s) (probRow stOps j a b hj ha hb k k' hc hc' s) := by
  unfold probRow
  refine Ref.bind (ref_probSub _ _ _ _ _ _ _ _ _) fun _ => ?_
  refine Ref.bind (ref_probSub _ _ _ _ _ _ _ _ _) fun _ => ?_
  exact Ref.pure _

theorem ref_probPiece (j a hj ha k k' hc hc' s) : Ref c R (probPiece (progOps (F := F) R) j a hj ha k k' hc hc' s) (probPiece stOps j a hj ha k k' hc hc' s) := by
  unfold probPiece
  refine Ref.bind (ref_probRow _ _ _ _ _ _ _ _ _ _ _) fun _ => ?_
  refine Ref.bind (ref_probRow _ _ _ _ _ _ _ _ _ _ _) fun _ => ?_
  refine Ref.bind (ref_probRow _ _ _ _ _ _ _ _ _ _ _) fun _ => ?_
  refine Ref.bind (ref_probRow _ _ _ _ _ _ _ _ _ _ _) fun _ => ?_
  refine Ref.bind (ref_ldVt _ _) fun _ => ?_
  exact Ref.pure _

theorem ref_scoreSub (mk j a a' b b' hj ha hb ha' hb' h hh k hc y x) : Ref c R (scoreSub (progOps (F := F) R) mk j a a' b b' hj ha hb ha' hb' h hh k hc y x) (scoreSub stOps mk j a a' b b' hj ha hb ha' hb' h hh k hc y x) := by
  unfold scoreSub
  refine Ref.bind (ref_ldARow _ _ _ _) fun _ => ?_
  refine Ref.bind (ref_ldS _ _ _ _) fun _ => ?_
  refine Ref.bind (ref_stS _ _ _ _ _) fun _ => ?_
  exact Ref.pure _

theorem ref_scorePiece (mk j a a' hj ha ha' h h' hh hh' k k' hc hc' hcc x) : Ref c R (scorePiece (progOps (F := F) R) mk j a a' hj ha ha' h h' hh hh' k k' hc hc' hcc x) (scorePiece stOps mk j a a' hj ha ha' h h' hh hh' k k' hc hc' hcc x) := by
  unfold scorePiece
  refine Ref.bind (ref_ldKp _ _) fun _ => ?_
  refine Ref.bind (ref_ldQt2 _ _) fun _ => ?_
  refine Ref.bind (ref_scoreSub _ _ _ _ _ _ _ _ _ _ _ _ _ _ _ _ _ ) fun _ => ?_
  refine Ref.bind (ref_scoreSub _ _ _ _ _ _ _ _ _ _ _ _ _ _ _ _ _ ) fun _ => ?_
  refine Ref.bind (ref_scoreSub _ _ _ _ _ _ _ _ _ _ _ _ _ _ _ _ _ ) fun _ => ?_
  refine Ref.bind (ref_scoreSub _ _ _ _ _ _ _ _ _ _ _ _ _ _ _ _ _ ) fun _ => ?_
  refine Ref.bind (ref_scoreSub _ _ _ _ _ _ _ _ _ _ _ _ _ _ _ _ _ ) fun _ => ?_
  refine Ref.bind (ref_scoreSub _ _ _ _ _ _ _ _ _ _ _ _ _ _ _ _ _ ) fun _ => ?_
  refine Ref.bind (ref_scoreSub _ _ _ _ _ _ _ _ _ _ _ _ _ _ _ _ _ ) fun _ => ?_
  refine Ref.bind (ref_scoreSub _ _ _ _ _ _ _ _ _ _ _ _ _ _ _ _ _ ) fun _ => ?_
  exact Ref.pure _

theorem ref_accAdd (g0 g1) : Ref c R (accAdd (progOps (F := F) R) g0 g1) (accAdd stOps g0 g1) := by
  unfold accAdd
  refine Ref.bind (ref_ldAcc2 _ _) fun _ => ?_
  refine Ref.bind (ref_ldAcc2 _ _) fun _ => ?_
  refine Ref.bind (ref_stAcc2 _ _ _) fun _ => ?_
  refine Ref.bind (ref_ldAcc2 _ _) fun _ => ?_
  refine Ref.bind (ref_ldAcc2 _ _) fun _ => ?_
  exact ref_stAcc2 _ _ _

theorem ref_chunkBoth (mk j hj x) : Ref c R (chunkBoth (progOps (F := F) R) mk j hj x) (chunkBoth stOps mk j hj x) := by
  unfold chunkBoth
  refine Ref.bind (ref_probPiece _ _ _ _ _ _ _ _ _ ) fun _ => ?_
  refine Ref.bind (ref_scorePiece _ _ _ _ _ _ _ _ _ _ _ _ _ _ _ _ _ ) fun _ => ?_
  refine Ref.bind (ref_probPiece _ _ _ _ _ _ _ _ _ ) fun _ => ?_
  refine Ref.bind (ref_scorePiece _ _ _ _ _ _ _ _ _ _ _ _ _ _ _ _ _ ) fun _ => ?_
  refine Ref.bind (ref_probPiece _ _ _ _ _ _ _ _ _ ) fun _ => ?_
  refine Ref.bind (ref_scorePiece _ _ _ _ _ _ _ _ _ _ _ _ _ _ _ _ _ ) fun _ => ?_
  refine Ref.bind (ref_probPiece _ _ _ _ _ _ _ _ _ ) fun _ => ?_
  refine Ref.bind (ref_scorePiece _ _ _ _ _ _ _ _ _ _ _ _ _ _ _ _ _ ) fun _ => ?_
  refine Ref.bind (ref_accAdd _ _) fun _ => ?_
  exact Ref.pure _

theorem ref_chunkScore (mk j hj x) : Ref c R (chunkScore (progOps (F := F) R) mk j hj x) (chunkScore stOps mk j hj x) := by
  unfold chunkScore
  refine Ref.bind (ref_scorePiece _ _ _ _ _ _ _ _ _ _ _ _ _ _ _ _ _ ) fun _ => ?_
  refine Ref.bind (ref_scorePiece _ _ _ _ _ _ _ _ _ _ _ _ _ _ _ _ _ ) fun _ => ?_
  refine Ref.bind (ref_scorePiece _ _ _ _ _ _ _ _ _ _ _ _ _ _ _ _ _ ) fun _ => ?_
  refine Ref.bind (ref_scorePiece _ _ _ _ _ _ _ _ _ _ _ _ _ _ _ _ _ ) fun _ => ?_
  exact Ref.pure _

theorem ref_chunkProb (j hj x) : Ref c R (chunkProb (progOps (F := F) R) j hj x) (chunkProb stOps j hj x) := by
  unfold chunkProb
  refine Ref.bind (ref_probPiece _ _ _ _ _ _ _ _ _ ) fun _ => ?_
  refine Ref.bind (ref_probPiece _ _ _ _ _ _ _ _ _ ) fun _ => ?_
  refine Ref.bind (ref_probPiece _ _ _ _ _ _ _ _ _ ) fun _ => ?_
  refine Ref.bind (ref_probPiece _ _ _ _ _ _ _ _ _ ) fun _ => ?_
  refine Ref.bind (ref_accAdd _ _) fun _ => ?_
  exact Ref.pure _

theorem ref_quantHead (h hh k hc ksl q) : Ref c R (quantHead (progOps (F := F) R) h hh k hc ksl q) (quantHead stOps h hh k hc ksl q) := by
  unfold quantHead
  refine Ref.bind (ref_ldQt1 _ _) fun _ => ?_
  refine Ref.bind (ref_stQt1 _ _ _) fun _ => ?_
  refine Ref.bind (ref_ldQs _ _) fun _ => ?_
  refine Ref.bind (ref_stQs _ _ _) fun _ => ?_
  refine Ref.bind (ref_ldA _ _) fun _ => ?_
  exact ref_stA _ _ _

theorem ref_quantise  : Ref c R (quantise (progOps (F := F) R) ) (quantise stOps ) := by
  unfold quantise
  refine Ref.bind (ref_ldX) fun _ => ?_
  refine Ref.bind (ref_ldKsl) fun _ => ?_
  refine Ref.bind (ref_quantHead _ _ _ _ _ _) fun _ => ?_
  refine Ref.bind (ref_quantHead _ _ _ _ _ _) fun _ => ?_
  refine Ref.bind (ref_quantHead _ _ _ _ _ _) fun _ => ?_
  refine Ref.bind (ref_quantHead _ _ _ _ _ _) fun _ => ?_
  refine Ref.bind (ref_ldQc) fun _ => ?_
  exact ref_stQc _

theorem ref_finishPrev (s0 s1 s2 s3) : Ref c R (finishPrev (progOps (F := F) R) s0 s1 s2 s3) (finishPrev stOps s0 s1 s2 s3) := by
  unfold finishPrev
  refine Ref.bind (ref_ldAcc1 _ _) fun _ => ?_
  refine Ref.bind (ref_ldVs) fun _ => ?_
  refine Ref.bind (ref_ldAcc1 _ _) fun _ => ?_
  refine Ref.bind (ref_ldVs) fun _ => ?_
  refine Ref.bind (ref_ldAcc1 _ _) fun _ => ?_
  refine Ref.bind (ref_ldVs) fun _ => ?_
  refine Ref.bind (ref_ldAcc1 _ _) fun _ => ?_
  refine Ref.bind (ref_ldVs) fun _ => ?_
  refine Ref.bind (ref_ldOut) fun _ => ?_
  exact ref_stOut _

theorem ref_keepMax (k hc x) : Ref c R (keepMax (progOps (F := F) R) k hc x) (keepMax stOps k hc x) := by
  unfold keepMax
  refine Ref.bind (ref_ldM8 _ _) fun _ => ?_
  exact ref_stM8 _ _ _

theorem ref_scores (i h1) : Ref c R (scores (progOps (F := F) R) i h1) (scores stOps i h1) := by
  unfold scores
  refine Ref.bind (Ref.loop _ _ _ fun _ _ => ref_chunkBoth _ _ _ _) fun _ => ?_
  refine Ref.bind (Ref.loop _ _ _ fun _ _ => ref_chunkBoth _ _ _ _) fun _ => ?_
  split
  · refine Ref.bind (ref_chunkBoth _ _ _ _) fun _ => ?_
    exact Ref.pure _
  · refine Ref.bind (ref_chunkScore _ _ _ _) fun _ => ?_
    exact Ref.pure _

theorem ref_closing (i x0 x1 x2 x3 s0 s1 s2 s3) : Ref c R (closing (progOps (F := F) R) i x0 x1 x2 x3 s0 s1 s2 s3) (closing stOps i x0 x1 x2 x3 s0 s1 s2 s3) := by
  unfold closing
  split
  · refine Ref.bind (ref_finishPrev _ _ _ _) fun _ => ?_
    refine Ref.bind (ref_keepMax _ _ _) fun _ => ?_
    refine Ref.bind (ref_keepMax _ _ _) fun _ => ?_
    refine Ref.bind (ref_keepMax _ _ _) fun _ => ?_
    refine Ref.bind (ref_ldM8 _ _) fun _ => ?_
    exact Ref.pure _
  · refine Ref.bind (ref_keepMax _ _ _) fun _ => ?_
    refine Ref.bind (ref_keepMax _ _ _) fun _ => ?_
    refine Ref.bind (ref_keepMax _ _ _) fun _ => ?_
    refine Ref.bind (ref_ldM8 _ _) fun _ => ?_
    exact Ref.pure _

theorem ref_lastProbs (i h4) : Ref c R (lastProbs (progOps (F := F) R) i h4) (lastProbs stOps i h4) := by
  unfold lastProbs
  refine Ref.bind (Ref.loop _ _ _ fun _ _ => ref_chunkProb _ _ _) fun _ => ?_
  refine Ref.bind (Ref.loop _ _ _ fun _ _ => ref_chunkProb _ _ _) fun _ => ?_
  refine Ref.bind (ref_ldAcc1 _ _) fun _ => ?_
  refine Ref.bind (ref_ldVs) fun _ => ?_
  refine Ref.bind (ref_ldAcc1 _ _) fun _ => ?_
  refine Ref.bind (ref_ldVs) fun _ => ?_
  refine Ref.bind (ref_ldAcc1 _ _) fun _ => ?_
  refine Ref.bind (ref_ldVs) fun _ => ?_
  exact Ref.pure _

theorem ref_last (i : grid0.Coords) : Ref c R
    (if h4 : k0_cond4 i = 1#1 then (do
        let z ← lastProbs (progOps (F := F) R) i h4
        let a3 ← (progOps (F := F) R).ldAcc1 384 (by decide)
        let v3 ← (progOps (F := F) R).ldVs
        let _ ← (progOps (F := F) R).ldOut
        (progOps (F := F) R).stOut (shapeCast S1x128x640 (joined z.2.1 z.2.2.1 z.2.2.2 (normal a3 v3 z.1)) shapeCasts_S128x640_S1x128x640)) else pure ⟨⟩)
    (if h4 : k0_cond4 i = 1#1 then (do
        let z ← lastProbs stOps i h4
        let a3 ← stOps.ldAcc1 384 (by decide)
        let v3 ← stOps.ldVs
        let _ ← stOps.ldOut
        stOps.stOut (shapeCast S1x128x640 (joined z.2.1 z.2.2.1 z.2.2.2 (normal a3 v3 z.1)) shapeCasts_S128x640_S1x128x640)) else pure ⟨⟩) := by
  refine Ref.dite (fun _ => ?_) fun _ => Ref.pure _
  refine Ref.bind (ref_lastProbs _ _) fun _ => ?_
  refine Ref.bind (ref_ldAcc1 _ _) fun _ => ?_
  refine Ref.bind (ref_ldVs) fun _ => ?_
  refine Ref.bind (ref_ldOut) fun _ => ?_
  exact ref_stOut _

set_option maxHeartbeats 0 in
theorem ref_body (i : grid0.Coords) : Ref c R (body (progOps (F := F) R) i) (body stOps i) := by
  unfold body
  refine Ref.bind (ref_ldAcc) fun _ => ?_
  refine Ref.bind (ref_stAcc _) fun _ => ?_
  refine Ref.dite (fun _ => ?_) fun _ => ?_
  · refine Ref.bind ref_quantise fun _ => ?_
    refine Ref.bind (ref_scores _ _) fun _ => ?_
    refine Ref.bind (ref_closing _ _ _ _ _ _ _ _ _) fun _ => ?_
    refine Ref.bind (ref_stM8 _ _ _) fun _ => ?_
    exact ref_last i
  · exact ref_last i

/-- The printed body, by the state function. -/
theorem ref_attention (i : grid0.Coords) :
    Ref c R (cc0_attention (F := F) i R.x R.hx R.kp R.hkp R.vt R.hvt R.ksl R.hksl R.vs R.hvs R.out R.hout R.qc R.hqc R.qs R.hqs
      R.s R.hs R.qt R.hqt R.a R.ha R.m8 R.hm8 R.acc R.hacc) (body stOps i) := by
  rw [attention_eq]; exact ref_body i

end Cert.Kernel.Hand
-- ==== Proof.Bits.Track.lean ====
/-
  The launch of the attention call with what its buffers hold followed from point to point. Given a property `Inv` of the
  scratch buffers between points, and relations `aft` of what a point finds and leaves in the windows' staging buffers, the body's
  obligation is a statement about the state function alone (`Step`), and the run's end is the library's.
-/
module

public import proofs.«01_k».proof.Proof.Bits.Refine
public import proofs.«01_k».proof.Proof.Gen.Kernel.Frame
public import Idealize.ShloMosaic.Lib.Pipeline.FrameBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- What a point finds and leaves in a window's staging buffer. -/
abbrev Aft (F : FTy → Type) : Type :=
  (w : Fin cfg0.W) → Fin cfg0.N → (Y X : (cfg0.win w).block.Idx → Elt F (cfg0.win w).elt) → Prop

/-- The operands of the body at point `t`. -/
def refsAt (t : Fin cfg0.N) : Refs where
  x := win0_0.stage (cfg0.slots t 0)
  hx := hstage0_0 ((cfg0.slots t 0).cast nbuf0_0)
  kp := win0_1.stage (cfg0.slots t 1)
  hkp := hstage0_1 ((cfg0.slots t 1).cast nbuf0_1)
  vt := win0_2.stage (cfg0.slots t 2)
  hvt := hstage0_2 ((cfg0.slots t 2).cast nbuf0_2)
  ksl := win0_3.stage (cfg0.slots t 3)
  hksl := hstage0_3 ((cfg0.slots t 3).cast nbuf0_3)
  vs := win0_4.stage (cfg0.slots t 4)
  hvs := hstage0_4 ((cfg0.slots t 4).cast nbuf0_4)
  out := win0_5.stage (cfg0.slots t 5)
  hout := hstage0_5 ((cfg0.slots t 5).cast nbuf0_5)
  qc := win0_6.stage (cfg0.slots t 6)
  hqc := hstage0_6 ((cfg0.slots t 6).cast nbuf0_6)
  qs := win0_7.stage (cfg0.slots t 7)
  hqs := hstage0_7 ((cfg0.slots t 7).cast nbuf0_7)
  s := Memref.whole cc0_scratch0
  hs := Memref.isWhole_whole _
  qt := Memref.whole cc0_scratch1
  hqt := Memref.isWhole_whole _
  a := Memref.whole cc0_scratch2
  ha := Memref.isWhole_whole _
  m8 := Memref.whole cc0_scratch3
  hm8 := Memref.isWhole_whole _
  acc := Memref.whole cc0_scratch4
  hacc := Memref.isWhole_whole _

/-- The scratch of `st` with the staging buffers at `Y`. -/
def atPoint (st : St F) (Y : (w : Fin cfg0.W) → (cfg0.win w).block.Idx → Elt F (cfg0.win w).elt) : St F :=
  { st with x := Y 0, kp := Y 1, vt := Y 2, ksl := Y 3, vs := Y 4, out := Y 5, qc := Y 6, qs := Y 7 }

/-- The scratch buffers owned at those of `st`. -/
def ownScr (c : Dev nD) (st : St F) : sProp 𝕄 :=
  iprop(own1 c (Memref.whole cc0_scratch0) st.s ∗ own1 c (Memref.whole cc0_scratch1) st.qt ∗ own1 c (Memref.whole cc0_scratch2) st.a
    ∗ own1 c (Memref.whole cc0_scratch3) st.m8 ∗ own1 c (Memref.whole cc0_scratch4) st.acc)

/-- The proof data: the arrays as the region finds them, the relations, the scratch in `Inv`. -/
def rdat (aft : Dev nD → Aft F) (Inv : Dev nD → Fin (cfg0.N + 1) → St F → Prop) (c : Dev nD) :
    RDat τ (Elt F) Unit ℕ (UR sig nD τ) ℕ cfg0 c where
  A w := V m c (Pipeline.arrRef spec0 w)
  after := aft c
  Φ t := iprop((∃ st, ⌜Inv c t st⌝ ∗ ownScr c st) ∗ ∃ r, prngReg c r)
  q _ := fullShare
  owed _ := 0

/-- What one point has to do: from staging buffers that may be found there and a scratch in the property, the body
    leaves the staging buffers in the relations and the scratch in the property of the next point. -/
def Step (aft : Dev nD → Aft F) (Inv : Dev nD → Fin (cfg0.N + 1) → St F → Prop) (c : Dev nD) : Prop :=
  ∀ (t : Fin cfg0.N) (st : St F) (Y : (w : Fin cfg0.W) → (cfg0.win w).block.Idx → Elt F (cfg0.win w).elt),
    (∀ w, (rdat m aft Inv c).Finds w t (Y w)) → Inv c t.castSucc st →
    let st' := (body stOps (grid0.coords t) (atPoint st Y)).2
    Inv c t.succ st' ∧ aft c 0 t (Y 0) st'.x ∧ aft c 1 t (Y 1) st'.kp ∧ aft c 2 t (Y 2) st'.vt ∧ aft c 3 t (Y 3) st'.ksl
      ∧ aft c 4 t (Y 4) st'.vs ∧ aft c 5 t (Y 5) st'.out ∧ aft c 6 t (Y 6) st'.qc ∧ aft c 7 t (Y 7) st'.qs

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

variable {m}

theorem obligation {aft : Dev nD → Aft F} {Inv : Dev nD → Fin (cfg0.N + 1) → St F → Prop} {c : Dev nD} (h : Step m aft Inv c) :
    (rdat m aft Inv c).BodyObligation (defs₀ (F := F)) Variants.none () Set.univ := by
  intro t Y hY
  rw [bigSep_W0, bigSep_W0, defs₀_row]
  have hb := fun st => ref_attention (F := F) (c := c) (R := refsAt t) (grid0.coords t) (atPoint st Y)
  show iprop(((∃ st, ⌜Inv c t.castSucc st⌝ ∗ ownScr c st) ∗ ∃ r, prngReg c r) ∗ (rdat m aft Inv c).owesAt () t.castSucc
      ∗ own1 c (refsAt t).x (Y 0) ∗ own1 c (refsAt t).kp (Y 1) ∗ own1 c (refsAt t).vt (Y 2) ∗ own1 c (refsAt t).ksl (Y 3)
      ∗ own1 c (refsAt t).vs (Y 4) ∗ own1 c (refsAt t).out (Y 5) ∗ own1 c (refsAt t).qc (Y 6) ∗ own1 c (refsAt t).qs (Y 7))
    ⊢ wp frame (wpE (defs₀ (F := F)) Variants.none (c : Thread nD τ) none) Set.univ (bodyAt0 t) fun _ =>
      iprop(((∃ st, ⌜Inv c t.succ st⌝ ∗ ownScr c st) ∗ ∃ r, prngReg c r) ∗ (rdat m aft Inv c).owesAt () t.succ
      ∗ (∃ X, ⌜aft c 0 t (Y 0) X⌝ ∗ own1 c (refsAt t).x X) ∗ (∃ X, ⌜aft c 1 t (Y 1) X⌝ ∗ own1 c (refsAt t).kp X)
      ∗ (∃ X, ⌜aft c 2 t (Y 2) X⌝ ∗ own1 c (refsAt t).vt X) ∗ (∃ X, ⌜aft c 3 t (Y 3) X⌝ ∗ own1 c (refsAt t).ksl X)
      ∗ (∃ X, ⌜aft c 4 t (Y 4) X⌝ ∗ own1 c (refsAt t).vs X) ∗ (∃ X, ⌜aft c 5 t (Y 5) X⌝ ∗ own1 c (refsAt t).out X)
      ∗ (∃ X, ⌜aft c 6 t (Y 6) X⌝ ∗ own1 c (refsAt t).qc X) ∗ (∃ X, ⌜aft c 7 t (Y 7) X⌝ ∗ own1 c (refsAt t).qs X))
  iintro ⟨⟨⟨%st, %hI, HS⟩, HP⟩, HO, H0, H1, H2, H3, H4, H5, H6, H7⟩
  obtain ⟨g, g0, g1, g2, g3, g4, g5, g6, g7⟩ := h t st Y hY hI
  iapply (hb st _)
  isplitl [HS H0 H1 H2 H3 H4 H5 H6 H7]
  · unfold own ownScr
    icases HS with ⟨HS0, HS1, HS2, HS3, HS4⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    iexact HS4
  generalize body stOps (grid0.coords t) (atPoint st Y) = r at *
  unfold own
  iintro ⟨H0, H1, H2, H3, H4, H5, H6, H7, HS0, HS1, HS2, HS3, HS4⟩
  isplitl [HP HS0 HS1 HS2 HS3 HS4]
  · isplitl [HS0 HS1 HS2 HS3 HS4]
    · iexists r.2
      isplitr; · ipureintro; exact g
      unfold ownScr
      isplitl [HS0]; · iexact HS0
      isplitl [HS1]; · iexact HS1
      isplitl [HS2]; · iexact HS2
      isplitl [HS3]; · iexact HS3
      iexact HS4
    · iexact HP
  isplitl [HO]
  · iapply (Pipeline.owesWithin_mono c 0 (B := (rdat m aft Inv c).bound () t.castSucc) (B' := (rdat m aft Inv c).bound () t.succ) fun _ _ => Or.inl trivial)
    iexact HO
  isplitl [H0]; · iexists _; isplitr; swap; (· iexact H0); ipureintro; exact g0
  isplitl [H1]; · iexists _; isplitr; swap; (· iexact H1); ipureintro; exact g1
  isplitl [H2]; · iexists _; isplitr; swap; (· iexact H2); ipureintro; exact g2
  isplitl [H3]; · iexists _; isplitr; swap; (· iexact H3); ipureintro; exact g3
  isplitl [H4]; · iexists _; isplitr; swap; (· iexact H4); ipureintro; exact g4
  isplitl [H5]; · iexists _; isplitr; swap; (· iexact H5); ipureintro; exact g5
  isplitl [H6]; · iexists _; isplitr; swap; (· iexact H6); ipureintro; exact g6
  iexists _; isplitr; swap; (· iexact H7); ipureintro; exact g7

variable (m)

/-- Scratch at any contents, before the first point: the property must hold of anything there; -/
theorem scr_in {aft : Dev nD → Aft F} {Inv : Dev nD → Fin (cfg0.N + 1) → St F → Prop} (c : Dev nD) (h0 : ∀ st, Inv c 0 st) :
    Pipeline.ΦA spec0 c ⊢ (rdat m aft Inv c).Φ 0 := by
  show _ ⊢ iprop((∃ st, ⌜Inv c 0 st⌝ ∗ ownScr c st) ∗ ∃ r, prngReg c r)
  unfold Pipeline.ΦA ownScr own1
  rw [scopedRest0_eq]
  simp only [owns_whole]
  iintro ⟨⟨⟨%f0, H0⟩, ⟨%f1, H1⟩, ⟨%f2, H2⟩, ⟨%f3, H3⟩, ⟨%f4, H4⟩⟩, HP⟩
  isplitl [H0 H1 H2 H3 H4]
  · iexists (⟨fun _ => Classical.arbitrary _, fun _ => Classical.arbitrary _, fun _ => Classical.arbitrary _, fun _ => Classical.arbitrary _,
      fun _ => Classical.arbitrary _, fun _ => Classical.arbitrary _, fun _ => Classical.arbitrary _, fun _ => Classical.arbitrary _,
      f0, f1, f2, f3, f4⟩ : St F)
    isplitr; · ipureintro; exact h0 _
    isplitl [H0]; · iexact H0
    isplitl [H1]; · iexact H1
    isplitl [H2]; · iexact H2
    isplitl [H3]; · iexact H3
    iexact H4
  · iexact HP

/-- and forgotten after the last. -/
theorem scr_out {aft : Dev nD → Aft F} {Inv : Dev nD → Fin (cfg0.N + 1) → St F → Prop} (c : Dev nD) :
    (rdat m aft Inv c).Φ (Fin.last cfg0.N) ⊢ Pipeline.ΦA spec0 c := by
  show iprop((∃ st, ⌜Inv c (Fin.last cfg0.N) st⌝ ∗ ownScr c st) ∗ ∃ r, prngReg c r) ⊢ _
  unfold Pipeline.ΦA ownScr own1
  rw [scopedRest0_eq]
  simp only [owns_whole]
  iintro ⟨⟨%st, -, H0, H1, H2, H3, H4⟩, HP⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  · iexact HP

set_option backward.isDefEq.respectTransparency.types false in
/-- The run: every execution ends, the arrays as the relations say, every other buffer as the region found it, every
    counter at zero. -/
theorem run_main {aft : Dev nD → Aft F} {Inv : Dev nD → Fin (cfg0.N + 1) → St F → Prop} (h0 : ∀ c st, Inv c 0 st)
    (h : ∀ c, Step m aft Inv c) :
    θ_run defs (onTc (τ := τ) (main (F := F))) (s₀ m ρ)
      (fun r => RDat.FramePost (cfgs 0) (rdat m aft Inv) (V m) r ∧ r.2.sem = fun _ => 0) :=
  RDat.θ_run_frame_track (Q' := _) cfgs (0 : Fin 1) launch0 defs₀ Variants.none (rdat m aft Inv) m ρ main
    (hbody := fun c => obligation (h c)) (hshare := fun c w => by unfold RDat.share; exact ite_self _) (howed := fun _ _ => rfl)
    (V := V m) (hmain := hmain m Variants.none) (hA := fun _ _ => rfl)
    (hin := fun c => scr_in m c (h0 c)) (hout := fun c => scr_out m c)

/-- The arguments after such a run. -/
theorem args_of {aft : Dev nD → Aft F} {Inv : Dev nD → Fin (cfg0.N + 1) → St F → Prop} {r : PUnit × MemSt nD τ sig (Elt F)}
    (h : RDat.FramePost (cfgs 0) (rdat m aft Inv) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.arr_in c 0 rfl).trans (V_main_arg0 m c), (h.arr_in c 1 rfl).trans (V_main_arg1 m c), (h.arr_in c 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame alone: nothing said of the results. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => args_of m h.1 c, h.2⟩)
    (run_main m ρ (aft := fun _ _ _ _ _ => True) (Inv := fun _ _ _ => True) (fun _ _ => trivial)
      fun _ _ _ _ _ _ => ⟨trivial, trivial, trivial, trivial, trivial, trivial, trivial, trivial, trivial⟩)

end Cert.Kernel.Hand
-- ==== Proof.Ideal.Text.lean ====
/-
  The attention body written compactly, over any monad that offers its loads and stores (`Ops`): the quantisation of
  the query block, one chunk of scores and probabilities, the loops over chunks, and the normalisation. Read in the
  machine's programs (`progOps`, Same.lean) it is the printed body; read in the state monad (Sem.lean) it is what the
  body does to its buffers.
-/
module

public import proofs.«01_k».proof.KernelIdeal

@[expose] public section

noncomputable section

namespace Cert.KernelIdeal.Hand

open Cert.KernelIdeal
open Idealize.ShloMosaic Idealize.SL.Sem

variable {F : FTy → Type} [FloatOps F] [Named F]

universe u

/-- The loads and stores of the body, each at the offsets it varies. -/
structure Ops (F : FTy → Type) (m : Type → Type u) where
  ldX : m (Vec F S1x128x640 .bf16)
  ldKsl : m (Vec F S1x1x240x128 .f32)
  ldVs : m (Vec F S1x1x160x128 .f32)
  ldKp (r : Nat) (h : r + 256 ≤ 15360) : m (Vec F S1x1x256x256 .fp8e4m3)
  ldVt (r : Nat) (h : r + 256 ≤ 15360) : m (Vec F S1x1x160x256 .fp8e4m3)
  ldOut : m (Vec F S1x128x640 .bf16)
  stOut (v : FVec F S1x128x640 .bf16) : m PUnit
  ldQc : m (Vec F S1x128x640 .fp8e4m3)
  stQc (v : FVec F S1x128x640 .fp8e4m3) : m PUnit
  ldQs (h : Nat) (hh : h < 4) : m (Vec F S1x1x1x128 .f32)
  stQs (h : Nat) (hh : h < 4) (v : FVec F S1x1x1x128 .f32) : m PUnit
  ldS (r c : Nat) (h : r + 64 ≤ 15360) (hc : c + 128 ≤ 512) : m (Vec F S64x128 .f32)
  stS (r c : Nat) (h : r + 64 ≤ 15360) (hc : c + 128 ≤ 512) (v : FVec F S64x128 .f32) : m PUnit
  ldQt1 (c : Nat) (hc : c = 0 ∨ c = 128 ∨ c = 256 ∨ c = 384) : m (Vec F S256x128 .fp8e4m3)
  stQt1 (c : Nat) (hc : c = 0 ∨ c = 128 ∨ c = 256 ∨ c = 384) (v : FVec F S256x128 .fp8e4m3) : m PUnit
  ldQt2 (c : Nat) (hc : c + 256 ≤ 512) : m (Vec F S256x256 .fp8e4m3)
  ldA (h : Nat) (hh : h < 4) : m (Vec F S1x240x128 .f32)
  stA (h : Nat) (hh : h < 4) (v : FVec F S1x240x128 .f32) : m PUnit
  ldARow (h r : Nat) (hh : h < 4) (hr : r < 240) : m (Vec F S1x1x128 .f32)
  ldM8Row (c : Nat) (hc : c + 128 ≤ 512) : m (Vec F S1x128 .f32)
  ldM8 (c : Nat) (hc : c + 128 ≤ 512) : m (Vec F S8x128 .f32)
  stM8 (c : Nat) (hc : c + 128 ≤ 512) (v : FVec F S8x128 .f32) : m PUnit
  ldAcc : m (Vec F S160x512 .f32)
  stAcc (v : FVec F S160x512 .f32) : m PUnit
  ldAcc1 (c : Nat) (hc : c + 128 ≤ 512) : m (Vec F S160x128 .f32)
  ldAcc2 (c : Nat) (hc : c + 256 ≤ 512) : m (Vec F S160x256 .f32)
  stAcc2 (c : Nat) (hc : c + 256 ≤ 512) (v : FVec F S160x256 .f32) : m PUnit
  loop {σ : Type} (l : Scf.Loop 32) (ok : l.OK) (init : σ) (body : Fin l.trips → σ → m σ) : m σ

/-! ## Rows of the scratch -/

/-- The first row of the block of 64 that starts `a + b` rows into chunk `j`; -/
def row (j a b : BitVec 32) : Nat :=
  (Scalar.indexCast (Scalar.addi (Scalar.addi (Scalar.muli j 512#32) a) b)).toNat
/-- the first row of the half `a` of chunk `j`; -/
def half (j a : BitVec 32) : Nat := (Scalar.indexCast (Scalar.addi (Scalar.muli j 512#32) a)).toNat
/-- the row of the key scales for block `a + b` of chunk `j`. -/
def arow (j a b : BitVec 32) : Nat :=
  (Scalar.indexCast (Scalar.addi (Scalar.addi (Scalar.muli j 8#32) a) b)).toNat

theorem row_eq {j a b : BitVec 32} (hj : j.toNat < 30) (ha : a.toNat ≤ 256) (hb : b.toNat ≤ 192) :
    row j a b = j.toNat * 512 + a.toNat + b.toNat := by
  show (((j * 512#32) + a) + b).toNat = _
  simp only [BitVec.toNat_add, BitVec.toNat_mul, BitVec.toNat_ofNat]
  omega

theorem half_eq {j a : BitVec 32} (hj : j.toNat < 30) (ha : a.toNat ≤ 256) : half j a = j.toNat * 512 + a.toNat := by
  show ((j * 512#32) + a).toNat = _
  simp only [BitVec.toNat_add, BitVec.toNat_mul, BitVec.toNat_ofNat]
  omega

theorem arow_eq {j a b : BitVec 32} (hj : j.toNat < 30) (ha : a.toNat ≤ 4) (hb : b.toNat ≤ 3) :
    arow j a b = j.toNat * 8 + a.toNat + b.toNat := by
  show (((j * 8#32) + a) + b).toNat = _
  simp only [BitVec.toNat_add, BitVec.toNat_mul, BitVec.toNat_ofNat]
  omega

theorem row_le {j a b : BitVec 32} (hj : j.toNat < 30) (ha : a.toNat ≤ 256) (hb : b.toNat ≤ 192) :
    row j a b + 64 ≤ 15360 := by rw [row_eq hj ha hb]; omega
theorem half_le {j a : BitVec 32} (hj : j.toNat < 30) (ha : a.toNat ≤ 256) : half j a + 256 ≤ 15360 := by
  rw [half_eq hj ha]; omega
theorem arow_lt {j a b : BitVec 32} (hj : j.toNat < 30) (ha : a.toNat ≤ 4) (hb : b.toNat ≤ 3) : arow j a b < 240 := by
  rw [arow_eq hj ha hb]; omega

/-! ## Pure pieces -/

variable [Facts]
open Facts₀ Facts

/-- Eight rows at a time, the 64 rows of `p` added to `s`; -/
def sum8 (p : FVec F S64x128 .f32) (s : FVec F S8x128 .f32) : FVec F S8x128 .f32 :=
  addf (addf (addf (addf (addf (addf (addf (addf s
    (extractStridedSlice S8x128 ![0, 0] p slices_S64x128_o0_0_S8x128))
    (extractStridedSlice S8x128 ![8, 0] p slices_S64x128_o8_0_S8x128))
    (extractStridedSlice S8x128 ![16, 0] p slices_S64x128_o16_0_S8x128))
    (extractStridedSlice S8x128 ![24, 0] p slices_S64x128_o24_0_S8x128))
    (extractStridedSlice S8x128 ![32, 0] p slices_S64x128_o32_0_S8x128))
    (extractStridedSlice S8x128 ![40, 0] p slices_S64x128_o40_0_S8x128))
    (extractStridedSlice S8x128 ![48, 0] p slices_S64x128_o48_0_S8x128))
    (extractStridedSlice S8x128 ![56, 0] p slices_S64x128_o56_0_S8x128)

/-- and the running maximum of `s` with them. -/
def max8 (p : FVec F S64x128 .f32) (s : FVec F S8x128 .f32) : FVec F S8x128 .f32 :=
  maximumf (maximumf (maximumf (maximumf (maximumf (maximumf (maximumf (maximumf s
    (extractStridedSlice S8x128 ![0, 0] p slices_S64x128_o0_0_S8x128))
    (extractStridedSlice S8x128 ![8, 0] p slices_S64x128_o8_0_S8x128))
    (extractStridedSlice S8x128 ![16, 0] p slices_S64x128_o16_0_S8x128))
    (extractStridedSlice S8x128 ![24, 0] p slices_S64x128_o24_0_S8x128))
    (extractStridedSlice S8x128 ![32, 0] p slices_S64x128_o32_0_S8x128))
    (extractStridedSlice S8x128 ![40, 0] p slices_S64x128_o40_0_S8x128))
    (extractStridedSlice S8x128 ![48, 0] p slices_S64x128_o48_0_S8x128))
    (extractStridedSlice S8x128 ![56, 0] p slices_S64x128_o56_0_S8x128)

/-- The probabilities of a block of scores, times 256; -/
def prob (y : FVec F S64x128 .f32) (m8 : FVec F S1x128 .f32) : FVec F S64x128 .f32 :=
  exp2 (subf y (broadcastTo S64x128 m8 broadcasts_S1x128_S64x128))

/-- their codes; -/
def pcode (p : FVec F S64x128 .f32) : FVec F S64x128 .fp8e4m3 :=
  truncf .fp8e4m3 (minimumf (broadcast S64x128 (Scalar.ofBits .f32 0x43E00000#32))
    (maximumf (broadcast S64x128 (Scalar.ofBits .f32 0x00000000#32)) p)) bitsLt_fp8e4m3_f32

/-- two blocks side by side; -/
def beside (p q : FVec F S64x128 .fp8e4m3) : FVec F S64x256 .fp8e4m3 :=
  concatenate S64x256 1 [⟨S64x128, p⟩, ⟨S64x128, q⟩] concatenates_S64x128_S64x128_S64x256_d1

/-- four of them on top of each other. -/
def stack (a b c d : FVec F S64x256 .fp8e4m3) : FVec F S256x256 .fp8e4m3 :=
  concatenate S256x256 0 [⟨S64x256, a⟩, ⟨S64x256, b⟩, ⟨S64x256, c⟩, ⟨S64x256, d⟩]
    concatenates_S64x256_S64x256_S64x256_S64x256_S256x256_d0

/-- The product of value codes and probability codes. -/
def pv (v : Vec F S1x1x160x256 .fp8e4m3) (p : FVec F S256x256 .fp8e4m3) : FVec F S160x256 .f32 :=
  matmul dot_S160x256_S256x256_S160x256_1_0_0_1_n_n none
    (shapeCast S160x256 v shapeCasts_S1x1x160x256_S160x256 : FVec F S160x256 .fp8e4m3) p (constant S160x256 .f32 0x00000000#32)

/-- The product of key codes and query codes. -/
def kq (k : Vec F S1x1x256x256 .fp8e4m3) (q : Vec F S256x256 .fp8e4m3) : FVec F S256x256 .f32 :=
  matmul dot_S256x256_S256x256_S256x256_1_0_0_1_n_n none
    (shapeCast S256x256 k shapeCasts_S1x1x256x256_S256x256 : FVec F S256x256 .fp8e4m3) (q : FVec F S256x256 .fp8e4m3)
    (constant S256x256 .f32 0x00000000#32)

/-- A block of products times its row of scales. -/
def scaled (y : FVec F S64x128 .f32) (a : Vec F S1x1x128 .f32) : FVec F S64x128 .f32 :=
  mulf y (broadcastTo S64x128 (shapeCast S1x128 a shapeCasts_S1x1x128_S1x128 : FVec F S1x128 .f32) broadcasts_S1x128_S64x128)

/-- The causal mask of the block whose first key is `k` and whose first query is `q`. -/
def causal (q k : BitVec 32) (y : FVec F S64x128 .f32) : FVec F S64x128 .f32 :=
  select (cmpi .sle (addi (broadcast S64x128 k) (iota .tc S64x128 32 [0] iota_S64x128_d0_w32))
    (addi (broadcast S64x128 q) (iota .tc S64x128 32 [1] iota_S64x128_d1_w32))) y
    (broadcast S64x128 (Scalar.ofBits .f32 0xFF800000#32))

/-! ## One chunk -/

variable {m : Type → Type u} [Monad m] (o : Ops F m)

/-- The codes and running sums of one block of 64 keys and 128 queries. -/
def probSub (j a b : BitVec 32) (hj : j.toNat < 30) (ha : a.toNat ≤ 256) (hb : b.toNat ≤ 192) (c : Nat) (hc : c + 128 ≤ 512)
    (s : FVec F S8x128 .f32) : m (FVec F S64x128 .fp8e4m3 × FVec F S8x128 .f32) := do
  let y ← o.ldS (row j a b) c (row_le hj ha hb) hc
  let m8 ← o.ldM8Row c hc
  pure (pcode (prob y m8), sum8 (prob y m8) s)

/-- Two such blocks side by side. -/
def probRow (j a b : BitVec 32) (hj : j.toNat < 30) (ha : a.toNat ≤ 256) (hb : b.toNat ≤ 192) (c c' : Nat)
    (hc : c + 128 ≤ 512) (hc' : c' + 128 ≤ 512) (s : FVec F S8x128 .f32 × FVec F S8x128 .f32) :
    m (FVec F S64x256 .fp8e4m3 × FVec F S8x128 .f32 × FVec F S8x128 .f32) := do
  let p ← probSub o j a b hj ha hb c hc s.1
  let q ← probSub o j a b hj ha hb c' hc' s.2
  pure (beside p.1 q.1, p.2, q.2)

/-- The codes of 256 keys and 256 queries, times the value codes. -/
def probPiece (j a : BitVec 32) (hj : j.toNat < 30) (ha : a.toNat ≤ 256) (c c' : Nat)
    (hc : c + 128 ≤ 512) (hc' : c' + 128 ≤ 512) (s : FVec F S8x128 .f32 × FVec F S8x128 .f32) :
    m (FVec F S160x256 .f32 × FVec F S8x128 .f32 × FVec F S8x128 .f32) := do
  let r0 ← probRow o j a 0#32 hj ha (by decide) c c' hc hc' s
  let r1 ← probRow o j a 64#32 hj ha (by decide) c c' hc hc' r0.2
  let r2 ← probRow o j a 128#32 hj ha (by decide) c c' hc hc' r1.2
  let r3 ← probRow o j a 192#32 hj ha (by decide) c c' hc hc' r2.2
  let v ← o.ldVt (half j a) (half_le hj ha)
  pure (pv v (stack r0.1 r1.1 r2.1 r3.1), r3.2)

/-- The scores of one block of 64 keys and 128 queries. -/
def scoreSub (mk : BitVec 32 → FVec F S64x128 .f32 → FVec F S64x128 .f32)
    (j a a' b b' : BitVec 32) (hj : j.toNat < 30) (ha : a.toNat ≤ 256) (hb : b.toNat ≤ 192) (ha' : a'.toNat ≤ 4) (hb' : b'.toNat ≤ 3)
    (h : Nat) (hh : h < 4) (c : Nat) (hc : c + 128 ≤ 512)
    (y : FVec F S64x128 .f32) (x : FVec F S8x128 .f32) : m (FVec F S8x128 .f32) := do
  let r ← o.ldARow h (arow j a' b') hh (arow_lt hj ha' hb')
  let _ ← o.ldS (row j a b) c (row_le hj ha hb) hc
  o.stS (row j a b) c (row_le hj ha hb) hc
    (shapeCast S64x128 (mk (Scalar.addi (Scalar.addi (Scalar.muli j 512#32) a) b) (scaled y r)) shapeCasts_S64x128_S64x128)
  pure (max8 (mk (Scalar.addi (Scalar.addi (Scalar.muli j 512#32) a) b) (scaled y r)) x)

/-- The scores of 256 keys and 256 queries. -/
def scorePiece (mk : BitVec 32 → FVec F S64x128 .f32 → FVec F S64x128 .f32)
    (j a a' : BitVec 32) (hj : j.toNat < 30) (ha : a.toNat ≤ 256) (ha' : a'.toNat ≤ 4)
    (h h' : Nat) (hh : h < 4) (hh' : h' < 4) (c c' : Nat) (hc : c + 128 ≤ 512) (hc' : c' + 128 ≤ 512) (hcc : c + 256 ≤ 512)
    (x : FVec F S8x128 .f32 × FVec F S8x128 .f32) : m (FVec F S8x128 .f32 × FVec F S8x128 .f32) := do
  let k ← o.ldKp (half j a) (half_le hj ha)
  let q ← o.ldQt2 c hcc
  let x0 ← scoreSub o mk j a a' 0#32 0#32 hj ha (by decide) ha' (by decide) h hh c hc
    (extractStridedSlice S64x128 ![0, 0] (kq k q) slices_S256x256_o0_0_S64x128) x.1
  let y0 ← scoreSub o mk j a a' 0#32 0#32 hj ha (by decide) ha' (by decide) h' hh' c' hc'
    (extractStridedSlice S64x128 ![0, 128] (kq k q) slices_S256x256_o0_128_S64x128) x.2
  let x1 ← scoreSub o mk j a a' 64#32 1#32 hj ha (by decide) ha' (by decide) h hh c hc
    (extractStridedSlice S64x128 ![64, 0] (kq k q) slices_S256x256_o64_0_S64x128) x0
  let y1 ← scoreSub o mk j a a' 64#32 1#32 hj ha (by decide) ha' (by decide) h' hh' c' hc'
    (extractStridedSlice S64x128 ![64, 128] (kq k q) slices_S256x256_o64_128_S64x128) y0
  let x2 ← scoreSub o mk j a a' 128#32 2#32 hj ha (by decide) ha' (by decide) h hh c hc
    (extractStridedSlice S64x128 ![128, 0] (kq k q) slices_S256x256_o128_0_S64x128) x1
  let y2 ← scoreSub o mk j a a' 128#32 2#32 hj ha (by decide) ha' (by decide) h' hh' c' hc'
    (extractStridedSlice S64x128 ![128, 128] (kq k q) slices_S256x256_o128_128_S64x128) y1
  let x3 ← scoreSub o mk j a a' 192#32 3#32 hj ha (by decide) ha' (by decide) h hh c hc
    (extractStridedSlice S64x128 ![192, 0] (kq k q) slices_S256x256_o192_0_S64x128) x2
  let y3 ← scoreSub o mk j a a' 192#32 3#32 hj ha (by decide) ha' (by decide) h' hh' c' hc'
    (extractStridedSlice S64x128 ![192, 128] (kq k q) slices_S256x256_o192_128_S64x128) y2
  pure (x3, y3)

/-- Four vectors of 8 × 128, one for each block of 128 columns. -/
abbrev Quad (F : FTy → Type) := FVec F S8x128 .f32 × FVec F S8x128 .f32 × FVec F S8x128 .f32 × FVec F S8x128 .f32
/-- Eight: the running maxima and the running sums. -/
abbrev Oct (F : FTy → Type) := FVec F S8x128 .f32 × FVec F S8x128 .f32 × FVec F S8x128 .f32 × FVec F S8x128 .f32 ×
  FVec F S8x128 .f32 × FVec F S8x128 .f32 × FVec F S8x128 .f32 × FVec F S8x128 .f32

/-- A chunk's products added to the accumulator. -/
def accAdd (g0 g1 : FVec F S160x256 .f32) : m PUnit := do
  let a ← o.ldAcc2 0 (by decide)
  let _ ← o.ldAcc2 0 (by decide)
  o.stAcc2 0 (by decide) (shapeCast S160x256 (addf a g0) shapeCasts_S160x256_S160x256)
  let b ← o.ldAcc2 256 (by decide)
  let _ ← o.ldAcc2 256 (by decide)
  o.stAcc2 256 (by decide) (shapeCast S160x256 (addf b g1) shapeCasts_S160x256_S160x256)

/-- A chunk: probabilities of the previous block of queries, scores of the current one. -/
def chunkBoth (mk : BitVec 32 → FVec F S64x128 .f32 → FVec F S64x128 .f32) (j : BitVec 32) (hj : j.toNat < 30)
    (x : Oct F) : m (Oct F) := do
  let p0 ← probPiece o j 0#32 hj (by decide) 0 128 (by decide) (by decide) (x.2.2.2.2.1, x.2.2.2.2.2.1)
  let m0 ← scorePiece o mk j 0#32 0#32 hj (by decide) (by decide) 0 1 (by decide) (by decide) 0 128 (by decide) (by decide) (by decide)
    (x.1, x.2.1)
  let p1 ← probPiece o j 0#32 hj (by decide) 256 384 (by decide) (by decide) (x.2.2.2.2.2.2.1, x.2.2.2.2.2.2.2)
  let m1 ← scorePiece o mk j 0#32 0#32 hj (by decide) (by decide) 2 3 (by decide) (by decide) 256 384 (by decide) (by decide) (by decide)
    (x.2.2.1, x.2.2.2.1)
  let p2 ← probPiece o j 256#32 hj (by decide) 0 128 (by decide) (by decide) p0.2
  let m2 ← scorePiece o mk j 256#32 4#32 hj (by decide) (by decide) 0 1 (by decide) (by decide) 0 128 (by decide) (by decide) (by decide) m0
  let p3 ← probPiece o j 256#32 hj (by decide) 256 384 (by decide) (by decide) p1.2
  let m3 ← scorePiece o mk j 256#32 4#32 hj (by decide) (by decide) 2 3 (by decide) (by decide) 256 384 (by decide) (by decide) (by decide) m1
  accAdd o (addf p0.1 p2.1) (addf p1.1 p3.1)
  pure (m2.1, m2.2, m3.1, m3.2, p2.2.1, p2.2.2, p3.2.1, p3.2.2)

/-- A chunk of scores alone; -/
def chunkScore (mk : BitVec 32 → FVec F S64x128 .f32 → FVec F S64x128 .f32) (j : BitVec 32) (hj : j.toNat < 30)
    (x : Oct F) : m (Oct F) := do
  let m0 ← scorePiece o mk j 0#32 0#32 hj (by decide) (by decide) 0 1 (by decide) (by decide) 0 128 (by decide) (by decide) (by decide)
    (x.1, x.2.1)
  let m1 ← scorePiece o mk j 0#32 0#32 hj (by decide) (by decide) 2 3 (by decide) (by decide) 256 384 (by decide) (by decide) (by decide)
    (x.2.2.1, x.2.2.2.1)
  let m2 ← scorePiece o mk j 256#32 4#32 hj (by decide) (by decide) 0 1 (by decide) (by decide) 0 128 (by decide) (by decide) (by decide) m0
  let m3 ← scorePiece o mk j 256#32 4#32 hj (by decide) (by decide) 2 3 (by decide) (by decide) 256 384 (by decide) (by decide) (by decide) m1
  pure (m2.1, m2.2, m3.1, m3.2, x.2.2.2.2.1, x.2.2.2.2.2.1, x.2.2.2.2.2.2.1, x.2.2.2.2.2.2.2)

/-- of probabilities alone. -/
def chunkProb (j : BitVec 32) (hj : j.toNat < 30) (x : Quad F) : m (Quad F) := do
  let p0 ← probPiece o j 0#32 hj (by decide) 0 128 (by decide) (by decide) (x.1, x.2.1)
  let p1 ← probPiece o j 0#32 hj (by decide) 256 384 (by decide) (by decide) (x.2.2.1, x.2.2.2)
  let p2 ← probPiece o j 256#32 hj (by decide) 0 128 (by decide) (by decide) p0.2
  let p3 ← probPiece o j 256#32 hj (by decide) 256 384 (by decide) (by decide) p1.2
  accAdd o (addf p0.1 p2.1) (addf p1.1 p3.1)
  pure (p2.2.1, p2.2.2, p3.2.1, p3.2.2)

/-! ## The queries -/

/-- One step of the search for the exponent's bits. -/
def bitStep (t : FVec F S1x1 .f32) (k : BitVec 32) (b : IVec S1x1 32) : IVec S1x1 32 :=
  select (cmpf .olt t (bitcastToFloat .f32 (addi b (broadcast S1x1 k)) : FVec F S1x1 .f32)) b (addi b (broadcast S1x1 k))

/-- The bits of `t` with the mantissa cleared; -/
def expBits (t : FVec F S1x1 .f32) : IVec S1x1 32 :=
  bitStep t 8388608#32 (bitStep t 16777216#32 (bitStep t 33554432#32 (bitStep t 67108864#32 (bitStep t 134217728#32
    (bitStep t 268435456#32 (bitStep t 536870912#32 (bitStep t 1073741824#32 (broadcast S1x1 0#32))))))))

/-- the exponent; -/
def expo (t : FVec F S1x1 .f32) : IVec S1x1 32 :=
  select (cmpi .slt (expBits t) (broadcast S1x1 8388608#32)) (broadcast S1x1 0#32)
    (subi (shrsi (expBits t) (broadcast S1x1 23#32)) (broadcast S1x1 126#32))

/-- the scale; -/
def scaleOf (t : FVec F S1x1 .f32) : FVec F S1x1 .f32 :=
  bitcastToFloat .f32 (shli (addi (expo t) (broadcast S1x1 127#32)) (broadcast S1x1 23#32))

/-- its inverse. -/
def invOf (t : FVec F S1x1 .f32) : FVec F S1x1 .f32 :=
  bitcastToFloat .f32 (shli (subi (broadcast S1x1 127#32) (expo t)) (broadcast S1x1 23#32))

/-- The matrix that takes lane `d + off` to row `d`, for the 160 lanes of a head. -/
def headSel (off : BitVec 32) : FVec F S256x256 .bf16 :=
  truncf .bf16 (select (andi (cmpi .eq (iota .tc S256x256 32 [1] iota_S256x256_d1_w32)
      (addi (iota .tc S256x256 32 [0] iota_S256x256_d0_w32) (broadcast S256x256 off)))
      (cmpi .slt (iota .tc S256x256 32 [0] iota_S256x256_d0_w32) (broadcast S256x256 160#32)))
    (broadcast S256x256 (Scalar.ofBits .f32 0x3F800000#32)) (broadcast S256x256 (Scalar.ofBits .f32 0x00000000#32)) : FVec F S256x256 .f32)
    bitsLt_bf16_f32

/-- A head's queries, transposed. -/
def headT (off : BitVec 32) (w : FVec F S128x256 .bf16) : FVec F S256x128 .f32 :=
  matmul dot_S256x256_S128x256_S256x128_1_1_0_0_n_n none (headSel off) w (constant S256x128 .f32 0x00000000#32)

/-- The largest magnitude over 448. -/
def absT (q : FVec F S256x128 .f32) : FVec F S1x1 .f32 :=
  mulf (shapeCast S1x1 (multiReduction .maximumf [1] S1
      (shapeCast S1x128 (multiReduction .maximumf [0] S128 (absf q) 0xFF800000#32 reduces_S256x128_S128 (.inl rfl) rfl : FVec F S128 .f32)
        shapeCasts_S128_S1x128 : FVec F S1x128 .f32) 0xFF800000#32 reduces_S1x128_S1 (.inl rfl) rfl : FVec F S1 .f32) shapeCasts_S1_S1x1)
    (broadcast S1x1 (Scalar.ofBits .f32 0x3B124925#32))

/-- The head's codes. -/
def codeT (q : FVec F S256x128 .f32) (i : FVec F S1x1 .f32) : FVec F S256x128 .fp8e4m3 :=
  truncf .fp8e4m3 (minimumf (broadcast S256x128 (Scalar.ofBits .f32 0x43E00000#32))
    (maximumf (broadcast S256x128 (Scalar.ofBits .f32 0xC3E00000#32))
      (mulf q (broadcastTo S256x128 i broadcasts_S1x1_S256x128)))) bitsLt_fp8e4m3_f32

/-- The inverse scales of the lanes, with those of head lanes `lo` to `hi` put in. -/
def laneInv (lo hi : BitVec 32) (i : FVec F S1x1 .f32) (l : FVec F S1x640 .f32) : FVec F S1x640 .f32 :=
  select (andi (cmpi .sge (iota .tc S1x640 32 [1] iota_S1x640_d1_w32) (broadcast S1x640 lo))
      (cmpi .slt (iota .tc S1x640 32 [1] iota_S1x640_d1_w32) (broadcast S1x640 hi)))
    (broadcastTo S1x640 (shapeCast S1x1 i shapeCasts_S1x1_S1x1 : FVec F S1x1 .f32) broadcasts_S1x1_S1x640) l

/-- A head of the block of queries `q`: its codes, its scale, its key scales. -/
def quantHead (h : Nat) (hh : h < 4) (c : Nat) (hc : c = 0 ∨ c = 128 ∨ c = 256 ∨ c = 384) (ksl : FVec F S240x128 .f32) (q : FVec F S256x128 .f32) :
    m PUnit := do
  let _ ← o.ldQt1 c hc
  o.stQt1 c hc (shapeCast S256x128 (codeT q (invOf (absT q))) shapeCasts_S256x128_S256x128)
  let _ ← o.ldQs h hh
  o.stQs h hh (shapeCast S1x1x1x128 (broadcastTo S1x128 (shapeCast S1x1 (scaleOf (absT q)) shapeCasts_S1x1_S1x1 : FVec F S1x1 .f32)
    broadcasts_S1x1_S1x128 : FVec F S1x128 .f32) shapeCasts_S1x128_S1x1x1x128)
  let _ ← o.ldA h hh
  o.stA h hh (shapeCast S1x240x128 (mulf ksl (broadcastTo S240x128
    (mulf (scaleOf (absT q)) (broadcast S1x1 (Named.named κ "score_scale_log2e" 0x3DE995B3#32))) broadcasts_S1x1_S240x128))
    shapeCasts_S240x128_S1x240x128)

/-- The four heads' rows of a block of queries. -/
def qT0 (x : FVec F S128x640 .bf16) : FVec F S256x128 .f32 :=
  headT 0#32 (extractStridedSlice S128x256 ![0, 0] x slices_S128x640_o0_0_S128x256)
def qT1 (x : FVec F S128x640 .bf16) : FVec F S256x128 .f32 :=
  headT 32#32 (extractStridedSlice S128x256 ![0, 128] x slices_S128x640_o0_128_S128x256)
def qT2 (x : FVec F S128x640 .bf16) : FVec F S256x128 .f32 :=
  headT 64#32 (extractStridedSlice S128x256 ![0, 256] x slices_S128x640_o0_256_S128x256)
def qT3 (x : FVec F S128x640 .bf16) : FVec F S256x128 .f32 :=
  headT 96#32 (extractStridedSlice S128x256 ![0, 384] x slices_S128x640_o0_384_S128x256)

/-- The lanes' inverse scales of the whole block. -/
def lanesOf (x : FVec F S128x640 .bf16) : FVec F S1x640 .f32 :=
  laneInv 480#32 640#32 (invOf (absT (qT3 x))) (laneInv 320#32 480#32 (invOf (absT (qT2 x)))
    (laneInv 160#32 320#32 (invOf (absT (qT1 x))) (laneInv 0#32 160#32 (invOf (absT (qT0 x)))
      (broadcast S1x640 (Scalar.ofBits .f32 0x3F800000#32)))))

/-- The block's codes. -/
def blockCodes (x : FVec F S128x640 .bf16) : FVec F S128x640 .fp8e4m3 :=
  truncf .fp8e4m3 (minimumf (broadcast S128x640 (Scalar.ofBits .f32 0x43E00000#32))
    (maximumf (broadcast S128x640 (Scalar.ofBits .f32 0xC3E00000#32))
      (mulf (extf .f32 x bitsLt_bf16_f32) (broadcastTo S128x640 (lanesOf x) broadcasts_S1x640_S128x640)))) bitsLt_fp8e4m3_f32

/-- The quantisation of the block of queries. -/
def quantise : m PUnit := do
  let x' ← o.ldX
  let k' ← o.ldKsl
  let x : FVec F S128x640 .bf16 := shapeCast S128x640 x' shapeCasts_S1x128x640_S128x640
  let ksl : FVec F S240x128 .f32 := shapeCast S240x128 k' shapeCasts_S1x1x240x128_S240x128
  quantHead o 0 (by decide) 0 (by decide) ksl (qT0 x)
  quantHead o 1 (by decide) 128 (by decide) ksl (qT1 x)
  quantHead o 2 (by decide) 256 (by decide) ksl (qT2 x)
  quantHead o 3 (by decide) 384 (by decide) ksl (qT3 x)
  let _ ← o.ldQc
  o.stQc (shapeCast S1x128x640 (blockCodes x) shapeCasts_S128x640_S1x128x640)

/-! ## The results -/

/-- A head's result from its accumulator, the value scales and its sums. -/
def normal (a : Vec F S160x128 .f32) (v : Vec F S1x1x160x128 .f32) (s : FVec F S8x128 .f32) : FVec F S160x128 .bf16 :=
  truncf .bf16 (divf (mulf (a : FVec F S160x128 .f32) (shapeCast S160x128 v shapeCasts_S1x1x160x128_S160x128 : FVec F S160x128 .f32))
    (broadcastTo S160x128 (shapeCast S1x128 (multiReduction .add [0] S128 s 0x00000000#32 reduces_S8x128_S128 (.inl rfl) rfl : FVec F S128 .f32)
      shapeCasts_S128_S1x128 : FVec F S1x128 .f32) broadcasts_S1x128_S160x128)) bitsLt_bf16_f32

/-- The four heads' results, transposed. -/
def joined (a b c d : FVec F S160x128 .bf16) : FVec F S128x640 .bf16 :=
  transpose S128x640 [1, 0] (concatenate S640x128 0 [⟨S160x128, a⟩, ⟨S160x128, b⟩, ⟨S160x128, c⟩, ⟨S160x128, d⟩]
    concatenates_S160x128_S160x128_S160x128_S160x128_S640x128_d0) transposes_S640x128_p1_0_S128x640

/-- The previous block's results written out. -/
def finishPrev (s0 s1 s2 s3 : FVec F S8x128 .f32) : m PUnit := do
  let a0 ← o.ldAcc1 0 (by decide)
  let v0 ← o.ldVs
  let a1 ← o.ldAcc1 128 (by decide)
  let v1 ← o.ldVs
  let a2 ← o.ldAcc1 256 (by decide)
  let v2 ← o.ldVs
  let a3 ← o.ldAcc1 384 (by decide)
  let v3 ← o.ldVs
  let _ ← o.ldOut
  o.stOut (shapeCast S1x128x640 (joined (normal a0 v0 s0) (normal a1 v1 s1) (normal a2 v2 s2) (normal a3 v3 s3))
    shapeCasts_S128x640_S1x128x640)

/-- The reference point of a head's probabilities: its maximum less 8. -/
def less8 (x : FVec F S8x128 .f32) : FVec F S8x128 .f32 :=
  broadcastTo S8x128 (shapeCast S1x128 (subf (shapeCast S1x128 (multiReduction .maximumf [0] S128 x 0xFF800000#32
    reduces_S8x128_S128 (.inl rfl) rfl : FVec F S128 .f32) shapeCasts_S128_S1x128 : FVec F S1x128 .f32)
    (broadcast S1x128 (Scalar.ofBits .f32 0x41000000#32))) shapeCasts_S1x128_S1x128 : FVec F S1x128 .f32) broadcasts_S1x128_S8x128

/-- A head's maximum kept for the next point. -/
def keepMax (c : Nat) (hc : c + 128 ≤ 512) (x : FVec F S8x128 .f32) : m PUnit := do
  let _ ← o.ldM8 c hc
  o.stM8 c hc (shapeCast S8x128 (less8 x) shapeCasts_S8x128_S8x128)

/-! ## The body -/

/-- The number of chunks of the block before point `b` of the queries' axis; -/
def nPrev (b : BitVec 32) : BitVec 32 :=
  let e := Scalar.subi (Scalar.addi (Scalar.muli b 128#32) 512#32) 1#32
  Scalar.select (Scalar.andi (Scalar.cmpi .ne (Scalar.subi (Scalar.extui (Scalar.cmpi .sgt e 0#32)) (Scalar.extui (Scalar.cmpi .slt e 0#32)))
      (Scalar.subi (Scalar.extui (Scalar.cmpi .sgt 512#32 0#32)) (Scalar.extui (Scalar.cmpi .slt 512#32 0#32))) : BitVec 1)
      (Scalar.cmpi .ne (Scalar.remsi e 512#32) 0#32))
    (Scalar.subi (Scalar.divsi e 512#32) 1#32) (Scalar.divsi e 512#32)

/-- of the block at the point. -/
def nCur (b : BitVec 32) : BitVec 32 := nPrev (Scalar.addi b 1#32)

/-- The point on the queries' axis. -/
def pt (i : grid0.Coords) : BitVec 32 := BitVec.ofNat 32 (i 1).val

theorem nPrev_eq : ∀ n : Fin 122, nPrev (BitVec.ofNat 32 n.val) = BitVec.ofNat 32 ((n.val + 3) / 4) := by decide +kernel
theorem nCur_eq (n : Fin 121) : nCur (BitVec.ofNat 32 n.val) = BitVec.ofNat 32 ((n.val + 4) / 4) := by
  have h := nPrev_eq ⟨n.val + 1, by omega⟩
  have e : Scalar.addi (BitVec.ofNat 32 n.val) 1#32 = BitVec.ofNat 32 (n.val + 1) := by
    show BitVec.ofNat 32 n.val + 1#32 = _
    rw [BitVec.ofNat_add]
  rw [nCur, e]; exact h

/-- The last chunk of the point's block. -/
def lastOf (i : grid0.Coords) : BitVec 32 := Scalar.subi (nCur (pt i)) 1#32

theorem cond1_iff : ∀ n : Fin 121, (Scalar.cmpi .ne (Scalar.extui (Scalar.cmpi .slt (BitVec.ofNat 32 n.val) 120#32) : BitVec 32) 0#32 = 1#1) ↔
    n.val < 120 := by decide +kernel

theorem k0_cond1_iff (i : grid0.Coords) : k0_cond1 i = 1#1 ↔ (i 1).val < 120 := cond1_iff (i 1)

theorem ofNat_toNat_small {n : Nat} (h : n < 4294967296) : (BitVec.ofNat 32 n).toNat = n := by
  rw [BitVec.toNat_ofNat]; exact Nat.mod_eq_of_lt h

theorem last_lt (i : grid0.Coords) (h : k0_cond1 i = 1#1) : (lastOf i).toNat < 30 := by
  have h' := (k0_cond1_iff i).1 h
  rw [lastOf, pt, nCur_eq (i 1)]
  show (BitVec.ofNat 32 _ - 1#32).toNat < 30
  rw [BitVec.toNat_sub, ofNat_toNat_small (by omega), ofNat_toNat_small (by omega)]
  omega

/-- The loops' bounds. -/
theorem t1_loop_eq (i : grid0.Coords) : k0_t1_loop i = ⟨0#32, Scalar.addi 0#32 (Scalar.muli (Scalar.divsi (Scalar.subi (lastOf i) 0#32) 1#32) 1#32), 1#32⟩ := rfl

theorem trips1 : ∀ n : Fin 121, Scf.trips 0#32 (Scalar.addi 0#32 (Scalar.muli (Scalar.divsi (Scalar.subi (Scalar.subi (nCur (BitVec.ofNat 32 n.val)) 1#32) 0#32) 1#32) 1#32)) 1#32
    = n.val / 4 := by decide +kernel

theorem t1_trips (i : grid0.Coords) : (k0_t1_loop i).trips = (i 1).val / 4 := trips1 (i 1)

theorem trips2 : ∀ n : Fin 121, Scf.trips (Scalar.addi 0#32 (Scalar.muli (Scalar.divsi (Scalar.subi (Scalar.subi (nCur (BitVec.ofNat 32 n.val)) 1#32) 0#32) 1#32) 1#32))
    (Scalar.addi 0#32 (Scalar.subi (Scalar.subi (nCur (BitVec.ofNat 32 n.val)) 1#32) 0#32)) 1#32 = 0 := by decide +kernel

theorem t2_trips (i : grid0.Coords) : (k0_t2_loop i).trips = 0 := trips2 (i 1)

theorem trips3 : ∀ n : Fin 121, Scf.trips 0#32 (Scalar.addi 0#32 (Scalar.muli (Scalar.divsi (Scalar.subi (nPrev (BitVec.ofNat 32 n.val)) 0#32) 1#32) 1#32)) 1#32
    = (n.val + 3) / 4 := by decide +kernel

theorem t3_trips (i : grid0.Coords) : (k0_t3_loop i).trips = ((i 1).val + 3) / 4 := trips3 (i 1)

theorem trips4 : ∀ n : Fin 121, Scf.trips (Scalar.addi 0#32 (Scalar.muli (Scalar.divsi (Scalar.subi (nPrev (BitVec.ofNat 32 n.val)) 0#32) 1#32) 1#32))
    (Scalar.addi 0#32 (Scalar.subi (nPrev (BitVec.ofNat 32 n.val)) 0#32)) 1#32 = 0 := by decide +kernel

theorem t4_trips (i : grid0.Coords) : (k0_t4_loop i).trips = 0 := trips4 (i 1)

theorem iv_small (k : Nat) (h : k < 30) : (Scf.iv 0#32 1#32 k).toNat = k := by
  show ((0#32 : BitVec 32) + BitVec.ofNat 32 k * 1#32).toNat = k
  rw [BitVec.zero_add, BitVec.mul_one, ofNat_toNat_small (by omega)]

theorem lt_of_t {a b : Nat} (e : a = b) (hb : b ≤ 30) (k : Fin a) : k.val < 30 := by have := k.2; omega

theorem iv1_lt (i : grid0.Coords) (k : Fin (k0_t1_loop i).trips) : (Scf.iv 0#32 1#32 k.val).toNat < 30 := by
  have h : k.val < 30 := lt_of_t (t1_trips i) (by have : (i 1).val < 121 := (i 1).2; omega) k
  rw [iv_small _ h]; exact h
theorem iv3_lt (i : grid0.Coords) (k : Fin (k0_t3_loop i).trips) : (Scf.iv 0#32 1#32 k.val).toNat < 30 := by
  have h : k.val < 30 := lt_of_t (t3_trips i) (by have : (i 1).val < 121 := (i 1).2; omega) k
  rw [iv_small _ h]; exact h
theorem no_trip {a : Nat} (e : a = 0) (k : Fin a) {p : Prop} : p := by have := k.2; omega

/-- Zeros and bottoms to start from. -/
def zero8 : FVec F S8x128 .f32 := broadcast S8x128 (Scalar.ofBits .f32 0x00000000#32)
def bot8 : FVec F S8x128 .f32 := broadcast S8x128 (Scalar.ofBits .f32 0xFF800000#32)

/-- The mask of the last chunk. -/
def mkLast (i : grid0.Coords) : BitVec 32 → FVec F S64x128 .f32 → FVec F S64x128 .f32 := causal (Scalar.muli (pt i) 128#32)

/-- The scores of the point's block and the probabilities of the block before: the eight running vectors, one by one (with
    the printed program's zero). -/
def scores (i : grid0.Coords) (h1 : k0_cond1 i = 1#1) :
    m (Σ' (_ : FVec F S8x128 .f32) (_ : FVec F S8x128 .f32) (_ : FVec F S8x128 .f32) (_ : FVec F S8x128 .f32)
      (_ : FVec F S8x128 .f32) (_ : FVec F S8x128 .f32) (_ : FVec F S8x128 .f32) (_ : FVec F S8x128 .f32), BitVec 32) := do
  let x ← o.loop (k0_t1_loop i) (k0_t1_ok i h1) ((bot8, bot8, bot8, bot8, zero8, zero8, zero8, zero8) : Oct F) fun k x =>
    chunkBoth o (fun _ y => y) (Scf.iv 0#32 1#32 k.val) (iv1_lt i k) x
  let y ← o.loop (k0_t2_loop i) (k0_t2_ok i h1) x fun k x =>
    chunkBoth o (fun _ y => y) (Scf.iv (Scalar.addi 0#32 (Scalar.muli (Scalar.divsi (Scalar.subi (lastOf i) 0#32) 1#32) 1#32)) 1#32 k.val)
      (no_trip (t2_trips i) k) x
  let z ← if h2 : k0_cond2 i = 1#1 then chunkBoth o (mkLast i) (lastOf i) (last_lt i h1) y
    else chunkScore o (mkLast i) (lastOf i) (last_lt i h1) y
  pure ⟨z.1, z.2.1, z.2.2.1, z.2.2.2.1, z.2.2.2.2.1, z.2.2.2.2.2.1, z.2.2.2.2.2.2.1, z.2.2.2.2.2.2.2, 0#32⟩

/-- The block before written out, the maxima of the point's block kept; the fourth head's is returned. -/
def closing (i : grid0.Coords) (x0 x1 x2 x3 s0 s1 s2 s3 : FVec F S8x128 .f32) : m (FVec F S8x128 .f32) := do
  if h3 : k0_cond3 i = 1#1 then finishPrev o s0 s1 s2 s3 else pure ⟨⟩
  keepMax o 0 (by decide) x0
  keepMax o 128 (by decide) x1
  keepMax o 256 (by decide) x2
  let _ ← o.ldM8 384 (by decide)
  pure (shapeCast S8x128 (less8 x3) shapeCasts_S8x128_S8x128)

/-- The last block's probabilities, and three heads' results. -/
def lastProbs (i : grid0.Coords) (h4 : k0_cond4 i = 1#1) :
    m (Σ' (_ : FVec F S8x128 .f32) (_ : FVec F S160x128 .bf16) (_ : FVec F S160x128 .bf16), FVec F S160x128 .bf16) := do
  let x ← o.loop (k0_t3_loop i) (k0_t3_ok i h4) ((zero8, zero8, zero8, zero8) : Quad F) fun k x =>
    chunkProb o (Scf.iv 0#32 1#32 k.val) (iv3_lt i k) x
  let y ← o.loop (k0_t4_loop i) (k0_t4_ok i h4) x fun k x =>
    chunkProb o (Scf.iv (Scalar.addi 0#32 (Scalar.muli (Scalar.divsi (Scalar.subi (nPrev (pt i)) 0#32) 1#32) 1#32)) 1#32 k.val)
      (no_trip (t4_trips i) k) x
  let a0 ← o.ldAcc1 0 (by decide)
  let v0 ← o.ldVs
  let a1 ← o.ldAcc1 128 (by decide)
  let v1 ← o.ldVs
  let a2 ← o.ldAcc1 256 (by decide)
  let v2 ← o.ldVs
  pure ⟨y.2.2.2, normal a0 v0 y.1, normal a1 v1 y.2.1, normal a2 v2 y.2.2.1⟩

/-- The body at a grid point. -/
def body (i : grid0.Coords) : m PUnit := do
  let _ ← o.ldAcc
  o.stAcc (shapeCast S160x512 (broadcast S160x512 (Scalar.ofBits .f32 0x00000000#32) : FVec F S160x512 .f32) shapeCasts_S160x512_S160x512)
  if h1 : k0_cond1 i = 1#1 then
    quantise o
    let z ← scores o i h1
    let w ← closing o i z.1 z.2.1 z.2.2.1 z.2.2.2.1 z.2.2.2.2.1 z.2.2.2.2.2.1 z.2.2.2.2.2.2.1 z.2.2.2.2.2.2.2.1
    o.stM8 384 (by decide) w
  else pure ⟨⟩
  if h4 : k0_cond4 i = 1#1 then
    let z ← lastProbs o i h4
    let a3 ← o.ldAcc1 384 (by decide)
    let v3 ← o.ldVs
    let _ ← o.ldOut
    o.stOut (shapeCast S1x128x640 (joined z.2.1 z.2.2.1 z.2.2.2 (normal a3 v3 z.1)) shapeCasts_S128x640_S1x128x640)
  else pure ⟨⟩

end Cert.KernelIdeal.Hand
-- ==== Proof.Ideal.Same.lean ====
/-
  The printed attention body is the compact text (Text.lean) read in the machine's programs.
-/
module

public import proofs.«01_k».proof.Proof.Ideal.Text

@[expose] public section

noncomputable section

namespace Cert.KernelIdeal.Hand

open Cert.KernelIdeal
open Idealize.ShloMosaic Idealize.SL.Sem

variable {F : FTy → Type} [FloatOps F] [Named F]

/-- The body's operands: five inputs, three results, five scratch buffers, each a whole buffer. -/
structure Refs where
  x : Memref sig .tc .vmem S1x128x640 .bf16
  hx : x.IsWhole
  kp : Memref sig .tc .vmem S1x1x15360x256 .fp8e4m3
  hkp : kp.IsWhole
  vt : Memref sig .tc .vmem S1x1x160x15360 .fp8e4m3
  hvt : vt.IsWhole
  ksl : Memref sig .tc .vmem S1x1x240x128 .f32
  hksl : ksl.IsWhole
  vs : Memref sig .tc .vmem S1x1x160x128 .f32
  hvs : vs.IsWhole
  out : Memref sig .tc .vmem S1x128x640 .bf16
  hout : out.IsWhole
  qc : Memref sig .tc .vmem S1x128x640 .fp8e4m3
  hqc : qc.IsWhole
  qs : Memref sig .tc .vmem S1x1x4x128 .f32
  hqs : qs.IsWhole
  s : Memref sig .tc .vmem S15360x512 .f32
  hs : s.IsWhole
  qt : Memref sig .tc .vmem S256x512 .fp8e4m3
  hqt : qt.IsWhole
  a : Memref sig .tc .vmem S4x240x128 .f32
  ha : a.IsWhole
  m8 : Memref sig .tc .vmem S8x512 .f32
  hm8 : m8.IsWhole
  acc : Memref sig .tc .vmem S160x512 .f32
  hacc : acc.IsWhole

/-! ## Every access is inside its buffer -/

theorem inS (r c : Nat) (h : r + 64 ≤ 15360) (hc : c + 128 ≤ 512) :
    ∀ a, (![r, c] : Fin 2 → Nat) a + S64x128.size a ≤ S15360x512.size a := Fin.forall_fin_two.2 ⟨h, hc⟩
theorem inKp (r : Nat) (h : r + 256 ≤ 15360) :
    ∀ a, (![0, 0, r, 0] : Fin 4 → Nat) a + S1x1x256x256.size a ≤ S1x1x15360x256.size a
  | 0 => Nat.le_refl _ | 1 => Nat.le_refl _ | 2 => h | 3 => Nat.le_refl _
theorem inVt (r : Nat) (h : r + 256 ≤ 15360) :
    ∀ a, (![0, 0, 0, r] : Fin 4 → Nat) a + S1x1x160x256.size a ≤ S1x1x160x15360.size a
  | 0 => Nat.le_refl _ | 1 => Nat.le_refl _ | 2 => Nat.le_refl _ | 3 => h
theorem inQs (h : Nat) (hh : h < 4) :
    ∀ a, (![0, 0, h, 0] : Fin 4 → Nat) a + S1x1x1x128.size a ≤ S1x1x4x128.size a
  | 0 => Nat.le_refl _ | 1 => Nat.le_refl _ | 2 => hh | 3 => Nat.le_refl _
theorem inQt1 (c : Nat) (hc : c = 0 ∨ c = 128 ∨ c = 256 ∨ c = 384) :
    ∀ a, (![0, c] : Fin 2 → Nat) a + S256x128.size a ≤ S256x512.size a :=
  Fin.forall_fin_two.2 ⟨Nat.le_refl _, by show c + 128 ≤ 512; omega⟩
theorem inQt2 (c : Nat) (hc : c + 256 ≤ 512) :
    ∀ a, (![0, c] : Fin 2 → Nat) a + S256x256.size a ≤ S256x512.size a := Fin.forall_fin_two.2 ⟨Nat.le_refl _, hc⟩
theorem inA (h : Nat) (hh : h < 4) :
    ∀ a, (![h, 0, 0] : Fin 3 → Nat) a + S1x240x128.size a ≤ S4x240x128.size a
  | 0 => hh | 1 => Nat.le_refl _ | 2 => Nat.le_refl _
theorem inARow (h r : Nat) (hh : h < 4) (hr : r < 240) :
    ∀ a, (![h, r, 0] : Fin 3 → Nat) a + S1x1x128.size a ≤ S4x240x128.size a
  | 0 => hh | 1 => hr | 2 => Nat.le_refl _
theorem inM8Row (c : Nat) (hc : c + 128 ≤ 512) :
    ∀ a, (![0, c] : Fin 2 → Nat) a + S1x128.size a ≤ S8x512.size a := Fin.forall_fin_two.2 ⟨(by decide : 0 + 1 ≤ 8), hc⟩
theorem inM8 (c : Nat) (hc : c + 128 ≤ 512) :
    ∀ a, (![0, c] : Fin 2 → Nat) a + S8x128.size a ≤ S8x512.size a := Fin.forall_fin_two.2 ⟨Nat.le_refl _, hc⟩
theorem inAcc1 (c : Nat) (hc : c + 128 ≤ 512) :
    ∀ a, (![0, c] : Fin 2 → Nat) a + S160x128.size a ≤ S160x512.size a := Fin.forall_fin_two.2 ⟨Nat.le_refl _, hc⟩
theorem inAcc2 (c : Nat) (hc : c + 256 ≤ 512) :
    ∀ a, (![0, c] : Fin 2 → Nat) a + S160x256.size a ≤ S160x512.size a := Fin.forall_fin_two.2 ⟨Nat.le_refl _, hc⟩

variable [Facts]
open Facts₀ Facts

theorem packedQt (c : Nat) (hc : c = 0 ∨ c = 128 ∨ c = 256 ∨ c = 384) :
    (Rect.unit (s := S256x512) ![0, c] S256x128.size (inQt1 c hc)).PackedRows (EltTy.packing .fp8e4m3) := by
  rcases hc with rfl | rfl | rfl | rfl
  · exact packedfp8e4m3_S256x512_S256x128_0_0
  · exact packedfp8e4m3_S256x512_S256x128_0_128
  · exact packedfp8e4m3_S256x512_S256x128_0_256
  · exact packedfp8e4m3_S256x512_S256x128_0_384

/-- The machine's programs over the kernel's labels. -/
abbrev Pr (F : FTy → Type) := Prog (TpuEff nD τ sig (Elt F) Λ₀ .tc)

/-- The loads and stores as the machine's. -/
def progOps (R : Refs) : Ops F (Pr F) where
  ldX := Prog.lift (.load R.x (Rect.unit (s := S1x128x640) ![0, 0, 0] S1x128x640.size inb_S1x128x640_S1x128x640_0_0_0).toLoadRect (View.loadsAt_vmem h_S1x128x640))
  ldKsl := Prog.lift (.load R.ksl (Rect.unit (s := S1x1x240x128) ![0, 0, 0, 0] S1x1x240x128.size inb_S1x1x240x128_S1x1x240x128_0_0_0_0).toLoadRect (View.loadsAt_vmem h_S1x1x240x128))
  ldVs := Prog.lift (.load R.vs (Rect.unit (s := S1x1x160x128) ![0, 0, 0, 0] S1x1x160x128.size inb_S1x1x160x128_S1x1x160x128_0_0_0_0).toLoadRect (View.loadsAt_vmem h_S1x1x160x128))
  ldKp r h := Prog.lift (.load R.kp (Rect.unit (s := S1x1x15360x256) ![0, 0, r, 0] S1x1x256x256.size (inKp r h)).toLoadRect (View.loadsAt_vmem h_S1x1x256x256))
  ldVt r h := Prog.lift (.load R.vt (Rect.unit (s := S1x1x160x15360) ![0, 0, 0, r] S1x1x160x256.size (inVt r h)).toLoadRect (View.loadsAt_vmem h_S1x1x160x256))
  ldOut := Prog.lift (.load R.out (Rect.unit (s := S1x128x640) ![0, 0, 0] S1x128x640.size inb_S1x128x640_S1x128x640_0_0_0).toLoadRect (View.loadsAt_vmem h_S1x128x640))
  stOut v := Prog.lift (.store R.out (Rect.unit (s := S1x128x640) ![0, 0, 0] S1x128x640.size inb_S1x128x640_S1x128x640_0_0_0) v Finset.univ (View.stores_vmem h_S1x128x640 (R.hout.storeExact_slice rfl _ packedbf16_S1x128x640_S1x128x640_0_0_0) (fun _ => rfl)) (.inl rfl))
  ldQc := Prog.lift (.load R.qc (Rect.unit (s := S1x128x640) ![0, 0, 0] S1x128x640.size inb_S1x128x640_S1x128x640_0_0_0).toLoadRect (View.loadsAt_vmem h_S1x128x640))
  stQc v := Prog.lift (.store R.qc (Rect.unit (s := S1x128x640) ![0, 0, 0] S1x128x640.size inb_S1x128x640_S1x128x640_0_0_0) v Finset.univ (View.stores_vmem h_S1x128x640 (R.hqc.storeExact_slice rfl _ packedfp8e4m3_S1x128x640_S1x128x640_0_0_0) (fun _ => rfl)) (.inl rfl))
  ldQs h hh := Prog.lift (.load R.qs (Rect.unit (s := S1x1x4x128) ![0, 0, h, 0] S1x1x1x128.size (inQs h hh)).toLoadRect (View.loadsAt_vmem h_S1x1x1x128))
  stQs h hh v := Prog.lift (.store R.qs (Rect.unit (s := S1x1x4x128) ![0, 0, h, 0] S1x1x1x128.size (inQs h hh)) v Finset.univ (View.stores_vmem_bits_univ h_S1x1x1x128 rfl) (.inl rfl))
  ldS r c h hc := Prog.lift (.load R.s (Rect.unit (s := S15360x512) ![r, c] S64x128.size (inS r c h hc)).toLoadRect (View.loadsAt_vmem h_S64x128))
  stS r c h hc v := Prog.lift (.store R.s (Rect.unit (s := S15360x512) ![r, c] S64x128.size (inS r c h hc)) v Finset.univ (View.stores_vmem_bits_univ h_S64x128 rfl) (.inl rfl))
  ldQt1 c hc := Prog.lift (.load R.qt (Rect.unit (s := S256x512) ![0, c] S256x128.size (inQt1 c hc)).toLoadRect (View.loadsAt_vmem h_S256x128))
  stQt1 c hc v := Prog.lift (.store R.qt (Rect.unit (s := S256x512) ![0, c] S256x128.size (inQt1 c hc)) v Finset.univ (View.stores_vmem h_S256x128 (R.hqt.storeExact_slice rfl _ (packedQt c hc)) (fun _ => rfl)) (.inl rfl))
  ldQt2 c hc := Prog.lift (.load R.qt (Rect.unit (s := S256x512) ![0, c] S256x256.size (inQt2 c hc)).toLoadRect (View.loadsAt_vmem h_S256x256))
  ldA h hh := Prog.lift (.load R.a (Rect.unit (s := S4x240x128) ![h, 0, 0] S1x240x128.size (inA h hh)).toLoadRect (View.loadsAt_vmem h_S1x240x128))
  stA h hh v := Prog.lift (.store R.a (Rect.unit (s := S4x240x128) ![h, 0, 0] S1x240x128.size (inA h hh)) v Finset.univ (View.stores_vmem_bits_univ h_S1x240x128 rfl) (.inl rfl))
  ldARow h r hh hr := Prog.lift (.load R.a (Rect.unit (s := S4x240x128) ![h, r, 0] S1x1x128.size (inARow h r hh hr)).toLoadRect (View.loadsAt_vmem h_S1x1x128))
  ldM8Row c hc := Prog.lift (.load R.m8 (Rect.unit (s := S8x512) ![0, c] S1x128.size (inM8Row c hc)).toLoadRect (View.loadsAt_vmem h_S1x128))
  ldM8 c hc := Prog.lift (.load R.m8 (Rect.unit (s := S8x512) ![0, c] S8x128.size (inM8 c hc)).toLoadRect (View.loadsAt_vmem h_S8x128))
  stM8 c hc v := Prog.lift (.store R.m8 (Rect.unit (s := S8x512) ![0, c] S8x128.size (inM8 c hc)) v Finset.univ (View.stores_vmem_bits_univ h_S8x128 rfl) (.inl rfl))
  ldAcc := Prog.lift (.load R.acc (Rect.unit (s := S160x512) ![0, 0] S160x512.size inb_S160x512_S160x512_0_0).toLoadRect (View.loadsAt_vmem h_S160x512))
  stAcc v := Prog.lift (.store R.acc (Rect.unit (s := S160x512) ![0, 0] S160x512.size inb_S160x512_S160x512_0_0) v Finset.univ (View.stores_vmem_bits_univ h_S160x512 rfl) (.inl rfl))
  ldAcc1 c hc := Prog.lift (.load R.acc (Rect.unit (s := S160x512) ![0, c] S160x128.size (inAcc1 c hc)).toLoadRect (View.loadsAt_vmem h_S160x128))
  ldAcc2 c hc := Prog.lift (.load R.acc (Rect.unit (s := S160x512) ![0, c] S160x256.size (inAcc2 c hc)).toLoadRect (View.loadsAt_vmem h_S160x256))
  stAcc2 c hc v := Prog.lift (.store R.acc (Rect.unit (s := S160x512) ![0, c] S160x256.size (inAcc2 c hc)) v Finset.univ (View.stores_vmem_bits_univ h_S160x256 rfl) (.inl rfl))
  loop l ok init body := Scf.Loop.for l ok init body

end Cert.KernelIdeal.Hand
-- ==== Proof.Ideal.Sem.lean ====
/-
  What the attention body does to its buffers. `St` is the contents of the thirteen buffers; `stOps` reads the compact text
  (Text.lean) as a function on them. `Ref p f` says that the program `p`, run by a core that owns the buffers at some contents,
  returns what `f` returns and leaves the buffers as `f` leaves them; the rules below give it for the loads, the stores,
  sequences and loops.
-/
module

public import proofs.«01_k».proof.Proof.Ideal.Same
public import Idealize.ShloMosaic.Lib.Pipeline.Frame
public import Idealize.ShloMosaic.Lib.Tactic

@[expose] public section

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The contents of the thirteen buffers, in the order of the operands. -/
structure St (F : FTy → Type) where
  x : Vec F S1x128x640 .bf16
  kp : Vec F S1x1x15360x256 .fp8e4m3
  vt : Vec F S1x1x160x15360 .fp8e4m3
  ksl : Vec F S1x1x240x128 .f32
  vs : Vec F S1x1x160x128 .f32
  out : Vec F S1x128x640 .bf16
  qc : Vec F S1x128x640 .fp8e4m3
  qs : Vec F S1x1x4x128 .f32
  s : Vec F S15360x512 .f32
  qt : Vec F S256x512 .fp8e4m3
  a : Vec F S4x240x128 .f32
  m8 : Vec F S8x512 .f32
  acc : Vec F S160x512 .f32

/-- `X` read at the rectangle; -/
def rd {s : Shape} {α : Type} (r : Rect s) (X : s.Idx → α) : r.shape.Idx → α := fun y => X (r.emb y)
/-- `X` with `w` put at the rectangle. -/
def wr {s : Shape} {α : Type} (r : Rect s) (X : s.Idx → α) (w : r.shape.Idx → α) : s.Idx → α := Function.extend r.emb w X

theorem wr_emb {s : Shape} {α : Type} (r : Rect s) (X : s.Idx → α) (w : r.shape.Idx → α) (y : r.shape.Idx) :
    wr r X w (r.emb y) = w y := r.emb.injective.extend_apply w X y
theorem wr_off {s : Shape} {α : Type} (r : Rect s) (X : s.Idx → α) (w : r.shape.Idx → α) (y : s.Idx)
    (h : ∀ x, r.emb x ≠ y) : wr r X w y = X y := Function.extend_apply' w X y fun ⟨x, hx⟩ => h x hx

section Ops

variable {F : FTy → Type} [FloatOps F] [Named F] [Facts]
open Facts₀ Facts

/-- The loads and stores as functions on the contents. -/
def stOps : Ops F (StateM (St F)) where
  ldX := fun st => (rd (Rect.unit (s := S1x128x640) ![0, 0, 0] S1x128x640.size inb_S1x128x640_S1x128x640_0_0_0) st.x, st)
  ldKsl := fun st => (rd (Rect.unit (s := S1x1x240x128) ![0, 0, 0, 0] S1x1x240x128.size inb_S1x1x240x128_S1x1x240x128_0_0_0_0) st.ksl, st)
  ldVs := fun st => (rd (Rect.unit (s := S1x1x160x128) ![0, 0, 0, 0] S1x1x160x128.size inb_S1x1x160x128_S1x1x160x128_0_0_0_0) st.vs, st)
  ldKp r h := fun st => (rd (Rect.unit (s := S1x1x15360x256) ![0, 0, r, 0] S1x1x256x256.size (inKp r h)) st.kp, st)
  ldVt r h := fun st => (rd (Rect.unit (s := S1x1x160x15360) ![0, 0, 0, r] S1x1x160x256.size (inVt r h)) st.vt, st)
  ldOut := fun st => (rd (Rect.unit (s := S1x128x640) ![0, 0, 0] S1x128x640.size inb_S1x128x640_S1x128x640_0_0_0) st.out, st)
  stOut v := fun st => (⟨⟩, { st with out := wr (Rect.unit (s := S1x128x640) ![0, 0, 0] S1x128x640.size inb_S1x128x640_S1x128x640_0_0_0) st.out v })
  ldQc := fun st => (rd (Rect.unit (s := S1x128x640) ![0, 0, 0] S1x128x640.size inb_S1x128x640_S1x128x640_0_0_0) st.qc, st)
  stQc v := fun st => (⟨⟩, { st with qc := wr (Rect.unit (s := S1x128x640) ![0, 0, 0] S1x128x640.size inb_S1x128x640_S1x128x640_0_0_0) st.qc v })
  ldQs h hh := fun st => (rd (Rect.unit (s := S1x1x4x128) ![0, 0, h, 0] S1x1x1x128.size (inQs h hh)) st.qs, st)
  stQs h hh v := fun st => (⟨⟩, { st with qs := wr (Rect.unit (s := S1x1x4x128) ![0, 0, h, 0] S1x1x1x128.size (inQs h hh)) st.qs v })
  ldS r c h hc := fun st => (rd (Rect.unit (s := S15360x512) ![r, c] S64x128.size (inS r c h hc)) st.s, st)
  stS r c h hc v := fun st => (⟨⟩, { st with s := wr (Rect.unit (s := S15360x512) ![r, c] S64x128.size (inS r c h hc)) st.s v })
  ldQt1 c hc := fun st => (rd (Rect.unit (s := S256x512) ![0, c] S256x128.size (inQt1 c hc)) st.qt, st)
  stQt1 c hc v := fun st => (⟨⟩, { st with qt := wr (Rect.unit (s := S256x512) ![0, c] S256x128.size (inQt1 c hc)) st.qt v })
  ldQt2 c hc := fun st => (rd (Rect.unit (s := S256x512) ![0, c] S256x256.size (inQt2 c hc)) st.qt, st)
  ldA h hh := fun st => (rd (Rect.unit (s := S4x240x128) ![h, 0, 0] S1x240x128.size (inA h hh)) st.a, st)
  stA h hh v := fun st => (⟨⟩, { st with a := wr (Rect.unit (s := S4x240x128) ![h, 0, 0] S1x240x128.size (inA h hh)) st.a v })
  ldARow h r hh hr := fun st => (rd (Rect.unit (s := S4x240x128) ![h, r, 0] S1x1x128.size (inARow h r hh hr)) st.a, st)
  ldM8Row c hc := fun st => (rd (Rect.unit (s := S8x512) ![0, c] S1x128.size (inM8Row c hc)) st.m8, st)
  ldM8 c hc := fun st => (rd (Rect.unit (s := S8x512) ![0, c] S8x128.size (inM8 c hc)) st.m8, st)
  stM8 c hc v := fun st => (⟨⟩, { st with m8 := wr (Rect.unit (s := S8x512) ![0, c] S8x128.size (inM8 c hc)) st.m8 v })
  ldAcc := fun st => (rd (Rect.unit (s := S160x512) ![0, 0] S160x512.size inb_S160x512_S160x512_0_0) st.acc, st)
  stAcc v := fun st => (⟨⟩, { st with acc := wr (Rect.unit (s := S160x512) ![0, 0] S160x512.size inb_S160x512_S160x512_0_0) st.acc v })
  ldAcc1 c hc := fun st => (rd (Rect.unit (s := S160x512) ![0, c] S160x128.size (inAcc1 c hc)) st.acc, st)
  ldAcc2 c hc := fun st => (rd (Rect.unit (s := S160x512) ![0, c] S160x256.size (inAcc2 c hc)) st.acc, st)
  stAcc2 c hc v := fun st => (⟨⟩, { st with acc := wr (Rect.unit (s := S160x512) ![0, c] S160x256.size (inAcc2 c hc)) st.acc v })
  loop l ok init body := (List.finRange l.trips).foldlM (fun x k => body k x) init

end Ops

section Rules

variable {F : FTy → Type} [FloatOps F] [Named F] [Facts] [∀ e, Nonempty (Elt F e)]
open Facts₀ Facts

local notation "𝕄" => MT nD τ sig Unit (Elt F) ℕ (UR sig nD τ) ℕ

variable (c : Dev nD) (R : Refs)

/-- One buffer owned whole. -/
abbrev own1 {sh : Shape} {e : EltTy} (m : Memref sig .tc .vmem sh e) (X : sh.Idx → Elt F e) : sProp 𝕄 :=
  owns (c : Thread nD τ) m fullShare X

/-- The thirteen buffers owned at the contents `st`. -/
def own (st : St F) : sProp 𝕄 :=
  iprop(own1 c R.x st.x ∗ own1 c R.kp st.kp ∗ own1 c R.vt st.vt ∗ own1 c R.ksl st.ksl ∗ own1 c R.vs st.vs
    ∗ own1 c R.out st.out ∗ own1 c R.qc st.qc ∗ own1 c R.qs st.qs
    ∗ own1 c R.s st.s ∗ own1 c R.qt st.qt ∗ own1 c R.a st.a ∗ own1 c R.m8 st.m8 ∗ own1 c R.acc st.acc)

/-- The program `p` does to the buffers what `f` does to their contents. -/
def Ref {α : Type} (p : Pr F α) (f : StateM (St F) α) : Prop :=
  ∀ (st : St F) (Q : α → sProp 𝕄), iprop(own c R st ∗ (own c R (f st).2 -∗ Q (f st).1))
    ⊢ wp frame (wpE (defs₀ (F := F)) Variants.none (c : Thread nD τ) none) Set.univ p Q

variable {c R}

theorem Ref.pure {α : Type} (a : α) : Ref c R (Pure.pure a : Pr F α) (Pure.pure a) := by
  intro st Q
  show iprop(own c R st ∗ (own c R st -∗ Q a)) ⊢ wp _ _ _ (Prog.ret a) Q
  rw [wp_ret]
  iintro ⟨H, HQ⟩
  imodintro
  iapply HQ
  iexact H

theorem Ref.bind {α β : Type} {p : Pr F α} {f : StateM (St F) α} {k : α → Pr F β} {g : α → StateM (St F) β}
    (h : Ref c R p f) (hk : ∀ a, Ref c R (k a) (g a)) : Ref c R (p >>= k) (f >>= g) := by
  intro st Q
  rw [wp_bind]
  refine BIBase.Entails.trans ?_ (h st _)
  iintro ⟨H, HQ⟩
  isplitl [H]; · iexact H
  iintro H
  iapply (hk (f st).1 (f st).2 Q)
  isplitl [H]; · iexact H
  iexact HQ

theorem Ref.dite {α : Type} {P : Prop} [Decidable P] {p : P → Pr F α} {q : ¬P → Pr F α} {f : P → StateM (St F) α} {g : ¬P → StateM (St F) α}
    (h : ∀ x, Ref c R (p x) (f x)) (h' : ∀ x, Ref c R (q x) (g x)) :
    Ref c R (if x : P then p x else q x) (if x : P then f x else g x) := by
  by_cases x : P
  · rw [dif_pos x, dif_pos x]; exact h x
  · rw [dif_neg x, dif_neg x]; exact h' x

theorem Ref.loop {σ : Type} (l : Scf.Loop 32) (ok : l.OK) (init : σ) {b : Fin l.trips → σ → Pr F σ}
    {b' : Fin l.trips → σ → StateM (St F) σ} (h : ∀ k x, Ref c R (b k x) (b' k x)) :
    Ref c R ((progOps R).loop l ok init b) (stOps.loop l ok init b') := by
  show Ref c R (Scf.for l.lb l.ub l.st ok init b) ((List.finRange l.trips).foldlM (fun x k => b' k x) init)
  rw [Scf.for_eq]
  show Ref c R (Scf.forFrom b (List.finRange l.trips) init) _
  generalize List.finRange l.trips = L
  induction L generalizing init with
  | nil => exact Ref.pure init
  | cons k L ih =>
    rw [Scf.forFrom_cons, List.foldlM_cons]
    exact Ref.bind (h k init) fun a => ih a

/-- A load of a buffer, given how the buffer is taken from the thirteen. -/
theorem Ref.load {sh : Shape} {e : EltTy} (m : Memref sig .tc .vmem sh e) (r : Rect sh) (hl : m.view.LoadsAt r)
    (get : St F → sh.Idx → Elt F e) (rest : St F → sProp 𝕄)
    (h : ∀ st, own c R st ⊢ iprop(own1 c m (get st) ∗ rest st)) (h' : ∀ st, iprop(own1 c m (get st) ∗ rest st) ⊢ own c R st) :
    Ref c R (Prog.lift (.load m r.toLoadRect hl) : Pr F _) (fun st => (rd r (get st), st)) := by
  intro st Q
  refine BIBase.Entails.trans (sep_mono_left (h st)) ?_
  unfold own1 owns Prog.lift
  iintro ⟨⟨⟨%f, %hf, H⟩, HR⟩, HQ⟩
  iapply (wp_load_rect Variants.none (c : Thread nD τ) none Set.univ (m := m) (r := r) (hl := hl) (S := m.view.set) (f := f)
    (View.set_slice_subset _ _)) $$ H
  iintro H
  rw [wp_ret]
  imodintro
  have e : (m.access r).read (Elt F) f = rd r (get st) := by rw [← hf]; rfl
  rw [e]
  iapply HQ
  iapply (h' st)
  isplitl [H]
  · unfold own1 owns; iexists f; isplitr; · ipureintro; exact hf
    iexact H
  · iexact HR

/-- A store, likewise. -/
theorem Ref.store {sh : Shape} {e : EltTy} (m : Memref sig .tc .vmem sh e) (r : Rect sh) (w : r.shape.Idx → Elt F e)
    (hx : (m.access r).Stores Finset.univ) (hm : Finset.univ = Finset.univ ∨ ∀ a, r.stride a = 1)
    (get : St F → sh.Idx → Elt F e) (set : St F → (sh.Idx → Elt F e) → St F) (rest : St F → sProp 𝕄)
    (h : ∀ st, own c R st ⊢ iprop(own1 c m (get st) ∗ rest st))
    (h' : ∀ st X, iprop(own1 c m X ∗ rest st) ⊢ own c R (set st X)) :
    Ref c R (Prog.lift (.store m r w Finset.univ hx hm) : Pr F _) (fun st => (⟨⟩, set st (wr r (get st) w))) := by
  intro st Q
  refine BIBase.Entails.trans (sep_mono_left (h st)) ?_
  unfold own1 owns Prog.lift
  iintro ⟨⟨⟨%f, %hf, H⟩, HR⟩, HQ⟩
  iapply (wp_store Variants.none (c : Thread nD τ) none Set.univ (m := m) (r := r) (w := w) (Mk := Finset.univ) (hx := hx) (hm := hm)
    (S := m.view.set) (f := f) (by rw [View.setOn_univ]; exact View.set_slice_subset _ _)) $$ H
  iintro H
  rw [wp_ret]
  imodintro
  iapply HQ
  iapply (h' st (wr r (get st) w))
  isplitl [H]
  · unfold own1 owns; iexists _; isplitr; swap; · iexact H
    ipureintro
    rw [← hf]
    funext y
    by_cases hy : ∃ x, r.emb x = y
    · obtain ⟨x, rfl⟩ := hy
      rw [wr_emb]
      exact View.read_slice_write_emb r f w (Finset.mem_univ x)
    · rw [wr_off _ _ _ _ fun x hx => hy ⟨x, hx⟩]
      refine View.read_slice_write_of_not_mem r f w Finset.univ fun hmem => hy ?_
      obtain ⟨x, -, hx⟩ := Finset.mem_map.mp hmem
      exact ⟨x, hx⟩
  · iexact HR

/-- The same, the program and the function given up to equality. -/
theorem Ref.store_of {sh : Shape} {e : EltTy} {p : Pr F PUnit} {f : StateM (St F) PUnit} (m : Memref sig .tc .vmem sh e) (r : Rect sh)
    (w : r.shape.Idx → Elt F e)
    (hp : ∃ hx hm, p = Prog.lift (.store m r w Finset.univ hx hm))
    (get : St F → sh.Idx → Elt F e) (set : St F → (sh.Idx → Elt F e) → St F) (rest : St F → sProp 𝕄)
    (hf : ∀ st, f st = (⟨⟩, set st (wr r (get st) w)))
    (h : ∀ st, own c R st ⊢ iprop(own1 c m (get st) ∗ rest st))
    (h' : ∀ st X, iprop(own1 c m X ∗ rest st) ⊢ own c R (set st X)) : Ref c R p f := by
  obtain ⟨hx, hm, rfl⟩ := hp
  obtain rfl : f = _ := funext hf
  exact Ref.store m r w hx hm get set rest h h'

end Rules

end Cert.KernelIdeal.Hand
-- ==== Proof.Ideal.Cells.lean ====
/-
  The cells of a buffer by natural numbers: `at2 X r c` is the element of `X` in row `r` and column `c`, and zero outside
  (`at3`, `at4` at higher ranks). A rectangle read is a shift of the cells, a rectangle put is a case on them.
-/
module

public import proofs.«01_k».proof.Proof.Ideal.Sem
public import Idealize.ShloMosaic.Lib.Pointwise

@[expose] public section

noncomputable section

namespace Cert.KernelIdeal.Hand

open Cert.KernelIdeal
open Idealize.ShloMosaic

/-- The cell in row `r` and column `c`; -/
def at2 {R C : ℕ} (X : (⟨2, ![R, C]⟩ : Shape).Idx → EReal) (r c : ℕ) : EReal :=
  if h : r < R ∧ c < C then X (ix2 ⟨r, h.1⟩ ⟨c, h.2⟩) else 0
/-- at rank three; -/
def at3 {A R C : ℕ} (X : (⟨3, ![A, R, C]⟩ : Shape).Idx → EReal) (a r c : ℕ) : EReal :=
  if h : a < A ∧ r < R ∧ c < C then X (ix3 ⟨a, h.1⟩ ⟨r, h.2.1⟩ ⟨c, h.2.2⟩) else 0
/-- at rank four. -/
def at4 {A B R C : ℕ} (X : (⟨4, ![A, B, R, C]⟩ : Shape).Idx → EReal) (a b r c : ℕ) : EReal :=
  if h : a < A ∧ b < B ∧ r < R ∧ c < C then X (ix4 ⟨a, h.1⟩ ⟨b, h.2.1⟩ ⟨r, h.2.2.1⟩ ⟨c, h.2.2.2⟩) else 0

theorem at2_of {R C : ℕ} (X : (⟨2, ![R, C]⟩ : Shape).Idx → EReal) {r c : ℕ} (hr : r < R) (hc : c < C) :
    at2 X r c = X (ix2 ⟨r, hr⟩ ⟨c, hc⟩) := dif_pos ⟨hr, hc⟩
theorem at3_of {A R C : ℕ} (X : (⟨3, ![A, R, C]⟩ : Shape).Idx → EReal) {a r c : ℕ} (ha : a < A) (hr : r < R) (hc : c < C) :
    at3 X a r c = X (ix3 ⟨a, ha⟩ ⟨r, hr⟩ ⟨c, hc⟩) := dif_pos ⟨ha, hr, hc⟩
theorem at4_of {A B R C : ℕ} (X : (⟨4, ![A, B, R, C]⟩ : Shape).Idx → EReal) {a b r c : ℕ} (ha : a < A) (hb : b < B) (hr : r < R) (hc : c < C) :
    at4 X a b r c = X (ix4 ⟨a, ha⟩ ⟨b, hb⟩ ⟨r, hr⟩ ⟨c, hc⟩) := dif_pos ⟨ha, hb, hr, hc⟩

theorem at2_val {R C : ℕ} (X : (⟨2, ![R, C]⟩ : Shape).Idx → EReal) (r : Fin R) (c : Fin C) : X (ix2 r c) = at2 X r.val c.val :=
  (at2_of X r.2 c.2).symm
theorem at3_val {A R C : ℕ} (X : (⟨3, ![A, R, C]⟩ : Shape).Idx → EReal) (a : Fin A) (r : Fin R) (c : Fin C) :
    X (ix3 a r c) = at3 X a.val r.val c.val := (at3_of X a.2 r.2 c.2).symm
theorem at4_val {A B R C : ℕ} (X : (⟨4, ![A, B, R, C]⟩ : Shape).Idx → EReal) (a : Fin A) (b : Fin B) (r : Fin R) (c : Fin C) :
    X (ix4 a b r c) = at4 X a.val b.val r.val c.val := (at4_of X a.2 b.2 r.2 c.2).symm

/-- A rectangle read, at rank two; -/
theorem at2_rd {R C n k r0 c0 : ℕ} (X : (⟨2, ![R, C]⟩ : Shape).Idx → EReal)
    (inb : ∀ a, (![r0, c0] : Fin 2 → ℕ) a + (![n, k] : Fin 2 → ℕ) a ≤ (⟨2, ![R, C]⟩ : Shape).size a) {r c : ℕ} (hr : r < n) (hc : c < k) :
    at2 (R := n) (C := k) (rd (Rect.unit (s := ⟨2, ![R, C]⟩) ![r0, c0] ![n, k] inb) X) r c = at2 X (r0 + r) (c0 + c) := by
  have h0 : r0 + n ≤ R := inb 0
  have h1 : c0 + k ≤ C := inb 1
  rw [at2_of _ hr hc, at2_of _ (by omega : r0 + r < R) (by omega : c0 + c < C)]
  refine congrArg X (funext fun a => Fin.ext ?_)
  revert a
  rw [Fin.forall_fin_two]
  constructor
  · show r0 + 1 * r = r0 + r; omega
  · show c0 + 1 * c = c0 + c; omega

/-- at rank three; -/
theorem at3_rd {A R C l n k a0 r0 c0 : ℕ} (X : (⟨3, ![A, R, C]⟩ : Shape).Idx → EReal)
    (inb : ∀ a, (![a0, r0, c0] : Fin 3 → ℕ) a + (![l, n, k] : Fin 3 → ℕ) a ≤ (⟨3, ![A, R, C]⟩ : Shape).size a) {a r c : ℕ}
    (ha : a < l) (hr : r < n) (hc : c < k) :
    at3 (A := l) (R := n) (C := k) (rd (Rect.unit (s := ⟨3, ![A, R, C]⟩) ![a0, r0, c0] ![l, n, k] inb) X) a r c
      = at3 X (a0 + a) (r0 + r) (c0 + c) := by
  have h0 : a0 + l ≤ A := inb 0
  have h1 : r0 + n ≤ R := inb 1
  have h2 : c0 + k ≤ C := inb 2
  rw [at3_of _ ha hr hc, at3_of _ (by omega : a0 + a < A) (by omega : r0 + r < R) (by omega : c0 + c < C)]
  refine congrArg X (funext fun a => Fin.ext ?_)
  revert a
  rw [Fin.forall_fin_succ, Fin.forall_fin_two]
  refine ⟨?_, ?_, ?_⟩
  · show a0 + 1 * a = a0 + a; omega
  · show r0 + 1 * r = r0 + r; omega
  · show c0 + 1 * c = c0 + c; omega

/-- at rank four. -/
theorem at4_rd {A B R C l p n k a0 b0 r0 c0 : ℕ} (X : (⟨4, ![A, B, R, C]⟩ : Shape).Idx → EReal)
    (inb : ∀ a, (![a0, b0, r0, c0] : Fin 4 → ℕ) a + (![l, p, n, k] : Fin 4 → ℕ) a ≤ (⟨4, ![A, B, R, C]⟩ : Shape).size a) {a b r c : ℕ}
    (ha : a < l) (hb : b < p) (hr : r < n) (hc : c < k) :
    at4 (A := l) (B := p) (R := n) (C := k) (rd (Rect.unit (s := ⟨4, ![A, B, R, C]⟩) ![a0, b0, r0, c0] ![l, p, n, k] inb) X) a b r c
      = at4 X (a0 + a) (b0 + b) (r0 + r) (c0 + c) := by
  have h0 : a0 + l ≤ A := inb 0
  have h1 : b0 + p ≤ B := inb 1
  have h2 : r0 + n ≤ R := inb 2
  have h3 : c0 + k ≤ C := inb 3
  rw [at4_of _ ha hb hr hc, at4_of _ (by omega : a0 + a < A) (by omega : b0 + b < B) (by omega : r0 + r < R) (by omega : c0 + c < C)]
  refine congrArg X (funext fun a => Fin.ext ?_)
  revert a
  rw [Fin.forall_fin_succ, Fin.forall_fin_succ, Fin.forall_fin_two]
  refine ⟨?_, ?_, ?_, ?_⟩
  · show a0 + 1 * a = a0 + a; omega
  · show b0 + 1 * b = b0 + b; omega
  · show r0 + 1 * r = r0 + r; omega
  · show c0 + 1 * c = c0 + c; omega

/-- A rectangle put, at rank two; -/
theorem at2_wr {R C n k r0 c0 : ℕ} (X : (⟨2, ![R, C]⟩ : Shape).Idx → EReal)
    (inb : ∀ a, (![r0, c0] : Fin 2 → ℕ) a + (![n, k] : Fin 2 → ℕ) a ≤ (⟨2, ![R, C]⟩ : Shape).size a)
    (w : (⟨2, ![n, k]⟩ : Shape).Idx → EReal) (r c : ℕ) :
    at2 (wr (Rect.unit (s := ⟨2, ![R, C]⟩) ![r0, c0] ![n, k] inb) X w) r c
      = if (r0 ≤ r ∧ r < r0 + n) ∧ (c0 ≤ c ∧ c < c0 + k) then at2 w (r - r0) (c - c0) else at2 X r c := by
  have h0 : r0 + n ≤ R := inb 0
  have h1 : c0 + k ≤ C := inb 1
  split
  case isTrue h =>
    rw [at2_of _ (by omega : r < R) (by omega : c < C), at2_of _ (by omega : r - r0 < n) (by omega : c - c0 < k)]
    refine Eq.trans (congrArg _ ?_) (wr_emb (Rect.unit (s := ⟨2, ![R, C]⟩) ![r0, c0] ![n, k] inb) X w _)
    refine funext fun a => Fin.ext ?_
    revert a
    rw [Fin.forall_fin_two]
    constructor
    · show r = r0 + 1 * (r - r0); omega
    · show c = c0 + 1 * (c - c0); omega
  case isFalse h =>
    by_cases hb : r < R ∧ c < C
    · rw [at2_of _ hb.1 hb.2, at2_of _ hb.1 hb.2]
      refine wr_off _ _ _ _ fun x hx => h ?_
      have e0 : r0 + 1 * (x 0).val = r := congrArg (fun y => (y 0).val) hx
      have e1 : c0 + 1 * (x 1).val = c := congrArg (fun y => (y 1).val) hx
      have l0 : (x 0).val < n := (x 0).2
      have l1 : (x 1).val < k := (x 1).2
      omega
    · unfold at2; rw [dif_neg hb, dif_neg hb]

/-- at rank three; -/
theorem at3_wr {A R C l n k a0 r0 c0 : ℕ} (X : (⟨3, ![A, R, C]⟩ : Shape).Idx → EReal)
    (inb : ∀ a, (![a0, r0, c0] : Fin 3 → ℕ) a + (![l, n, k] : Fin 3 → ℕ) a ≤ (⟨3, ![A, R, C]⟩ : Shape).size a)
    (w : (⟨3, ![l, n, k]⟩ : Shape).Idx → EReal) (a r c : ℕ) :
    at3 (wr (Rect.unit (s := ⟨3, ![A, R, C]⟩) ![a0, r0, c0] ![l, n, k] inb) X w) a r c
      = if (a0 ≤ a ∧ a < a0 + l) ∧ (r0 ≤ r ∧ r < r0 + n) ∧ (c0 ≤ c ∧ c < c0 + k) then at3 w (a - a0) (r - r0) (c - c0) else at3 X a r c := by
  have h0 : a0 + l ≤ A := inb 0
  have h1 : r0 + n ≤ R := inb 1
  have h2 : c0 + k ≤ C := inb 2
  split
  case isTrue h =>
    rw [at3_of _ (by omega : a < A) (by omega : r < R) (by omega : c < C),
      at3_of _ (by omega : a - a0 < l) (by omega : r - r0 < n) (by omega : c - c0 < k)]
    refine Eq.trans (congrArg _ ?_) (wr_emb (Rect.unit (s := ⟨3, ![A, R, C]⟩) ![a0, r0, c0] ![l, n, k] inb) X w _)
    refine funext fun i => Fin.ext ?_
    revert i
    rw [Fin.forall_fin_succ, Fin.forall_fin_two]
    refine ⟨?_, ?_, ?_⟩
    · show a = a0 + 1 * (a - a0); omega
    · show r = r0 + 1 * (r - r0); omega
    · show c = c0 + 1 * (c - c0); omega
  case isFalse h =>
    by_cases hb : a < A ∧ r < R ∧ c < C
    · rw [at3_of _ hb.1 hb.2.1 hb.2.2, at3_of _ hb.1 hb.2.1 hb.2.2]
      refine wr_off _ _ _ _ fun x hx => h ?_
      have e0 : a0 + 1 * (x 0).val = a := congrArg (fun y => (y 0).val) hx
      have e1 : r0 + 1 * (x 1).val = r := congrArg (fun y => (y 1).val) hx
      have e2 : c0 + 1 * (x 2).val = c := congrArg (fun y => (y 2).val) hx
      have l0 : (x 0).val < l := (x 0).2
      have l1 : (x 1).val < n := (x 1).2
      have l2 : (x 2).val < k := (x 2).2
      omega
    · unfold at3; rw [dif_neg hb, dif_neg hb]

/-- at rank four. -/
theorem at4_wr {A B R C l p n k a0 b0 r0 c0 : ℕ} (X : (⟨4, ![A, B, R, C]⟩ : Shape).Idx → EReal)
    (inb : ∀ a, (![a0, b0, r0, c0] : Fin 4 → ℕ) a + (![l, p, n, k] : Fin 4 → ℕ) a ≤ (⟨4, ![A, B, R, C]⟩ : Shape).size a)
    (w : (⟨4, ![l, p, n, k]⟩ : Shape).Idx → EReal) (a b r c : ℕ) :
    at4 (wr (Rect.unit (s := ⟨4, ![A, B, R, C]⟩) ![a0, b0, r0, c0] ![l, p, n, k] inb) X w) a b r c
      = if (a0 ≤ a ∧ a < a0 + l) ∧ (b0 ≤ b ∧ b < b0 + p) ∧ (r0 ≤ r ∧ r < r0 + n) ∧ (c0 ≤ c ∧ c < c0 + k)
        then at4 w (a - a0) (b - b0) (r - r0) (c - c0) else at4 X a b r c := by
  have h0 : a0 + l ≤ A := inb 0
  have h1 : b0 + p ≤ B := inb 1
  have h2 : r0 + n ≤ R := inb 2
  have h3 : c0 + k ≤ C := inb 3
  split
  case isTrue h =>
    rw [at4_of _ (by omega : a < A) (by omega : b < B) (by omega : r < R) (by omega : c < C),
      at4_of _ (by omega : a - a0 < l) (by omega : b - b0 < p) (by omega : r - r0 < n) (by omega : c - c0 < k)]
    refine Eq.trans (congrArg _ ?_) (wr_emb (Rect.unit (s := ⟨4, ![A, B, R, C]⟩) ![a0, b0, r0, c0] ![l, p, n, k] inb) X w _)
    refine funext fun i => Fin.ext ?_
    revert i
    rw [Fin.forall_fin_succ, Fin.forall_fin_succ, Fin.forall_fin_two]
    refine ⟨?_, ?_, ?_, ?_⟩
    · show a = a0 + 1 * (a - a0); omega
    · show b = b0 + 1 * (b - b0); omega
    · show r = r0 + 1 * (r - r0); omega
    · show c = c0 + 1 * (c - c0); omega
  case isFalse h =>
    by_cases hb : a < A ∧ b < B ∧ r < R ∧ c < C
    · rw [at4_of _ hb.1 hb.2.1 hb.2.2.1 hb.2.2.2, at4_of _ hb.1 hb.2.1 hb.2.2.1 hb.2.2.2]
      refine wr_off _ _ _ _ fun x hx => h ?_
      have e0 : a0 + 1 * (x 0).val = a := congrArg (fun y => (y 0).val) hx
      have e1 : b0 + 1 * (x 1).val = b := congrArg (fun y => (y 1).val) hx
      have e2 : r0 + 1 * (x 2).val = r := congrArg (fun y => (y 2).val) hx
      have e3 : c0 + 1 * (x 3).val = c := congrArg (fun y => (y 3).val) hx
      have l0 : (x 0).val < l := (x 0).2
      have l1 : (x 1).val < p := (x 1).2
      have l2 : (x 2).val < n := (x 2).2
      have l3 : (x 3).val < k := (x 3).2
      omega
    · unfold at4; rw [dif_neg hb, dif_neg hb]

/-! ## Sums and maxima over ranges -/

/-- A sum over a longer range. -/
theorem sum_more (f : ℕ → EReal) (n k : ℕ) : ∑ r ∈ Finset.range (n + k), f r = ∑ r ∈ Finset.range n, f r + ∑ r ∈ Finset.range k, f (n + r) :=
  Finset.sum_range_add f n k

/-- The largest of `f 0, …, f (n - 1)`. -/
def top (n : ℕ) (f : ℕ → EReal) : EReal := (Finset.range n).sup f

theorem top_zero (f : ℕ → EReal) : top 0 f = ⊥ := rfl
theorem top_succ (n : ℕ) (f : ℕ → EReal) : top (n + 1) f = max (top n f) (f n) := by
  unfold top
  rw [Finset.range_add_one, Finset.sup_insert, sup_comm]
theorem top_more (f : ℕ → EReal) (n k : ℕ) : top (n + k) f = max (top n f) (top k fun r => f (n + r)) := by
  induction k with
  | zero => rw [Nat.add_zero, top_zero, max_bot_right]
  | succ k ih => rw [← Nat.add_assoc, top_succ, top_succ, ih, max_assoc]
theorem top_congr {n : ℕ} {f g : ℕ → EReal} (h : ∀ r < n, f r = g r) : top n f = top n g :=
  Finset.sup_congr rfl fun r hr => h r (Finset.mem_range.1 hr)
theorem top_max (f g : ℕ → EReal) (n : ℕ) : top n (fun r => max (f r) (g r)) = max (top n f) (top n g) := Finset.sup_sup
theorem le_top {n : ℕ} (f : ℕ → EReal) {r : ℕ} (h : r < n) : f r ≤ top n f := Finset.le_sup (f := f) (Finset.mem_range.2 h)
theorem top_le {n : ℕ} {f : ℕ → EReal} {b : EReal} (h : ∀ r < n, f r ≤ b) : top n f ≤ b :=
  Finset.sup_le fun r hr => h r (Finset.mem_range.1 hr)

/-- A fold of maxima from the bottom is the largest. -/
theorem fold_top {n : ℕ} (f : Fin n → EReal) (g : ℕ → EReal) (h : ∀ k : Fin n, f k = g k.val) :
    Finset.univ.fold max ⊥ f = top n g := by
  refine le_antisymm ?_ ?_
  · rw [Finset.fold_max_le]
    exact ⟨bot_le, fun k _ => (h k).trans_le (le_top g k.2)⟩
  · refine top_le fun r hr => ?_
    rw [Finset.le_fold_max]
    exact Or.inr ⟨⟨r, hr⟩, Finset.mem_univ _, (h ⟨r, hr⟩).ge⟩

/-- A sum over `Fin n` by naturals. -/
theorem sum_fin {n : ℕ} (f : Fin n → EReal) (g : ℕ → EReal) (h : ∀ k : Fin n, f k = g k.val) :
    ∑ k, f k = ∑ k ∈ Finset.range n, g k := by
  rw [← Fin.sum_univ_eq_sum_range]
  exact Finset.sum_congr rfl fun k _ => h k

end Cert.KernelIdeal.Hand
-- ==== Proof.Ideal.Elem.lean ====
/-
  The attention body's pure pieces at a cell, over the extended reals: sums and maxima of eight rows at a time, the
  probabilities and their codes, the two products, the scores and their mask, and the normalisation.
-/
module

public import proofs.«01_k».proof.Proof.Ideal.Cells

@[expose] public section

noncomputable section

namespace Cert.KernelIdeal.Hand

open Cert.KernelIdeal
open Idealize.ShloMosaic
open Facts₀ Facts

variable [Facts]

/-- The largest code, 448. -/
abbrev c448 : EReal := Ideal.ofBits .f32 0x43E00000#32

/-- The column sums of eight rows; -/
def colsum (s : FVec Ideal S8x128 .f32) (l : ℕ) : EReal := ∑ u ∈ Finset.range 8, at2 s u l
/-- the column maxima. -/
def colmax (s : FVec Ideal S8x128 .f32) (l : ℕ) : EReal := top 8 fun u => at2 s u l

theorem ofBits_bot : Ideal.ofBits .f32 0xFF800000#32 = (⊥ : EReal) := by
  simp [Ideal.ofBits, Ideal.ieee]

theorem at_prob (y : FVec Ideal S64x128 .f32) (m8 : FVec Ideal S1x128 .f32) (r : Fin 64) (l : Fin 128) :
    prob y m8 (ix2 r l) = Ideal.exp2 (y (ix2 r l) - m8 (ix2 0 l)) := by
  pointwise [prob]
  rfl

theorem at_pcode (p : FVec Ideal S64x128 .f32) (r : Fin 64) (l : Fin 128) :
    pcode p (ix2 r l) = min c448 (max 0 (p (ix2 r l))) := by
  pointwise [pcode]

theorem at_scaled (y : FVec Ideal S64x128 .f32) (a : Vec Ideal S1x1x128 .f32) (r : Fin 64) (l : Fin 128) :
    scaled y a (ix2 r l) = y (ix2 r l) * a (ix3 0 0 l) := by
  pointwise [scaled]

theorem at_pv (v : Vec Ideal S1x1x160x256 .fp8e4m3) (p : FVec Ideal S256x256 .fp8e4m3) (d : Fin 160) (c : Fin 256) :
    pv v p (ix2 d c) = ∑ k : Fin 256, v (ix4 0 0 d k) * p (ix2 k c) := by
  pointwise [pv]

theorem at_kq (k : Vec Ideal S1x1x256x256 .fp8e4m3) (q : Vec Ideal S256x256 .fp8e4m3) (r : Fin 256) (c : Fin 256) :
    kq k q (ix2 r c) = ∑ d : Fin 256, k (ix4 0 0 r d) * q (ix2 d c) := by
  pointwise [kq]

theorem at_normal (a : Vec Ideal S160x128 .f32) (v : Vec Ideal S1x1x160x128 .f32) (s : FVec Ideal S8x128 .f32) (d : Fin 160) (l : Fin 128) :
    normal a v s (ix2 d l) = Ideal.div (a (ix2 d l) * v (ix4 0 0 d l)) (∑ u : Fin 8, s (ix2 u l)) := by
  pointwise [normal]

theorem at_less8 (x : FVec Ideal S8x128 .f32) (u : Fin 8) (l : Fin 128) :
    less8 x (ix2 u l) = Finset.univ.fold max ⊥ (fun u : Fin 8 => x (ix2 u l)) - Ideal.ofBits .f32 0x41000000#32 := by
  pointwise [less8]
  rw [ofBits_bot]

theorem at_sum8 (p : FVec Ideal S64x128 .f32) (s : FVec Ideal S8x128 .f32) (u : Fin 8) (l : Fin 128) :
    sum8 p s (ix2 u l) = s (ix2 u l) + p (ix2 ⟨u, by omega⟩ l) + p (ix2 ⟨8 + u, by omega⟩ l) + p (ix2 ⟨16 + u, by omega⟩ l)
      + p (ix2 ⟨24 + u, by omega⟩ l) + p (ix2 ⟨32 + u, by omega⟩ l) + p (ix2 ⟨40 + u, by omega⟩ l) + p (ix2 ⟨48 + u, by omega⟩ l)
      + p (ix2 ⟨56 + u, by omega⟩ l) := by
  pointwise [sum8]

theorem at_max8 (p : FVec Ideal S64x128 .f32) (s : FVec Ideal S8x128 .f32) (u : Fin 8) (l : Fin 128) :
    max8 p s (ix2 u l) = max (max (max (max (max (max (max (max (s (ix2 u l)) (p (ix2 ⟨u, by omega⟩ l))) (p (ix2 ⟨8 + u, by omega⟩ l)))
      (p (ix2 ⟨16 + u, by omega⟩ l))) (p (ix2 ⟨24 + u, by omega⟩ l))) (p (ix2 ⟨32 + u, by omega⟩ l))) (p (ix2 ⟨40 + u, by omega⟩ l)))
      (p (ix2 ⟨48 + u, by omega⟩ l))) (p (ix2 ⟨56 + u, by omega⟩ l)) := by
  pointwise [max8]

theorem sum_64 (f : ℕ → EReal) : ∑ r ∈ Finset.range 64, f r = ∑ r ∈ Finset.range 8, f (0 + r) + ∑ r ∈ Finset.range 8, f (8 + r)
    + ∑ r ∈ Finset.range 8, f (16 + r) + ∑ r ∈ Finset.range 8, f (24 + r) + ∑ r ∈ Finset.range 8, f (32 + r) + ∑ r ∈ Finset.range 8, f (40 + r)
    + ∑ r ∈ Finset.range 8, f (48 + r) + ∑ r ∈ Finset.range 8, f (56 + r) := by
  show ∑ r ∈ Finset.range (0 + 8 + 8 + 8 + 8 + 8 + 8 + 8 + 8), f r = _
  rw [sum_more, sum_more, sum_more, sum_more, sum_more, sum_more, sum_more, sum_more, Finset.sum_range_zero, zero_add]
theorem top_64 (f : ℕ → EReal) : top 64 f = max (max (max (max (max (max (max (top 8 fun r => f (0 + r)) (top 8 fun r => f (8 + r)))
    (top 8 fun r => f (16 + r))) (top 8 fun r => f (24 + r))) (top 8 fun r => f (32 + r))) (top 8 fun r => f (40 + r)))
    (top 8 fun r => f (48 + r))) (top 8 fun r => f (56 + r)) := by
  show top (0 + 8 + 8 + 8 + 8 + 8 + 8 + 8 + 8) f = _
  rw [top_more, top_more, top_more, top_more, top_more, top_more, top_more, top_more, top_zero, max_bot_left]

/-- The column sums of a step are those before it and those of the block; -/
theorem colsum_sum8 (p : FVec Ideal S64x128 .f32) (s : FVec Ideal S8x128 .f32) {l : ℕ} (hl : l < 128) :
    colsum (sum8 p s) l = colsum s l + ∑ r ∈ Finset.range 64, at2 p r l := by
  have e : colsum (sum8 p s) l = ∑ u ∈ Finset.range 8, (at2 s u l + at2 p (0 + u) l + at2 p (8 + u) l + at2 p (16 + u) l
      + at2 p (24 + u) l + at2 p (32 + u) l + at2 p (40 + u) l + at2 p (48 + u) l + at2 p (56 + u) l) := by
    refine Finset.sum_congr rfl fun u hu => ?_
    have hu : u < 8 := Finset.mem_range.1 hu
    rw [at2_of (sum8 p s) hu hl, at_sum8, Nat.zero_add]
    simp only [at2_val p, at2_val s]
  rw [e]
  simp only [Finset.sum_add_distrib]
  rw [sum_64 fun r => at2 p r l]
  simp only [add_assoc]
  rfl

/-- and the column maxima. -/
theorem colmax_max8 (p : FVec Ideal S64x128 .f32) (s : FVec Ideal S8x128 .f32) {l : ℕ} (hl : l < 128) :
    colmax (max8 p s) l = max (colmax s l) (top 64 fun r => at2 p r l) := by
  have e : colmax (max8 p s) l = top 8 fun u => max (max (max (max (max (max (max (max (at2 s u l) (at2 p (0 + u) l)) (at2 p (8 + u) l))
      (at2 p (16 + u) l)) (at2 p (24 + u) l)) (at2 p (32 + u) l)) (at2 p (40 + u) l)) (at2 p (48 + u) l)) (at2 p (56 + u) l) := by
    refine top_congr fun u hu => ?_
    rw [at2_of (max8 p s) hu hl, at_max8, Nat.zero_add]
    simp only [at2_val p, at2_val s]
  rw [e]
  simp only [top_max]
  rw [top_64 fun r => at2 p r l]
  simp only [max_assoc]
  rfl

/-- The mask keeps the keys up to the query. -/
theorem at_causal (q k : BitVec 32) (y : FVec Ideal S64x128 .f32) (r : Fin 64) (l : Fin 128) (hq : q.toNat < 20000) (hk : k.toNat < 20000) :
    causal q k y (ix2 r l) = if k.toNat + r.val ≤ q.toNat + l.val then y (ix2 r l) else ⊥ := by
  pointwise [causal]
  rw [ofBits_bot]
  show (if BitVec.ofBool ((k + BitVec.ofNat 32 r.val).sle (q + BitVec.ofNat 32 l.val)) = 1#1 then _ else _) = _
  have e : ((k + BitVec.ofNat 32 r.val).sle (q + BitVec.ofNat 32 l.val)) = decide (k.toNat + r.val ≤ q.toNat + l.val) := by
    have h0 : (k + BitVec.ofNat 32 r.val).toNat = k.toNat + r.val := by
      rw [BitVec.toNat_add, BitVec.toNat_ofNat]; omega
    have h1 : (q + BitVec.ofNat 32 l.val).toNat = q.toNat + l.val := by
      rw [BitVec.toNat_add, BitVec.toNat_ofNat]; omega
    rw [BitVec.sle_eq_decide, BitVec.toInt_eq_toNat_of_lt (by omega), BitVec.toInt_eq_toNat_of_lt (by omega), h0, h1]
    exact decide_eq_decide.2 (by omega)
  rw [e]
  by_cases h : k.toNat + r.val ≤ q.toNat + l.val
  · rw [if_pos h, decide_eq_true h]; rfl
  · rw [if_neg h, decide_eq_false h]; rfl

/-- Two blocks side by side at a cell; -/
theorem at_beside (p q : FVec Ideal S64x128 .fp8e4m3) {r c : ℕ} (hr : r < 64) (hc : c < 256) :
    at2 (beside p q) r c = if c < 128 then at2 p r c else at2 q r (c - 128) := by
  have e : ∀ (r : Fin 64) (c : Fin 256), beside p q (ix2 r c) = if h : c.val < 128 then p (ix2 r ⟨c.val, h⟩) else q (ix2 r ⟨c.val - 128, by omega⟩) := by
    intro r c; pointwise [beside]
  rw [at2_of (beside p q) hr hc, e]
  split
  case isTrue h => rw [at2_of p hr h]
  case isFalse h => rw [at2_of q hr (by omega : c - 128 < 128)]

/-- four on top of each other; -/
theorem at_stack (a b c d : FVec Ideal S64x256 .fp8e4m3) {r k : ℕ} (hr : r < 256) (hk : k < 256) :
    at2 (stack a b c d) r k = if r < 64 then at2 a r k else if r - 64 < 64 then at2 b (r - 64) k
      else if r - 64 - 64 < 64 then at2 c (r - 64 - 64) k else at2 d (r - 64 - 64 - 64) k := by
  have e : ∀ (r : Fin 256) (k : Fin 256), stack a b c d (ix2 r k) = if h : r.val < 64 then a (ix2 ⟨r.val, h⟩ k)
      else if h : r.val - 64 < 64 then b (ix2 ⟨r.val - 64, h⟩ k) else if h : r.val - 64 - 64 < 64 then c (ix2 ⟨r.val - 64 - 64, h⟩ k)
      else d (ix2 ⟨r.val - 64 - 64 - 64, by omega⟩ k) := by
    intro r k; pointwise [stack]
  rw [at2_of (stack a b c d) hr hk, e]
  split
  case isTrue h => rw [at2_of a h hk]
  case isFalse h =>
  split
  case isTrue h' => rw [at2_of b h' hk]
  case isFalse h' =>
  split
  case isTrue h'' => rw [at2_of c h'' hk]
  case isFalse h'' => rw [at2_of d (by omega : r - 64 - 64 - 64 < 64) hk]

/-- the four heads' results, transposed. -/
theorem at_joined (a b c d : FVec Ideal S160x128 .bf16) {r k : ℕ} (hr : r < 128) (hk : k < 640) :
    at2 (joined a b c d) r k = if k < 160 then at2 a k r else if k - 160 < 160 then at2 b (k - 160) r
      else if k - 160 - 160 < 160 then at2 c (k - 160 - 160) r else at2 d (k - 160 - 160 - 160) r := by
  have e : ∀ (r : Fin 128) (k : Fin 640), joined a b c d (ix2 r k) = if h : k.val < 160 then a (ix2 ⟨k.val, h⟩ r)
      else if h : k.val - 160 < 160 then b (ix2 ⟨k.val - 160, h⟩ r) else if h : k.val - 160 - 160 < 160 then c (ix2 ⟨k.val - 160 - 160, h⟩ r)
      else d (ix2 ⟨k.val - 160 - 160 - 160, by omega⟩ r) := by
    intro r k; pointwise [joined]
  rw [at2_of (joined a b c d) hr hk, e]
  split
  case isTrue h => rw [at2_of a h hr]
  case isFalse h =>
  split
  case isTrue h' => rw [at2_of b h' hr]
  case isFalse h' =>
  split
  case isTrue h'' => rw [at2_of c h'' hr]
  case isFalse h'' => rw [at2_of d (by omega : k - 160 - 160 - 160 < 160) hr]

/-- The products and the normalisation by cells. -/
theorem at2_pv (v : Vec Ideal S1x1x160x256 .fp8e4m3) (p : FVec Ideal S256x256 .fp8e4m3) {d c : ℕ} (hd : d < 160) (hc : c < 256) :
    at2 (pv v p) d c = ∑ k ∈ Finset.range 256, at4 v 0 0 d k * at2 p k c := by
  rw [at2_of (pv v p) hd hc, at_pv]
  exact sum_fin _ _ fun k => by rw [at4_val v, at2_val p]; rfl
theorem at2_kq (k : Vec Ideal S1x1x256x256 .fp8e4m3) (q : Vec Ideal S256x256 .fp8e4m3) {r c : ℕ} (hr : r < 256) (hc : c < 256) :
    at2 (kq k q) r c = ∑ d ∈ Finset.range 256, at4 k 0 0 r d * at2 q d c := by
  rw [at2_of (kq k q) hr hc, at_kq]
  exact sum_fin _ _ fun d => by rw [at4_val k, at2_val q]; rfl
theorem at2_prob (y : FVec Ideal S64x128 .f32) (m8 : FVec Ideal S1x128 .f32) {r l : ℕ} (hr : r < 64) (hl : l < 128) :
    at2 (prob y m8) r l = Ideal.exp2 (at2 y r l - at2 m8 0 l) := by
  rw [at2_of (prob y m8) hr hl, at_prob, at2_val y, at2_val m8]; rfl
theorem at2_pcode (p : FVec Ideal S64x128 .f32) {r l : ℕ} (hr : r < 64) (hl : l < 128) :
    at2 (pcode p) r l = min c448 (max 0 (at2 p r l)) := by
  rw [at2_of (pcode p) hr hl, at_pcode, at2_val p]
theorem at2_scaled (y : FVec Ideal S64x128 .f32) (a : Vec Ideal S1x1x128 .f32) {r l : ℕ} (hr : r < 64) (hl : l < 128) :
    at2 (scaled y a) r l = at2 y r l * at3 a 0 0 l := by
  rw [at2_of (scaled y a) hr hl, at_scaled, at2_val y, at3_val a]; rfl
theorem at2_causal (q k : BitVec 32) (y : FVec Ideal S64x128 .f32) {r l : ℕ} (hr : r < 64) (hl : l < 128) (hq : q.toNat < 20000) (hk : k.toNat < 20000) :
    at2 (causal q k y) r l = if k.toNat + r ≤ q.toNat + l then at2 y r l else ⊥ := by
  rw [at2_of (causal q k y) hr hl, at_causal q k y _ _ hq hk, at2_val y]
theorem at2_normal (a : Vec Ideal S160x128 .f32) (v : Vec Ideal S1x1x160x128 .f32) (s : FVec Ideal S8x128 .f32) {d l : ℕ} (hd : d < 160) (hl : l < 128) :
    at2 (normal a v s) d l = Ideal.div (at2 a d l * at4 v 0 0 d l) (colsum s l) := by
  rw [at2_of (normal a v s) hd hl, at_normal, at2_val a, at4_val v]
  exact congrArg _ (sum_fin _ _ fun u => by rw [at2_val s])
theorem at2_less8 (x : FVec Ideal S8x128 .f32) {u l : ℕ} (hu : u < 8) (hl : l < 128) :
    at2 (less8 x) u l = colmax x l - Ideal.ofBits .f32 0x41000000#32 := by
  rw [at2_of (less8 x) hu hl, at_less8]
  exact congrArg (fun z => z - _) (fold_top _ _ fun u => by rw [at2_val x])
/-- A piece of the products of keys and queries. -/
theorem at2_slice {r0 c0 : ℕ} (p : FVec Ideal S256x256 .f32) (h : S256x256.Slices ![r0, c0] S64x128) {r l : ℕ} (hr : r < 64) (hl : l < 128)
    (h0 : r0 + 64 ≤ 256) (h1 : c0 + 128 ≤ 256) :
    at2 (extractStridedSlice S64x128 ![r0, c0] p h) r l = at2 p (r0 + r) (c0 + l) := by
  rw [at2_of _ hr hl, at2_of p (by omega : r0 + r < 256) (by omega : c0 + l < 256)]
  pointwise

/-- The starts: zeros and bottoms. -/
theorem colsum_zero8 (l : ℕ) (hl : l < 128) : colsum zero8 l = 0 := by
  refine Finset.sum_eq_zero fun u hu => ?_
  rw [at2_of (zero8 (F := Ideal)) (Finset.mem_range.1 hu) hl]
  pointwise [zero8]
theorem colmax_bot8 (l : ℕ) (hl : l < 128) : colmax bot8 l = ⊥ := by
  refine le_bot_iff.1 (top_le fun u hu => ?_)
  rw [at2_of (bot8 (F := Ideal)) hu hl]
  refine le_of_eq ?_
  pointwise [bot8]
  exact ofBits_bot

end Cert.KernelIdeal.Hand
-- ==== Proof.Ideal.Piece.lean ====
/-
  What the pieces of a chunk do to the state over the extended reals. A state is a fixed state `b` with its scores and its
  accumulator replaced (`scr b s acc`); a piece of probabilities reads the scores of the block before, a piece of scores puts
  scores of the present block in their place.
-/
module

public import proofs.«01_k».proof.Proof.Ideal.Elem

@[expose] public section

noncomputable section

namespace Cert.KernelIdeal.Hand

open Cert.KernelIdeal
open Idealize.ShloMosaic
open Facts₀ Facts

variable [Facts]

/-- After `f` from `st`, the value returned and the state left satisfy `Q`. -/
def Tr {α : Type} (f : StateM (St Ideal) α) (st : St Ideal) (Q : α → St Ideal → Prop) : Prop := Q (f st).1 (f st).2

theorem Tr.bind {α β : Type} {f : StateM (St Ideal) α} {g : α → StateM (St Ideal) β} {st : St Ideal} {Q : β → St Ideal → Prop}
    (h : Tr f st fun a st' => Tr (g a) st' Q) : Tr (f >>= g) st Q := h
theorem Tr.seq {α β : Type} {f : StateM (St Ideal) α} {g : α → StateM (St Ideal) β} {st : St Ideal} {P : α → St Ideal → Prop} {Q : β → St Ideal → Prop}
    (h : Tr f st P) (h' : ∀ a st', P a st' → Tr (g a) st' Q) : Tr (f >>= g) st Q := h' _ _ h
theorem Tr.pure {α : Type} {a : α} {st : St Ideal} {Q : α → St Ideal → Prop} (h : Q a st) : Tr (Pure.pure a) st Q := h
theorem Tr.mono {α : Type} {f : StateM (St Ideal) α} {st : St Ideal} {P Q : α → St Ideal → Prop} (h : Tr f st P) (h' : ∀ a st', P a st' → Q a st') :
    Tr f st Q := h' _ _ h

/-- The state `b` with other scores and another accumulator. -/
def scr (b : St Ideal) (s : Vec Ideal S15360x512 .f32) (acc : Vec Ideal S160x512 .f32) : St Ideal := { b with s := s, acc := acc }

variable (b : St Ideal)

/-- Probabilities (times 256) from the scores `S0` of the block before, by cells; -/
def pr (S0 : ℕ → ℕ → EReal) (r c : ℕ) : EReal := Ideal.exp2 (S0 r c - at2 b.m8 0 c)
/-- their codes. -/
def pcd (S0 : ℕ → ℕ → EReal) (r c : ℕ) : EReal := min c448 (max 0 (pr b S0 r c))

/-- The scores of the present block before the mask, by cells. -/
def rawScore (r c : ℕ) : EReal :=
  (∑ d ∈ Finset.range 256, at4 b.kp 0 0 r d * at2 b.qt d c) * at3 b.a (c / 128) (r / 64) (c % 128)

theorem probSub_eq (s : Vec Ideal S15360x512 .f32) (acc : Vec Ideal S160x512 .f32) (j a k : BitVec 32) (hj : j.toNat < 30) (ha : a.toNat ≤ 256)
    (hk : k.toNat ≤ 192) (c : ℕ) (hc : c + 128 ≤ 512) (x : FVec Ideal S8x128 .f32) (S0 : ℕ → ℕ → EReal)
    (hS : ∀ r < 64, ∀ l < 128, at2 s (j.toNat * 512 + a.toNat + k.toNat + r) (c + l) = S0 (j.toNat * 512 + a.toNat + k.toNat + r) (c + l)) :
    Tr (probSub stOps j a k hj ha hk c hc x) (scr b s acc) fun o st => st = scr b s acc
      ∧ (∀ r < 64, ∀ l < 128, at2 o.1 r l = pcd b S0 (j.toNat * 512 + a.toNat + k.toNat + r) (c + l))
      ∧ ∀ l < 128, colsum o.2 l = colsum x l + ∑ r ∈ Finset.range 64, pr b S0 (j.toNat * 512 + a.toNat + k.toNat + r) (c + l) := by
  have hp : ∀ r < 64, ∀ l < 128, at2 (R := 64) (C := 128) (prob (F := Ideal) (rd (Rect.unit (s := S15360x512) ![row j a k, c] S64x128.size (inS (row j a k) c (row_le hj ha hk) hc)) s)
      (rd (Rect.unit (s := S8x512) ![0, c] S1x128.size (inM8Row c hc)) b.m8)) r l
      = pr b S0 (j.toNat * 512 + a.toNat + k.toNat + r) (c + l) := by
    intro r hr l hl
    rw [at2_prob _ _ hr hl]
    unfold pr
    rw [← hS r hr l hl]
    congr 1
    congr 1
    · exact (at2_rd s _ hr hl).trans (by rw [row_eq hj ha hk])
    · exact at2_rd b.m8 _ (by omega : 0 < 1) hl
  refine ⟨rfl, fun r hr l hl => ?_, fun l hl => ?_⟩
  · refine (at2_pcode _ hr hl).trans ?_
    unfold pcd
    rw [← hp r hr l hl]; rfl
  · refine (colsum_sum8 _ _ hl).trans ?_
    congr 1
    exact Finset.sum_congr rfl fun r hr => hp r (Finset.mem_range.1 hr) l hl

theorem probRow_eq (s : Vec Ideal S15360x512 .f32) (acc : Vec Ideal S160x512 .f32) (j a k : BitVec 32) (hj : j.toNat < 30) (ha : a.toNat ≤ 256)
    (hk : k.toNat ≤ 192) (c c' : ℕ) (hc : c + 128 ≤ 512) (hc' : c' + 128 ≤ 512) (hcc : c' = c + 128) (x : FVec Ideal S8x128 .f32 × FVec Ideal S8x128 .f32)
    (S0 : ℕ → ℕ → EReal)
    (hS : ∀ r < 64, ∀ l < 256, at2 s (j.toNat * 512 + a.toNat + k.toNat + r) (c + l) = S0 (j.toNat * 512 + a.toNat + k.toNat + r) (c + l)) :
    Tr (probRow stOps j a k hj ha hk c c' hc hc' x) (scr b s acc) fun o st => st = scr b s acc
      ∧ (∀ r < 64, ∀ l < 256, at2 o.1 r l = pcd b S0 (j.toNat * 512 + a.toNat + k.toNat + r) (c + l))
      ∧ (∀ l < 128, colsum o.2.1 l = colsum x.1 l + ∑ r ∈ Finset.range 64, pr b S0 (j.toNat * 512 + a.toNat + k.toNat + r) (c + l))
      ∧ ∀ l < 128, colsum o.2.2 l = colsum x.2 l + ∑ r ∈ Finset.range 64, pr b S0 (j.toNat * 512 + a.toNat + k.toNat + r) (c + 128 + l) := by
  subst hcc
  unfold probRow
  refine Tr.seq (probSub_eq b s acc j a k hj ha hk c hc x.1 S0 fun r hr l hl => hS r hr l (by omega)) ?_
  rintro p _ ⟨rfl, hp, hps⟩
  refine Tr.seq (probSub_eq b s acc j a k hj ha hk (c + 128) hc' x.2 S0 fun r hr l hl => by rw [Nat.add_assoc c 128 l]; exact hS r hr _ (by omega)) ?_
  rintro q _ ⟨rfl, hq, hqs⟩
  refine Tr.pure ⟨rfl, fun r hr l hl => ?_, hps, hqs⟩
  rw [at_beside _ _ hr hl]
  split
  case isTrue h => exact hp r hr l h
  case isFalse h => rw [hq r hr _ (by omega), show c + 128 + (l - 128) = c + l by omega]

/-- A piece of probabilities: its codes times the value codes, and the sums advanced. -/
theorem probPiece_eq (s : Vec Ideal S15360x512 .f32) (acc : Vec Ideal S160x512 .f32) (j a : BitVec 32) (hj : j.toNat < 30) (ha : a.toNat ≤ 256)
    (c c' : ℕ) (hc : c + 128 ≤ 512) (hc' : c' + 128 ≤ 512) (hcc : c' = c + 128) (x : FVec Ideal S8x128 .f32 × FVec Ideal S8x128 .f32)
    (S0 : ℕ → ℕ → EReal)
    (hS : ∀ r < 256, ∀ l < 256, at2 s (j.toNat * 512 + a.toNat + r) (c + l) = S0 (j.toNat * 512 + a.toNat + r) (c + l)) :
    Tr (probPiece stOps j a hj ha c c' hc hc' x) (scr b s acc) fun o st => st = scr b s acc
      ∧ (∀ d < 160, ∀ l < 256, at2 o.1 d l = ∑ r ∈ Finset.range 256, at4 b.vt 0 0 d (j.toNat * 512 + a.toNat + r) * pcd b S0 (j.toNat * 512 + a.toNat + r) (c + l))
      ∧ (∀ l < 128, colsum o.2.1 l = colsum x.1 l + ∑ r ∈ Finset.range 256, pr b S0 (j.toNat * 512 + a.toNat + r) (c + l))
      ∧ ∀ l < 128, colsum o.2.2 l = colsum x.2 l + ∑ r ∈ Finset.range 256, pr b S0 (j.toNat * 512 + a.toNat + r) (c + 128 + l) := by
  unfold probPiece
  refine Tr.seq (probRow_eq b s acc j a 0#32 hj ha (by decide) c c' hc hc' hcc x S0 fun r hr l hl => ?_) ?_
  · exact hS _ (by omega) l hl
  rintro p0 _ ⟨rfl, h0, h0s, h0t⟩
  refine Tr.seq (probRow_eq b s acc j a 64#32 hj ha (by decide) c c' hc hc' hcc p0.2 S0 fun r hr l hl => ?_) ?_
  · rw [Nat.add_assoc _ _ r]; exact hS _ (by show 64 + r < 256; omega) l hl
  rintro p1 _ ⟨rfl, h1, h1s, h1t⟩
  refine Tr.seq (probRow_eq b s acc j a 128#32 hj ha (by decide) c c' hc hc' hcc p1.2 S0 fun r hr l hl => ?_) ?_
  · rw [Nat.add_assoc _ _ r]; exact hS _ (by show 128 + r < 256; omega) l hl
  rintro p2 _ ⟨rfl, h2, h2s, h2t⟩
  refine Tr.seq (probRow_eq b s acc j a 192#32 hj ha (by decide) c c' hc hc' hcc p2.2 S0 fun r hr l hl => ?_) ?_
  · rw [Nat.add_assoc _ _ r]; exact hS _ (by show 192 + r < 256; omega) l hl
  rintro p3 _ ⟨rfl, h3, h3s, h3t⟩
  have e : ∀ f : ℕ → EReal, ∑ r ∈ Finset.range 256, f r = ∑ r ∈ Finset.range 64, f (0 + r) + ∑ r ∈ Finset.range 64, f (64 + r)
      + ∑ r ∈ Finset.range 64, f (128 + r) + ∑ r ∈ Finset.range 64, f (192 + r) := by
    intro f
    show ∑ r ∈ Finset.range (0 + 64 + 64 + 64 + 64), f r = _
    rw [sum_more, sum_more, sum_more, sum_more, Finset.sum_range_zero, zero_add]
  refine ⟨rfl, fun d hd l hl => ?_, fun l hl => ?_, fun l hl => ?_⟩
  · refine (at2_pv _ _ hd hl).trans (Finset.sum_congr rfl fun r hr => ?_)
    have hr : r < 256 := Finset.mem_range.1 hr
    congr 1
    · exact (at4_rd b.vt _ (by omega : 0 < 1) (by omega : 0 < 1) hd hr).trans (by rw [half_eq hj ha, Nat.zero_add, Nat.zero_add])
    · rw [at_stack _ _ _ _ hr hl]
      split
      case isTrue h => rw [h0 r h l hl]; rfl
      case isFalse h =>
      split
      case isTrue h' => rw [h1 _ h' l hl]; congr 1; show _ + 64 + (r - 64) = _; omega
      case isFalse h' =>
      split
      case isTrue h'' => rw [h2 _ h'' l hl]; congr 1; show _ + 128 + (r - 64 - 64) = _; omega
      case isFalse h'' => rw [h3 _ (by omega) l hl]; congr 1; show _ + 192 + (r - 64 - 64 - 64) = _; omega
  · refine (h3s l hl).trans ?_
    rw [e, h2s l hl, h1s l hl, h0s l hl]
    simp only [add_assoc, BitVec.toNat_ofNat, Nat.reducePow, Nat.reduceMod]
  · refine (h3t l hl).trans ?_
    rw [e, h2t l hl, h1t l hl, h0t l hl]
    simp only [add_assoc, BitVec.toNat_ofNat, Nat.reducePow, Nat.reduceMod]

/-- The masked scores of the present block: query column `c` sees the keys up to `lim + c % 128`. -/
def msk (lim : ℕ) (r c : ℕ) : EReal := if r ≤ lim + c % 128 then rawScore b r c else ⊥

/-- `mk` masks chunk `j` as `msk lim` does. -/
def Masks (mk : BitVec 32 → FVec Ideal S64x128 .f32 → FVec Ideal S64x128 .f32) (lim : ℕ) (j : ℕ) : Prop :=
  ∀ (k : BitVec 32) (y : FVec Ideal S64x128 .f32) (r l : ℕ), j * 512 ≤ k.toNat → k.toNat + 64 ≤ (j + 1) * 512 → r < 64 → l < 128 →
    at2 (mk k y) r l = if k.toNat + r ≤ lim + l then at2 y r l else ⊥

theorem scoreSub_eq (s : Vec Ideal S15360x512 .f32) (acc : Vec Ideal S160x512 .f32) {mk : BitVec 32 → FVec Ideal S64x128 .f32 → FVec Ideal S64x128 .f32}
    {lim : ℕ} (j a a' k k' : BitVec 32) (hj : j.toNat < 30) (ha : a.toNat ≤ 256) (hk : k.toNat ≤ 192) (ha' : a'.toNat ≤ 4) (hk' : k'.toNat ≤ 3)
    (ea : a.toNat = 64 * a'.toNat) (ek : k.toNat = 64 * k'.toNat)
    (hm : Masks mk lim j.toNat) (h : ℕ) (hh : h < 4) (c : ℕ) (hc : c + 128 ≤ 512) (ec : c = 128 * h)
    (y : FVec Ideal S64x128 .f32) (x : FVec Ideal S8x128 .f32)
    (hy : ∀ r < 64, ∀ l < 128, at2 y r l
      = ∑ d ∈ Finset.range 256, at4 b.kp 0 0 (j.toNat * 512 + a.toNat + k.toNat + r) d * at2 b.qt d (c + l)) :
    Tr (scoreSub stOps mk j a a' k k' hj ha hk ha' hk' h hh c hc y x) (scr b s acc) fun o st => ∃ s', st = scr b s' acc
      ∧ (∀ r q, at2 s' r q = if (j.toNat * 512 + a.toNat + k.toNat ≤ r ∧ r < j.toNat * 512 + a.toNat + k.toNat + 64) ∧ c ≤ q ∧ q < c + 128
          then msk b lim r q else at2 s r q)
      ∧ ∀ l < 128, colmax o l = max (colmax x l) (top 64 fun r => msk b lim (j.toNat * 512 + a.toNat + k.toNat + r) (c + l)) := by
  have er := row_eq hj ha hk
  have ear := arow_eq hj ha' hk'
  have ev : (Scalar.addi (Scalar.addi (Scalar.muli j 512#32) a) k).toNat = j.toNat * 512 + a.toNat + k.toNat := er
  have hv : ∀ r < 64, ∀ l < 128, at2 (R := 64) (C := 128) (mk (Scalar.addi (Scalar.addi (Scalar.muli j 512#32) a) k) (scaled (F := Ideal) y
      (rd (Rect.unit (s := S4x240x128) ![h, arow j a' k', 0] S1x1x128.size (inARow h (arow j a' k') hh (arow_lt hj ha' hk'))) b.a))) r l
      = msk b lim (j.toNat * 512 + a.toNat + k.toNat + r) (c + l) := by
    intro r hr l hl
    rw [hm _ _ r l (by rw [ev]; omega) (by rw [ev]; omega) hr hl, ev]
    unfold msk
    rw [show (c + l) % 128 = l by omega]
    congr 1
    rw [at2_scaled _ _ hr hl, hy r hr l hl]
    unfold rawScore
    congr 1
    refine (at3_rd b.a _ (by omega : 0 < 1) (by omega : 0 < 1) hl).trans ?_
    rw [ear]
    congr 1 <;> omega
  refine ⟨_, rfl, fun r q => ?_, fun l hl => ?_⟩
  · refine (at2_wr s _ _ r q).trans ?_
    rw [er]
    split
    case isTrue g =>
      rw [shapeCast_id]
      refine (hv _ (by omega) _ (by omega)).trans ?_
      congr 1 <;> omega
    case isFalse g => rfl
  · refine (colmax_max8 _ _ hl).trans ?_
    congr 1
    exact top_congr fun r hr => hv r hr l hl

/-- A piece of scores: 256 rows and 256 columns of the scores replaced, and the maxima advanced. -/
theorem scorePiece_eq (s : Vec Ideal S15360x512 .f32) (acc : Vec Ideal S160x512 .f32) {mk : BitVec 32 → FVec Ideal S64x128 .f32 → FVec Ideal S64x128 .f32}
    {lim : ℕ} (j a a' : BitVec 32) (hj : j.toNat < 30) (ha : a.toNat ≤ 256) (ha' : a'.toNat ≤ 4) (ea : a.toNat = 64 * a'.toNat)
    (hm : Masks mk lim j.toNat) (h h' : ℕ) (hh : h < 4) (hh' : h' < 4) (c c' : ℕ) (hc : c + 128 ≤ 512) (hc' : c' + 128 ≤ 512) (hcc : c + 256 ≤ 512)
    (ec : c = 128 * h) (ec' : c' = 128 * h') (e' : c' = c + 128) (x : FVec Ideal S8x128 .f32 × FVec Ideal S8x128 .f32) :
    Tr (scorePiece stOps mk j a a' hj ha ha' h h' hh hh' c c' hc hc' hcc x) (scr b s acc) fun o st => ∃ s', st = scr b s' acc
      ∧ (∀ r q, at2 s' r q = if (j.toNat * 512 + a.toNat ≤ r ∧ r < j.toNat * 512 + a.toNat + 256) ∧ c ≤ q ∧ q < c + 256
          then msk b lim r q else at2 s r q)
      ∧ (∀ l < 128, colmax o.1 l = max (colmax x.1 l) (top 256 fun r => msk b lim (j.toNat * 512 + a.toNat + r) (c + l)))
      ∧ ∀ l < 128, colmax o.2 l = max (colmax x.2 l) (top 256 fun r => msk b lim (j.toNat * 512 + a.toNat + r) (c + 128 + l)) := by
  unfold scorePiece
  refine Tr.seq (P := fun k st => st = scr b s acc ∧ ∀ r < 256, ∀ d < 256, at4 (A := 1) (B := 1) (R := 256) (C := 256) k 0 0 r d
    = at4 b.kp 0 0 (j.toNat * 512 + a.toNat + r) d) ⟨rfl, fun r hr d hd => ?_⟩ ?_
  · exact (at4_rd b.kp _ (by omega : 0 < 1) (by omega : 0 < 1) hr hd).trans (by rw [half_eq hj ha, Nat.zero_add, Nat.zero_add])
  rintro k _ ⟨rfl, hk⟩
  refine Tr.seq (P := fun q st => st = scr b s acc ∧ ∀ d < 256, ∀ l < 256, at2 (R := 256) (C := 256) q d l = at2 b.qt d (c + l))
    ⟨rfl, fun d hd l hl => ?_⟩ ?_
  · exact (at2_rd b.qt _ hd hl).trans (by rw [Nat.zero_add])
  rintro q _ ⟨rfl, hq⟩
  have hy : ∀ (n p : ℕ) (hs : S256x256.Slices ![n, p] S64x128), n + 64 ≤ 256 → p + 128 ≤ 256 → ∀ r < 64, ∀ l < 128,
      at2 (extractStridedSlice S64x128 ![n, p] (kq (F := Ideal) k q) hs) r l
      = ∑ d ∈ Finset.range 256, at4 b.kp 0 0 (j.toNat * 512 + a.toNat + n + r) d * at2 b.qt d (c + p + l) := by
    intro n p hs hn hp r hr l hl
    rw [at2_slice _ _ hr hl hn hp, at2_kq _ _ (by omega) (by omega)]
    refine Finset.sum_congr rfl fun d hd => ?_
    have hd : d < 256 := Finset.mem_range.1 hd
    rw [hk _ (by omega) d hd, hq d hd _ (by omega)]
    simp only [Nat.add_assoc]
  subst e'
  refine Tr.seq (scoreSub_eq b s acc j a a' 0#32 0#32 hj ha (by decide) ha' (by decide) ea (by decide) hm h hh c hc ec _ x.1
    (hy 0 0 _ (by decide) (by decide))) ?_
  rintro x0 _ ⟨s0, rfl, hs0, hx0⟩
  refine Tr.seq (scoreSub_eq b s0 acc j a a' 0#32 0#32 hj ha (by decide) ha' (by decide) ea (by decide) hm h' hh' (c + 128) hc' ec' _ x.2
    (hy 0 128 _ (by decide) (by decide))) ?_
  rintro y0 _ ⟨s1, rfl, hs1, hy0⟩
  refine Tr.seq (scoreSub_eq b s1 acc j a a' 64#32 1#32 hj ha (by decide) ha' (by decide) ea (by decide) hm h hh c hc ec _ x0
    (hy 64 0 _ (by decide) (by decide))) ?_
  rintro x1 _ ⟨s2, rfl, hs2, hx1⟩
  refine Tr.seq (scoreSub_eq b s2 acc j a a' 64#32 1#32 hj ha (by decide) ha' (by decide) ea (by decide) hm h' hh' (c + 128) hc' ec' _ y0
    (hy 64 128 _ (by decide) (by decide))) ?_
  rintro y1 _ ⟨s3, rfl, hs3, hy1⟩
  refine Tr.seq (scoreSub_eq b s3 acc j a a' 128#32 2#32 hj ha (by decide) ha' (by decide) ea (by decide) hm h hh c hc ec _ x1
    (hy 128 0 _ (by decide) (by decide))) ?_
  rintro x2 _ ⟨s4, rfl, hs4, hx2⟩
  refine Tr.seq (scoreSub_eq b s4 acc j a a' 128#32 2#32 hj ha (by decide) ha' (by decide) ea (by decide) hm h' hh' (c + 128) hc' ec' _ y1
    (hy 128 128 _ (by decide) (by decide))) ?_
  rintro y2 _ ⟨s5, rfl, hs5, hy2⟩
  refine Tr.seq (scoreSub_eq b s5 acc j a a' 192#32 3#32 hj ha (by decide) ha' (by decide) ea (by decide) hm h hh c hc ec _ x2
    (hy 192 0 _ (by decide) (by decide))) ?_
  rintro x3 _ ⟨s6, rfl, hs6, hx3⟩
  refine Tr.seq (scoreSub_eq b s6 acc j a a' 192#32 3#32 hj ha (by decide) ha' (by decide) ea (by decide) hm h' hh' (c + 128) hc' ec' _ y2
    (hy 192 128 _ (by decide) (by decide))) ?_
  rintro y3 _ ⟨s7, rfl, hs7, hy3⟩
  have e : ∀ f : ℕ → EReal, top 256 f = max (max (max (top 64 fun r => f (0 + r)) (top 64 fun r => f (64 + r)))
      (top 64 fun r => f (128 + r))) (top 64 fun r => f (192 + r)) := by
    intro f
    show top (0 + 64 + 64 + 64 + 64) f = _
    rw [top_more, top_more, top_more, top_more, top_zero, max_bot_left]
  simp only [BitVec.toNat_ofNat, Nat.reducePow, Nat.reduceMod, Nat.add_zero] at hs0 hs1 hs2 hs3 hs4 hs5 hs6 hs7 hx0 hx1 hx2 hx3 hy0 hy1 hy2 hy3
  refine Tr.pure ⟨s7, rfl, fun r q => ?_, fun l hl => ?_, fun l hl => ?_⟩
  · rw [hs7, hs6, hs5, hs4, hs3, hs2, hs1, hs0]
    by_cases g : (j.toNat * 512 + a.toNat ≤ r ∧ r < j.toNat * 512 + a.toNat + 256) ∧ c ≤ q ∧ q < c + 256
    · rw [if_pos g]
      split_ifs <;> first | rfl | (exfalso; omega)
    · rw [if_neg g]
      repeat rw [if_neg (by omega)]
  · rw [hx3 l hl, hx2 l hl, hx1 l hl, hx0 l hl, e]
    simp only [max_assoc, add_assoc, zero_add]
  · rw [hy3 l hl, hy2 l hl, hy1 l hl, hy0 l hl, e]
    simp only [max_assoc, add_assoc, zero_add]

end Cert.KernelIdeal.Hand
-- ==== Proof.Ideal.Chunk.lean ====
/-
  What a chunk does to the state, and what the loops over chunks come to: after `k` chunks the scores' first `512 * k` rows are
  the present block's, the maxima are those of these rows, the sums and the accumulator those of the same rows of the block before.
-/
module

public import proofs.«01_k».proof.Proof.Ideal.Piece

@[expose] public section

noncomputable section

namespace Cert.KernelIdeal.Hand

open Cert.KernelIdeal
open Idealize.ShloMosaic
open Facts₀ Facts

variable [Facts] (b : St Ideal)

/-- Column `c` of four vectors, by a column reading of one. -/
def pick (f : FVec Ideal S8x128 .f32 → ℕ → EReal) (x : Quad Ideal) (c : ℕ) : EReal :=
  if c < 128 then f x.1 c else if c < 256 then f x.2.1 (c - 128) else if c < 384 then f x.2.2.1 (c - 256) else f x.2.2.2 (c - 384)

/-- The maxima and the sums of the eight. -/
abbrev mxs (x : Oct Ideal) : Quad Ideal := (x.1, x.2.1, x.2.2.1, x.2.2.2.1)
abbrev sms (x : Oct Ideal) : Quad Ideal := (x.2.2.2.2.1, x.2.2.2.2.2.1, x.2.2.2.2.2.2.1, x.2.2.2.2.2.2.2)

/-- A relation of columns holds of the four when it holds of each. -/
theorem pick_of {f : FVec Ideal S8x128 .f32 → ℕ → EReal} {x y : Quad Ideal} (R : ℕ → EReal → EReal → Prop)
    (h0 : ∀ l < 128, R (0 + l) (f x.1 l) (f y.1 l)) (h1 : ∀ l < 128, R (128 + l) (f x.2.1 l) (f y.2.1 l))
    (h2 : ∀ l < 128, R (256 + l) (f x.2.2.1 l) (f y.2.2.1 l)) (h3 : ∀ l < 128, R (384 + l) (f x.2.2.2 l) (f y.2.2.2 l)) :
    ∀ c < 512, R c (pick f x c) (pick f y c) := by
  intro c hc
  unfold pick
  split
  case isTrue h => have := h0 c h; rwa [Nat.zero_add] at this
  case isFalse h =>
  split
  case isTrue h' => have := h1 (c - 128) (by omega); rwa [show 128 + (c - 128) = c by omega] at this
  case isFalse h' =>
  split
  case isTrue h'' => have := h2 (c - 256) (by omega); rwa [show 256 + (c - 256) = c by omega] at this
  case isFalse h'' => have := h3 (c - 384) (by omega); rwa [show 384 + (c - 384) = c by omega] at this

/-- The chunk's products added to the accumulator. -/
theorem accAdd_eq (s : Vec Ideal S15360x512 .f32) (acc : Vec Ideal S160x512 .f32) (g0 g1 : FVec Ideal S160x256 .f32) :
    Tr (accAdd stOps g0 g1) (scr b s acc) fun _ st => ∃ acc', st = scr b s acc'
      ∧ ∀ d < 160, ∀ c < 512, at2 acc' d c = at2 acc d c + (if c < 256 then at2 g0 d c else at2 g1 d (c - 256)) := by
  have hadd : ∀ (a g : FVec Ideal S160x256 .f32) {d c : ℕ}, d < 160 → c < 256 → at2 (addf a g) d c = at2 a d c + at2 g d c := by
    intro a g d c hd hc
    rw [at2_of (addf a g) hd hc, at2_of a hd hc, at2_of g hd hc]; pointwise
  unfold accAdd
  refine ⟨_, rfl, fun d hd c hc => ?_⟩
  refine (at2_wr _ _ _ d c).trans ?_
  split
  case isTrue g =>
    rw [shapeCast_id, if_neg (by omega)]
    refine (hadd _ _ hd (by omega)).trans ?_
    congr 1
    refine (at2_rd _ _ hd (by omega)).trans ((at2_wr _ _ _ _ _).trans ?_)
    rw [if_neg (by omega)]
    show at2 acc _ _ = _
    congr 1 <;> omega
  case isFalse g =>
    refine (at2_wr _ _ _ d c).trans ?_
    rw [if_pos (by omega), if_pos (by omega), shapeCast_id]
    refine (hadd _ _ (by omega) (by omega)).trans ?_
    rw [Nat.sub_zero, Nat.sub_zero]
    congr 1
    refine (at2_rd _ _ hd (by omega)).trans ?_
    show at2 acc _ _ = _
    congr 1 <;> omega

/-- The state after a chunk of scores. -/
def Wrote (lim n : ℕ) (s s' : Vec Ideal S15360x512 .f32) : Prop :=
  ∀ r q, at2 s' r q = if (n * 512 ≤ r ∧ r < n * 512 + 512) ∧ q < 512 then msk b lim r q else at2 s r q

theorem wrote_of {lim n : ℕ} {s s0 s1 s2 s3 : Vec Ideal S15360x512 .f32}
    (h0 : ∀ r q, at2 s0 r q = if (n * 512 + 0 ≤ r ∧ r < n * 512 + 0 + 256) ∧ 0 ≤ q ∧ q < 0 + 256 then msk b lim r q else at2 s r q)
    (h1 : ∀ r q, at2 s1 r q = if (n * 512 + 0 ≤ r ∧ r < n * 512 + 0 + 256) ∧ 256 ≤ q ∧ q < 256 + 256 then msk b lim r q else at2 s0 r q)
    (h2 : ∀ r q, at2 s2 r q = if (n * 512 + 256 ≤ r ∧ r < n * 512 + 256 + 256) ∧ 0 ≤ q ∧ q < 0 + 256 then msk b lim r q else at2 s1 r q)
    (h3 : ∀ r q, at2 s3 r q = if (n * 512 + 256 ≤ r ∧ r < n * 512 + 256 + 256) ∧ 256 ≤ q ∧ q < 256 + 256 then msk b lim r q else at2 s2 r q) :
    Wrote b lim n s s3 := by
  intro r q
  rw [h3, h2, h1, h0]
  by_cases g : (n * 512 ≤ r ∧ r < n * 512 + 512) ∧ q < 512
  · rw [if_pos g]; split_ifs <;> first | rfl | (exfalso; omega)
  · rw [if_neg g]; repeat rw [if_neg (by omega)]

theorem sum_512 (f : ℕ → EReal) (n : ℕ) : ∑ r ∈ Finset.range 512, f (n + r) = ∑ r ∈ Finset.range 256, f (n + 0 + r) + ∑ r ∈ Finset.range 256, f (n + 256 + r) := by
  show ∑ r ∈ Finset.range (256 + 256), f (n + r) = _
  rw [sum_more]; simp only [Nat.add_assoc, Nat.zero_add]
theorem top_512 (f : ℕ → EReal) (n : ℕ) : (top 512 fun r => f (n + r)) = max (top 256 fun r => f (n + 0 + r)) (top 256 fun r => f (n + 256 + r)) := by
  show (top (256 + 256) fun r => f (n + r)) = _
  rw [top_more]; simp only [Nat.add_assoc, Nat.zero_add]

/-- A chunk of both. -/
theorem chunkBoth_eq (s : Vec Ideal S15360x512 .f32) (acc : Vec Ideal S160x512 .f32) {mk : BitVec 32 → FVec Ideal S64x128 .f32 → FVec Ideal S64x128 .f32}
    {lim : ℕ} (j : BitVec 32) (hj : j.toNat < 30) (hm : Masks mk lim j.toNat) (x : Oct Ideal) (S0 : ℕ → ℕ → EReal)
    (hS : ∀ r c, j.toNat * 512 ≤ r → c < 512 → at2 s r c = S0 r c) :
    Tr (chunkBoth stOps mk j hj x) (scr b s acc) fun o st => ∃ s' acc', st = scr b s' acc' ∧ Wrote b lim j.toNat s s'
      ∧ (∀ d < 160, ∀ c < 512, at2 acc' d c = at2 acc d c + ∑ r ∈ Finset.range 512, at4 b.vt 0 0 d (j.toNat * 512 + r) * pcd b S0 (j.toNat * 512 + r) c)
      ∧ (∀ c < 512, pick colmax (mxs o) c = max (pick colmax (mxs x) c) (top 512 fun r => msk b lim (j.toNat * 512 + r) c))
      ∧ ∀ c < 512, pick colsum (sms o) c = pick colsum (sms x) c + ∑ r ∈ Finset.range 512, pr b S0 (j.toNat * 512 + r) c := by
  unfold chunkBoth
  refine Tr.seq (probPiece_eq b s acc j 0#32 hj (by decide) 0 128 (by decide) (by decide) rfl _ S0 fun r hr l hl => hS _ _ (by omega) (by omega)) ?_
  rintro p0 _ ⟨rfl, hp0, hq0, ht0⟩
  refine Tr.seq (scorePiece_eq b s acc j 0#32 0#32 hj (by decide) (by decide) (by decide) hm 0 1 (by decide) (by decide) 0 128 (by decide) (by decide)
    (by decide) rfl rfl rfl _) ?_
  rintro m0 _ ⟨s0, rfl, hs0, hm0, hn0⟩
  refine Tr.seq (probPiece_eq b s0 acc j 0#32 hj (by decide) 256 384 (by decide) (by decide) rfl _ S0 fun r hr l hl => ?_) ?_
  · rw [hs0, if_neg (by omega)]; exact hS _ _ (by omega) (by omega)
  rintro p1 _ ⟨rfl, hp1, hq1, ht1⟩
  refine Tr.seq (scorePiece_eq b s0 acc j 0#32 0#32 hj (by decide) (by decide) (by decide) hm 2 3 (by decide) (by decide) 256 384 (by decide) (by decide)
    (by decide) rfl rfl rfl _) ?_
  rintro m1 _ ⟨s1, rfl, hs1, hm1, hn1⟩
  have z0 : (0#32 : BitVec 32).toNat = 0 := rfl
  have z1 : (256#32 : BitVec 32).toNat = 256 := rfl
  refine Tr.seq (probPiece_eq b s1 acc j 256#32 hj (by decide) 0 128 (by decide) (by decide) rfl _ S0 fun r hr l hl => ?_) ?_
  · rw [hs1, if_neg (by omega), hs0, if_neg (by omega)]; exact hS _ _ (by omega) (by omega)
  rintro p2 _ ⟨rfl, hp2, hq2, ht2⟩
  refine Tr.seq (scorePiece_eq b s1 acc j 256#32 4#32 hj (by decide) (by decide) (by decide) hm 0 1 (by decide) (by decide) 0 128 (by decide) (by decide)
    (by decide) rfl rfl rfl _) ?_
  rintro m2 _ ⟨s2, rfl, hs2, hm2, hn2⟩
  refine Tr.seq (probPiece_eq b s2 acc j 256#32 hj (by decide) 256 384 (by decide) (by decide) rfl _ S0 fun r hr l hl => ?_) ?_
  · rw [hs2, if_neg (by omega), hs1, if_neg (by omega), hs0, if_neg (by omega)]; exact hS _ _ (by omega) (by omega)
  rintro p3 _ ⟨rfl, hp3, hq3, ht3⟩
  refine Tr.seq (scorePiece_eq b s2 acc j 256#32 4#32 hj (by decide) (by decide) (by decide) hm 2 3 (by decide) (by decide) 256 384 (by decide) (by decide)
    (by decide) rfl rfl rfl _) ?_
  rintro m3 _ ⟨s3, rfl, hs3, hm3, hn3⟩
  refine Tr.seq (accAdd_eq b s3 acc _ _) ?_
  rintro _ _ ⟨acc', rfl, hacc⟩
  rw [z0] at hs0 hs1 hm0 hm1 hn0 hn1 hp0 hq0 ht0 hp1 hq1 ht1
  rw [z1] at hs2 hs3 hm2 hm3 hn2 hn3 hp2 hq2 ht2 hp3 hq3 ht3
  have hadd : ∀ (a g : FVec Ideal S160x256 .f32) {d c : ℕ}, d < 160 → c < 256 → at2 (addf a g) d c = at2 a d c + at2 g d c := by
    intro a g d c hd hc
    rw [at2_of (addf a g) hd hc, at2_of a hd hc, at2_of g hd hc]; pointwise
  refine Tr.pure ⟨s3, acc', rfl, wrote_of b hs0 hs1 hs2 hs3, fun d hd c hc => ?_, ?_, ?_⟩
  · rw [hacc d hd c hc]
    congr 1
    rw [sum_512 fun r => at4 b.vt 0 0 d r * pcd b S0 r c]
    split
    case isTrue g => rw [hadd _ _ hd g, hp0 d hd c g, hp2 d hd c g, Nat.zero_add]
    case isFalse g =>
      rw [hadd _ _ hd (by omega), hp1 d hd _ (by omega), hp3 d hd _ (by omega), show 256 + (c - 256) = c by omega]
  · refine pick_of (fun c u v => u = max v (top 512 fun r => msk b lim (j.toNat * 512 + r) c)) ?_ ?_ ?_ ?_ <;> intro l hl <;>
      rw [top_512 fun r => msk b lim r _]
    · rw [hm2 l hl, hm0 l hl, max_assoc]
    · rw [hn2 l hl, hn0 l hl, max_assoc]
    · rw [hm3 l hl, hm1 l hl, max_assoc]
    · rw [hn3 l hl, hn1 l hl, max_assoc]
  · refine pick_of (fun c u v => u = v + ∑ r ∈ Finset.range 512, pr b S0 (j.toNat * 512 + r) c) ?_ ?_ ?_ ?_ <;> intro l hl <;>
      rw [sum_512 fun r => pr b S0 r _]
    · rw [hq2 l hl, hq0 l hl, add_assoc]
    · rw [ht2 l hl, ht0 l hl, add_assoc]
    · rw [hq3 l hl, hq1 l hl, add_assoc]
    · rw [ht3 l hl, ht1 l hl, add_assoc]

/-- A chunk of scores alone; -/
theorem chunkScore_eq (s : Vec Ideal S15360x512 .f32) (acc : Vec Ideal S160x512 .f32) {mk : BitVec 32 → FVec Ideal S64x128 .f32 → FVec Ideal S64x128 .f32}
    {lim : ℕ} (j : BitVec 32) (hj : j.toNat < 30) (hm : Masks mk lim j.toNat) (x : Oct Ideal) :
    Tr (chunkScore stOps mk j hj x) (scr b s acc) fun o st => ∃ s', st = scr b s' acc ∧ Wrote b lim j.toNat s s'
      ∧ (∀ c < 512, pick colmax (mxs o) c = max (pick colmax (mxs x) c) (top 512 fun r => msk b lim (j.toNat * 512 + r) c))
      ∧ sms o = sms x := by
  unfold chunkScore
  refine Tr.seq (scorePiece_eq b s acc j 0#32 0#32 hj (by decide) (by decide) (by decide) hm 0 1 (by decide) (by decide) 0 128 (by decide) (by decide)
    (by decide) rfl rfl rfl _) ?_
  rintro m0 _ ⟨s0, rfl, hs0, hm0, hn0⟩
  refine Tr.seq (scorePiece_eq b s0 acc j 0#32 0#32 hj (by decide) (by decide) (by decide) hm 2 3 (by decide) (by decide) 256 384 (by decide) (by decide)
    (by decide) rfl rfl rfl _) ?_
  rintro m1 _ ⟨s1, rfl, hs1, hm1, hn1⟩
  have z0 : (0#32 : BitVec 32).toNat = 0 := rfl
  have z1 : (256#32 : BitVec 32).toNat = 256 := rfl
  refine Tr.seq (scorePiece_eq b s1 acc j 256#32 4#32 hj (by decide) (by decide) (by decide) hm 0 1 (by decide) (by decide) 0 128 (by decide) (by decide)
    (by decide) rfl rfl rfl _) ?_
  rintro m2 _ ⟨s2, rfl, hs2, hm2, hn2⟩
  refine Tr.seq (scorePiece_eq b s2 acc j 256#32 4#32 hj (by decide) (by decide) (by decide) hm 2 3 (by decide) (by decide) 256 384 (by decide) (by decide)
    (by decide) rfl rfl rfl _) ?_
  rintro m3 _ ⟨s3, rfl, hs3, hm3, hn3⟩
  rw [z0] at hs0 hs1 hm0 hm1 hn0 hn1
  rw [z1] at hs2 hs3 hm2 hm3 hn2 hn3
  refine Tr.pure ⟨s3, rfl, wrote_of b hs0 hs1 hs2 hs3, ?_, rfl⟩
  refine pick_of (fun c u v => u = max v (top 512 fun r => msk b lim (j.toNat * 512 + r) c)) ?_ ?_ ?_ ?_ <;> intro l hl <;>
    rw [top_512 fun r => msk b lim r _]
  · rw [hm2 l hl, hm0 l hl, max_assoc]
  · rw [hn2 l hl, hn0 l hl, max_assoc]
  · rw [hm3 l hl, hm1 l hl, max_assoc]
  · rw [hn3 l hl, hn1 l hl, max_assoc]

/-- of probabilities alone. -/
theorem chunkProb_eq (s : Vec Ideal S15360x512 .f32) (acc : Vec Ideal S160x512 .f32) (j : BitVec 32) (hj : j.toNat < 30) (x : Quad Ideal)
    (S0 : ℕ → ℕ → EReal) (hS : ∀ r c, c < 512 → at2 s r c = S0 r c) :
    Tr (chunkProb stOps j hj x) (scr b s acc) fun o st => ∃ acc', st = scr b s acc'
      ∧ (∀ d < 160, ∀ c < 512, at2 acc' d c = at2 acc d c + ∑ r ∈ Finset.range 512, at4 b.vt 0 0 d (j.toNat * 512 + r) * pcd b S0 (j.toNat * 512 + r) c)
      ∧ ∀ c < 512, pick colsum o c = pick colsum x c + ∑ r ∈ Finset.range 512, pr b S0 (j.toNat * 512 + r) c := by
  unfold chunkProb
  have z0 : (0#32 : BitVec 32).toNat = 0 := rfl
  have z1 : (256#32 : BitVec 32).toNat = 256 := rfl
  refine Tr.seq (probPiece_eq b s acc j 0#32 hj (by decide) 0 128 (by decide) (by decide) rfl _ S0 fun r hr l hl => hS _ _ (by omega)) ?_
  rintro p0 _ ⟨rfl, hp0, hq0, ht0⟩
  refine Tr.seq (probPiece_eq b s acc j 0#32 hj (by decide) 256 384 (by decide) (by decide) rfl _ S0 fun r hr l hl => hS _ _ (by omega)) ?_
  rintro p1 _ ⟨rfl, hp1, hq1, ht1⟩
  refine Tr.seq (probPiece_eq b s acc j 256#32 hj (by decide) 0 128 (by decide) (by decide) rfl _ S0 fun r hr l hl => hS _ _ (by omega)) ?_
  rintro p2 _ ⟨rfl, hp2, hq2, ht2⟩
  refine Tr.seq (probPiece_eq b s acc j 256#32 hj (by decide) 256 384 (by decide) (by decide) rfl _ S0 fun r hr l hl => hS _ _ (by omega)) ?_
  rintro p3 _ ⟨rfl, hp3, hq3, ht3⟩
  refine Tr.seq (accAdd_eq b s acc _ _) ?_
  rintro _ _ ⟨acc', rfl, hacc⟩
  rw [z0] at hp0 hq0 ht0 hp1 hq1 ht1
  rw [z1] at hp2 hq2 ht2 hp3 hq3 ht3
  have hadd : ∀ (a g : FVec Ideal S160x256 .f32) {d c : ℕ}, d < 160 → c < 256 → at2 (addf a g) d c = at2 a d c + at2 g d c := by
    intro a g d c hd hc
    rw [at2_of (addf a g) hd hc, at2_of a hd hc, at2_of g hd hc]; pointwise
  refine Tr.pure ⟨acc', rfl, fun d hd c hc => ?_, ?_⟩
  · rw [hacc d hd c hc]
    congr 1
    rw [sum_512 fun r => at4 b.vt 0 0 d r * pcd b S0 r c]
    split
    case isTrue g => rw [hadd _ _ hd g, hp0 d hd c g, hp2 d hd c g, Nat.zero_add]
    case isFalse g =>
      rw [hadd _ _ hd (by omega), hp1 d hd _ (by omega), hp3 d hd _ (by omega), show 256 + (c - 256) = c by omega]
  · refine pick_of (fun c u v => u = v + ∑ r ∈ Finset.range 512, pr b S0 (j.toNat * 512 + r) c) ?_ ?_ ?_ ?_ <;> intro l hl <;>
      rw [sum_512 fun r => pr b S0 r _]
    · rw [hq2 l hl, hq0 l hl, add_assoc]
    · rw [ht2 l hl, ht0 l hl, add_assoc]
    · rw [hq3 l hl, hq1 l hl, add_assoc]
    · rw [ht3 l hl, ht1 l hl, add_assoc]

/-! ## The loops -/

theorem foldlM_tr {σ : Type} : ∀ (n : ℕ) (f : Fin n → σ → StateM (St Ideal) σ) (I : ℕ → σ → St Ideal → Prop) (init : σ) (st : St Ideal),
    I 0 init st → (∀ (k : Fin n) x st, I k.val x st → Tr (f k x) st (I (k.val + 1))) →
    Tr ((List.finRange n).foldlM (fun x k => f k x) init) st (I n) := by
  intro n
  induction n with
  | zero => intro f I init st h0 _; exact h0
  | succ n ih =>
    intro f I init st h0 h
    rw [List.finRange_succ, List.foldlM_cons]
    refine Tr.seq (h 0 init st h0) fun x st' hx => ?_
    rw [List.foldlM_map]
    exact ih (fun k => f k.succ) (fun k => I (k + 1)) x st' hx fun k y st'' hy => h k.succ y st'' hy

theorem loop_tr {σ : Type} (l : Scf.Loop 32) (ok : l.OK) (f : Fin l.trips → σ → StateM (St Ideal) σ) (I : ℕ → σ → St Ideal → Prop) (init : σ) (st : St Ideal)
    (h0 : I 0 init st) (h : ∀ (k : Fin l.trips) x st, I k.val x st → Tr (f k x) st (I (k.val + 1))) :
    Tr (stOps.loop l ok init f) st (I l.trips) := foldlM_tr l.trips f I init st h0 h

end Cert.KernelIdeal.Hand
-- ==== Proof.Ideal.Quant.lean ====
/-
  What the quantisation of a block of queries does to the state over the extended reals: the block's codes, the heads' scales,
  the transposed codes and the key scales times the query scale, by cells.
-/
module

public import proofs.«01_k».proof.Proof.Ideal.Piece

@[expose] public section

noncomputable section

namespace Cert.KernelIdeal.Hand

open Cert.KernelIdeal
open Idealize.ShloMosaic
open Facts₀ Facts

variable [Facts]

/-- The only cell of a 1 × 1 vector. -/
abbrev one1 (x : FVec Ideal S1x1 .f32) : EReal := x (ix2 0 0)

/-- A value clipped to the codes. -/
def clip (v : EReal) : EReal := min c448 (max (Ideal.ofBits .f32 0xC3E00000#32) v)

/-- The score scale times the binary logarithm of e. -/
abbrev kap : EReal := Named.named (F := Ideal) κ "score_scale_log2e" (φ := .f32) 0x3DE995B3#32

theorem at_codeT (q : FVec Ideal S256x128 .f32) (i : FVec Ideal S1x1 .f32) (d : Fin 256) (l : Fin 128) :
    codeT q i (ix2 d l) = clip (q (ix2 d l) * one1 i) := by
  pointwise [codeT, clip]

/-- One step of the search for the exponent's bits, of a number; -/
def stepC (t : EReal) (k b : BitVec 32) : BitVec 32 :=
  if t < Ideal.ofBits .f32 (IntOp.addi b k) then b else IntOp.addi b k
/-- the bits; -/
def bitsC (t : EReal) : BitVec 32 :=
  stepC t 8388608#32 (stepC t 16777216#32 (stepC t 33554432#32 (stepC t 67108864#32 (stepC t 134217728#32
    (stepC t 268435456#32 (stepC t 536870912#32 (stepC t 1073741824#32 0#32)))))))
/-- the exponent; -/
def expC (t : EReal) : BitVec 32 :=
  Scalar.select (IntOp.cmpi CmpIPredicate.slt (bitsC t) 8388608#32) (0#32)
    (IntOp.subi (IntOp.shrsi ArithUnit.vector (bitsC t) 23#32) 126#32)
/-- the scale; -/
def scaleC (t : EReal) : EReal := Ideal.ofBits .f32 (IntOp.shli ArithUnit.vector (IntOp.addi (expC t) 127#32) 23#32)
/-- its inverse. -/
def invC (t : EReal) : EReal := Ideal.ofBits .f32 (IntOp.shli ArithUnit.vector (IntOp.subi 127#32 (expC t)) 23#32)

theorem at_bitStep (t : FVec Ideal S1x1 .f32) (k : BitVec 32) (b : IVec S1x1 32) :
    bitStep t k b (ix2 0 0) = stepC (one1 t) k (b (ix2 0 0)) := by
  pointwise [bitStep, stepC]

theorem at_expBits (t : FVec Ideal S1x1 .f32) : expBits t (ix2 0 0) = bitsC (one1 t) := by
  unfold expBits
  rw [at_bitStep, at_bitStep, at_bitStep, at_bitStep, at_bitStep, at_bitStep, at_bitStep, at_bitStep]
  rfl

theorem at_scaleOf (t : FVec Ideal S1x1 .f32) : one1 (scaleOf t) = scaleC (one1 t) := by
  unfold scaleC expC
  rw [← at_expBits]
  pointwise [scaleOf, expo]

theorem at_invOf (t : FVec Ideal S1x1 .f32) : one1 (invOf t) = invC (one1 t) := by
  unfold invC expC
  rw [← at_expBits]
  pointwise [invOf, expo]

theorem at_headSel (off : BitVec 32) (ho : off.toNat ≤ 96) (d l : Fin 256) :
    headSel (F := Ideal) off (ix2 d l) = if l.val = d.val + off.toNat ∧ d.val < 160 then 1 else 0 := by
  pointwise [headSel]
  show (if BitVec.ofBool (BitVec.ofNat 32 l.val == BitVec.ofNat 32 d.val + off) &&& BitVec.ofBool ((BitVec.ofNat 32 d.val).slt 160#32) = 1#1 then (1 : EReal) else 0) = _
  have h1 : (BitVec.ofNat 32 l.val == BitVec.ofNat 32 d.val + off) = decide (l.val = d.val + off.toNat) := by
    rw [beq_eq_decide, decide_eq_decide, ← BitVec.toNat_inj, BitVec.toNat_add, BitVec.toNat_ofNat, BitVec.toNat_ofNat]
    omega
  have h2 : ((BitVec.ofNat 32 d.val).slt 160#32) = decide (d.val < 160) := by
    have e : (BitVec.ofNat 32 d.val).toNat = d.val := by rw [BitVec.toNat_ofNat]; omega
    rw [BitVec.slt_eq_decide, BitVec.toInt_eq_toNat_of_lt (by omega), BitVec.toInt_eq_toNat_of_lt (by decide), e]
    exact decide_eq_decide.2 (by show (d.val : ℤ) < ((160 : ℕ) : ℤ) ↔ _; omega)
  rw [h1, h2]
  by_cases g1 : l.val = d.val + off.toNat <;> by_cases g2 : d.val < 160 <;> simp [g1, g2]

/-- The head's lanes are moved to the rows. -/
theorem at_headT (off : BitVec 32) (ho : off.toNat ≤ 96) (w : FVec Ideal S128x256 .bf16) {d q : ℕ} (hd : d < 256) (hq : q < 128) :
    at2 (headT off w) d q = if d < 160 then at2 w q (d + off.toNat) else 0 := by
  have e : ∀ (d : Fin 256) (q : Fin 128), headT off w (ix2 d q) = ∑ l : Fin 256, headSel (F := Ideal) off (ix2 d l) * w (ix2 q l) := by
    intro d q; pointwise [headT]
  rw [at2_of (headT off w) hd hq, e]
  simp only [at_headSel off ho]
  split
  case isTrue h =>
    rw [Finset.sum_eq_single (⟨d + off.toNat, by omega⟩ : Fin 256)]
    · rw [if_pos ⟨rfl, h⟩, one_mul, at2_val w]
    · intro l _ hl
      rw [if_neg (fun g => hl (Fin.ext g.1)), zero_mul]
    · intro h; exact absurd (Finset.mem_univ _) h
  case isFalse h =>
    refine Finset.sum_eq_zero fun l _ => ?_
    rw [if_neg (fun g => h g.2), zero_mul]

theorem at_maxRows (q : FVec Ideal S256x128 .f32) (l : Fin 128) :
    (multiReduction .maximumf [0] S128 q 0xFF800000#32 reduces_S256x128_S128 (.inl rfl) rfl : FVec Ideal S128 .f32) (ix1 l)
      = Finset.univ.fold max (Ideal.ofBits .f32 0xFF800000#32) (fun y : Fin 256 => q (ix2 y l)) := by
  pointwise

theorem at_maxLanes (q : FVec Ideal S128 .f32) : (shapeCast S1x1 (multiReduction .maximumf [1] S1
      (shapeCast S1x128 q shapeCasts_S128_S1x128 : FVec Ideal S1x128 .f32) 0xFF800000#32 reduces_S1x128_S1 (.inl rfl) rfl : FVec Ideal S1 .f32)
      shapeCasts_S1_S1x1) (ix2 0 0)
      = Finset.univ.fold max (Ideal.ofBits .f32 0xFF800000#32) (fun y : Fin 128 => q (ix1 y)) := by
  pointwise

/-- The largest magnitude over 448. -/
theorem at_absT (q : FVec Ideal S256x128 .f32) :
    one1 (absT q) = (top 128 fun c => top 256 fun d => max (at2 q d c) (-at2 q d c)) * Ideal.ofBits .f32 0x3B124925#32 := by
  have e : (shapeCast S1x1 (multiReduction .maximumf [1] S1
      (shapeCast S1x128 (multiReduction .maximumf [0] S128 (absf q) 0xFF800000#32 reduces_S256x128_S128 (.inl rfl) rfl : FVec Ideal S128 .f32)
        shapeCasts_S128_S1x128 : FVec Ideal S1x128 .f32) 0xFF800000#32 reduces_S1x128_S1 (.inl rfl) rfl : FVec Ideal S1 .f32) shapeCasts_S1_S1x1) (ix2 0 0)
      = top 128 fun c => top 256 fun d => max (at2 q d c) (-at2 q d c) := by
    rw [at_maxLanes, ofBits_bot]
    refine fold_top _ _ fun c => ?_
    rw [at_maxRows, ofBits_bot]
    refine fold_top _ _ fun d => ?_
    rw [← at2_val q]
    rfl
  unfold one1 absT
  rw [mulf_apply, e]
  pointwise

theorem at2_codeT (q : FVec Ideal S256x128 .f32) (i : FVec Ideal S1x1 .f32) {d l : ℕ} (hd : d < 256) (hl : l < 128) :
    at2 (codeT q i) d l = clip (at2 q d l * one1 i) := by
  rw [at2_of (codeT q i) hd hl, at_codeT, at2_val q]

theorem at_laneInv (lo hi : BitVec 32) (hlo : lo.toNat ≤ 640) (hhi : hi.toNat ≤ 640) (i : FVec Ideal S1x1 .f32) (l : FVec Ideal S1x640 .f32) {k : ℕ} (hk : k < 640) :
    at2 (laneInv lo hi i l) 0 k = if lo.toNat ≤ k ∧ k < hi.toNat then one1 i else at2 l 0 k := by
  have e : ∀ k : Fin 640, laneInv lo hi i l (ix2 0 k) = Scalar.select
      (IntOp.andi (IntOp.cmpi CmpIPredicate.sge (BitVec.ofNat 32 k.val) lo) (IntOp.cmpi CmpIPredicate.slt (BitVec.ofNat 32 k.val) hi))
      (i (ix2 0 0)) (l (ix2 0 k)) := by
    intro k; pointwise [laneInv]
  rw [at2_of (laneInv lo hi i l) (by omega : 0 < 1) hk, at2_of l (by omega : 0 < 1) hk]
  refine (e ⟨k, hk⟩).trans ?_
  have e0 : (BitVec.ofNat 32 k).toNat = k := by rw [BitVec.toNat_ofNat]; omega
  show (if BitVec.ofBool (lo.sle (BitVec.ofNat 32 k)) &&& BitVec.ofBool ((BitVec.ofNat 32 k).slt hi) = 1#1 then i (ix2 0 0) else l (ix2 0 ⟨k, hk⟩)) = _
  have h1 : lo.sle (BitVec.ofNat 32 k) = decide (lo.toNat ≤ k) := by
    rw [BitVec.sle_eq_decide, BitVec.toInt_eq_toNat_of_lt (by omega), BitVec.toInt_eq_toNat_of_lt (by omega), e0]
    exact decide_eq_decide.2 (by omega)
  have h2 : (BitVec.ofNat 32 k).slt hi = decide (k < hi.toNat) := by
    rw [BitVec.slt_eq_decide, BitVec.toInt_eq_toNat_of_lt (by omega), BitVec.toInt_eq_toNat_of_lt (by omega), e0]
    exact decide_eq_decide.2 (by omega)
  rw [h1, h2]
  by_cases g1 : lo.toNat ≤ k <;> by_cases g2 : k < hi.toNat <;> simp [g1, g2] <;> rfl

theorem at_mulRow (x : FVec Ideal S128x640 .f32) (v : FVec Ideal S1x640 .f32) (q : Fin 128) (l : Fin 640) :
    (mulf x (broadcastTo S128x640 v broadcasts_S1x640_S128x640)) (ix2 q l) = x (ix2 q l) * v (ix2 0 l) := by
  pointwise

theorem at_clipped (x : FVec Ideal S128x640 .f32) (q : Fin 128) (l : Fin 640) :
    (truncf (F := Ideal) .fp8e4m3 (minimumf (broadcast S128x640 (Scalar.ofBits .f32 0x43E00000#32))
    (maximumf (broadcast S128x640 (Scalar.ofBits .f32 0xC3E00000#32)) x)) bitsLt_fp8e4m3_f32) (ix2 q l)
      = clip (x (ix2 q l)) := by
  unfold clip
  pointwise

/-- The block's codes. -/
theorem at_codes (x : FVec Ideal S128x640 .bf16) {q l : ℕ} (hq : q < 128) (hl : l < 640) :
    at2 (blockCodes x) q l = clip (at2 x q l * at2 (lanesOf x) 0 l) := by
  rw [at2_of (blockCodes x) hq hl, at2_of x hq hl, at2_of (lanesOf x) (by omega : 0 < 1) hl]
  unfold blockCodes
  generalize lanesOf x = v
  rw [at_clipped, at_mulRow]
  pointwise

theorem at_keyMul (ksl : FVec Ideal S240x128 .f32) (u : FVec Ideal S1x1 .f32) (r : Fin 240) (l : Fin 128) :
   (shapeCast S1x240x128 (mulf ksl (broadcastTo S240x128 u broadcasts_S1x1_S240x128)) shapeCasts_S240x128_S1x240x128) (ix3 0 r l)
    = ksl (ix2 r l) * u (ix2 0 0) := by
  pointwise

theorem at_keyScale (ksl : FVec Ideal S240x128 .f32) (u : FVec Ideal S1x1 .f32) (r : Fin 240) (l : Fin 128) :
   (shapeCast S1x240x128 (mulf ksl (broadcastTo S240x128
    (mulf u (broadcast S1x1 (Named.named κ "score_scale_log2e" 0x3DE995B3#32))) broadcasts_S1x1_S240x128)) shapeCasts_S240x128_S1x240x128) (ix3 0 r l)
    = ksl (ix2 r l) * (one1 u * kap) := by
  rw [at_keyMul]
  rfl

theorem at_rowScale (u : FVec Ideal S1x1 .f32) (l : Fin 128) :
   (shapeCast S1x1x1x128 (broadcastTo S1x128 (shapeCast S1x1 u shapeCasts_S1x1_S1x1 : FVec Ideal S1x1 .f32)
    broadcasts_S1x1_S1x128 : FVec Ideal S1x128 .f32) shapeCasts_S1x128_S1x1x1x128) (ix4 0 0 0 l)
    = one1 u := by
  unfold one1
  pointwise

/-- What a head does to the codes, the scales and the key scales. -/
theorem quantHead_eq (st : St Ideal) (h : ℕ) (hh : h < 4) (c : ℕ) (hc : c = 0 ∨ c = 128 ∨ c = 256 ∨ c = 384) (ksl : FVec Ideal S240x128 .f32)
    (q : FVec Ideal S256x128 .f32) :
    Tr (quantHead stOps h hh c hc ksl q) st fun _ st' => ∃ qt qs a, st' = { st with qt := qt, qs := qs, a := a }
      ∧ (∀ d e, at2 qt d e = if d < 256 ∧ c ≤ e ∧ e < c + 128 then clip (at2 q d (e - c) * invC (one1 (absT q))) else at2 st.qt d e)
      ∧ (∀ k l, at4 qs 0 0 k l = if k = h ∧ l < 128 then scaleC (one1 (absT q)) else at4 st.qs 0 0 k l)
      ∧ (∀ k r l, at3 a k r l = if k = h ∧ r < 240 ∧ l < 128 then at2 ksl r l * (scaleC (one1 (absT q)) * kap) else at3 st.a k r l) := by
  refine ⟨_, _, _, rfl, fun d e => ?_, fun k l => ?_, fun k r l => ?_⟩
  · refine (at2_wr st.qt _ _ d e).trans ?_
    split
    case isTrue g =>
      rw [if_pos (by omega), shapeCast_id, ← at_invOf]
      refine (at2_codeT _ _ (by omega) (by omega)).trans ?_
      rw [Nat.sub_zero]
    case isFalse g => rw [if_neg (by omega)]
  · refine (at4_wr st.qs _ _ 0 0 k l).trans ?_
    split
    case isTrue g =>
      rw [if_pos (by omega), ← at_scaleOf]
      obtain rfl : k = h := by omega
      rw [show k - k = 0 from Nat.sub_self k, Nat.sub_zero]
      refine (at4_of (A := 1) (B := 1) (R := 1) (C := 128) _ (by omega : 0 < 1) (by omega : 0 < 1) (by omega : 0 < 1) (by omega : l < 128)).trans ?_
      exact at_rowScale (scaleOf (absT q)) ⟨l, by omega⟩
    case isFalse g => rw [if_neg (by omega)]
  · refine (at3_wr st.a _ _ k r l).trans ?_
    split
    case isTrue g =>
      rw [if_pos (by omega), ← at_scaleOf]
      obtain rfl : k = h := by omega
      rw [show k - k = 0 from Nat.sub_self k, Nat.sub_zero, Nat.sub_zero]
      refine (at3_of (A := 1) (R := 240) (C := 128) _ (by omega : 0 < 1) (by omega : r < 240) (by omega : l < 128)).trans ?_
      refine (at_keyScale ksl (scaleOf (absT q)) ⟨r, by omega⟩ ⟨l, by omega⟩).trans ?_
      rw [at2_val ksl]
    case isFalse g => rw [if_neg (by omega)]

/-- The queries by head `h`: row `d` of query `c`; -/
def qv (st : St Ideal) (h d c : ℕ) : EReal := if d < 160 then at3 st.x 0 c (160 * h + d) else 0
/-- the largest magnitude of head `h` over 448. -/
def tv (st : St Ideal) (h : ℕ) : EReal :=
  (top 128 fun c => top 256 fun d => max (qv st h d c) (-qv st h d c)) * Ideal.ofBits .f32 0x3B124925#32

/-- What the quantisation does: the state `b` after it from the state `st` before. -/
structure Quantised (st b : St Ideal) : Prop where
  x : b.x = st.x
  kp : b.kp = st.kp
  vt : b.vt = st.vt
  ksl : b.ksl = st.ksl
  vs : b.vs = st.vs
  out : b.out = st.out
  s : b.s = st.s
  m8 : b.m8 = st.m8
  acc : b.acc = st.acc
  qt : ∀ h < 4, ∀ d < 256, ∀ c < 128, at2 b.qt d (128 * h + c) = clip (qv st h d c * invC (tv st h))
  qs : ∀ h < 4, ∀ l < 128, at4 b.qs 0 0 h l = scaleC (tv st h)
  a : ∀ h < 4, ∀ r < 240, ∀ l < 128, at3 b.a h r l = at4 st.ksl 0 0 r l * (scaleC (tv st h) * kap)
  qc : ∀ c < 128, ∀ l < 640, at3 b.qc 0 c l = clip (at3 st.x 0 c l * invC (tv st (l / 160)))

theorem at_window {p : ℕ} (x : FVec Ideal S128x640 .bf16) (hs : S128x640.Slices ![0, p] S128x256) (hp : p + 256 ≤ 640) {q l : ℕ} (hq : q < 128) (hl : l < 256) :
    at2 (extractStridedSlice S128x256 ![0, p] x hs) q l = at2 x q (p + l) := by
  rw [at2_of _ hq hl, at2_of x hq (by omega : p + l < 640)]
  pointwise

theorem quantise_eq (s : St Ideal) : Tr (quantise stOps) s fun _ b => Quantised s b := by
  unfold quantise
  refine Tr.seq (P := fun x s' => s = s' ∧ ∀ c < 128, ∀ l < 640, at2 (R := 128) (C := 640) (shapeCast S128x640 x shapeCasts_S1x128x640_S128x640) c l = at3 s.x 0 c l)
    ⟨rfl, fun c hc l hl => ?_⟩ ?_
  · have e : ∀ (x : S1x128x640.Idx → EReal) (c : Fin 128) (l : Fin 640), (shapeCast S128x640 x shapeCasts_S1x128x640_S128x640) (ix2 c l) = x (ix3 0 c l) := by
      intro x c l; pointwise
    rw [at2_of _ hc hl]
    refine (e _ ⟨c, hc⟩ ⟨l, hl⟩).trans ?_
    refine (at3_val (A := 1) (R := 128) (C := 640) _ (0 : Fin 1) ⟨c, hc⟩ ⟨l, hl⟩).trans ?_
    exact (at3_rd s.x _ (by omega : 0 < 1) hc hl).trans (by simp only [Nat.zero_add])
  rintro x' _ ⟨rfl, hx⟩
  refine Tr.seq (P := fun x s' => s = s' ∧ ∀ r < 240, ∀ l < 128, at2 (R := 240) (C := 128) (shapeCast S240x128 x shapeCasts_S1x1x240x128_S240x128) r l = at4 s.ksl 0 0 r l)
    ⟨rfl, fun r hr l hl => ?_⟩ ?_
  · have e : ∀ (x : S1x1x240x128.Idx → EReal) (r : Fin 240) (l : Fin 128), (shapeCast S240x128 x shapeCasts_S1x1x240x128_S240x128) (ix2 r l) = x (ix4 0 0 r l) := by
      intro x c l; pointwise
    rw [at2_of _ hr hl]
    refine (e _ ⟨r, hr⟩ ⟨l, hl⟩).trans ?_
    refine (at4_val (A := 1) (B := 1) (R := 240) (C := 128) _ (0 : Fin 1) (0 : Fin 1) ⟨r, hr⟩ ⟨l, hl⟩).trans ?_
    exact (at4_rd s.ksl _ (by omega : 0 < 1) (by omega : 0 < 1) hr hl).trans (by simp only [Nat.zero_add])
  rintro k' _ ⟨rfl, hk⟩
  dsimp only
  generalize (shapeCast S128x640 x' shapeCasts_S1x128x640_S128x640 : FVec Ideal S128x640 .bf16) = x at hx ⊢
  generalize (shapeCast S240x128 k' shapeCasts_S1x1x240x128_S240x128 : FVec Ideal S240x128 .f32) = ksl at hk ⊢
  have hv : ∀ (h p off : ℕ) (o : BitVec 32) (hs : S128x640.Slices ![0, p] S128x256), o.toNat ≤ 96 → p + 256 ≤ 640 → p + o.toNat = 160 * h →
      (∀ d < 256, ∀ c < 128, at2 (headT o (extractStridedSlice S128x256 ![0, p] x hs)) d c = qv s h d c)
      ∧ one1 (absT (headT o (extractStridedSlice S128x256 ![0, p] x hs))) = tv s h := by
    intro h p off o hs ho hp hph
    have e : ∀ d < 256, ∀ c < 128, at2 (headT o (extractStridedSlice S128x256 ![0, p] x hs)) d c = qv s h d c := by
      intro d hd c hc
      rw [at_headT o ho _ hd hc]
      unfold qv
      split
      case isTrue g => rw [at_window x hs hp hc (by omega), hx c hc _ (by omega)]; congr 1; omega
      case isFalse g => rfl
    refine ⟨e, ?_⟩
    rw [at_absT]
    unfold tv
    congr 1
    exact top_congr fun c hc => top_congr fun d hd => by rw [e d hd c hc]
  have H0 : (∀ d < 256, ∀ c < 128, at2 (qT0 x) d c = qv s 0 d c) ∧ one1 (absT (qT0 x)) = tv s 0 :=
    hv 0 0 0 0#32 slices_S128x640_o0_0_S128x256 (by decide) (by omega) rfl
  have H1 : (∀ d < 256, ∀ c < 128, at2 (qT1 x) d c = qv s 1 d c) ∧ one1 (absT (qT1 x)) = tv s 1 :=
    hv 1 128 0 32#32 slices_S128x640_o0_128_S128x256 (by decide) (by omega) rfl
  have H2 : (∀ d < 256, ∀ c < 128, at2 (qT2 x) d c = qv s 2 d c) ∧ one1 (absT (qT2 x)) = tv s 2 :=
    hv 2 256 0 64#32 slices_S128x640_o0_256_S128x256 (by decide) (by omega) rfl
  have H3 : (∀ d < 256, ∀ c < 128, at2 (qT3 x) d c = qv s 3 d c) ∧ one1 (absT (qT3 x)) = tv s 3 :=
    hv 3 384 0 96#32 slices_S128x640_o0_384_S128x256 (by decide) (by omega) rfl
  clear hv
  have hl : ∀ l < 640, at2 (lanesOf x) 0 l = invC (tv s (l / 160)) := by
    intro l hl
    unfold lanesOf
    rw [at_laneInv _ _ (by decide) (by decide) _ _ hl, at_laneInv _ _ (by decide) (by decide) _ _ hl,
      at_laneInv _ _ (by decide) (by decide) _ _ hl, at_laneInv _ _ (by decide) (by decide) _ _ hl,
      at_invOf, at_invOf, at_invOf, at_invOf, H0.2, H1.2, H2.2, H3.2,
      show (480#32 : BitVec 32).toNat = 480 from rfl, show (640#32 : BitVec 32).toNat = 640 from rfl,
      show (320#32 : BitVec 32).toNat = 320 from rfl, show (160#32 : BitVec 32).toNat = 160 from rfl,
      show (0#32 : BitVec 32).toNat = 0 from rfl]
    have h4 : l / 160 = 0 ∨ l / 160 = 1 ∨ l / 160 = 2 ∨ l / 160 = 3 := by omega
    rcases h4 with h | h | h | h <;> rw [h]
    · rw [if_neg (by omega), if_neg (by omega), if_neg (by omega), if_pos (by omega)]
    · rw [if_neg (by omega), if_neg (by omega), if_pos (by omega)]
    · rw [if_neg (by omega), if_pos (by omega)]
    · rw [if_pos (by omega)]
  have hc : ∀ c < 128, ∀ l < 640, at3 (A := 1) (R := 128) (C := 640) (shapeCast S1x128x640 (blockCodes x) shapeCasts_S128x640_S1x128x640) 0 c l
      = clip (at3 s.x 0 c l * invC (tv s (l / 160))) := by
    have e : ∀ (y : S128x640.Idx → EReal) (c : Fin 128) (l : Fin 640), (shapeCast S1x128x640 y shapeCasts_S128x640_S1x128x640) (ix3 0 c l) = y (ix2 c l) := by
      intro y c l; pointwise
    intro c hc l hll
    rw [at3_of _ (by omega : 0 < 1) hc hll]
    refine (e (blockCodes x) ⟨c, hc⟩ ⟨l, hll⟩).trans ?_
    rw [at2_val (blockCodes x)]
    refine (at_codes x hc hll).trans ?_
    rw [hx c hc l hll, hl l hll]
  refine Tr.seq (quantHead_eq s 0 _ 0 _ ksl (qT0 x)) ?_
  rintro _ _ ⟨t0, s0, a0, rfl, ht0, hs0, ha0⟩
  refine Tr.seq (quantHead_eq _ 1 _ 128 _ ksl (qT1 x)) ?_
  rintro _ _ ⟨t1, s1, a1, rfl, ht1, hs1, ha1⟩
  refine Tr.seq (quantHead_eq _ 2 _ 256 _ ksl (qT2 x)) ?_
  rintro _ _ ⟨t2, s2, a2, rfl, ht2, hs2, ha2⟩
  refine Tr.seq (quantHead_eq _ 3 _ 384 _ ksl (qT3 x)) ?_
  rintro _ _ ⟨t3, s3, a3, rfl, ht3, hs3, ha3⟩
  dsimp only at *
  generalize (shapeCast S1x128x640 (blockCodes x) shapeCasts_S128x640_S1x128x640 : FVec Ideal S1x128x640 .fp8e4m3) = w at hc ⊢
  rw [H0.2] at ht0 hs0 ha0
  rw [H1.2] at ht1 hs1 ha1
  rw [H2.2] at ht2 hs2 ha2
  rw [H3.2] at ht3 hs3 ha3
  refine ⟨rfl, rfl, rfl, rfl, rfl, rfl, rfl, rfl, rfl, ?_, ?_, ?_, ?_⟩
  · intro h hh d hd c hc
    show at2 t3 d (128 * h + c) = _
    rw [ht3, ht2, ht1, ht0]
    have h4 : h = 0 ∨ h = 1 ∨ h = 2 ∨ h = 3 := by omega
    rcases h4 with rfl | rfl | rfl | rfl
    · rw [if_neg (by omega), if_neg (by omega), if_neg (by omega), if_pos (by omega), show 128 * 0 + c - 0 = c by omega, H0.1 d hd c hc]
    · rw [if_neg (by omega), if_neg (by omega), if_pos (by omega), show 128 * 1 + c - 128 = c by omega, H1.1 d hd c hc]
    · rw [if_neg (by omega), if_pos (by omega), show 128 * 2 + c - 256 = c by omega, H2.1 d hd c hc]
    · rw [if_pos (by omega), show 128 * 3 + c - 384 = c by omega, H3.1 d hd c hc]
  · intro h hh l hl
    show at4 s3 0 0 h l = _
    rw [hs3, hs2, hs1, hs0]
    have h4 : h = 0 ∨ h = 1 ∨ h = 2 ∨ h = 3 := by omega
    rcases h4 with rfl | rfl | rfl | rfl
    · rw [if_neg (by omega), if_neg (by omega), if_neg (by omega), if_pos (by omega)]
    · rw [if_neg (by omega), if_neg (by omega), if_pos (by omega)]
    · rw [if_neg (by omega), if_pos (by omega)]
    · rw [if_pos (by omega)]
  · intro h hh r hr l hl
    show at3 a3 h r l = _
    rw [ha3, ha2, ha1, ha0]
    have h4 : h = 0 ∨ h = 1 ∨ h = 2 ∨ h = 3 := by omega
    rcases h4 with rfl | rfl | rfl | rfl
    · rw [if_neg (by omega), if_neg (by omega), if_neg (by omega), if_pos (by omega), hk r hr l hl]
    · rw [if_neg (by omega), if_neg (by omega), if_pos (by omega), hk r hr l hl]
    · rw [if_neg (by omega), if_pos (by omega), hk r hr l hl]
    · rw [if_pos (by omega), hk r hr l hl]
  · intro c hcc l hll
    refine (at3_wr _ _ w 0 c l).trans ?_
    rw [if_pos (by omega), Nat.sub_zero, Nat.sub_zero, Nat.sub_zero]
    exact hc c hcc l hll

end Cert.KernelIdeal.Hand
-- ==== Proof.Ideal.Point.lean ====
/-
  What the body does at a grid point. From a state `st` it leaves the scores and the maxima of the point's block of queries
  (as the quantised state `b` gives them), and writes out the block before, from the scores and the maxima `st` holds.
-/
module

public import proofs.«01_k».proof.Proof.Ideal.Chunk
public import proofs.«01_k».proof.Proof.Ideal.Quant

@[expose] public section

noncomputable section

namespace Cert.KernelIdeal.Hand

open Cert.KernelIdeal
open Idealize.ShloMosaic
open Facts₀ Facts

variable [Facts]

theorem cond2_iff : ∀ n : Fin 121, (Scalar.cmpi .ne (Scalar.extui (Scalar.cmpi .eq (nPrev (BitVec.ofNat 32 n.val)) (nCur (BitVec.ofNat 32 n.val))) : BitVec 32) 0#32 = 1#1) ↔
    n.val % 4 ≠ 0 := by decide +kernel
theorem cond3_iff : ∀ n : Fin 121, (Scalar.cmpi .ne (Scalar.extui (Scalar.cmpi .sgt (BitVec.ofNat 32 n.val) 0#32) : BitVec 32) 0#32 = 1#1) ↔
    0 < n.val := by decide +kernel
theorem cond4_iff : ∀ n : Fin 121, (Scalar.cmpi .ne (Scalar.extui (Scalar.cmpi .eq (BitVec.ofNat 32 n.val) 120#32) : BitVec 32) 0#32 = 1#1) ↔
    n.val = 120 := by decide +kernel

theorem k0_cond2_iff (i : grid0.Coords) : k0_cond2 i = 1#1 ↔ (i 1).val % 4 ≠ 0 := cond2_iff (i 1)
theorem k0_cond3_iff (i : grid0.Coords) : k0_cond3 i = 1#1 ↔ 0 < (i 1).val := cond3_iff (i 1)
theorem k0_cond4_iff (i : grid0.Coords) : k0_cond4 i = 1#1 ↔ (i 1).val = 120 := cond4_iff (i 1)

theorem last_toNat (i : grid0.Coords) (h : (i 1).val < 120) : (lastOf i).toNat = (i 1).val / 4 := by
  rw [lastOf, pt, nCur_eq (i 1)]
  show (BitVec.ofNat 32 _ - 1#32).toNat = _
  rw [BitVec.toNat_sub, ofNat_toNat_small (by omega), ofNat_toNat_small (by omega)]
  omega

/-- Below the diagonal nothing is masked. -/
theorem masks_id {lim j : ℕ} (h : (j + 1) * 512 ≤ lim) : Masks (fun _ y => y) lim j := by
  intro k y r l h1 h2 hr hl
  rw [if_pos (by omega)]

theorem masks_last (i : grid0.Coords) {j : ℕ} (hj : j < 30) : Masks (mkLast i) (128 * (i 1).val) j := by
  intro k y r l h1 h2 hr hl
  have hi : (i 1).val < 121 := (i 1).2
  have e : (Scalar.muli (pt i) 128#32).toNat = 128 * (i 1).val := by
    show (BitVec.ofNat 32 (i 1).val * 128#32).toNat = _
    rw [BitVec.toNat_mul, ofNat_toNat_small (by omega), show (128#32 : BitVec 32).toNat = 128 from rfl, Nat.mod_eq_of_lt (by omega)]
    omega
  refine (at2_causal _ _ y hr hl (by rw [e]; omega) (by omega)).trans ?_
  rw [e]

section
variable (b : St Ideal)

/-- The scores `s'` and the running maxima after `k` chunks of scores, from the scores `s`. -/
def ScoreAt (lim k : ℕ) (s s' : Vec Ideal S15360x512 .f32) (q : Quad Ideal) : Prop :=
  (∀ r c, c < 512 → at2 s' r c = if r < 512 * k then msk b lim r c else at2 s r c)
    ∧ ∀ c < 512, pick colmax q c = top (512 * k) fun r => msk b lim r c

/-- The accumulator and the running sums after `k` chunks of probabilities. -/
def ProbAt (S0 : ℕ → ℕ → EReal) (k : ℕ) (acc : Vec Ideal S160x512 .f32) (q : Quad Ideal) : Prop :=
  (∀ d < 160, ∀ c < 512, at2 acc d c = ∑ r ∈ Finset.range (512 * k), at4 b.vt 0 0 d r * pcd b S0 r c)
    ∧ ∀ c < 512, pick colsum q c = ∑ r ∈ Finset.range (512 * k), pr b S0 r c

theorem scoreAt_succ {lim k : ℕ} {s s' s'' : Vec Ideal S15360x512 .f32} {q q' : Quad Ideal} (h : ScoreAt b lim k s s' q)
    (hw : Wrote b lim k s' s'') (hm : ∀ c < 512, pick colmax q' c = max (pick colmax q c) (top 512 fun r => msk b lim (k * 512 + r) c)) :
    ScoreAt b lim (k + 1) s s'' q' := by
  refine ⟨fun r c hc => ?_, fun c hc => ?_⟩
  · rw [hw r c]
    by_cases h1 : (k * 512 ≤ r ∧ r < k * 512 + 512) ∧ c < 512
    · rw [if_pos h1, if_pos (by omega)]
    · rw [if_neg h1, h.1 r c hc]
      by_cases h2 : r < 512 * k
      · rw [if_pos h2, if_pos (by omega)]
      · rw [if_neg h2, if_neg (by omega)]
  · rw [hm c hc, h.2 c hc, show 512 * (k + 1) = 512 * k + 512 by omega, top_more, Nat.mul_comm k 512]

theorem probAt_succ {S0 : ℕ → ℕ → EReal} {k : ℕ} {acc acc' : Vec Ideal S160x512 .f32} {q q' : Quad Ideal} (h : ProbAt b S0 k acc q)
    (ha : ∀ d < 160, ∀ c < 512, at2 acc' d c = at2 acc d c + ∑ r ∈ Finset.range 512, at4 b.vt 0 0 d (k * 512 + r) * pcd b S0 (k * 512 + r) c)
    (hs : ∀ c < 512, pick colsum q' c = pick colsum q c + ∑ r ∈ Finset.range 512, pr b S0 (k * 512 + r) c) :
    ProbAt b S0 (k + 1) acc' q' := by
  refine ⟨fun d hd c hc => ?_, fun c hc => ?_⟩
  · rw [ha d hd c hc, h.1 d hd c hc, show 512 * (k + 1) = 512 * k + 512 by omega, sum_more, Nat.mul_comm k 512]
  · rw [hs c hc, h.2 c hc, show 512 * (k + 1) = 512 * k + 512 by omega, sum_more, Nat.mul_comm k 512]

theorem scoreAt_zero (lim : ℕ) (s : Vec Ideal S15360x512 .f32) : ScoreAt b lim 0 s s (bot8, bot8, bot8, bot8) := by
  refine ⟨fun r c hc => by rw [if_neg (by omega)], fun c hc => ?_⟩
  rw [Nat.mul_zero, top_zero]
  unfold pick
  split_ifs <;> exact colmax_bot8 _ (by omega)

theorem probAt_zero (S0 : ℕ → ℕ → EReal) {acc : Vec Ideal S160x512 .f32} (h : ∀ d < 160, ∀ c < 512, at2 acc d c = 0) :
    ProbAt b S0 0 acc (zero8, zero8, zero8, zero8) := by
  refine ⟨fun d hd c hc => by rw [h d hd c hc, Nat.mul_zero, Finset.sum_range_zero], fun c hc => ?_⟩
  rw [Nat.mul_zero, Finset.sum_range_zero]
  unfold pick
  split_ifs <;> exact colsum_zero8 _ (by omega)

/-- A loop without trips does nothing. -/
theorem loop_none {σ : Type} (l : Scf.Loop 32) (ok : l.OK) (e : l.trips = 0) (f : Fin l.trips → σ → StateM (St Ideal) σ) (init : σ) (st : St Ideal) :
    Tr (stOps.loop l ok init f) st fun x st' => x = init ∧ st' = st := by
  refine Tr.mono (loop_tr l ok f (fun k x st' => k = 0 → x = init ∧ st' = st) init st (fun _ => ⟨rfl, rfl⟩) ?_) fun x st' h => h e
  intro k; exact absurd k.2 (by omega)

/-- The eight running vectors by their two fours. -/
theorem scores_eq (i : grid0.Coords) (h1 : k0_cond1 i = 1#1) (s : Vec Ideal S15360x512 .f32) (acc : Vec Ideal S160x512 .f32)
    (hz : ∀ d < 160, ∀ c < 512, at2 acc d c = 0) :
    Tr (scores stOps i h1) (scr b s acc) fun z st => ∃ s' acc', st = scr b s' acc'
      ∧ ScoreAt b (128 * (i 1).val) (((i 1).val + 4) / 4) s s' (z.1, z.2.1, z.2.2.1, z.2.2.2.1)
      ∧ ProbAt b (at2 s) (((i 1).val + 3) / 4) acc' (z.2.2.2.2.1, z.2.2.2.2.2.1, z.2.2.2.2.2.2.1, z.2.2.2.2.2.2.2.1) := by
  have hi := (k0_cond1_iff i).1 h1
  unfold scores
  refine Tr.seq (loop_tr _ _ _ (fun k x st => ∃ s' acc', st = scr b s' acc' ∧ ScoreAt b (128 * (i 1).val) k s s' (mxs x)
      ∧ ProbAt b (at2 s) k acc' (sms x)) _ _ ⟨s, acc, rfl, scoreAt_zero b _ s, probAt_zero b _ hz⟩ ?_) ?_
  · rintro k x _ ⟨s', acc', rfl, hs, hp⟩
    have hk : k.val < (i 1).val / 4 := lt_of_lt_of_eq k.2 (t1_trips i)
    have ek : (Scf.iv 0#32 1#32 k.val).toNat = k.val := iv_small _ (by omega)
    refine Tr.mono (chunkBoth_eq b s' acc' _ (iv1_lt i k) (lim := 128 * (i 1).val) (masks_id (by rw [ek]; omega)) x (at2 s)
      fun r c hr hc => ?_) ?_
    · rw [ek] at hr; rw [hs.1 r c hc, if_neg (by omega)]
    · rintro o _ ⟨s'', acc'', rfl, hw, ha, hm, hsum⟩
      rw [ek] at hw ha hm hsum
      exact ⟨s'', acc'', rfl, scoreAt_succ b hs hw hm, probAt_succ b hp ha hsum⟩
  rintro x _ ⟨s', acc', rfl, hs, hp⟩
  rw [t1_trips] at hs hp
  refine Tr.seq (loop_none _ _ (t2_trips i) _ _ _) ?_
  rintro y _ ⟨rfl, rfl⟩
  have el := last_toNat i hi
  have fin : ∀ (z : Oct Ideal) st, (∃ s' acc', st = scr b s' acc' ∧ ScoreAt b (128 * (i 1).val) (((i 1).val + 4) / 4) s s' (mxs z)
      ∧ ProbAt b (at2 s) (((i 1).val + 3) / 4) acc' (sms z)) → _ := fun z st h => h
  dsimp only
  by_cases h2 : k0_cond2 i = 1#1
  · rw [dif_pos h2]
    have h2' := (k0_cond2_iff i).1 h2
    refine Tr.seq (Tr.mono (chunkBoth_eq b s' acc' _ (last_lt i h1) (masks_last i (last_lt i h1)) y (at2 s) fun r c hr hc => ?_) ?_) fin
    · rw [el] at hr; rw [hs.1 r c hc, if_neg (by omega)]
    · rintro o _ ⟨s'', acc'', rfl, hw, ha, hm, hsum⟩
      rw [el] at hw ha hm hsum
      refine ⟨s'', acc'', rfl, ?_, ?_⟩
      · rw [show ((i 1).val + 4) / 4 = (i 1).val / 4 + 1 by omega]; exact scoreAt_succ b hs hw hm
      · rw [show ((i 1).val + 3) / 4 = (i 1).val / 4 + 1 by omega]; exact probAt_succ b hp ha hsum
  · rw [dif_neg h2]
    have h2' : (i 1).val % 4 = 0 := by by_contra h; exact h2 ((k0_cond2_iff i).2 h)
    refine Tr.seq (Tr.mono (chunkScore_eq b s' acc' _ (last_lt i h1) (masks_last i (last_lt i h1)) y) ?_) fin
    rintro o _ ⟨s'', rfl, hw, hm, hsum⟩
    rw [el] at hw hm
    refine ⟨s'', acc', rfl, ?_, ?_⟩
    · rw [show ((i 1).val + 4) / 4 = (i 1).val / 4 + 1 by omega]; exact scoreAt_succ b hs hw hm
    · rw [hsum, show ((i 1).val + 3) / 4 = (i 1).val / 4 by omega]; exact hp

/-- The last block's probabilities, over all chunks. -/
theorem probs_eq (i : grid0.Coords) (h4 : k0_cond4 i = 1#1) (s : Vec Ideal S15360x512 .f32) (acc : Vec Ideal S160x512 .f32)
    (hz : ∀ d < 160, ∀ c < 512, at2 acc d c = 0) :
    Tr (lastProbs stOps i h4) (scr b s acc) fun z st => ∃ acc' y, st = scr b s acc' ∧ ProbAt b (at2 s) 30 acc' y ∧ z = ⟨y.2.2.2,
      normal (rd (Rect.unit (s := S160x512) ![0, 0] S160x128.size (inAcc1 0 (by decide))) acc') (rd (Rect.unit (s := S1x1x160x128) ![0, 0, 0, 0] S1x1x160x128.size inb_S1x1x160x128_S1x1x160x128_0_0_0_0) b.vs) y.1,
      normal (rd (Rect.unit (s := S160x512) ![0, 128] S160x128.size (inAcc1 128 (by decide))) acc') (rd (Rect.unit (s := S1x1x160x128) ![0, 0, 0, 0] S1x1x160x128.size inb_S1x1x160x128_S1x1x160x128_0_0_0_0) b.vs) y.2.1,
      normal (rd (Rect.unit (s := S160x512) ![0, 256] S160x128.size (inAcc1 256 (by decide))) acc') (rd (Rect.unit (s := S1x1x160x128) ![0, 0, 0, 0] S1x1x160x128.size inb_S1x1x160x128_S1x1x160x128_0_0_0_0) b.vs) y.2.2.1⟩ := by
  have hi := (k0_cond4_iff i).1 h4
  unfold lastProbs
  refine Tr.seq (loop_tr _ _ _ (fun k x st => ∃ acc', st = scr b s acc' ∧ ProbAt b (at2 s) k acc' x) _ _ ⟨acc, rfl, probAt_zero b _ hz⟩ ?_) ?_
  · rintro k x _ ⟨acc', rfl, hp⟩
    have hk : k.val < ((i 1).val + 3) / 4 := lt_of_lt_of_eq k.2 (t3_trips i)
    have ek : (Scf.iv 0#32 1#32 k.val).toNat = k.val := iv_small _ (by omega)
    refine Tr.mono (chunkProb_eq b s acc' _ (iv3_lt i k) x (at2 s) fun r c hc => rfl) ?_
    rintro o _ ⟨acc'', rfl, ha, hsum⟩
    rw [ek] at ha hsum
    exact ⟨acc'', rfl, probAt_succ b hp ha hsum⟩
  rintro x _ ⟨acc', rfl, hp⟩
  rw [t3_trips, hi] at hp
  refine Tr.seq (loop_none _ _ (t4_trips i) _ _ _) ?_
  rintro y _ ⟨rfl, rfl⟩
  exact ⟨acc', y, rfl, hp, rfl⟩

/-- The result's cells from the accumulator, the value scales and the sums. -/
theorem out_cells (acc : Vec Ideal S160x512 .f32) (vs : Vec Ideal S1x1x160x128 .f32) (o : Vec Ideal S1x128x640 .bf16) (s0 s1 s2 s3 : FVec Ideal S8x128 .f32)
    {r k : ℕ} (hr : r < 128) (hk : k < 640) :
    at3 (wr (Rect.unit (s := S1x128x640) ![0, 0, 0] S1x128x640.size inb_S1x128x640_S1x128x640_0_0_0) o (shapeCast S1x128x640 (joined
      (normal (rd (Rect.unit (s := S160x512) ![0, 0] S160x128.size (inAcc1 0 (by decide))) acc) (rd (Rect.unit (s := S1x1x160x128) ![0, 0, 0, 0] S1x1x160x128.size inb_S1x1x160x128_S1x1x160x128_0_0_0_0) vs) s0)
      (normal (rd (Rect.unit (s := S160x512) ![0, 128] S160x128.size (inAcc1 128 (by decide))) acc) (rd (Rect.unit (s := S1x1x160x128) ![0, 0, 0, 0] S1x1x160x128.size inb_S1x1x160x128_S1x1x160x128_0_0_0_0) vs) s1)
      (normal (rd (Rect.unit (s := S160x512) ![0, 256] S160x128.size (inAcc1 256 (by decide))) acc) (rd (Rect.unit (s := S1x1x160x128) ![0, 0, 0, 0] S1x1x160x128.size inb_S1x1x160x128_S1x1x160x128_0_0_0_0) vs) s2)
      (normal (rd (Rect.unit (s := S160x512) ![0, 384] S160x128.size (inAcc1 384 (by decide))) acc) (rd (Rect.unit (s := S1x1x160x128) ![0, 0, 0, 0] S1x1x160x128.size inb_S1x1x160x128_S1x1x160x128_0_0_0_0) vs) s3))
      shapeCasts_S128x640_S1x128x640)) 0 r k
      = Ideal.div (at2 acc (k % 160) (128 * (k / 160) + r) * at4 vs 0 0 (k % 160) r) (pick colsum (s0, s1, s2, s3) (128 * (k / 160) + r)) := by
  have hn : ∀ (c : ℕ) (hc : c + 128 ≤ 512) (s : FVec Ideal S8x128 .f32) (d : ℕ), d < 160 →
      at2 (normal (rd (Rect.unit (s := S160x512) ![0, c] S160x128.size (inAcc1 c hc)) acc) (rd (Rect.unit (s := S1x1x160x128) ![0, 0, 0, 0] S1x1x160x128.size inb_S1x1x160x128_S1x1x160x128_0_0_0_0) vs) s) d r
        = Ideal.div (at2 acc d (c + r) * at4 vs 0 0 d r) (colsum s r) := by
    intro c hc s d hd
    refine (at2_normal _ _ s hd hr).trans ?_
    congr 2
    · exact (at2_rd acc _ hd hr).trans (by rw [Nat.zero_add])
    · exact (at4_rd vs _ (by omega : 0 < 1) (by omega : 0 < 1) hd hr).trans (by simp only [Nat.zero_add])
  have e : ∀ (x : FVec Ideal S128x640 .bf16) (c : Fin 128) (l : Fin 640), (shapeCast S1x128x640 x shapeCasts_S128x640_S1x128x640) (ix3 0 c l) = x (ix2 c l) := by
    intro x c l; pointwise
  refine (at3_wr o _ _ 0 r k).trans ?_
  rw [if_pos (by omega), Nat.sub_zero, Nat.sub_zero, Nat.sub_zero]
  refine (at3_of (A := 1) (R := 128) (C := 640) _ (by omega : 0 < 1) hr hk).trans ?_
  refine (e _ ⟨r, hr⟩ ⟨k, hk⟩).trans ?_
  refine (at2_of _ hr hk).symm.trans ?_
  refine (at_joined _ _ _ _ hr hk).trans ?_
  unfold pick
  split
  case isTrue g =>
    rw [hn 0 (by decide) s0 k g, show k / 160 = 0 by omega, show k % 160 = k by omega, if_pos (by omega)]
    simp only [Nat.mul_zero, Nat.zero_add]
  case isFalse g =>
  split
  case isTrue g1 =>
    rw [hn 128 (by decide) s1 _ g1, show k / 160 = 1 by omega, show k % 160 = k - 160 by omega, if_neg (by omega), if_pos (by omega)]
    simp only [Nat.mul_one, Nat.add_sub_cancel_left]
  case isFalse g1 =>
  split
  case isTrue g2 =>
    rw [hn 256 (by decide) s2 _ g2, show k / 160 = 2 by omega, show k % 160 = k - 160 - 160 by omega, if_neg (by omega), if_neg (by omega), if_pos (by omega),
      show 128 * 2 + r - 256 = r by omega]
  case isFalse g2 =>
    rw [hn 384 (by decide) s3 _ (by omega), show k / 160 = 3 by omega, show k % 160 = k - 160 - 160 - 160 by omega, if_neg (by omega), if_neg (by omega), if_neg (by omega),
      show 128 * 3 + r - 384 = r by omega]

/-- The result's cells of the block before, over `n` rows of keys, from the scores and maxima in `b`. -/
def outF (n : ℕ) (r k : ℕ) : EReal :=
  Ideal.div ((∑ y ∈ Finset.range n, at4 b.vt 0 0 (k % 160) y * pcd b (at2 b.s) y (128 * (k / 160) + r)) * at4 b.vs 0 0 (k % 160) r)
    (∑ y ∈ Finset.range n, pr b (at2 b.s) y (128 * (k / 160) + r))

/-- The maxima's cells. -/
theorem m8_cells (m8 : Vec Ideal S8x512 .f32) (x0 x1 x2 x3 : FVec Ideal S8x128 .f32) {u c : ℕ} (hu : u < 8) (hc : c < 512) :
    at2 (wr (Rect.unit (s := S8x512) ![0, 384] S8x128.size (inM8 384 (by decide))) (wr (Rect.unit (s := S8x512) ![0, 256] S8x128.size (inM8 256 (by decide)))
      (wr (Rect.unit (s := S8x512) ![0, 128] S8x128.size (inM8 128 (by decide))) (wr (Rect.unit (s := S8x512) ![0, 0] S8x128.size (inM8 0 (by decide))) m8
        (shapeCast S8x128 (less8 x0) shapeCasts_S8x128_S8x128)) (shapeCast S8x128 (less8 x1) shapeCasts_S8x128_S8x128))
        (shapeCast S8x128 (less8 x2) shapeCasts_S8x128_S8x128)) (shapeCast S8x128 (less8 x3) shapeCasts_S8x128_S8x128)) u c
      = pick colmax (x0, x1, x2, x3) c - Ideal.ofBits .f32 0x41000000#32 := by
  rw [shapeCast_id, shapeCast_id, shapeCast_id, shapeCast_id]
  unfold pick
  refine (at2_wr _ _ _ u c).trans ?_
  split
  case isTrue g => rw [if_neg (by omega), if_neg (by omega), if_neg (by omega), Nat.sub_zero]; exact at2_less8 _ hu (by omega)
  case isFalse g =>
  refine (at2_wr _ _ _ u c).trans ?_
  split
  case isTrue g => rw [if_neg (by omega), if_neg (by omega), if_pos (by omega), Nat.sub_zero]; exact at2_less8 _ hu (by omega)
  case isFalse g =>
  refine (at2_wr _ _ _ u c).trans ?_
  split
  case isTrue g => rw [if_neg (by omega), if_pos (by omega), Nat.sub_zero]; exact at2_less8 _ hu (by omega)
  case isFalse g =>
  refine (at2_wr _ _ _ u c).trans ?_
  rw [if_pos (by omega), if_pos (by omega), Nat.sub_zero, Nat.sub_zero]; exact at2_less8 _ hu (by omega)

end

/-- A point that quantises: the scores and maxima of its block, and the block before written out unless there is none. -/
structure PointLo (n : ℕ) (st b st' : St Ideal) : Prop where
  x : st'.x = st.x
  kp : st'.kp = st.kp
  vt : st'.vt = st.vt
  ksl : st'.ksl = st.ksl
  vs : st'.vs = st.vs
  qc : st'.qc = b.qc
  qs : st'.qs = b.qs
  s : ∀ r c, c < 512 → r < 512 * ((n + 4) / 4) → at2 st'.s r c = msk b (128 * n) r c
  m8 : ∀ u < 8, ∀ c < 512, at2 st'.m8 u c = (top (512 * ((n + 4) / 4)) fun r => msk b (128 * n) r c) - Ideal.ofBits .f32 0x41000000#32
  out : 0 < n → ∀ r < 128, ∀ k < 640, at3 st'.out 0 r k = outF st (512 * ((n + 3) / 4)) r k

/-- The last point of a head: the last block written out. -/
structure PointHi (st st' : St Ideal) : Prop where
  x : st'.x = st.x
  kp : st'.kp = st.kp
  vt : st'.vt = st.vt
  ksl : st'.ksl = st.ksl
  vs : st'.vs = st.vs
  qc : st'.qc = st.qc
  qs : st'.qs = st.qs
  out : ∀ r < 128, ∀ k < 640, at3 st'.out 0 r k = outF st 15360 r k

/-- The accumulator of zeros. -/
def zacc (acc : Vec Ideal S160x512 .f32) : Vec Ideal S160x512 .f32 :=
  wr (Rect.unit (s := S160x512) ![0, 0] S160x512.size inb_S160x512_S160x512_0_0) acc
    (shapeCast S160x512 (broadcast S160x512 (Scalar.ofBits .f32 0x00000000#32) : FVec Ideal S160x512 .f32) shapeCasts_S160x512_S160x512)

theorem at_zacc (acc : Vec Ideal S160x512 .f32) : ∀ d < 160, ∀ c < 512, at2 (zacc acc) d c = 0 := by
  intro d hd c hc
  refine (at2_wr _ _ _ d c).trans ?_
  rw [if_pos (by omega), shapeCast_id, Nat.sub_zero, Nat.sub_zero]
  refine (at2_of (R := 160) (C := 512) _ hd hc).trans ?_
  pointwise

theorem closing_eq (i : grid0.Coords) (x0 x1 x2 x3 s0 s1 s2 s3 : FVec Ideal S8x128 .f32) (st : St Ideal) :
    Tr (do let w ← closing stOps i x0 x1 x2 x3 s0 s1 s2 s3; let _ ← stOps.stM8 384 (by decide) w; pure PUnit.unit) st fun _ st' =>
      (∀ u < 8, ∀ c < 512, at2 st'.m8 u c = pick colmax (x0, x1, x2, x3) c - Ideal.ofBits .f32 0x41000000#32)
      ∧ (∃ m8 out, st' = { st with m8 := m8, out := out })
      ∧ (0 < (i 1).val → ∀ r < 128, ∀ k < 640, at3 st'.out 0 r k = Ideal.div (at2 st.acc (k % 160) (128 * (k / 160) + r) * at4 st.vs 0 0 (k % 160) r)
          (pick colsum (s0, s1, s2, s3) (128 * (k / 160) + r))) := by
  unfold closing
  by_cases h3 : k0_cond3 i = 1#1
  · rw [dif_pos h3]
    exact ⟨fun u hu c hc => m8_cells st.m8 x0 x1 x2 x3 hu hc, ⟨_, _, rfl⟩, fun _ r hr k hk => out_cells st.acc st.vs st.out s0 s1 s2 s3 hr hk⟩
  · rw [dif_neg h3]
    exact ⟨fun u hu c hc => m8_cells st.m8 x0 x1 x2 x3 hu hc, ⟨_, _, rfl⟩, fun h => absurd ((k0_cond3_iff i).2 h) h3⟩

theorem point_lo (i : grid0.Coords) (hi : (i 1).val < 120) (st : St Ideal) :
    Tr (body stOps i) st fun _ st' => ∃ b, Quantised { st with acc := zacc st.acc } b ∧ PointLo (i 1).val st b st' := by
  have h1 := (k0_cond1_iff i).2 hi
  have h4 : ¬ k0_cond4 i = 1#1 := fun h => by have := (k0_cond4_iff i).1 h; omega
  unfold body
  rw [dif_pos h1, dif_neg h4]
  refine Tr.seq (P := fun _ s => st = s) rfl ?_
  rintro _ _ rfl
  refine Tr.seq (P := fun _ s => s = { st with acc := zacc st.acc }) rfl ?_
  rintro _ _ rfl
  refine Tr.seq (quantise_eq _) ?_
  intro _ b hb
  have eb : b = scr b st.s (zacc st.acc) := by
    have h1 := hb.s; have h2 := hb.acc
    dsimp only at h1 h2
    unfold scr; rw [← h1, ← h2]
  rw [eb]
  refine Tr.seq (scores_eq b i h1 st.s (zacc st.acc) (at_zacc _)) ?_
  rintro z _ ⟨s', acc', rfl, hs, hp⟩
  refine Tr.mono (closing_eq i _ _ _ _ _ _ _ _ (scr b s' acc')) ?_
  rintro _ st' ⟨hm, ⟨m8, out, rfl⟩, ho⟩
  have em : b.m8 = st.m8 := hb.m8
  have ev : b.vt = st.vt := hb.vt
  have evs : b.vs = st.vs := hb.vs
  refine ⟨b, hb, ⟨hb.x, hb.kp, hb.vt, hb.ksl, hb.vs, rfl, rfl, fun r c hc hr => ?_, fun u hu c hc => ?_, fun hn r hr k hk => ?_⟩⟩
  · exact (hs.1 r c hc).trans (if_pos hr)
  · rw [hm u hu c hc, hs.2 c hc]
  · refine (ho hn r hr k hk).trans ?_
    have hk4 : k / 160 < 4 := by omega
    rw [hp.2 _ (by omega)]
    show Ideal.div (at2 acc' _ _ * at4 b.vs 0 0 _ _) _ = _
    rw [hp.1 _ (by omega) _ (by omega), evs]
    unfold outF pcd pr
    rw [em, ev]

theorem point_hi (i : grid0.Coords) (hi : (i 1).val = 120) (st : St Ideal) :
    Tr (body stOps i) st fun _ st' => PointHi st st' := by
  have h1 : ¬ k0_cond1 i = 1#1 := fun h => by have := (k0_cond1_iff i).1 h; omega
  have h4 := (k0_cond4_iff i).2 hi
  unfold body
  rw [dif_neg h1, dif_pos h4]
  refine Tr.seq (P := fun _ s => st = s) rfl ?_
  rintro _ _ rfl
  refine Tr.seq (P := fun _ s => s = scr st st.s (zacc st.acc)) rfl ?_
  rintro _ _ rfl
  refine Tr.seq (probs_eq st i h4 st.s (zacc st.acc) (at_zacc _)) ?_
  rintro _ _ ⟨acc', y, rfl, hp, rfl⟩
  refine ⟨rfl, rfl, rfl, rfl, rfl, rfl, rfl, fun r hr k hk => ?_⟩
  refine (out_cells acc' st.vs st.out y.1 y.2.1 y.2.2.1 y.2.2.2 hr hk).trans ?_
  have hk4 : k / 160 < 4 := by omega
  rw [hp.2 _ (by omega), hp.1 _ (by omega) _ (by omega)]
  rfl

end Cert.KernelIdeal.Hand
-- ==== Proof.Ideal.Attend.lean ====
/-
  The quantities of the attention by cells of the arrays: the scale of a block, the codes, the scores and the output; and that the
  states around a point of the grid hold them.
-/
module

public import proofs.«01_k».proof.Proof.Ideal.Point

@[expose] public section

noncomputable section

namespace Cert.KernelIdeal.Hand

open Cert.KernelIdeal
open Idealize.ShloMosaic

variable [Facts]

/-- The scale a block's largest query of a head asks for: over the block's 128 rows and the head's 160 lanes. -/
def tq (X : S2x15360x5120.Idx → EReal) (b j hh : ℕ) : EReal :=
  (top 128 fun c => top 160 fun d => max (at3 X b (128 * j + c) (160 * hh + d)) (-at3 X b (128 * j + c) (160 * hh + d)))
    * Ideal.ofBits .f32 0x3B124925#32
/-- A query's code. -/
def code (X : S2x15360x5120.Idx → EReal) (b q l : ℕ) : EReal := clip (at3 X b q l * invC (tq X b (q / 128) (l / 160)))

/-- Lanes of zeros raise no largest magnitude. -/
theorem top_lanes (f : ℕ → EReal) :
    (top 256 fun d => max (if d < 160 then f d else 0) (-(if d < 160 then f d else 0))) = top 160 fun d => max (f d) (-f d) := by
  rw [show 256 = 160 + 96 from rfl, top_more]
  have e : (top 160 fun d => max (if d < 160 then f d else 0) (-(if d < 160 then f d else 0))) = top 160 fun d => max (f d) (-f d) :=
    top_congr fun d hd => by rw [if_pos hd]
  rw [e]
  refine max_eq_left (top_le fun d hd => ?_)
  rw [if_neg (by omega)]
  have h0 : (0 : EReal) ≤ max (f 0) (-f 0) := by
    rcases le_total 0 (f 0) with h | h
    · exact le_max_of_le_left h
    · refine le_max_of_le_right ?_
      have := EReal.neg_le_neg_iff.2 h
      rwa [neg_zero] at this
  simpa using h0.trans (le_top (fun d => max (f d) (-f d)) (by omega : 0 < 160))

/-- The scale a state's block asks for, in the argument's cells. -/
theorem tv_eq (st : St Ideal) (X : S2x15360x5120.Idx → EReal) (b j k : ℕ)
    (hx : ∀ r < 128, ∀ l < 640, at3 st.x 0 r l = at3 X b (128 * j + r) (640 * k + l)) {h : ℕ} (hh : h < 4) :
    tv st h = tq X b j (4 * k + h) := by
  unfold tv tq
  congr 1
  refine top_congr fun c hc => ?_
  simp only [qv]
  rw [top_lanes fun d => at3 st.x 0 c (160 * h + d)]
  refine top_congr fun d hd => ?_
  rw [hx c hc _ (by omega), show 640 * k + (160 * h + d) = 160 * (4 * k + h) + d by ring]

/-- The score of query `q` and key `y` of head `hh` before the mask, in powers of two; -/
def rawK (X : S2x15360x5120.Idx → EReal) (K : S2x8x15360x256.Idx → EReal) (KS : S2x8x240x128.Idx → EReal) (b q hh y : ℕ) : EReal :=
  (∑ d ∈ Finset.range 160, at4 K b (hh / 4) y d * code X b q (160 * hh + d))
    * (at4 KS b (hh / 4) (y / 64) (q % 128) * (scaleC (tq X b (q / 128) hh) * kap))
/-- and after it. -/
def scK (X : S2x15360x5120.Idx → EReal) (K : S2x8x15360x256.Idx → EReal) (KS : S2x8x240x128.Idx → EReal) (b q hh y : ℕ) : EReal :=
  if y ≤ q then rawK X K KS b q hh y else ⊥
/-- The power of two of a score, eight below the largest of the first `R`. -/
def pwK (X : S2x15360x5120.Idx → EReal) (K : S2x8x15360x256.Idx → EReal) (KS : S2x8x240x128.Idx → EReal) (R b q hh y : ℕ) : EReal :=
  Ideal.exp2 (scK X K KS b q hh y - (top R (scK X K KS b q hh) - Ideal.ofBits .f32 0x41000000#32))
/-- The output's cell from the first `R` keys. -/
def attn (X : S2x15360x5120.Idx → EReal) (K : S2x8x15360x256.Idx → EReal) (VT : S2x8x160x15360.Idx → EReal) (KS : S2x8x240x128.Idx → EReal)
    (VS : S2x8x160x128.Idx → EReal) (R b q l : ℕ) : EReal :=
  Ideal.div ((∑ y ∈ Finset.range R, at4 VT b (l / 160 / 4) (l % 160) y * min c448 (max 0 (pwK X K KS R b q (l / 160) y)))
      * at4 VS b (l / 160 / 4) (l % 160) (q % 128))
    (∑ y ∈ Finset.range R, pwK X K KS R b q (l / 160) y)

theorem c448_nonneg : (0 : EReal) ≤ c448 := by
  have h2 : c448 = ((448 : ℝ) : EReal) := by
    simp [c448, Ideal.ofBits, Ideal.ieee, -EReal.coe_mul]; norm_num
  rw [h2, ← EReal.coe_zero, EReal.coe_le_coe_iff]; norm_num

theorem clip_zero : clip 0 = 0 := by
  have h1 : Ideal.ofBits .f32 0xC3E00000#32 = ((-448 : ℝ) : EReal) := by
    simp [Ideal.ofBits, Ideal.ieee, -EReal.coe_mul]; norm_num
  have h2 : c448 = ((448 : ℝ) : EReal) := by
    simp [c448, Ideal.ofBits, Ideal.ieee, -EReal.coe_mul]; norm_num
  unfold clip
  rw [h1, h2, max_eq_right (by rw [← EReal.coe_zero, EReal.coe_le_coe_iff]; norm_num), min_eq_right (by rw [← EReal.coe_zero, EReal.coe_le_coe_iff]; norm_num)]

/-- The scores a quantised state makes, in the arrays' cells. -/
theorem msk_eq (st b : St Ideal) (Q : Quantised st b) (X : S2x15360x5120.Idx → EReal) (K : S2x8x15360x256.Idx → EReal) (KS : S2x8x240x128.Idx → EReal)
    (bt j k : ℕ) (hx : ∀ r < 128, ∀ l < 640, at3 st.x 0 r l = at3 X bt (128 * j + r) (640 * k + l))
    (hk : ∀ r < 15360, ∀ d < 256, at4 st.kp 0 0 r d = at4 K bt k r d) (hs : ∀ r < 240, ∀ l < 128, at4 st.ksl 0 0 r l = at4 KS bt k r l)
    {c r : ℕ} (hc : c < 512) (hr : r < 15360) :
    msk b (128 * j) r c = scK X K KS bt (128 * j + c % 128) (4 * k + c / 128) r := by
  unfold msk scK
  refine if_congr Iff.rfl ?_ rfl
  have hh : c / 128 < 4 := by omega
  unfold rawScore rawK
  rw [show (4 * k + c / 128) / 4 = k by omega, show (128 * j + c % 128) / 128 = j by omega, show (128 * j + c % 128) % 128 = c % 128 by omega,
    Q.a (c / 128) hh (r / 64) (by omega) (c % 128) (by omega), hs (r / 64) (by omega) (c % 128) (by omega), tv_eq st X bt j k hx hh]
  congr 1
  refine (sum_more (fun d => at4 b.kp 0 0 r d * at2 b.qt d c) 160 96).trans ?_
  have h0 : ∑ d ∈ Finset.range 96, at4 b.kp 0 0 r (160 + d) * at2 b.qt (160 + d) c = 0 := by
    refine Finset.sum_eq_zero fun d hd => ?_
    have hd : d < 96 := Finset.mem_range.1 hd
    have e := Q.qt (c / 128) hh (160 + d) (by omega) (c % 128) (by omega)
    rw [show 128 * (c / 128) + c % 128 = c by omega] at e
    rw [e, qv, if_neg (by omega), zero_mul, clip_zero, mul_zero]
  rw [h0, add_zero]
  refine Finset.sum_congr rfl fun d hd => ?_
  have hd : d < 160 := Finset.mem_range.1 hd
  have e := Q.qt (c / 128) hh d (by omega) (c % 128) (by omega)
  rw [show 128 * (c / 128) + c % 128 = c by omega] at e
  rw [e, qv, if_pos hd, tv_eq st X bt j k hx hh, Q.kp, hk r hr d (by omega), hx (c % 128) (by omega) (160 * (c / 128) + d) (by omega)]
  unfold code
  rw [show (128 * j + c % 128) / 128 = j by omega, show (160 * (4 * k + c / 128) + d) / 160 = 4 * k + c / 128 by omega,
    show 640 * k + (160 * (c / 128) + d) = 160 * (4 * k + c / 128) + d by omega]

/-- What a point leaves in the scratch for the next: the scores of block `j` and their largest, less eight. -/
structure Left (st : St Ideal) (X : S2x15360x5120.Idx → EReal) (K : S2x8x15360x256.Idx → EReal) (KS : S2x8x240x128.Idx → EReal) (bt j k : ℕ) : Prop where
  s : ∀ c < 512, ∀ r < 512 * ((j + 4) / 4), at2 st.s r c = scK X K KS bt (128 * j + c % 128) (4 * k + c / 128) r
  m8 : ∀ c < 512, at2 st.m8 0 c = top (512 * ((j + 4) / 4)) (scK X K KS bt (128 * j + c % 128) (4 * k + c / 128)) - Ideal.ofBits .f32 0x41000000#32

/-- The output a point writes of the block before, in the arrays' cells. -/
theorem outF_eq (st : St Ideal) (X : S2x15360x5120.Idx → EReal) (K : S2x8x15360x256.Idx → EReal) (VT : S2x8x160x15360.Idx → EReal)
    (KS : S2x8x240x128.Idx → EReal) (VS : S2x8x160x128.Idx → EReal) (bt j k : ℕ) (hj : j < 120) (L : Left st X K KS bt j k)
    (hv : ∀ d < 160, ∀ y < 15360, at4 st.vt 0 0 d y = at4 VT bt k d y) (hs : ∀ d < 160, ∀ l < 128, at4 st.vs 0 0 d l = at4 VS bt k d l)
    {r l : ℕ} (hr : r < 128) (hl : l < 640) :
    outF st (512 * ((j + 4) / 4)) r l = attn X K VT KS VS (512 * ((j + 4) / 4)) bt (128 * j + r) (640 * k + l) := by
  have hp : ∀ y < 512 * ((j + 4) / 4), pr st (at2 st.s) y (128 * (l / 160) + r) = pwK X K KS (512 * ((j + 4) / 4)) bt (128 * j + r) (4 * k + l / 160) y := by
    intro y hy
    unfold pr pwK
    rw [L.s _ (by omega) y hy, L.m8 _ (by omega), show (128 * (l / 160) + r) % 128 = r by omega, show (128 * (l / 160) + r) / 128 = l / 160 by omega]
  unfold outF attn
  rw [show (640 * k + l) / 160 = 4 * k + l / 160 by omega, show (4 * k + l / 160) / 4 = k by omega, show (640 * k + l) % 160 = l % 160 by omega,
    show (128 * j + r) % 128 = r by omega, hs (l % 160) (by omega) r hr]
  have e1 : (∑ y ∈ Finset.range (512 * ((j + 4) / 4)), pr st (at2 st.s) y (128 * (l / 160) + r))
      = ∑ y ∈ Finset.range (512 * ((j + 4) / 4)), pwK X K KS (512 * ((j + 4) / 4)) bt (128 * j + r) (4 * k + l / 160) y :=
    Finset.sum_congr rfl fun y hy => hp y (Finset.mem_range.1 hy)
  have e2 : (∑ y ∈ Finset.range (512 * ((j + 4) / 4)), at4 st.vt 0 0 (l % 160) y * pcd st (at2 st.s) y (128 * (l / 160) + r))
      = ∑ y ∈ Finset.range (512 * ((j + 4) / 4)), at4 VT bt k (l % 160) y * min c448 (max 0 (pwK X K KS (512 * ((j + 4) / 4)) bt (128 * j + r) (4 * k + l / 160) y)) :=
    Finset.sum_congr rfl fun y hy => by
      have hy := Finset.mem_range.1 hy
      rw [pcd, hp y hy, hv _ (by omega) y (by omega)]
  rw [e1, e2]

end Cert.KernelIdeal.Hand
-- ==== Proof.Ideal.Soft.lean ====
/-
  The softmax over the extended reals: powers of two of scores scaled by the binary logarithm of e, eight below the largest, over
  the keys up to a bound beyond the query, give what exponentials over all the keys give.
-/
module

public import proofs.«01_k».proof.Proof.Ideal.Cells

@[expose] public section

noncomputable section

namespace Cert.KernelIdeal.Hand

open Idealize.ShloMosaic

/-- The binary logarithm of e. -/
abbrev lg : EReal := (((Real.log 2)⁻¹ : ℝ) : EReal)

theorem lg_pos : (0 : ℝ) < (Real.log 2)⁻¹ := inv_pos.2 (Real.log_pos one_lt_two)

theorem bits_8 : Ideal.ofBits .f32 0x41000000#32 = ((8 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num
theorem bits_inv256 : Ideal.ofBits .f32 0x3B800000#32 = (((256 : ℝ)⁻¹ : ℝ) : EReal) := by
  simp [Ideal.ofBits, Ideal.ieee, -EReal.coe_mul]; norm_num

/-- The power of two of a score is 256 times its exponential. -/
theorem exp2_shift (s M : EReal) (h : s ≤ M) :
    Ideal.exp2 (s * lg - (M * lg - ((8 : ℝ) : EReal))) = Ideal.exp (s - M) * ((256 : ℝ) : EReal) := by
  have hp := lg_pos
  induction s with
  | bot => rw [EReal.bot_mul_coe_of_pos hp, EReal.bot_sub, EReal.bot_sub, Ideal.exp2_bot, Ideal.exp_bot, zero_mul]
  | top =>
    obtain rfl : M = ⊤ := top_le_iff.1 h
    rw [EReal.top_mul_coe_of_pos hp]
    have e : (⊤ : EReal) - ((8 : ℝ) : EReal) = ⊤ := EReal.top_sub_coe 8
    rw [e, EReal.sub_top, Ideal.exp2_bot, Ideal.exp_bot, zero_mul]
  | coe s =>
    induction M with
    | bot => exact absurd (le_bot_iff.1 h) (EReal.coe_ne_bot s)
    | top =>
      rw [EReal.top_mul_coe_of_pos hp]
      have e : (⊤ : EReal) - ((8 : ℝ) : EReal) = ⊤ := EReal.top_sub_coe 8
      rw [e, EReal.sub_top, EReal.sub_top, Ideal.exp2_bot, Ideal.exp_bot, zero_mul]
    | coe M =>
      rw [← EReal.coe_mul, ← EReal.coe_mul, ← EReal.coe_sub, ← EReal.coe_sub, ← EReal.coe_sub, Ideal.exp2_coe, Ideal.exp_coe, ← EReal.coe_mul]
      congr 1
      have hl : Real.log 2 ≠ 0 := (Real.log_pos one_lt_two).ne'
      show (2 : ℝ) ^ (s * (Real.log 2)⁻¹ - (M * (Real.log 2)⁻¹ - 8)) = _
      rw [Real.rpow_def_of_pos two_pos]
      have e : Real.log 2 * (s * (Real.log 2)⁻¹ - (M * (Real.log 2)⁻¹ - 8)) = (s - M) + (8 : ℕ) * Real.log 2 := by
        field_simp; push_cast; ring
      rw [e, Real.exp_add, ← Real.log_pow, Real.exp_log (by norm_num)]
      norm_num

/-- The largest of scaled numbers. -/
theorem top_mul_lg (n : ℕ) (f : ℕ → EReal) : (top n fun r => f r * lg) = top n f * lg := by
  induction n with
  | zero => rw [top_zero, top_zero, EReal.bot_mul_coe_of_pos lg_pos]
  | succ n ih =>
    rw [top_succ, top_succ, ih]
    have hm : Monotone fun x : EReal => x * lg := fun x y h => mul_le_mul_of_nonneg_right h (EReal.coe_nonneg.2 lg_pos.le)
    exact (hm.map_max).symm

theorem sum_mul_nonneg (n : ℕ) (f : ℕ → EReal) (hf : ∀ r, 0 ≤ f r) (c : EReal) :
    (∑ r ∈ Finset.range n, f r * c) = (∑ r ∈ Finset.range n, f r) * c := by
  induction n with
  | zero => simp
  | succ n ih => rw [Finset.sum_range_succ, Finset.sum_range_succ, ih, EReal.right_distrib_of_nonneg (Finset.sum_nonneg fun r _ => hf r) (hf n)]

theorem sum_cut (n N : ℕ) (h : n ≤ N) (f : ℕ → EReal) (hf : ∀ r, n ≤ r → f r = 0) :
    ∑ r ∈ Finset.range N, f r = ∑ r ∈ Finset.range n, f r := by
  refine (Finset.sum_subset (Finset.range_mono h) fun r _ hr => hf r ?_).symm
  exact not_lt.1 fun g => hr (Finset.mem_range.2 g)

theorem top_cut (n N : ℕ) (h : n ≤ N) (f : ℕ → EReal) (hf : ∀ r, n ≤ r → f r = ⊥) : top N f = top n f := by
  refine le_antisymm (top_le fun r _ => ?_) (top_le fun r hr => le_top f (hr.trans_le h))
  by_cases g : r < n
  · exact le_top f g
  · rw [hf r (not_lt.1 g)]; exact bot_le

theorem exp_nonneg (x : EReal) : 0 ≤ Ideal.exp x := by
  induction x with
  | bot => rw [Ideal.exp_bot]
  | top => rw [Ideal.exp_top]; exact _root_.le_top
  | coe x => rw [Ideal.exp_coe]; exact EReal.coe_nonneg.2 (Real.exp_pos x).le

/-- A quotient's two sides scaled by 256. -/
theorem div_256 (a w l : EReal) :
    Ideal.div (a * w) (l * ((256 : ℝ) : EReal)) = Ideal.div (a * ((((256 : ℝ)⁻¹ : ℝ) : EReal) * w)) l := by
  have e1 : a * ((((256 : ℝ)⁻¹ : ℝ) : EReal) * w) = (((256 : ℝ)⁻¹ : ℝ) : EReal) * (a * w) := by ac_rfl
  rw [e1]
  generalize a * w = x
  have h0 : l * ((256 : ℝ) : EReal) = 0 ↔ l = 0 := by
    rw [mul_eq_zero]
    exact ⟨fun h => h.resolve_right (by norm_num), Or.inl⟩
  have hc : (0 : EReal) < (((256 : ℝ)⁻¹ : ℝ) : EReal) := EReal.coe_pos.2 (by norm_num)
  unfold Ideal.div
  by_cases h : l = 0
  · rw [if_pos (h0.2 h), if_pos h]
    congr 1
    refine propext ⟨fun g => EReal.mul_pos hc g, fun g => ?_⟩
    by_contra hx
    exact absurd (mul_nonpos_of_nonneg_of_nonpos hc.le (not_lt.1 hx)) (not_le.2 g)
  · rw [if_neg (fun g => h (h0.1 g)), if_neg h, EReal.mul_inv, ← EReal.coe_inv]
    ac_rfl

/-- The attention of a query `q`: the scores `u` scaled by `lg`, the keys below `R`, against the scores and all the keys. -/
theorem soft (N R q : ℕ) (hR : R ≤ N) (hq : q < R) (u v : ℕ → EReal) (w c : EReal) (hc : 0 ≤ c) (s S : ℕ → EReal)
    (hs : ∀ y, s y = if y ≤ q then u y else ⊥) (hS : ∀ y < R, S y = if y ≤ q then u y * lg else ⊥) :
    Ideal.div ((∑ y ∈ Finset.range R, v y * min c (max 0 (Ideal.exp2 (S y - (top R S - Ideal.ofBits .f32 0x41000000#32))))) * w)
        (∑ y ∈ Finset.range R, Ideal.exp2 (S y - (top R S - Ideal.ofBits .f32 0x41000000#32)))
      = Ideal.div ((∑ y ∈ Finset.range N, min c (max 0 (Ideal.exp (s y - top N s) * Ideal.ofBits .f32 0x43800000#32)) * v y)
          * (Ideal.ofBits .f32 0x3B800000#32 * w)) (∑ y ∈ Finset.range N, Ideal.exp (s y - top N s)) := by
  rw [bits_8, bits_256, bits_inv256]
  have hb : ∀ y, R ≤ y → s y = ⊥ := fun y h => by rw [hs, if_neg (by omega)]
  have hz : ∀ y, R ≤ y → Ideal.exp (s y - top N s) = 0 := fun y h => by rw [hb y h, EReal.bot_sub, Ideal.exp_bot]
  have hSs : ∀ y < R, S y = s y * lg := fun y h => by
    rw [hS y h, hs]; split
    · rfl
    · rw [EReal.bot_mul_coe_of_pos lg_pos]
  have hM : top R S = top N s * lg := by rw [top_congr hSs, top_mul_lg, top_cut R N hR s hb]
  have hp : ∀ y < R, Ideal.exp2 (S y - (top R S - ((8 : ℝ) : EReal))) = Ideal.exp (s y - top N s) * ((256 : ℝ) : EReal) := fun y h => by
    rw [hM, hSs y h]; exact exp2_shift _ _ (le_top s (h.trans_le hR))
  rw [sum_cut R N hR _ hz, sum_cut R N hR (fun y => min c (max 0 (Ideal.exp (s y - top N s) * ((256 : ℝ) : EReal))) * v y) (fun y h => by
    show min c (max 0 (Ideal.exp (s y - top N s) * ((256 : ℝ) : EReal))) * v y = 0
    rw [hz y h, zero_mul, max_self, min_eq_right hc, zero_mul])]
  rw [← div_256, ← sum_mul_nonneg R _ fun y => exp_nonneg _]
  have hB := Finset.sum_congr rfl fun y hy => hp y (Finset.mem_range.1 hy)
  have hA : ∑ y ∈ Finset.range R, v y * min c (max 0 (Ideal.exp2 (S y - (top R S - ((8 : ℝ) : EReal)))))
      = ∑ y ∈ Finset.range R, min c (max 0 (Ideal.exp (s y - top N s) * ((256 : ℝ) : EReal))) * v y :=
    Finset.sum_congr rfl fun y hy => by rw [hp y (Finset.mem_range.1 hy), mul_comm]
  rw [hA, hB]

end Cert.KernelIdeal.Hand
-- ==== Proof.Ideal.Expo.lean ====
/-
  The exponent of a scale searched bit by bit is the one the logarithm gives, and the scale and its inverse are the powers of two.
-/
module

public import proofs.«01_k».proof.Proof.Ideal.Quant

@[expose] public section

noncomputable section

namespace Cert.KernelIdeal.Hand

open Idealize.ShloMosaic

/-- A word with an exponent field alone. -/
abbrev fieldW (v : ℕ) : BitVec 32 := BitVec.ofNat 32 (v * 8388608)

/-- It is a power of two. -/
theorem ofBits_field (v : ℕ) (h1 : 1 ≤ v) (h2 : v ≤ 254) : Ideal.ofBits .f32 (fieldW v) = (((2 : ℝ) ^ ((v : ℤ) - 127) : ℝ) : EReal) := by
  have e1 : ((fieldW v).extractLsb' 23 8).toNat = v := by
    rw [BitVec.extractLsb'_toNat, BitVec.toNat_ofNat, Nat.shiftRight_eq_div_pow]; omega
  have e2 : ((fieldW v).extractLsb' 0 23).toNat = 0 := by
    rw [BitVec.extractLsb'_toNat, BitVec.toNat_ofNat, Nat.shiftRight_eq_div_pow]; omega
  have e3 : ((fieldW v).extractLsb' (8 + 23) 1 == 1#1) = false := by
    rw [beq_eq_false_iff_ne]
    intro h
    have := congrArg BitVec.toNat h
    rw [BitVec.extractLsb'_toNat, BitVec.toNat_ofNat, Nat.shiftRight_eq_div_pow] at this
    have e4 : (1#1).toNat = 1 := rfl
    rw [e4] at this
    omega
  show Ideal.ieee 8 23 (fieldW v) = _
  unfold Ideal.ieee
  simp only [e1, e2, e3]
  rw [if_neg (by omega), if_neg (by omega)]
  congr 1
  simp only [Bool.false_eq_true, if_false, one_mul, add_zero]
  push_cast
  have e5 : (8388608 : ℝ) = (2 : ℝ) ^ (23 : ℤ) := by norm_num
  rw [e5, ← zpow_add₀ two_ne_zero]
  congr 1
  ring

theorem ofBits_field255 : Ideal.ofBits .f32 (fieldW 255) = ⊤ := by
  have e : fieldW 255 = 0x7F800000#32 := rfl
  rw [e]
  simp [Ideal.ofBits, Ideal.ieee]

/-- The exponent field of a number. -/
def fieldOf (r : ℝ) : ℕ := if r < (2 : ℝ) ^ (-126 : ℤ) then 0 else (⌊Real.log r * (Real.log 2)⁻¹⌋ + 127).toNat

theorem lt_field {r : ℝ} (h2 : r < (2 : ℝ) ^ (120 : ℤ)) (v : ℕ) (h1 : 1 ≤ v) (hv : v ≤ 255) :
    ((r : EReal) < Ideal.ofBits .f32 (fieldW v) ↔ fieldOf r < v) := by
  have hlog : ∀ z : ℤ, (2 : ℝ) ^ (-126 : ℤ) ≤ r → (⌊Real.log r * (Real.log 2)⁻¹⌋ < z ↔ r < (2 : ℝ) ^ z) := by
    intro z hr
    have hr0 : 0 < r := lt_of_lt_of_le (by positivity) hr
    rw [Int.floor_lt, ← div_eq_mul_inv, ← Real.rpow_intCast, div_lt_iff₀ (Real.log_pos one_lt_two), Real.rpow_def_of_pos two_pos,
      Real.log_lt_iff_lt_exp hr0, mul_comm]
  have hlo : (2 : ℝ) ^ (-126 : ℤ) ≤ r → -126 ≤ ⌊Real.log r * (Real.log 2)⁻¹⌋ := fun hr => by
    by_contra g
    exact absurd ((hlog (-126) hr).1 (by omega)) (not_lt.2 hr)
  have hhi : (2 : ℝ) ^ (-126 : ℤ) ≤ r → ⌊Real.log r * (Real.log 2)⁻¹⌋ < 120 := fun hr => (hlog 120 hr).2 h2
  by_cases h255 : v = 255
  · subst h255
    rw [ofBits_field255]
    refine iff_of_true (EReal.coe_lt_top r) ?_
    unfold fieldOf
    split
    · omega
    · rename_i g; have := hhi (not_lt.1 g); omega
  rw [ofBits_field v h1 (by omega), EReal.coe_lt_coe_iff]
  unfold fieldOf
  split
  · rename_i g
    exact iff_of_true (g.trans_le (zpow_le_zpow_right₀ one_le_two (by omega))) (by omega)
  · rename_i g
    have g := not_lt.1 g
    have := hlo g
    rw [← hlog _ g]
    omega

/-- A step of the search in numbers. -/
def stepN (E k b : ℕ) : ℕ := if E < b + k then b else b + k

theorem stepC_field {r : ℝ} (h2 : r < (2 : ℝ) ^ (120 : ℤ)) (k b : ℕ) (h1 : 1 ≤ b + k) (hv : b + k ≤ 255) :
    stepC (r : EReal) (fieldW k) (fieldW b) = fieldW (stepN (fieldOf r) k b) := by
  have e : IntOp.addi (fieldW b) (fieldW k) = fieldW (b + k) := by
    show fieldW b + fieldW k = _
    rw [← BitVec.ofNat_add, ← Nat.add_mul]
  unfold stepC stepN
  rw [e]
  by_cases h : fieldOf r < b + k
  · rw [if_pos ((lt_field h2 _ h1 hv).2 h), if_pos h]
  · rw [if_neg (fun g => h ((lt_field h2 _ h1 hv).1 g)), if_neg h]

theorem stepN_le (E k b : ℕ) : stepN E k b ≤ b + k := by unfold stepN; split <;> omega

theorem search_eq : ∀ E : Fin 256, stepN E 1 (stepN E 2 (stepN E 4 (stepN E 8 (stepN E 16 (stepN E 32 (stepN E 64 (stepN E 128 0))))))) = E.val := by
  decide +kernel

theorem fieldOf_lt {r : ℝ} (h2 : r < (2 : ℝ) ^ (120 : ℤ)) : fieldOf r < 247 := by
  have := (lt_field h2 247 (by omega) (by omega)).1
  refine this ?_
  rw [ofBits_field 247 (by omega) (by omega), EReal.coe_lt_coe_iff]
  exact h2.trans_le (zpow_le_zpow_right₀ one_le_two (by norm_num))

theorem bitsC_eq {r : ℝ} (h2 : r < (2 : ℝ) ^ (120 : ℤ)) : bitsC (r : EReal) = fieldW (fieldOf r) := by
  have hE := fieldOf_lt h2
  have l1 := stepN_le (fieldOf r) 128 0
  have l2 := stepN_le (fieldOf r) 64 (stepN (fieldOf r) 128 0)
  have l3 := stepN_le (fieldOf r) 32 (stepN (fieldOf r) 64 (stepN (fieldOf r) 128 0))
  have l4 := stepN_le (fieldOf r) 16 (stepN (fieldOf r) 32 (stepN (fieldOf r) 64 (stepN (fieldOf r) 128 0)))
  have l5 := stepN_le (fieldOf r) 8 (stepN (fieldOf r) 16 (stepN (fieldOf r) 32 (stepN (fieldOf r) 64 (stepN (fieldOf r) 128 0))))
  have l6 := stepN_le (fieldOf r) 4 (stepN (fieldOf r) 8 (stepN (fieldOf r) 16 (stepN (fieldOf r) 32 (stepN (fieldOf r) 64 (stepN (fieldOf r) 128 0)))))
  have l7 := stepN_le (fieldOf r) 2 (stepN (fieldOf r) 4 (stepN (fieldOf r) 8 (stepN (fieldOf r) 16 (stepN (fieldOf r) 32 (stepN (fieldOf r) 64 (stepN (fieldOf r) 128 0))))))
  have e := search_eq ⟨fieldOf r, by omega⟩
  dsimp only at e
  unfold bitsC
  show stepC _ (fieldW 1) (stepC _ (fieldW 2) (stepC _ (fieldW 4) (stepC _ (fieldW 8) (stepC _ (fieldW 16) (stepC _ (fieldW 32) (stepC _ (fieldW 64) (stepC _ (fieldW 128) (fieldW 0)))))))) = _
  rw [stepC_field h2 128 0 (by omega) (by omega), stepC_field h2 64 _ (by omega) (by omega), stepC_field h2 32 _ (by omega) (by omega),
    stepC_field h2 16 _ (by omega) (by omega), stepC_field h2 8 _ (by omega) (by omega), stepC_field h2 4 _ (by omega) (by omega),
    stepC_field h2 2 _ (by omega) (by omega), stepC_field h2 1 _ (by omega) (by omega), e]

/-- The exponent from its field. -/
def expW (b : BitVec 32) : BitVec 32 :=
  Scalar.select (IntOp.cmpi CmpIPredicate.slt b 8388608#32) (0#32) (IntOp.subi (IntOp.shrsi ArithUnit.vector b 23#32) 126#32)

theorem scale_field : ∀ E : Fin 247, IntOp.shli ArithUnit.vector (IntOp.addi (expW (fieldW E.val)) 127#32) 23#32 = fieldW (if E.val = 0 then 127 else E.val + 1) := by
  decide +kernel

theorem inv_field : ∀ E : Fin 247, IntOp.shli ArithUnit.vector (IntOp.subi 127#32 (expW (fieldW E.val))) 23#32 = fieldW (if E.val = 0 then 127 else 253 - E.val) := by
  decide +kernel

/-- The exponent of the scale of a magnitude over 448. -/
def expoR (t : EReal) : EReal :=
  if t < Ideal.ofBits .f32 0x00800000#32 then 0 else Ideal.liftRound Int.floor (Ideal.log t * (((Real.log 2)⁻¹ : ℝ) : EReal)) + 1

/-- The exponent as an integer. -/
theorem expoR_eq {r : ℝ} (h2 : r < (2 : ℝ) ^ (120 : ℤ)) :
    expoR (r : EReal) = (((if fieldOf r = 0 then 0 else (fieldOf r : ℤ) - 126 : ℤ) : ℝ) : EReal) := by
  unfold expoR
  have h := lt_field h2 1 (by omega) (by omega)
  have e1 : Ideal.ofBits .f32 0x00800000#32 = Ideal.ofBits .f32 (fieldW 1) := rfl
  rw [e1]
  by_cases g : fieldOf r < 1
  · rw [if_pos (h.2 g), if_pos (by omega)]; simp
  · rw [if_neg (fun k => g (h.1 k)), if_neg (by omega)]
    unfold fieldOf at g ⊢
    split at g
    · omega
    rename_i k
    rw [if_neg k]
    have hr : 0 < r := lt_of_lt_of_le (by positivity) (not_lt.1 k)
    rw [Ideal.log_coe, if_neg (not_le.2 hr), ← EReal.coe_mul]
    show ((⌊Real.log r * (Real.log 2)⁻¹⌋ : ℝ) : EReal) + ((1 : ℝ) : EReal) = _
    rw [← EReal.coe_add]
    congr 1
    rw [Int.toNat_of_nonneg (by omega)]
    push_cast; ring

theorem exp2_int (z : ℤ) : Ideal.exp2 (((z : ℤ) : ℝ) : EReal) = (((2 : ℝ) ^ z : ℝ) : EReal) := by
  rw [Ideal.exp2_coe]
  show (((2 : ℝ) ^ (z : ℝ) : ℝ) : EReal) = _
  rw [Real.rpow_intCast]

theorem scaleC_eq {r : ℝ} (h2 : r < (2 : ℝ) ^ (120 : ℤ)) : scaleC (r : EReal) = Ideal.exp2 (expoR (r : EReal)) := by
  have hE := fieldOf_lt h2
  rw [expoR_eq h2, exp2_int]
  unfold scaleC
  show Ideal.ofBits .f32 (IntOp.shli ArithUnit.vector (IntOp.addi (expW (bitsC (r : EReal))) 127#32) 23#32) = _
  rw [bitsC_eq h2, scale_field ⟨fieldOf r, hE⟩]
  dsimp only
  by_cases g : fieldOf r = 0
  · rw [if_pos g, if_pos g, ofBits_field _ (by omega) (by omega)]; simp
  · rw [if_neg g, if_neg g, ofBits_field _ (by omega) (by omega)]
    congr 2; push_cast; ring

theorem invC_eq {r : ℝ} (h2 : r < (2 : ℝ) ^ (120 : ℤ)) : invC (r : EReal) = Ideal.exp2 (0 - expoR (r : EReal)) := by
  have hE := fieldOf_lt h2
  have e0 : ∀ z : ℤ, (0 : EReal) - ((z : ℝ) : EReal) = (((-z : ℤ) : ℝ) : EReal) := fun z => by
    rw [zero_sub, ← EReal.coe_neg]; push_cast; rfl
  rw [expoR_eq h2, e0, exp2_int]
  unfold invC
  show Ideal.ofBits .f32 (IntOp.shli ArithUnit.vector (IntOp.subi 127#32 (expW (bitsC (r : EReal)))) 23#32) = _
  rw [bitsC_eq h2, inv_field ⟨fieldOf r, hE⟩]
  dsimp only
  by_cases g : fieldOf r = 0
  · rw [if_pos g, if_pos g, ofBits_field _ (by omega) (by omega)]; simp
  · rw [if_neg g, if_neg g, ofBits_field _ (by omega) (by omega)]
    congr 2; omega

end Cert.KernelIdeal.Hand
-- ==== Proof.Ref.Expo.lean ====
/-
  The exponents of the reference's query scales, by cells.
-/
module

public import proofs.«01_k».proof.Proof.Gen.ReferenceIdeal.Value
public import Idealize.ShloMosaic.Lib.Pointwise

@[expose] public section

noncomputable section

namespace Cert.ReferenceIdeal.Hand

open Cert.ReferenceIdeal Cert.ReferenceIdeal.Gen
open Idealize.ShloMosaic
open Facts₀ Facts

/-- The queries by block of rows and head. -/
theorem pay2_apply (x : Vec Ideal S2x15360x5120 .bf16) (b : Fin 2) (n : Fin 120) (r : Fin 128) (h : Fin 32) (d : Fin 160) :
    k0_pay2 x (ix5 b n r h d) = x (ix3 b ⟨n.val * 128 + r.val, by omega⟩ ⟨h.val * 160 + d.val, by omega⟩) := by
  pointwise [k0_pay2]

/-- The largest magnitude of a block of a head's queries. -/
def amax (x : Vec Ideal S2x15360x5120 .bf16) (b : Fin 2) (n : Fin 120) (h : Fin 32) : EReal :=
  Finset.univ.fold max (Ideal.ofBits .f32 0xFF800000#32) fun r : Fin 128 =>
    Finset.univ.fold max (Ideal.ofBits .f32 0xFF800000#32) fun d : Fin 160 =>
      max (k0_pay2 x (ix5 b n r h d)) (-k0_pay2 x (ix5 b n r h d))

/-- The exponent of the scale of a magnitude over 448. -/
def expo (t : EReal) : EReal :=
  if t < Ideal.ofBits .f32 0x00800000#32 then 0 else Ideal.liftRound Int.floor (Ideal.log t * (((Real.log 2)⁻¹ : ℝ) : EReal)) + 1

theorem pay3_apply (x : Vec Ideal S2x15360x5120 .bf16) (b : Fin 2) (n : Fin 120) (h : Fin 32) :
    k0_pay3 x (ix5 b n 0 h 0) = expo (amax x b n h * Ideal.ofBits .f32 0x3B124925#32) := by
  pointwise [k0_pay3]
  rfl

end Cert.ReferenceIdeal.Hand
-- ==== Proof.Ref.Codes.lean ====
/-
  The reference's query codes, by cells.
-/
module

public import proofs.«01_k».proof.Proof.Gen.ReferenceIdeal.Value
public import Idealize.ShloMosaic.Lib.Pointwise

@[expose] public section

noncomputable section

namespace Cert.ReferenceIdeal.Hand

open Cert.ReferenceIdeal Cert.ReferenceIdeal.Gen
open Idealize.ShloMosaic
open Facts₀ Facts

theorem pay4_apply (x : Vec Ideal S2x15360x5120 .bf16) (b : Fin 2) (n : Fin 120) (r : Fin 128) (h : Fin 32) (d : Fin 160) :
    k0_pay4 x (ix5 b n r h d) = min (Ideal.ofBits .f32 0x43E00000#32) (max (Ideal.ofBits .f32 0xC3E00000#32)
      (k0_pay2 x (ix5 b n r h d) * Ideal.exp2 (0 - k0_pay3 x (ix5 b n 0 h 0)))) := by
  pointwise [k0_pay4]
  rfl

theorem pay5_apply (x : Vec Ideal S2x15360x5120 .bf16) (b : Fin 2) (q : Fin 15360) (l : Fin 5120) :
    k0_pay5 x (ix3 b q l) = k0_pay4 x (ix5 b ⟨q.val / 128, by omega⟩ ⟨q.val % 128, by omega⟩ ⟨l.val / 160, by omega⟩ ⟨l.val % 160, by omega⟩) := by
  pointwise [k0_pay5]

end Cert.ReferenceIdeal.Hand
-- ==== Proof.Ref.Scales.lean ====
/-
  The reference's query scales, and its values by head, by cells.
-/
module

public import proofs.«01_k».proof.Proof.Gen.ReferenceIdeal.Value
public import Idealize.ShloMosaic.Lib.Pointwise

@[expose] public section

noncomputable section

namespace Cert.ReferenceIdeal.Hand

open Cert.ReferenceIdeal Cert.ReferenceIdeal.Gen
open Idealize.ShloMosaic
open Facts₀ Facts

theorem pay6_apply (x : Vec Ideal S2x15360x5120 .bf16) (b : Fin 2) (k : Fin 8) (n : Fin 120) (g : Fin 4) :
    k0_pay6 x (ix4 b k n g) = Ideal.exp2 (k0_pay3 x (ix5 b n 0 ⟨k.val * 4 + g.val, by omega⟩ 0)) := by
  pointwise [k0_pay6]
  rfl

theorem pay7_apply (x : Vec Ideal S2x15360x5120 .bf16) (a : Fin 16) (n : Fin 120) (g : Fin 4) (l : Fin 128) :
    k0_pay7 x (ix4 a n g l) = k0_pay6 x (ix4 ⟨a.val / 8, by omega⟩ ⟨a.val % 8, by omega⟩ n g) := by
  pointwise [k0_pay7]

theorem pay8_apply (v : Vec Ideal S2x8x160x15360 .fp8e4m3) (a : Fin 64) (d : Fin 160) (k : Fin 15360) :
    k0_pay8 v (ix3 a d k) = v (ix4 ⟨a.val / 32, by omega⟩ ⟨a.val / 4 % 8, by omega⟩ d k) := by
  pointwise [k0_pay8]

end Cert.ReferenceIdeal.Hand
-- ==== Proof.Ref.Probs.lean ====
/-
  The reference's unnormalised probabilities, by cells.
-/
module

public import proofs.«01_k».proof.Proof.Gen.ReferenceIdeal.Value
public import Idealize.ShloMosaic.Lib.Pointwise

@[expose] public section

noncomputable section

namespace Cert.ReferenceIdeal.Hand

open Cert.ReferenceIdeal Cert.ReferenceIdeal.Gen
open Idealize.ShloMosaic
open Facts₀ Facts

/-- The score of query `q` and key `k` of head `a` before the mask; -/
def raw (qc : FVec Ideal S2x120x128x32x160 .fp8e4m3) (qs : FVec Ideal S2x8x120x4 .f32) (kp : Vec Ideal S2x8x15360x160 .fp8e4m3)
    (ks : Vec Ideal S2x8x240 .f32) (a : Fin 64) (q k : Fin 15360) : EReal :=
  ((∑ d : Fin 160, qc (ix5 ⟨a.val / 32, by omega⟩ ⟨q.val / 128, by omega⟩ ⟨q.val % 128, by omega⟩ ⟨a.val / 4 % 8 * 4 + a.val % 4, by omega⟩ d)
        * kp (ix4 ⟨a.val / 32, by omega⟩ ⟨a.val / 4 % 8, by omega⟩ k d))
      * qs (ix4 ⟨a.val / 32, by omega⟩ ⟨a.val / 4 % 8, by omega⟩ ⟨q.val / 128, by omega⟩ ⟨a.val % 4, by omega⟩))
      * (ks (ix3 ⟨a.val / 32, by omega⟩ ⟨a.val / 4 % 8, by omega⟩ ⟨k.val / 64, by omega⟩) * (((Real.sqrt 160)⁻¹ : ℝ) : EReal))

/-- and after it. -/
def score (qc : FVec Ideal S2x120x128x32x160 .fp8e4m3) (qs : FVec Ideal S2x8x120x4 .f32) (kp : Vec Ideal S2x8x15360x160 .fp8e4m3)
    (ks : Vec Ideal S2x8x240 .f32) (a : Fin 64) (q k : Fin 15360) : EReal :=
  Scalar.select (IntOp.cmpi CmpIPredicate.sge (BitVec.ofNat 32 q.val) (BitVec.ofNat 32 k.val)) (raw qc qs kp ks a q k) (Ideal.ofBits .f32 0xFF800000#32)

theorem score_eq (qc : FVec Ideal S2x120x128x32x160 .fp8e4m3) (qs : FVec Ideal S2x8x120x4 .f32) (kp : Vec Ideal S2x8x15360x160 .fp8e4m3)
    (ks : Vec Ideal S2x8x240 .f32) (a : Fin 64) (q k : Fin 15360) :
    score qc qs kp ks a q k = if k.val ≤ q.val then raw qc qs kp ks a q k else ⊥ := by
  unfold score
  generalize raw qc qs kp ks a q k = u
  have e0 : Ideal.ofBits .f32 0xFF800000#32 = ⊥ := by simp [Ideal.ofBits, Ideal.ieee]
  rw [e0]
  show (if BitVec.ofBool ((BitVec.ofNat 32 k.val).sle (BitVec.ofNat 32 q.val)) = 1#1 then u else ⊥) = _
  have ek : (BitVec.ofNat 32 k.val).toNat = k.val := by rw [BitVec.toNat_ofNat]; omega
  have eq : (BitVec.ofNat 32 q.val).toNat = q.val := by rw [BitVec.toNat_ofNat]; omega
  have h : (BitVec.ofNat 32 k.val).sle (BitVec.ofNat 32 q.val) = decide (k.val ≤ q.val) := by
    rw [BitVec.sle_eq_decide, BitVec.toInt_eq_toNat_of_lt (by omega), BitVec.toInt_eq_toNat_of_lt (by omega), ek, eq]
    exact decide_eq_decide.2 (by omega)
  rw [h]
  by_cases g : k.val ≤ q.val <;> simp [g]

theorem pay9_apply (qc : FVec Ideal S2x120x128x32x160 .fp8e4m3) (qs : FVec Ideal S2x8x120x4 .f32) (kp : Vec Ideal S2x8x15360x160 .fp8e4m3)
    (ks : Vec Ideal S2x8x240 .f32) (a : Fin 64) (q k : Fin 15360) :
    k0_pay9 qc qs kp ks (ix3 a q k) = Ideal.exp (score qc qs kp ks a q k - Finset.univ.fold max (Ideal.ofBits .f32 0xFF800000#32) fun y => score qc qs kp ks a q y) := by
  pointwise [k0_pay9]
  rfl

end Cert.ReferenceIdeal.Hand
-- ==== Proof.Ref.Attn.lean ====
/-
  The reference's attention, by cells.
-/
module

public import proofs.«01_k».proof.Proof.Gen.ReferenceIdeal.Value
public import Idealize.ShloMosaic.Lib.Pointwise

@[expose] public section

noncomputable section

namespace Cert.ReferenceIdeal.Hand

open Cert.ReferenceIdeal Cert.ReferenceIdeal.Gen
open Idealize.ShloMosaic
open Facts₀ Facts

/-- The head of all the heads of all the batches. -/
abbrev headOf (b : Fin 2) (l : Fin 5120) : Fin 64 := ⟨b.val * 32 + l.val / 640 * 4 + l.val / 160 % 4, by omega⟩

theorem pay1_apply (v : FVec Ideal S64x160x15360 .f32) (p : FVec Ideal S64x15360x15360 .f32) (vs : Vec Ideal S2x8x160 .f32)
    (b : Fin 2) (q : Fin 15360) (l : Fin 5120) :
    k0_pay1 v p vs (ix3 b q l) = Ideal.div
      ((∑ y : Fin 15360, min (Ideal.ofBits .f32 0x43E00000#32) (max 0 (p (ix3 (headOf b l) q y) * Ideal.ofBits .f32 0x43800000#32))
          * v (ix3 (headOf b l) ⟨l.val % 160, by omega⟩ y))
        * (Ideal.ofBits .f32 0x3B800000#32 * vs (ix3 b ⟨(headOf b l).val / 4 % 8, by omega⟩ ⟨l.val % 160, by omega⟩)))
      (∑ y : Fin 15360, p (ix3 (headOf b l) q y)) := by
  pointwise [k0_pay1]

end Cert.ReferenceIdeal.Hand
-- ==== Proof.Meet.lean ====
/-
  The codes, the scales and the output of the kernel against those of the reference: both scale a block by the same power of two
  when its queries are finite, and the two softmaxes agree.
-/
module

public import proofs.«01_k».proof.Defs
public import proofs.«01_k».proof.Proof.Ideal.Attend
public import proofs.«01_k».proof.Proof.Ideal.Soft
public import proofs.«01_k».proof.Proof.Gen.KernelIdeal
public import proofs.«01_k».proof.Proof.Ideal.Expo
public import proofs.«01_k».proof.Proof.Ref.Expo
public import proofs.«01_k».proof.Proof.Ref.Codes
public import proofs.«01_k».proof.Proof.Ref.Scales
public import proofs.«01_k».proof.Proof.Ref.Probs
public import proofs.«01_k».proof.Proof.Ref.Attn

@[expose] public section

noncomputable section

open Idealize.ShloMosaic Idealize.ShloMosaic.Tactic

instance Cert.Pre_finite_queries.hand : Cert.Pre_finite_queries.Facts := ⟨by decide, by decide⟩

namespace Cert.Meet

open Cert.KernelIdeal.Hand

/-- An array of queries. -/
abbrev Q : Type := (⟨3, ![2, 15360, 5120]⟩ : Shape).Idx → EReal

/-- No query is infinite. -/
def Tame (X : Q) : Prop := ∀ i, max (X i) (-X i) ≤ Ideal.ofBits .f32 0x7F7F0000#32

theorem tame_of (x : FVec Ideal Cert.Pre_finite_queries.S2x15360x5120 .bf16) (k v s w)
    (h : Cert.Pre_finite_queries.fn (F := Ideal) x k v s w = fun _ => 1#1) : Tame x := by
  intro i
  have e : Ideal.cmp .ole (max (x i) (-x i)) (Ideal.ofBits .f32 0x7F7F0000#32) = 1#1 := congrFun h i
  by_contra hn
  rw [Ideal.cmp] at e
  simp [hn] at e

theorem bits_big : Ideal.ofBits .f32 0x7F7F0000#32 ≤ (((2 : ℝ) ^ (128 : ℤ) : ℝ) : EReal) := by
  have e : Ideal.ofBits .f32 0x7F7F0000#32 = ((338953138925153547590470800371487866880 : ℝ) : EReal) := by
    simp [Ideal.ofBits, Ideal.ieee, -EReal.coe_mul]; norm_num
  rw [e, EReal.coe_le_coe_iff]
  norm_num

theorem bits_over : ∃ k : ℝ, 0 < k ∧ k < (2 : ℝ) ^ (-8 : ℤ) ∧ Ideal.ofBits .f32 0x3B124925#32 = (k : EReal) := by
  refine ⟨_, ?_, ?_, by simp [Ideal.ofBits, Ideal.ieee, -EReal.coe_mul]; rfl⟩ <;> norm_num

/-- The scale a tame block asks for is a real below 2^120. -/
theorem tq_real {X : Q} (h : Tame X) {b j hh : ℕ} (hb : b < 2) (hj : j < 120) (hk : hh < 32) :
    ∃ r : ℝ, r < (2 : ℝ) ^ (120 : ℤ) ∧ tq X b j hh = (r : EReal) := by
  obtain ⟨k, k0, k1, ek⟩ := bits_over
  set T := top 128 fun c => top 160 fun d => max (at3 X b (128 * j + c) (160 * hh + d)) (-at3 X b (128 * j + c) (160 * hh + d)) with hT
  have up : T ≤ (((2 : ℝ) ^ (128 : ℤ) : ℝ) : EReal) := by
    refine top_le fun c hc => top_le fun d hd => ?_
    rw [at3_of X hb (by omega : 128 * j + c < 15360) (by omega : 160 * hh + d < 5120)]
    exact (h _).trans bits_big
  have lo : (0 : EReal) ≤ T := by
    refine le_trans ?_ ((le_top (fun d => max (at3 X b (128 * j + 0) (160 * hh + d)) (-at3 X b (128 * j + 0) (160 * hh + d))) (by omega : 0 < 160)).trans
      (le_top (fun c => top 160 fun d => max (at3 X b (128 * j + c) (160 * hh + d)) (-at3 X b (128 * j + c) (160 * hh + d))) (by omega : 0 < 128)))
    rcases le_total 0 (at3 X b (128 * j + 0) (160 * hh + 0)) with g | g
    · exact le_max_of_le_left g
    · refine le_max_of_le_right ?_
      have := EReal.neg_le_neg_iff.2 g
      rwa [neg_zero] at this
  have eq : tq X b j hh = T * (k : EReal) := by unfold tq; rw [ek]
  rw [eq]
  clear_value T
  induction T with
  | bot => exact absurd lo (by simp)
  | top => exact absurd (top_le_iff.1 up) (EReal.coe_ne_top _)
  | coe t =>
    have ht : t ≤ (2 : ℝ) ^ (128 : ℤ) := EReal.coe_le_coe_iff.1 up
    refine ⟨t * k, ?_, by rw [EReal.coe_mul]⟩
    calc t * k ≤ (2 : ℝ) ^ (128 : ℤ) * k := mul_le_mul_of_nonneg_right ht k0.le
      _ < (2 : ℝ) ^ (128 : ℤ) * (2 : ℝ) ^ (-8 : ℤ) := mul_lt_mul_of_pos_left k1 (by positivity)
      _ = (2 : ℝ) ^ (120 : ℤ) := by norm_num

/-- The reference's largest magnitude, by naturals. -/
theorem amax_eq (X : Q) (b : Fin 2) (n : Fin 120) (h : Fin 32) :
    Cert.ReferenceIdeal.Hand.amax X b n h * Ideal.ofBits .f32 0x3B124925#32 = tq X b.val n.val h.val := by
  unfold Cert.ReferenceIdeal.Hand.amax tq
  rw [ofBits_bot]
  congr 1
  refine fold_top _ (fun c => top 160 fun d => max (at3 X b.val (128 * n.val + c) (160 * h.val + d)) (-at3 X b.val (128 * n.val + c) (160 * h.val + d))) fun c => ?_
  refine fold_top _ (fun d => max (at3 X b.val (128 * n.val + c.val) (160 * h.val + d)) (-at3 X b.val (128 * n.val + c.val) (160 * h.val + d))) fun d => ?_
  rw [Cert.ReferenceIdeal.Hand.pay2_apply, at3_val X]
  show max (at3 X b.val (n.val * 128 + c.val) (h.val * 160 + d.val)) (-at3 X b.val (n.val * 128 + c.val) (h.val * 160 + d.val)) = _
  rw [Nat.mul_comm n.val, Nat.mul_comm h.val]

theorem exp_eq (X : Q) (b : Fin 2) (n : Fin 120) (h : Fin 32) :
    Cert.ReferenceIdeal.Gen.k0_pay3 (F := Ideal) X (ix5 b n 0 h 0) = expoR (tq X b.val n.val h.val) := by
  rw [Cert.ReferenceIdeal.Hand.pay3_apply, amax_eq]; rfl

/-- The reference's codes are the kernel's. -/
theorem code_eq {X : Q} (hX : Tame X) (b : Fin 2) (q : Fin 15360) (l : Fin 5120) :
    Cert.ReferenceIdeal.Gen.k0_pay5 (F := Ideal) X (ix3 b q l) = code X b.val q.val l.val := by
  obtain ⟨r, hr, e⟩ := tq_real hX b.2 (by omega : q.val / 128 < 120) (by omega : l.val / 160 < 32)
  rw [Cert.ReferenceIdeal.Hand.pay5_apply, Cert.ReferenceIdeal.Hand.pay4_apply, exp_eq, Cert.ReferenceIdeal.Hand.pay2_apply, at3_val X]
  unfold code clip
  show min _ (max _ (at3 X b.val (q.val / 128 * 128 + q.val % 128) (l.val / 160 * 160 + l.val % 160) * Ideal.exp2 (0 - expoR (tq X b.val (q.val / 128) (l.val / 160))))) = _
  rw [Nat.div_add_mod', Nat.div_add_mod', e, invC_eq hr]

/-- The reference's scales are the kernel's. -/
theorem scale_eq {X : Q} (hX : Tame X) (a : Fin 16) (n : Fin 120) (g : Fin 4) (l : Fin 128) :
    Cert.ReferenceIdeal.Gen.k0_pay7 (F := Ideal) X (ix4 a n g l) = scaleC (tq X (a.val / 8) n.val (4 * (a.val % 8) + g.val)) := by
  obtain ⟨r, hr, e⟩ := tq_real hX (by omega : a.val / 8 < 2) n.2 (by omega : 4 * (a.val % 8) + g.val < 32)
  rw [Cert.ReferenceIdeal.Hand.pay7_apply, Cert.ReferenceIdeal.Hand.pay6_apply, exp_eq]
  show Ideal.exp2 (expoR (tq X (a.val / 8) n.val (a.val % 8 * 4 + g.val))) = _
  rw [Nat.mul_comm (a.val % 8) 4, e, scaleC_eq hr]

/-- The lanes of the key codes that hold codes. -/
def keys (K : (⟨4, ![2, 8, 15360, 256]⟩ : Shape).Idx → EReal) : (⟨4, ![2, 8, 15360, 160]⟩ : Shape).Idx → EReal :=
  fun x => K (Cert.ReferenceIdeal.Gen.r0_2.idx x)

theorem keys_eq (K : (⟨4, ![2, 8, 15360, 256]⟩ : Shape).Idx → EReal) (b : Fin 2) (h : Fin 8) (y : Fin 15360) (d : Fin 160) :
    keys K (ix4 b h y d) = at4 K b.val h.val y.val d.val := by
  rw [at4_of K b.2 h.2 y.2 (by omega : d.val < 256)]
  refine congrArg K (funext fun a => Fin.ext ?_)
  revert a
  rw [Fin.forall_fin_succ, Fin.forall_fin_succ, Fin.forall_fin_two]
  refine ⟨?_, ?_, ?_, ?_⟩
  · show 0 + 1 * b.val = b.val; omega
  · show 0 + 1 * h.val = h.val; omega
  · show 0 + 1 * y.val = y.val; omega
  · show 0 + 1 * d.val = d.val; omega

theorem code4_eq {X : Q} (hX : Tame X) (b : Fin 2) (n : Fin 120) (r : Fin 128) (h : Fin 32) (d : Fin 160) :
    Cert.ReferenceIdeal.Gen.k0_pay4 (F := Ideal) X (ix5 b n r h d) = code X b.val (n.val * 128 + r.val) (160 * h.val + d.val) := by
  obtain ⟨t, ht, e⟩ := tq_real hX b.2 n.2 h.2
  rw [Cert.ReferenceIdeal.Hand.pay4_apply, exp_eq, Cert.ReferenceIdeal.Hand.pay2_apply, at3_val X]
  unfold code clip
  rw [show (n.val * 128 + r.val) / 128 = n.val by omega, show (160 * h.val + d.val) / 160 = h.val by omega, e, invC_eq ht, Nat.mul_comm 160 h.val]

theorem scale4_eq {X : Q} (hX : Tame X) (b : Fin 2) (k : Fin 8) (n : Fin 120) (g : Fin 4) :
    Cert.ReferenceIdeal.Gen.k0_pay6 (F := Ideal) X (ix4 b k n g) = scaleC (tq X b.val n.val (k.val * 4 + g.val)) := by
  obtain ⟨t, ht, e⟩ := tq_real hX b.2 n.2 (by omega : k.val * 4 + g.val < 32)
  rw [Cert.ReferenceIdeal.Hand.pay6_apply, exp_eq]
  show Ideal.exp2 (expoR (tq X b.val n.val (k.val * 4 + g.val))) = _
  rw [e, scaleC_eq ht]

/-- The reference's score before the mask. -/
def rawR (X : Q) (K : (⟨4, ![2, 8, 15360, 256]⟩ : Shape).Idx → EReal) (KS : (⟨4, ![2, 8, 240, 128]⟩ : Shape).Idx → EReal) (b q hh y : ℕ) : EReal :=
  ((∑ d ∈ Finset.range 160, code X b q (160 * hh + d) * at4 K b (hh / 4) y d) * scaleC (tq X b (q / 128) hh))
    * (at4 KS b (hh / 4) (y / 64) (q % 128) * (((Real.sqrt 160)⁻¹ : ℝ) : EReal))

/-- The kernel's is it times the binary logarithm of e. -/
theorem rawK_eq (X : Q) (K : (⟨4, ![2, 8, 15360, 256]⟩ : Shape).Idx → EReal) (KS : (⟨4, ![2, 8, 240, 128]⟩ : Shape).Idx → EReal) (b q hh y : ℕ) :
    rawK X K KS b q hh y = rawR X K KS b q hh y * lg := by
  have ek : kap = (((Real.sqrt 160)⁻¹ : ℝ) : EReal) * lg := EReal.coe_mul _ _
  unfold rawK rawR
  rw [ek]
  have es : (∑ d ∈ Finset.range 160, at4 K b (hh / 4) y d * code X b q (160 * hh + d)) = ∑ d ∈ Finset.range 160, code X b q (160 * hh + d) * at4 K b (hh / 4) y d :=
    Finset.sum_congr rfl fun d _ => mul_comm _ _
  rw [es]
  generalize (∑ d ∈ Finset.range 160, code X b q (160 * hh + d) * at4 K b (hh / 4) y d) = u
  generalize scaleC (tq X b (q / 128) hh) = v
  generalize at4 KS b (hh / 4) (y / 64) (q % 128) = w
  generalize (((Real.sqrt 160)⁻¹ : ℝ) : EReal) = r
  simp only [mul_assoc, mul_comm, mul_left_comm]

theorem raw_eq {X : Q} (hX : Tame X) (K : (⟨4, ![2, 8, 15360, 256]⟩ : Shape).Idx → EReal) (ks : (⟨3, ![2, 8, 240]⟩ : Shape).Idx → EReal)
    (KS : (⟨4, ![2, 8, 240, 128]⟩ : Shape).Idx → EReal) (hK : ∀ b h g l, KS (ix4 b h g l) = ks (ix3 b h g))
    (b : Fin 2) (q y : Fin 15360) (l : Fin 5120) :
    Cert.ReferenceIdeal.Hand.raw (Cert.ReferenceIdeal.Gen.k0_pay4 (F := Ideal) X) (Cert.ReferenceIdeal.Gen.k0_pay6 (F := Ideal) X)
      (keys K) ks (Cert.ReferenceIdeal.Hand.headOf b l) q y = rawR X K KS b.val q.val (l.val / 160) y.val := by
  unfold Cert.ReferenceIdeal.Hand.raw rawR
  have a1 : (Cert.ReferenceIdeal.Hand.headOf b l).val / 32 = b.val := by show (b.val * 32 + l.val / 640 * 4 + l.val / 160 % 4) / 32 = _; omega
  have a2 : (Cert.ReferenceIdeal.Hand.headOf b l).val / 4 % 8 = l.val / 160 / 4 := by show (b.val * 32 + l.val / 640 * 4 + l.val / 160 % 4) / 4 % 8 = _; omega
  have a3 : (Cert.ReferenceIdeal.Hand.headOf b l).val % 4 = l.val / 160 % 4 := by show (b.val * 32 + l.val / 640 * 4 + l.val / 160 % 4) % 4 = _; omega
  have a4 : (Cert.ReferenceIdeal.Hand.headOf b l).val / 4 % 8 * 4 + (Cert.ReferenceIdeal.Hand.headOf b l).val % 4 = l.val / 160 := by rw [a2, a3]; omega
  have hq : q.val / 128 * 128 + q.val % 128 = q.val := by omega
  rw [← hK _ _ _ ⟨q.val % 128, by omega⟩, at4_val KS, scale4_eq hX]
  refine congrArg₂ (· * ·) (congrArg₂ (· * ·) ?_ ?_) ?_
  · refine sum_fin _ (fun d => code X b.val q.val (160 * (l.val / 160) + d) * at4 K b.val (l.val / 160 / 4) y.val d) fun d => ?_
    rw [code4_eq hX, keys_eq]
    show code X (_ / 32) (q.val / 128 * 128 + q.val % 128) (160 * (_ / 4 % 8 * 4 + _ % 4) + d.val) * at4 K (_ / 32) (_ / 4 % 8) y.val d.val = _
    rw [a1, a2, a3, hq, show l.val / 160 / 4 * 4 + l.val / 160 % 4 = l.val / 160 by omega]
  · show scaleC (tq X (_ / 32) (q.val / 128) (_ / 4 % 8 * 4 + _ % 4)) = _
    rw [a1, a4]
  · show at4 KS (_ / 32) (_ / 4 % 8) (y.val / 64) (q.val % 128) * _ = _
    rw [a1, a2]

/-- The reference's output is the kernel's. -/
theorem out_eq {X : Q} (hX : Tame X) (K : (⟨4, ![2, 8, 15360, 256]⟩ : Shape).Idx → EReal) (VT : (⟨4, ![2, 8, 160, 15360]⟩ : Shape).Idx → EReal)
    (ks : (⟨3, ![2, 8, 240]⟩ : Shape).Idx → EReal) (vs : (⟨3, ![2, 8, 160]⟩ : Shape).Idx → EReal)
    (KS : (⟨4, ![2, 8, 240, 128]⟩ : Shape).Idx → EReal) (hK : ∀ b h g l, KS (ix4 b h g l) = ks (ix3 b h g))
    (VS : (⟨4, ![2, 8, 160, 128]⟩ : Shape).Idx → EReal) (hV : ∀ b h d l, VS (ix4 b h d l) = vs (ix3 b h d))
    (b : Fin 2) (q : Fin 15360) (l : Fin 5120) :
    Cert.ReferenceIdeal.Gen.k0_pay1 (F := Ideal) (Cert.ReferenceIdeal.Gen.k0_pay8 (F := Ideal) VT)
        (Cert.ReferenceIdeal.Gen.k0_pay9 (F := Ideal) (Cert.ReferenceIdeal.Gen.k0_pay4 (F := Ideal) X) (Cert.ReferenceIdeal.Gen.k0_pay6 (F := Ideal) X)
          (keys K) ks) vs (ix3 b q l)
      = attn X K VT KS VS (512 * ((q.val / 128 + 4) / 4)) b.val q.val l.val := by
  have a1 : (Cert.ReferenceIdeal.Hand.headOf b l).val / 32 = b.val := by show (b.val * 32 + l.val / 640 * 4 + l.val / 160 % 4) / 32 = _; omega
  have a2 : (Cert.ReferenceIdeal.Hand.headOf b l).val / 4 % 8 = l.val / 160 / 4 := by show (b.val * 32 + l.val / 640 * 4 + l.val / 160 % 4) / 4 % 8 = _; omega
  set s : ℕ → EReal := fun y => if y ≤ q.val then rawR X K KS b.val q.val (l.val / 160) y else ⊥ with hs
  have hsc : ∀ y : Fin 15360, Cert.ReferenceIdeal.Hand.score (Cert.ReferenceIdeal.Gen.k0_pay4 (F := Ideal) X) (Cert.ReferenceIdeal.Gen.k0_pay6 (F := Ideal) X)
      (keys K) ks (Cert.ReferenceIdeal.Hand.headOf b l) q y = s y.val := fun y => by
    rw [Cert.ReferenceIdeal.Hand.score_eq, raw_eq hX K ks KS hK]
  have hp : ∀ y : Fin 15360, Cert.ReferenceIdeal.Gen.k0_pay9 (F := Ideal) (Cert.ReferenceIdeal.Gen.k0_pay4 (F := Ideal) X) (Cert.ReferenceIdeal.Gen.k0_pay6 (F := Ideal) X)
      (keys K) ks (ix3 (Cert.ReferenceIdeal.Hand.headOf b l) q y) = Ideal.exp (s y.val - top 15360 s) := fun y => by
    rw [Cert.ReferenceIdeal.Hand.pay9_apply, hsc, ofBits_bot, fold_top _ s hsc]
  rw [Cert.ReferenceIdeal.Hand.pay1_apply]
  unfold attn pwK
  refine Eq.trans ?_ (soft 15360 (512 * ((q.val / 128 + 4) / 4)) q.val (by omega) (by omega) (fun y => rawR X K KS b.val q.val (l.val / 160) y)
    (fun y => at4 VT b.val (l.val / 160 / 4) (l.val % 160) y) (at4 VS b.val (l.val / 160 / 4) (l.val % 160) (q.val % 128)) c448 c448_nonneg s
    (scK X K KS b.val q.val (l.val / 160)) (fun y => rfl) fun y _ => by rw [scK, rawK_eq]).symm
  have e1 : (∑ y : Fin 15360, Cert.ReferenceIdeal.Gen.k0_pay9 (F := Ideal) (Cert.ReferenceIdeal.Gen.k0_pay4 (F := Ideal) X) (Cert.ReferenceIdeal.Gen.k0_pay6 (F := Ideal) X)
      (keys K) ks (ix3 (Cert.ReferenceIdeal.Hand.headOf b l) q y)) = ∑ y ∈ Finset.range 15360, Ideal.exp (s y - top 15360 s) :=
    sum_fin _ (fun y => Ideal.exp (s y - top 15360 s)) hp
  rw [e1]
  refine congrArg₂ Ideal.div (congrArg₂ (· * ·) ?_ (congrArg (fun w => Ideal.ofBits .f32 0x3B800000#32 * w) ?_)) rfl
  · refine sum_fin _ (fun y => min c448 (max 0 (Ideal.exp (s y - top 15360 s) * Ideal.ofBits .f32 0x43800000#32)) * at4 VT b.val (l.val / 160 / 4) (l.val % 160) y) fun y => ?_
    rw [hp, Cert.ReferenceIdeal.Hand.pay8_apply, at4_val VT]
    show _ * at4 VT (_ / 32) (_ / 4 % 8) (l.val % 160) y.val = _
    rw [a1, a2]
  · rw [← hV _ _ _ ⟨q.val % 128, by omega⟩, at4_val VS]
    show at4 VS b.val (_ / 4 % 8) (l.val % 160) (q.val % 128) = _
    rw [a2]

end Cert.Meet
-- ==== Proof.Ideal.Takes.lean ====
/-
  Each of the body's loads and stores does what `stOps` says: the buffer it touches is taken from the thirteen and put back.
-/
module

public import proofs.«01_k».proof.Proof.Ideal.Sem
public import Idealize.ShloMosaic.Lib.Tactic

@[expose] public section

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [Facts] [∀ e, Nonempty (Elt F e)]
open Facts₀ Facts

local notation "𝕄" => MT nD τ sig Unit (Elt F) ℕ (UR sig nD τ) ℕ

/-- The buffers other than `x`. -/
def rest_x (c : Dev nD) (R : Refs) (st : St F) : sProp 𝕄 :=
  iprop(own1 c R.kp st.kp ∗ own1 c R.vt st.vt ∗ own1 c R.ksl st.ksl ∗ own1 c R.vs st.vs ∗ own1 c R.out st.out ∗ own1 c R.qc st.qc ∗ own1 c R.qs st.qs ∗ own1 c R.s st.s ∗ own1 c R.qt st.qt ∗ own1 c R.a st.a ∗ own1 c R.m8 st.m8 ∗ own1 c R.acc st.acc)
theorem take_x (c : Dev nD) (R : Refs) (st : St F) : own c R st ⊢ iprop(own1 c R.x st.x ∗ rest_x c R st) := by
  unfold own rest_x
  iintro ⟨H_x, H_kp, H_vt, H_ksl, H_vs, H_out, H_qc, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc
theorem put_x (c : Dev nD) (R : Refs) (st : St F) (X) : iprop(own1 c R.x X ∗ rest_x c R st) ⊢ own c R { st with x := X } := by
  unfold own rest_x
  iintro ⟨H_x, H_kp, H_vt, H_ksl, H_vs, H_out, H_qc, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `kp`. -/
def rest_kp (c : Dev nD) (R : Refs) (st : St F) : sProp 𝕄 :=
  iprop(own1 c R.x st.x ∗ own1 c R.vt st.vt ∗ own1 c R.ksl st.ksl ∗ own1 c R.vs st.vs ∗ own1 c R.out st.out ∗ own1 c R.qc st.qc ∗ own1 c R.qs st.qs ∗ own1 c R.s st.s ∗ own1 c R.qt st.qt ∗ own1 c R.a st.a ∗ own1 c R.m8 st.m8 ∗ own1 c R.acc st.acc)
theorem take_kp (c : Dev nD) (R : Refs) (st : St F) : own c R st ⊢ iprop(own1 c R.kp st.kp ∗ rest_kp c R st) := by
  unfold own rest_kp
  iintro ⟨H_x, H_kp, H_vt, H_ksl, H_vs, H_out, H_qc, H_qs, H_s, H_qt, H_a, H_m8, H_acc⟩
  isplitl [H_kp]; · iexact H_kp
  isplitl [H_x]; · iexact H_x
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc
theorem put_kp (c : Dev nD) (R : Refs) (st : St F) (X) : iprop(own1 c R.kp X ∗ rest_kp c R st) ⊢ own c R { st with kp := X } := by
  unfold own rest_kp
  iintro ⟨H_kp, H_x, H_vt, H_ksl, H_vs, H_out, H_qc, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `vt`. -/
def rest_vt (c : Dev nD) (R : Refs) (st : St F) : sProp 𝕄 :=
  iprop(own1 c R.x st.x ∗ own1 c R.kp st.kp ∗ own1 c R.ksl st.ksl ∗ own1 c R.vs st.vs ∗ own1 c R.out st.out ∗ own1 c R.qc st.qc ∗ own1 c R.qs st.qs ∗ own1 c R.s st.s ∗ own1 c R.qt st.qt ∗ own1 c R.a st.a ∗ own1 c R.m8 st.m8 ∗ own1 c R.acc st.acc)
theorem take_vt (c : Dev nD) (R : Refs) (st : St F) : own c R st ⊢ iprop(own1 c R.vt st.vt ∗ rest_vt c R st) := by
  unfold own rest_vt
  iintro ⟨H_x, H_kp, H_vt, H_ksl, H_vs, H_out, H_qc, H_qs, H_s, H_qt, H_a, H_m8, H_acc⟩
  isplitl [H_vt]; · iexact H_vt
  isplitl [H_x]; · iexact H_x
  isplitl [H_kp]; · iexact H_kp
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc
theorem put_vt (c : Dev nD) (R : Refs) (st : St F) (X) : iprop(own1 c R.vt X ∗ rest_vt c R st) ⊢ own c R { st with vt := X } := by
  unfold own rest_vt
  iintro ⟨H_vt, H_x, H_kp, H_ksl, H_vs, H_out, H_qc, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `ksl`. -/
def rest_ksl (c : Dev nD) (R : Refs) (st : St F) : sProp 𝕄 :=
  iprop(own1 c R.x st.x ∗ own1 c R.kp st.kp ∗ own1 c R.vt st.vt ∗ own1 c R.vs st.vs ∗ own1 c R.out st.out ∗ own1 c R.qc st.qc ∗ own1 c R.qs st.qs ∗ own1 c R.s st.s ∗ own1 c R.qt st.qt ∗ own1 c R.a st.a ∗ own1 c R.m8 st.m8 ∗ own1 c R.acc st.acc)
theorem take_ksl (c : Dev nD) (R : Refs) (st : St F) : own c R st ⊢ iprop(own1 c R.ksl st.ksl ∗ rest_ksl c R st) := by
  unfold own rest_ksl
  iintro ⟨H_x, H_kp, H_vt, H_ksl, H_vs, H_out, H_qc, H_qs, H_s, H_qt, H_a, H_m8, H_acc⟩
  isplitl [H_ksl]; · iexact H_ksl
  isplitl [H_x]; · iexact H_x
  isplitl [H_kp]; · iexact H_kp
  isplitl [H_vt]; · iexact H_vt
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc
theorem put_ksl (c : Dev nD) (R : Refs) (st : St F) (X) : iprop(own1 c R.ksl X ∗ rest_ksl c R st) ⊢ own c R { st with ksl := X } := by
  unfold own rest_ksl
  iintro ⟨H_ksl, H_x, H_kp, H_vt, H_vs, H_out, H_qc, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `vs`. -/
def rest_vs (c : Dev nD) (R : Refs) (st : St F) : sProp 𝕄 :=
  iprop(own1 c R.x st.x ∗ own1 c R.kp st.kp ∗ own1 c R.vt st.vt ∗ own1 c R.ksl st.ksl ∗ own1 c R.out st.out ∗ own1 c R.qc st.qc ∗ own1 c R.qs st.qs ∗ own1 c R.s st.s ∗ own1 c R.qt st.qt ∗ own1 c R.a st.a ∗ own1 c R.m8 st.m8 ∗ own1 c R.acc st.acc)
theorem take_vs (c : Dev nD) (R : Refs) (st : St F) : own c R st ⊢ iprop(own1 c R.vs st.vs ∗ rest_vs c R st) := by
  unfold own rest_vs
  iintro ⟨H_x, H_kp, H_vt, H_ksl, H_vs, H_out, H_qc, H_qs, H_s, H_qt, H_a, H_m8, H_acc⟩
  isplitl [H_vs]; · iexact H_vs
  isplitl [H_x]; · iexact H_x
  isplitl [H_kp]; · iexact H_kp
  isplitl [H_vt]; · iexact H_vt
  isplitl [H_ksl]; · iexact H_ksl
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc
theorem put_vs (c : Dev nD) (R : Refs) (st : St F) (X) : iprop(own1 c R.vs X ∗ rest_vs c R st) ⊢ own c R { st with vs := X } := by
  unfold own rest_vs
  iintro ⟨H_vs, H_x, H_kp, H_vt, H_ksl, H_out, H_qc, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `out`. -/
def rest_out (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.qc st.qc ∗ own1 c R.qs st.qs ∗ own1 c R.s st.s ∗ own1 c R.qt st.qt ∗ own1 c R.a st.a ∗ own1 c R.m8 st.m8 ∗ own1 c R.acc st.acc)
theorem take_out (c : Dev nD) (R : Refs) (st : St F) : own c R st ⊢ iprop(own1 c R.out st.out ∗ rest_out c R st) := by
  unfold own rest_out
  iintro ⟨H_x, H_kp, H_vt, H_ksl, H_vs, H_out, H_qc, H_qs, H_s, H_qt, H_a, H_m8, H_acc⟩
  isplitl [H_out]; · iexact H_out
  isplitl [H_x]; · iexact H_x
  isplitl [H_kp]; · iexact H_kp
  isplitl [H_vt]; · iexact H_vt
  isplitl [H_ksl]; · iexact H_ksl
  isplitl [H_vs]; · iexact H_vs
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc
theorem put_out (c : Dev nD) (R : Refs) (st : St F) (X) : iprop(own1 c R.out X ∗ rest_out c R st) ⊢ own c R { st with out := X } := by
  unfold own rest_out
  iintro ⟨H_out, H_x, H_kp, H_vt, H_ksl, H_vs, H_qc, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `qc`. -/
def rest_qc (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.out st.out ∗ own1 c R.qs st.qs ∗ own1 c R.s st.s ∗ own1 c R.qt st.qt ∗ own1 c R.a st.a ∗ own1 c R.m8 st.m8 ∗ own1 c R.acc st.acc)
theorem take_qc (c : Dev nD) (R : Refs) (st : St F) : own c R st ⊢ iprop(own1 c R.qc st.qc ∗ rest_qc c R st) := by
  unfold own rest_qc
  iintro ⟨H_x, H_kp, H_vt, H_ksl, H_vs, H_out, H_qc, H_qs, H_s, H_qt, H_a, H_m8, H_acc⟩
  isplitl [H_qc]; · iexact H_qc
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qs]; · iexact H_qs
  isplitl [H_s]; · iexact H_s
  isplitl [H_qt]; · iexact H_qt
  isplitl [H_a]; · iexact H_a
  isplitl [H_m8]; · iexact H_m8
  iexact H_acc
theorem put_qc (c : Dev nD) (R : Refs) (st : St F) (X) : iprop(own1 c R.qc X ∗ rest_qc c R st) ⊢ own c R { st with qc := X } := by
  unfold own rest_qc
  iintro ⟨H_qc, H_x, H_kp, H_vt, H_ksl, H_vs, H_out, H_qs, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `qs`. -/
def rest_qs (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.out st.out ∗ own1 c R.qc st.qc ∗ own1 c R.s st.s ∗ own1 c R.qt st.qt ∗ own1 c R.a st.a ∗ own1 c R.m8 st.m8 ∗ own1 c R.acc st.acc)
theorem take_qs (c : Dev nD) (R : Refs) (st : St F) : own c R st ⊢ iprop(own1 c R.qs st.qs ∗ rest_qs c R st) := by
  unfold own rest_qs
  iintro ⟨H_x, H_kp, H_vt, H_ksl, H_vs, H_out, H_qc, H_qs, H_s, H_qt, H_a, H_m8, H_acc⟩
  isplitl [H_qs]; · iexact H_qs
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_s]; · iexact H_s
  isplitl [H_qt]; · iexact H_qt
  isplitl [H_a]; · iexact H_a
  isplitl [H_m8]; · iexact H_m8
  iexact H_acc
theorem put_qs (c : Dev nD) (R : Refs) (st : St F) (X) : iprop(own1 c R.qs X ∗ rest_qs c R st) ⊢ own c R { st with qs := X } := by
  unfold own rest_qs
  iintro ⟨H_qs, H_x, H_kp, H_vt, H_ksl, H_vs, H_out, H_qc, H_s, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `s`. -/
def rest_s (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.out st.out ∗ own1 c R.qc st.qc ∗ own1 c R.qs st.qs ∗ own1 c R.qt st.qt ∗ own1 c R.a st.a ∗ own1 c R.m8 st.m8 ∗ own1 c R.acc st.acc)
theorem take_s (c : Dev nD) (R : Refs) (st : St F) : own c R st ⊢ iprop(own1 c R.s st.s ∗ rest_s c R st) := by
  unfold own rest_s
  iintro ⟨H_x, H_kp, H_vt, H_ksl, H_vs, H_out, H_qc, H_qs, H_s, H_qt, H_a, H_m8, H_acc⟩
  isplitl [H_s]; · iexact H_s
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_qt]; · iexact H_qt
  isplitl [H_a]; · iexact H_a
  isplitl [H_m8]; · iexact H_m8
  iexact H_acc
theorem put_s (c : Dev nD) (R : Refs) (st : St F) (X) : iprop(own1 c R.s X ∗ rest_s c R st) ⊢ own c R { st with s := X } := by
  unfold own rest_s
  iintro ⟨H_s, H_x, H_kp, H_vt, H_ksl, H_vs, H_out, H_qc, H_qs, H_qt, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `qt`. -/
def rest_qt (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.out st.out ∗ own1 c R.qc st.qc ∗ own1 c R.qs st.qs ∗ own1 c R.s st.s ∗ own1 c R.a st.a ∗ own1 c R.m8 st.m8 ∗ own1 c R.acc st.acc)
theorem take_qt (c : Dev nD) (R : Refs) (st : St F) : own c R st ⊢ iprop(own1 c R.qt st.qt ∗ rest_qt c R st) := by
  unfold own rest_qt
  iintro ⟨H_x, H_kp, H_vt, H_ksl, H_vs, H_out, H_qc, H_qs, H_s, H_qt, H_a, H_m8, H_acc⟩
  isplitl [H_qt]; · iexact H_qt
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_a]; · iexact H_a
  isplitl [H_m8]; · iexact H_m8
  iexact H_acc
theorem put_qt (c : Dev nD) (R : Refs) (st : St F) (X) : iprop(own1 c R.qt X ∗ rest_qt c R st) ⊢ own c R { st with qt := X } := by
  unfold own rest_qt
  iintro ⟨H_qt, H_x, H_kp, H_vt, H_ksl, H_vs, H_out, H_qc, H_qs, H_s, H_a, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `a`. -/
def rest_a (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.out st.out ∗ own1 c R.qc st.qc ∗ own1 c R.qs st.qs ∗ own1 c R.s st.s ∗ own1 c R.qt st.qt ∗ own1 c R.m8 st.m8 ∗ own1 c R.acc st.acc)
theorem take_a (c : Dev nD) (R : Refs) (st : St F) : own c R st ⊢ iprop(own1 c R.a st.a ∗ rest_a c R st) := by
  unfold own rest_a
  iintro ⟨H_x, H_kp, H_vt, H_ksl, H_vs, H_out, H_qc, H_qs, H_s, H_qt, H_a, H_m8, H_acc⟩
  isplitl [H_a]; · iexact H_a
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_m8]; · iexact H_m8
  iexact H_acc
theorem put_a (c : Dev nD) (R : Refs) (st : St F) (X) : iprop(own1 c R.a X ∗ rest_a c R st) ⊢ own c R { st with a := X } := by
  unfold own rest_a
  iintro ⟨H_a, H_x, H_kp, H_vt, H_ksl, H_vs, H_out, H_qc, H_qs, H_s, H_qt, H_m8, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `m8`. -/
def rest_m8 (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.out st.out ∗ own1 c R.qc st.qc ∗ own1 c R.qs st.qs ∗ own1 c R.s st.s ∗ own1 c R.qt st.qt ∗ own1 c R.a st.a ∗ own1 c R.acc st.acc)
theorem take_m8 (c : Dev nD) (R : Refs) (st : St F) : own c R st ⊢ iprop(own1 c R.m8 st.m8 ∗ rest_m8 c R st) := by
  unfold own rest_m8
  iintro ⟨H_x, H_kp, H_vt, H_ksl, H_vs, H_out, H_qc, H_qs, H_s, H_qt, H_a, H_m8, H_acc⟩
  isplitl [H_m8]; · iexact H_m8
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  iexact H_acc
theorem put_m8 (c : Dev nD) (R : Refs) (st : St F) (X) : iprop(own1 c R.m8 X ∗ rest_m8 c R st) ⊢ own c R { st with m8 := X } := by
  unfold own rest_m8
  iintro ⟨H_m8, H_x, H_kp, H_vt, H_ksl, H_vs, H_out, H_qc, H_qs, H_s, H_qt, H_a, H_acc⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

/-- The buffers other than `acc`. -/
def rest_acc (c : Dev nD) (R : Refs) (st : St F) : sProp 𝕄 :=
  iprop(own1 c R.x st.x ∗ own1 c R.kp st.kp ∗ own1 c R.vt st.vt ∗ own1 c R.ksl st.ksl ∗ own1 c R.vs st.vs ∗ own1 c R.out st.out ∗ own1 c R.qc st.qc ∗ own1 c R.qs st.qs ∗ own1 c R.s st.s ∗ own1 c R.qt st.qt ∗ own1 c R.a st.a ∗ own1 c R.m8 st.m8)
theorem take_acc (c : Dev nD) (R : Refs) (st : St F) : own c R st ⊢ iprop(own1 c R.acc st.acc ∗ rest_acc c R st) := by
  unfold own rest_acc
  iintro ⟨H_x, H_kp, H_vt, H_ksl, H_vs, H_out, H_qc, H_qs, H_s, H_qt, H_a, H_m8, H_acc⟩
  isplitl [H_acc]; · iexact H_acc
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  iexact H_m8
theorem put_acc (c : Dev nD) (R : Refs) (st : St F) (X) : iprop(own1 c R.acc X ∗ rest_acc c R st) ⊢ own c R { st with acc := X } := by
  unfold own rest_acc
  iintro ⟨H_acc, H_x, H_kp, H_vt, H_ksl, H_vs, H_out, H_qc, H_qs, H_s, H_qt, H_a, H_m8⟩
  isplitl [H_x]; · iexact H_x
  isplitl [H_kp]; · iexact H_kp
  isplitl [H_vt]; · iexact H_vt
  isplitl [H_ksl]; · iexact H_ksl
  isplitl [H_vs]; · iexact H_vs
  isplitl [H_out]; · iexact H_out
  isplitl [H_qc]; · iexact H_qc
  isplitl [H_qs]; · iexact H_qs
  isplitl [H_s]; · iexact H_s
  isplitl [H_qt]; · iexact H_qt
  isplitl [H_a]; · iexact H_a
  isplitl [H_m8]; · iexact H_m8
  iexact H_acc

variable {c : Dev nD} {R : Refs}

theorem ref_ldX : Ref c R ((progOps (F := F) R).ldX) (stOps.ldX) :=
  Ref.load R.x _ _ (fun st => st.x) (rest_x c R) (take_x c R) fun st => put_x c R st st.x
theorem ref_ldKsl : Ref c R ((progOps (F := F) R).ldKsl) (stOps.ldKsl) :=
  Ref.load R.ksl _ _ (fun st => st.ksl) (rest_ksl c R) (take_ksl c R) fun st => put_ksl c R st st.ksl
theorem ref_ldVs : Ref c R ((progOps (F := F) R).ldVs) (stOps.ldVs) :=
  Ref.load R.vs _ _ (fun st => st.vs) (rest_vs c R) (take_vs c R) fun st => put_vs c R st st.vs
theorem ref_ldKp (r h) : Ref c R ((progOps (F := F) R).ldKp r h) (stOps.ldKp r h) :=
  Ref.load R.kp _ _ (fun st => st.kp) (rest_kp c R) (take_kp c R) fun st => put_kp c R st st.kp
theorem ref_ldVt (r h) : Ref c R ((progOps (F := F) R).ldVt r h) (stOps.ldVt r h) :=
  Ref.load R.vt _ _ (fun st => st.vt) (rest_vt c R) (take_vt c R) fun st => put_vt c R st st.vt
theorem ref_ldOut : Ref c R ((progOps (F := F) R).ldOut) (stOps.ldOut) :=
  Ref.load R.out _ _ (fun st => st.out) (rest_out c R) (take_out c R) fun st => put_out c R st st.out
theorem ref_ldQc : Ref c R ((progOps (F := F) R).ldQc) (stOps.ldQc) :=
  Ref.load R.qc _ _ (fun st => st.qc) (rest_qc c R) (take_qc c R) fun st => put_qc c R st st.qc
theorem ref_ldQs (h hh) : Ref c R ((progOps (F := F) R).ldQs h hh) (stOps.ldQs h hh) :=
  Ref.load R.qs _ _ (fun st => st.qs) (rest_qs c R) (take_qs c R) fun st => put_qs c R st st.qs
theorem ref_ldS (r k h hc) : Ref c R ((progOps (F := F) R).ldS r k h hc) (stOps.ldS r k h hc) :=
  Ref.load R.s _ _ (fun st => st.s) (rest_s c R) (take_s c R) fun st => put_s c R st st.s
theorem ref_ldQt1 (k hc) : Ref c R ((progOps (F := F) R).ldQt1 k hc) (stOps.ldQt1 k hc) :=
  Ref.load R.qt _ _ (fun st => st.qt) (rest_qt c R) (take_qt c R) fun st => put_qt c R st st.qt
theorem ref_ldQt2 (k hc) : Ref c R ((progOps (F := F) R).ldQt2 k hc) (stOps.ldQt2 k hc) :=
  Ref.load R.qt _ _ (fun st => st.qt) (rest_qt c R) (take_qt c R) fun st => put_qt c R st st.qt
theorem ref_ldA (h hh) : Ref c R ((progOps (F := F) R).ldA h hh) (stOps.ldA h hh) :=
  Ref.load R.a _ _ (fun st => st.a) (rest_a c R) (take_a c R) fun st => put_a c R st st.a
theorem ref_ldARow (h r hh hr) : Ref c R ((progOps (F := F) R).ldARow h r hh hr) (stOps.ldARow h r hh hr) :=
  Ref.load R.a _ _ (fun st => st.a) (rest_a c R) (take_a c R) fun st => put_a c R st st.a
theorem ref_ldM8Row (k hc) : Ref c R ((progOps (F := F) R).ldM8Row k hc) (stOps.ldM8Row k hc) :=
  Ref.load R.m8 _ _ (fun st => st.m8) (rest_m8 c R) (take_m8 c R) fun st => put_m8 c R st st.m8
theorem ref_ldM8 (k hc) : Ref c R ((progOps (F := F) R).ldM8 k hc) (stOps.ldM8 k hc) :=
  Ref.load R.m8 _ _ (fun st => st.m8) (rest_m8 c R) (take_m8 c R) fun st => put_m8 c R st st.m8
theorem ref_ldAcc : Ref c R ((progOps (F := F) R).ldAcc) (stOps.ldAcc) :=
  Ref.load R.acc _ _ (fun st => st.acc) (rest_acc c R) (take_acc c R) fun st => put_acc c R st st.acc
theorem ref_ldAcc1 (k hc) : Ref c R ((progOps (F := F) R).ldAcc1 k hc) (stOps.ldAcc1 k hc) :=
  Ref.load R.acc _ _ (fun st => st.acc) (rest_acc c R) (take_acc c R) fun st => put_acc c R st st.acc
theorem ref_ldAcc2 (k hc) : Ref c R ((progOps (F := F) R).ldAcc2 k hc) (stOps.ldAcc2 k hc) :=
  Ref.load R.acc _ _ (fun st => st.acc) (rest_acc c R) (take_acc c R) fun st => put_acc c R st st.acc
theorem ref_stOut (v) : Ref c R ((progOps (F := F) R).stOut v) (stOps.stOut v) :=
  Ref.store_of R.out (Rect.unit (s := S1x128x640) ![0, 0, 0] S1x128x640.size inb_S1x128x640_S1x128x640_0_0_0) v ⟨_, _, rfl⟩ (fun st => st.out) (fun st X => { st with out := X }) (rest_out c R) (fun _ => rfl) (take_out c R) (put_out c R)
theorem ref_stQc (v) : Ref c R ((progOps (F := F) R).stQc v) (stOps.stQc v) :=
  Ref.store_of R.qc (Rect.unit (s := S1x128x640) ![0, 0, 0] S1x128x640.size inb_S1x128x640_S1x128x640_0_0_0) v ⟨_, _, rfl⟩ (fun st => st.qc) (fun st X => { st with qc := X }) (rest_qc c R) (fun _ => rfl) (take_qc c R) (put_qc c R)
theorem ref_stQs (h hh) (v) : Ref c R ((progOps (F := F) R).stQs h hh v) (stOps.stQs h hh v) :=
  Ref.store_of R.qs (Rect.unit (s := S1x1x4x128) ![0, 0, h, 0] S1x1x1x128.size (inQs h hh)) v ⟨_, _, rfl⟩ (fun st => st.qs) (fun st X => { st with qs := X }) (rest_qs c R) (fun _ => rfl) (take_qs c R) (put_qs c R)
theorem ref_stS (r k h hc) (v) : Ref c R ((progOps (F := F) R).stS r k h hc v) (stOps.stS r k h hc v) :=
  Ref.store_of R.s (Rect.unit (s := S15360x512) ![r, k] S64x128.size (inS r k h hc)) v ⟨_, _, rfl⟩ (fun st => st.s) (fun st X => { st with s := X }) (rest_s c R) (fun _ => rfl) (take_s c R) (put_s c R)
theorem ref_stQt1 (k hc) (v) : Ref c R ((progOps (F := F) R).stQt1 k hc v) (stOps.stQt1 k hc v) :=
  Ref.store_of R.qt (Rect.unit (s := S256x512) ![0, k] S256x128.size (inQt1 k hc)) v ⟨_, _, rfl⟩ (fun st => st.qt) (fun st X => { st with qt := X }) (rest_qt c R) (fun _ => rfl) (take_qt c R) (put_qt c R)
theorem ref_stA (h hh) (v) : Ref c R ((progOps (F := F) R).stA h hh v) (stOps.stA h hh v) :=
  Ref.store_of R.a (Rect.unit (s := S4x240x128) ![h, 0, 0] S1x240x128.size (inA h hh)) v ⟨_, _, rfl⟩ (fun st => st.a) (fun st X => { st with a := X }) (rest_a c R) (fun _ => rfl) (take_a c R) (put_a c R)
theorem ref_stM8 (k hc) (v) : Ref c R ((progOps (F := F) R).stM8 k hc v) (stOps.stM8 k hc v) :=
  Ref.store_of R.m8 (Rect.unit (s := S8x512) ![0, k] S8x128.size (inM8 k hc)) v ⟨_, _, rfl⟩ (fun st => st.m8) (fun st X => { st with m8 := X }) (rest_m8 c R) (fun _ => rfl) (take_m8 c R) (put_m8 c R)
theorem ref_stAcc (v) : Ref c R ((progOps (F := F) R).stAcc v) (stOps.stAcc v) :=
  Ref.store_of R.acc (Rect.unit (s := S160x512) ![0, 0] S160x512.size inb_S160x512_S160x512_0_0) v ⟨_, _, rfl⟩ (fun st => st.acc) (fun st X => { st with acc := X }) (rest_acc c R) (fun _ => rfl) (take_acc c R) (put_acc c R)
theorem ref_stAcc2 (k hc) (v) : Ref c R ((progOps (F := F) R).stAcc2 k hc v) (stOps.stAcc2 k hc v) :=
  Ref.store_of R.acc (Rect.unit (s := S160x512) ![0, k] S160x256.size (inAcc2 k hc)) v ⟨_, _, rfl⟩ (fun st => st.acc) (fun st X => { st with acc := X }) (rest_acc c R) (fun _ => rfl) (take_acc c R) (put_acc c R)

end Cert.KernelIdeal.Hand
-- ==== Proof.Ideal.Equal.lean ====
/-
  The printed body is the compact text.
-/
module

public import proofs.«01_k».proof.Proof.Ideal.Same
public import Idealize.ShloMosaic.Lib.Tactic

@[expose] public section

set_option maxRecDepth 100000
set_option maxHeartbeats 0

noncomputable section

namespace Cert.KernelIdeal.Hand

open Cert.KernelIdeal
open Idealize.ShloMosaic Idealize.SL.Sem

variable {F : FTy → Type} [FloatOps F] [Named F] [Facts]

theorem attention_eq (R : Refs) (i : grid0.Coords) :
    cc0_attention (F := F) i R.x R.hx R.kp R.hkp R.vt R.hvt R.ksl R.hksl R.vs R.hvs R.out R.hout R.qc R.hqc R.qs R.hqs
      R.s R.hs R.qt R.hqt R.a R.ha R.m8 R.hm8 R.acc R.hacc = body (progOps R) i := by sl_kernel_rfl

end Cert.KernelIdeal.Hand
-- ==== Proof.Ideal.Refine.lean ====
/-
  The printed attention body, run by a core that owns its thirteen buffers, does to them what the compact text read in the state
  monad does to their contents: piece by piece, along the text.
-/
module

public import proofs.«01_k».proof.Proof.Ideal.Takes
public import proofs.«01_k».proof.Proof.Ideal.Equal
public import Idealize.ShloMosaic.Lib.Tactic

@[expose] public section

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [Facts] [∀ e, Nonempty (Elt F e)]
open Facts₀ Facts

local notation "𝕄" => MT nD τ sig Unit (Elt F) ℕ (UR sig nD τ) ℕ

variable {c : Dev nD} {R : Refs}

theorem ref_probSub (j a b hj ha hb k hc s) : Ref c R (probSub (progOps (F := F) R) j a b hj ha hb k hc s) (probSub stOps j a b hj ha hb k hc s) := by
  unfold probSub
  refine Ref.bind (ref_ldS _ _ _ _) fun _ => ?_
  refine Ref.bind (ref_ldM8Row _ _) fun _ => ?_
  exact Ref.pure _

theorem ref_probRow (j a b hj ha hb k k' hc hc' s) : Ref c R (probRow (progOps (F := F) R) j a b hj ha hb k k' hc hc' s) (probRow stOps j a b hj ha hb k k' hc hc' s) := by
  unfold probRow
  refine Ref.bind (ref_probSub _ _ _ _ _ _ _ _ _) fun _ => ?_
  refine Ref.bind (ref_probSub _ _ _ _ _ _ _ _ _) fun _ => ?_
  exact Ref.pure _

theorem ref_probPiece (j a hj ha k k' hc hc' s) : Ref c R (probPiece (progOps (F := F) R) j a hj ha k k' hc hc' s) (probPiece stOps j a hj ha k k' hc hc' s) := by
  unfold probPiece
  refine Ref.bind (ref_probRow _ _ _ _ _ _ _ _ _ _ _) fun _ => ?_
  refine Ref.bind (ref_probRow _ _ _ _ _ _ _ _ _ _ _) fun _ => ?_
  refine Ref.bind (ref_probRow _ _ _ _ _ _ _ _ _ _ _) fun _ => ?_
  refine Ref.bind (ref_probRow _ _ _ _ _ _ _ _ _ _ _) fun _ => ?_
  refine Ref.bind (ref_ldVt _ _) fun _ => ?_
  exact Ref.pure _

theorem ref_scoreSub (mk j a a' b b' hj ha hb ha' hb' h hh k hc y x) : Ref c R (scoreSub (progOps (F := F) R) mk j a a' b b' hj ha hb ha' hb' h hh k hc y x) (scoreSub stOps mk j a a' b b' hj ha hb ha' hb' h hh k hc y x) := by
  unfold scoreSub
  refine Ref.bind (ref_ldARow _ _ _ _) fun _ => ?_
  refine Ref.bind (ref_ldS _ _ _ _) fun _ => ?_
  refine Ref.bind (ref_stS _ _ _ _ _) fun _ => ?_
  exact Ref.pure _

theorem ref_scorePiece (mk j a a' hj ha ha' h h' hh hh' k k' hc hc' hcc x) : Ref c R (scorePiece (progOps (F := F) R) mk j a a' hj ha ha' h h' hh hh' k k' hc hc' hcc x) (scorePiece stOps mk j a a' hj ha ha' h h' hh hh' k k' hc hc' hcc x) := by
  unfold scorePiece
  refine Ref.bind (ref_ldKp _ _) fun _ => ?_
  refine Ref.bind (ref_ldQt2 _ _) fun _ => ?_
  refine Ref.bind (ref_scoreSub _ _ _ _ _ _ _ _ _ _ _ _ _ _ _ _ _ ) fun _ => ?_
  refine Ref.bind (ref_scoreSub _ _ _ _ _ _ _ _ _ _ _ _ _ _ _ _ _ ) fun _ => ?_
  refine Ref.bind (ref_scoreSub _ _ _ _ _ _ _ _ _ _ _ _ _ _ _ _ _ ) fun _ => ?_
  refine Ref.bind (ref_scoreSub _ _ _ _ _ _ _ _ _ _ _ _ _ _ _ _ _ ) fun _ => ?_
  refine Ref.bind (ref_scoreSub _ _ _ _ _ _ _ _ _ _ _ _ _ _ _ _ _ ) fun _ => ?_
  refine Ref.bind (ref_scoreSub _ _ _ _ _ _ _ _ _ _ _ _ _ _ _ _ _ ) fun _ => ?_
  refine Ref.bind (ref_scoreSub _ _ _ _ _ _ _ _ _ _ _ _ _ _ _ _ _ ) fun _ => ?_
  refine Ref.bind (ref_scoreSub _ _ _ _ _ _ _ _ _ _ _ _ _ _ _ _ _ ) fun _ => ?_
  exact Ref.pure _

theorem ref_accAdd (g0 g1) : Ref c R (accAdd (progOps (F := F) R) g0 g1) (accAdd stOps g0 g1) := by
  unfold accAdd
  refine Ref.bind (ref_ldAcc2 _ _) fun _ => ?_
  refine Ref.bind (ref_ldAcc2 _ _) fun _ => ?_
  refine Ref.bind (ref_stAcc2 _ _ _) fun _ => ?_
  refine Ref.bind (ref_ldAcc2 _ _) fun _ => ?_
  refine Ref.bind (ref_ldAcc2 _ _) fun _ => ?_
  exact ref_stAcc2 _ _ _

theorem ref_chunkBoth (mk j hj x) : Ref c R (chunkBoth (progOps (F := F) R) mk j hj x) (chunkBoth stOps mk j hj x) := by
  unfold chunkBoth
  refine Ref.bind (ref_probPiece _ _ _ _ _ _ _ _ _ ) fun _ => ?_
  refine Ref.bind (ref_scorePiece _ _ _ _ _ _ _ _ _ _ _ _ _ _ _ _ _ ) fun _ => ?_
  refine Ref.bind (ref_probPiece _ _ _ _ _ _ _ _ _ ) fun _ => ?_
  refine Ref.bind (ref_scorePiece _ _ _ _ _ _ _ _ _ _ _ _ _ _ _ _ _ ) fun _ => ?_
  refine Ref.bind (ref_probPiece _ _ _ _ _ _ _ _ _ ) fun _ => ?_
  refine Ref.bind (ref_scorePiece _ _ _ _ _ _ _ _ _ _ _ _ _ _ _ _ _ ) fun _ => ?_
  refine Ref.bind (ref_probPiece _ _ _ _ _ _ _ _ _ ) fun _ => ?_
  refine Ref.bind (ref_scorePiece _ _ _ _ _ _ _ _ _ _ _ _ _ _ _ _ _ ) fun _ => ?_
  refine Ref.bind (ref_accAdd _ _) fun _ => ?_
  exact Ref.pure _

theorem ref_chunkScore (mk j hj x) : Ref c R (chunkScore (progOps (F := F) R) mk j hj x) (chunkScore stOps mk j hj x) := by
  unfold chunkScore
  refine Ref.bind (ref_scorePiece _ _ _ _ _ _ _ _ _ _ _ _ _ _ _ _ _ ) fun _ => ?_
  refine Ref.bind (ref_scorePiece _ _ _ _ _ _ _ _ _ _ _ _ _ _ _ _ _ ) fun _ => ?_
  refine Ref.bind (ref_scorePiece _ _ _ _ _ _ _ _ _ _ _ _ _ _ _ _ _ ) fun _ => ?_
  refine Ref.bind (ref_scorePiece _ _ _ _ _ _ _ _ _ _ _ _ _ _ _ _ _ ) fun _ => ?_
  exact Ref.pure _

theorem ref_chunkProb (j hj x) : Ref c R (chunkProb (progOps (F := F) R) j hj x) (chunkProb stOps j hj x) := by
  unfold chunkProb
  refine Ref.bind (ref_probPiece _ _ _ _ _ _ _ _ _ ) fun _ => ?_
  refine Ref.bind (ref_probPiece _ _ _ _ _ _ _ _ _ ) fun _ => ?_
  refine Ref.bind (ref_probPiece _ _ _ _ _ _ _ _ _ ) fun _ => ?_
  refine Ref.bind (ref_probPiece _ _ _ _ _ _ _ _ _ ) fun _ => ?_
  refine Ref.bind (ref_accAdd _ _) fun _ => ?_
  exact Ref.pure _

theorem ref_quantHead (h hh k hc ksl q) : Ref c R (quantHead (progOps (F := F) R) h hh k hc ksl q) (quantHead stOps h hh k hc ksl q) := by
  unfold quantHead
  refine Ref.bind (ref_ldQt1 _ _) fun _ => ?_
  refine Ref.bind (ref_stQt1 _ _ _) fun _ => ?_
  refine Ref.bind (ref_ldQs _ _) fun _ => ?_
  refine Ref.bind (ref_stQs _ _ _) fun _ => ?_
  refine Ref.bind (ref_ldA _ _) fun _ => ?_
  exact ref_stA _ _ _

theorem ref_quantise  : Ref c R (quantise (progOps (F := F) R) ) (quantise stOps ) := by
  unfold quantise
  refine Ref.bind (ref_ldX) fun _ => ?_
  refine Ref.bind (ref_ldKsl) fun _ => ?_
  refine Ref.bind (ref_quantHead _ _ _ _ _ _) fun _ => ?_
  refine Ref.bind (ref_quantHead _ _ _ _ _ _) fun _ => ?_
  refine Ref.bind (ref_quantHead _ _ _ _ _ _) fun _ => ?_
  refine Ref.bind (ref_quantHead _ _ _ _ _ _) fun _ => ?_
  refine Ref.bind (ref_ldQc) fun _ => ?_
  exact ref_stQc _

theorem ref_finishPrev (s0 s1 s2 s3) : Ref c R (finishPrev (progOps (F := F) R) s0 s1 s2 s3) (finishPrev stOps s0 s1 s2 s3) := by
  unfold finishPrev
  refine Ref.bind (ref_ldAcc1 _ _) fun _ => ?_
  refine Ref.bind (ref_ldVs) fun _ => ?_
  refine Ref.bind (ref_ldAcc1 _ _) fun _ => ?_
  refine Ref.bind (ref_ldVs) fun _ => ?_
  refine Ref.bind (ref_ldAcc1 _ _) fun _ => ?_
  refine Ref.bind (ref_ldVs) fun _ => ?_
  refine Ref.bind (ref_ldAcc1 _ _) fun _ => ?_
  refine Ref.bind (ref_ldVs) fun _ => ?_
  refine Ref.bind (ref_ldOut) fun _ => ?_
  exact ref_stOut _

theorem ref_keepMax (k hc x) : Ref c R (keepMax (progOps (F := F) R) k hc x) (keepMax stOps k hc x) := by
  unfold keepMax
  refine Ref.bind (ref_ldM8 _ _) fun _ => ?_
  exact ref_stM8 _ _ _

theorem ref_scores (i h1) : Ref c R (scores (progOps (F := F) R) i h1) (scores stOps i h1) := by
  unfold scores
  refine Ref.bind (Ref.loop _ _ _ fun _ _ => ref_chunkBoth _ _ _ _) fun _ => ?_
  refine Ref.bind (Ref.loop _ _ _ fun _ _ => ref_chunkBoth _ _ _ _) fun _ => ?_
  split
  · refine Ref.bind (ref_chunkBoth _ _ _ _) fun _ => ?_
    exact Ref.pure _
  · refine Ref.bind (ref_chunkScore _ _ _ _) fun _ => ?_
    exact Ref.pure _

theorem ref_closing (i x0 x1 x2 x3 s0 s1 s2 s3) : Ref c R (closing (progOps (F := F) R) i x0 x1 x2 x3 s0 s1 s2 s3) (closing stOps i x0 x1 x2 x3 s0 s1 s2 s3) := by
  unfold closing
  split
  · refine Ref.bind (ref_finishPrev _ _ _ _) fun _ => ?_
    refine Ref.bind (ref_keepMax _ _ _) fun _ => ?_
    refine Ref.bind (ref_keepMax _ _ _) fun _ => ?_
    refine Ref.bind (ref_keepMax _ _ _) fun _ => ?_
    refine Ref.bind (ref_ldM8 _ _) fun _ => ?_
    exact Ref.pure _
  · refine Ref.bind (ref_keepMax _ _ _) fun _ => ?_
    refine Ref.bind (ref_keepMax _ _ _) fun _ => ?_
    refine Ref.bind (ref_keepMax _ _ _) fun _ => ?_
    refine Ref.bind (ref_ldM8 _ _) fun _ => ?_
    exact Ref.pure _

theorem ref_lastProbs (i h4) : Ref c R (lastProbs (progOps (F := F) R) i h4) (lastProbs stOps i h4) := by
  unfold lastProbs
  refine Ref.bind (Ref.loop _ _ _ fun _ _ => ref_chunkProb _ _ _) fun _ => ?_
  refine Ref.bind (Ref.loop _ _ _ fun _ _ => ref_chunkProb _ _ _) fun _ => ?_
  refine Ref.bind (ref_ldAcc1 _ _) fun _ => ?_
  refine Ref.bind (ref_ldVs) fun _ => ?_
  refine Ref.bind (ref_ldAcc1 _ _) fun _ => ?_
  refine Ref.bind (ref_ldVs) fun _ => ?_
  refine Ref.bind (ref_ldAcc1 _ _) fun _ => ?_
  refine Ref.bind (ref_ldVs) fun _ => ?_
  exact Ref.pure _

theorem ref_last (i : grid0.Coords) : Ref c R
    (if h4 : k0_cond4 i = 1#1 then (do
        let z ← lastProbs (progOps (F := F) R) i h4
        let a3 ← (progOps (F := F) R).ldAcc1 384 (by decide)
        let v3 ← (progOps (F := F) R).ldVs
        let _ ← (progOps (F := F) R).ldOut
        (progOps (F := F) R).stOut (shapeCast S1x128x640 (joined z.2.1 z.2.2.1 z.2.2.2 (normal a3 v3 z.1)) shapeCasts_S128x640_S1x128x640)) else pure ⟨⟩)
    (if h4 : k0_cond4 i = 1#1 then (do
        let z ← lastProbs stOps i h4
        let a3 ← stOps.ldAcc1 384 (by decide)
        let v3 ← stOps.ldVs
        let _ ← stOps.ldOut
        stOps.stOut (shapeCast S1x128x640 (joined z.2.1 z.2.2.1 z.2.2.2 (normal a3 v3 z.1)) shapeCasts_S128x640_S1x128x640)) else pure ⟨⟩) := by
  refine Ref.dite (fun _ => ?_) fun _ => Ref.pure _
  refine Ref.bind (ref_lastProbs _ _) fun _ => ?_
  refine Ref.bind (ref_ldAcc1 _ _) fun _ => ?_
  refine Ref.bind (ref_ldVs) fun _ => ?_
  refine Ref.bind (ref_ldOut) fun _ => ?_
  exact ref_stOut _

set_option maxHeartbeats 0 in
theorem ref_body (i : grid0.Coords) : Ref c R (body (progOps (F := F) R) i) (body stOps i) := by
  unfold body
  refine Ref.bind (ref_ldAcc) fun _ => ?_
  refine Ref.bind (ref_stAcc _) fun _ => ?_
  refine Ref.dite (fun _ => ?_) fun _ => ?_
  · refine Ref.bind ref_quantise fun _ => ?_
    refine Ref.bind (ref_scores _ _) fun _ => ?_
    refine Ref.bind (ref_closing _ _ _ _ _ _ _ _ _) fun _ => ?_
    refine Ref.bind (ref_stM8 _ _ _) fun _ => ?_
    exact ref_last i
  · exact ref_last i

/-- The printed body, by the state function. -/
theorem ref_attention (i : grid0.Coords) :
    Ref c R (cc0_attention (F := F) i R.x R.hx R.kp R.hkp R.vt R.hvt R.ksl R.hksl R.vs R.hvs R.out R.hout R.qc R.hqc R.qs R.hqs
      R.s R.hs R.qt R.hqt R.a R.ha R.m8 R.hm8 R.acc R.hacc) (body stOps i) := by
  rw [attention_eq]; exact ref_body i

end Cert.KernelIdeal.Hand
-- ==== Proof.Ideal.Track.lean ====
/-
  The launch of the attention call with what its buffers hold followed from point to point. Given a property `Inv` of the
  scratch buffers between points, and relations `aft` of what a point finds and leaves in the windows' staging buffers, the body's
  obligation is a statement about the state function alone (`Step`), and the run's end is the library's.
-/
module

public import proofs.«01_k».proof.Proof.Ideal.Refine
public import proofs.«01_k».proof.Proof.Gen.KernelIdeal.Frame
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- What a point finds and leaves in a window's staging buffer. -/
abbrev Aft (F : FTy → Type) : Type :=
  (w : Fin cfg0.W) → Fin cfg0.N → (Y X : (cfg0.win w).block.Idx → Elt F (cfg0.win w).elt) → Prop

/-- The operands of the body at point `t`. -/
def refsAt (t : Fin cfg0.N) : Refs where
  x := win0_0.stage (cfg0.slots t 0)
  hx := hstage0_0 ((cfg0.slots t 0).cast nbuf0_0)
  kp := win0_1.stage (cfg0.slots t 1)
  hkp := hstage0_1 ((cfg0.slots t 1).cast nbuf0_1)
  vt := win0_2.stage (cfg0.slots t 2)
  hvt := hstage0_2 ((cfg0.slots t 2).cast nbuf0_2)
  ksl := win0_3.stage (cfg0.slots t 3)
  hksl := hstage0_3 ((cfg0.slots t 3).cast nbuf0_3)
  vs := win0_4.stage (cfg0.slots t 4)
  hvs := hstage0_4 ((cfg0.slots t 4).cast nbuf0_4)
  out := win0_5.stage (cfg0.slots t 5)
  hout := hstage0_5 ((cfg0.slots t 5).cast nbuf0_5)
  qc := win0_6.stage (cfg0.slots t 6)
  hqc := hstage0_6 ((cfg0.slots t 6).cast nbuf0_6)
  qs := win0_7.stage (cfg0.slots t 7)
  hqs := hstage0_7 ((cfg0.slots t 7).cast nbuf0_7)
  s := Memref.whole cc0_scratch0
  hs := Memref.isWhole_whole _
  qt := Memref.whole cc0_scratch1
  hqt := Memref.isWhole_whole _
  a := Memref.whole cc0_scratch2
  ha := Memref.isWhole_whole _
  m8 := Memref.whole cc0_scratch3
  hm8 := Memref.isWhole_whole _
  acc := Memref.whole cc0_scratch4
  hacc := Memref.isWhole_whole _

/-- The scratch of `st` with the staging buffers at `Y`. -/
def atPoint (st : St F) (Y : (w : Fin cfg0.W) → (cfg0.win w).block.Idx → Elt F (cfg0.win w).elt) : St F :=
  { st with x := Y 0, kp := Y 1, vt := Y 2, ksl := Y 3, vs := Y 4, out := Y 5, qc := Y 6, qs := Y 7 }

/-- The scratch buffers owned at those of `st`. -/
def ownScr (c : Dev nD) (st : St F) : sProp 𝕄 :=
  iprop(own1 c (Memref.whole cc0_scratch0) st.s ∗ own1 c (Memref.whole cc0_scratch1) st.qt ∗ own1 c (Memref.whole cc0_scratch2) st.a
    ∗ own1 c (Memref.whole cc0_scratch3) st.m8 ∗ own1 c (Memref.whole cc0_scratch4) st.acc)

/-- The proof data: the arrays as the region finds them, the relations, the scratch in `Inv`. -/
def rdat (aft : Dev nD → Aft F) (Inv : Dev nD → Fin (cfg0.N + 1) → St F → Prop) (c : Dev nD) :
    RDat τ (Elt F) Unit ℕ (UR sig nD τ) ℕ cfg0 c where
  A w := V m c (Pipeline.arrRef spec0 w)
  after := aft c
  Φ t := iprop((∃ st, ⌜Inv c t st⌝ ∗ ownScr c st) ∗ ∃ r, prngReg c r)
  q _ := fullShare
  owed _ := 0

/-- What one point has to do: from staging buffers that may be found there and a scratch in the property, the body
    leaves the staging buffers in the relations and the scratch in the property of the next point. -/
def Step (aft : Dev nD → Aft F) (Inv : Dev nD → Fin (cfg0.N + 1) → St F → Prop) (c : Dev nD) : Prop :=
  ∀ (t : Fin cfg0.N) (st : St F) (Y : (w : Fin cfg0.W) → (cfg0.win w).block.Idx → Elt F (cfg0.win w).elt),
    (∀ w, (rdat m aft Inv c).Finds w t (Y w)) → Inv c t.castSucc st →
    let st' := (body stOps (grid0.coords t) (atPoint st Y)).2
    Inv c t.succ st' ∧ aft c 0 t (Y 0) st'.x ∧ aft c 1 t (Y 1) st'.kp ∧ aft c 2 t (Y 2) st'.vt ∧ aft c 3 t (Y 3) st'.ksl
      ∧ aft c 4 t (Y 4) st'.vs ∧ aft c 5 t (Y 5) st'.out ∧ aft c 6 t (Y 6) st'.qc ∧ aft c 7 t (Y 7) st'.qs

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

variable {m}

theorem obligation {aft : Dev nD → Aft F} {Inv : Dev nD → Fin (cfg0.N + 1) → St F → Prop} {c : Dev nD} (h : Step m aft Inv c) :
    (rdat m aft Inv c).BodyObligation (defs₀ (F := F)) Variants.none () Set.univ := by
  intro t Y hY
  rw [bigSep_W0, bigSep_W0, defs₀_row]
  have hb := fun st => ref_attention (F := F) (c := c) (R := refsAt t) (grid0.coords t) (atPoint st Y)
  show iprop(((∃ st, ⌜Inv c t.castSucc st⌝ ∗ ownScr c st) ∗ ∃ r, prngReg c r) ∗ (rdat m aft Inv c).owesAt () t.castSucc
      ∗ own1 c (refsAt t).x (Y 0) ∗ own1 c (refsAt t).kp (Y 1) ∗ own1 c (refsAt t).vt (Y 2) ∗ own1 c (refsAt t).ksl (Y 3)
      ∗ own1 c (refsAt t).vs (Y 4) ∗ own1 c (refsAt t).out (Y 5) ∗ own1 c (refsAt t).qc (Y 6) ∗ own1 c (refsAt t).qs (Y 7))
    ⊢ wp frame (wpE (defs₀ (F := F)) Variants.none (c : Thread nD τ) none) Set.univ (bodyAt0 t) fun _ =>
      iprop(((∃ st, ⌜Inv c t.succ st⌝ ∗ ownScr c st) ∗ ∃ r, prngReg c r) ∗ (rdat m aft Inv c).owesAt () t.succ
      ∗ (∃ X, ⌜aft c 0 t (Y 0) X⌝ ∗ own1 c (refsAt t).x X) ∗ (∃ X, ⌜aft c 1 t (Y 1) X⌝ ∗ own1 c (refsAt t).kp X)
      ∗ (∃ X, ⌜aft c 2 t (Y 2) X⌝ ∗ own1 c (refsAt t).vt X) ∗ (∃ X, ⌜aft c 3 t (Y 3) X⌝ ∗ own1 c (refsAt t).ksl X)
      ∗ (∃ X, ⌜aft c 4 t (Y 4) X⌝ ∗ own1 c (refsAt t).vs X) ∗ (∃ X, ⌜aft c 5 t (Y 5) X⌝ ∗ own1 c (refsAt t).out X)
      ∗ (∃ X, ⌜aft c 6 t (Y 6) X⌝ ∗ own1 c (refsAt t).qc X) ∗ (∃ X, ⌜aft c 7 t (Y 7) X⌝ ∗ own1 c (refsAt t).qs X))
  iintro ⟨⟨⟨%st, %hI, HS⟩, HP⟩, HO, H0, H1, H2, H3, H4, H5, H6, H7⟩
  obtain ⟨g, g0, g1, g2, g3, g4, g5, g6, g7⟩ := h t st Y hY hI
  iapply (hb st _)
  isplitl [HS H0 H1 H2 H3 H4 H5 H6 H7]
  · unfold own ownScr
    icases HS with ⟨HS0, HS1, HS2, HS3, HS4⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    iexact HS4
  generalize body stOps (grid0.coords t) (atPoint st Y) = r at *
  unfold own
  iintro ⟨H0, H1, H2, H3, H4, H5, H6, H7, HS0, HS1, HS2, HS3, HS4⟩
  isplitl [HP HS0 HS1 HS2 HS3 HS4]
  · isplitl [HS0 HS1 HS2 HS3 HS4]
    · iexists r.2
      isplitr; · ipureintro; exact g
      unfold ownScr
      isplitl [HS0]; · iexact HS0
      isplitl [HS1]; · iexact HS1
      isplitl [HS2]; · iexact HS2
      isplitl [HS3]; · iexact HS3
      iexact HS4
    · iexact HP
  isplitl [HO]
  · iapply (Pipeline.owesWithin_mono c 0 (B := (rdat m aft Inv c).bound () t.castSucc) (B' := (rdat m aft Inv c).bound () t.succ) fun _ _ => Or.inl trivial)
    iexact HO
  isplitl [H0]; · iexists _; isplitr; swap; (· iexact H0); ipureintro; exact g0
  isplitl [H1]; · iexists _; isplitr; swap; (· iexact H1); ipureintro; exact g1
  isplitl [H2]; · iexists _; isplitr; swap; (· iexact H2); ipureintro; exact g2
  isplitl [H3]; · iexists _; isplitr; swap; (· iexact H3); ipureintro; exact g3
  isplitl [H4]; · iexists _; isplitr; swap; (· iexact H4); ipureintro; exact g4
  isplitl [H5]; · iexists _; isplitr; swap; (· iexact H5); ipureintro; exact g5
  isplitl [H6]; · iexists _; isplitr; swap; (· iexact H6); ipureintro; exact g6
  iexists _; isplitr; swap; (· iexact H7); ipureintro; exact g7

variable (m)

/-- Scratch at any contents, before the first point: the property must hold of anything there; -/
theorem scr_in {aft : Dev nD → Aft F} {Inv : Dev nD → Fin (cfg0.N + 1) → St F → Prop} (c : Dev nD) (h0 : ∀ st, Inv c 0 st) :
    Pipeline.ΦA spec0 c ⊢ (rdat m aft Inv c).Φ 0 := by
  show _ ⊢ iprop((∃ st, ⌜Inv c 0 st⌝ ∗ ownScr c st) ∗ ∃ r, prngReg c r)
  unfold Pipeline.ΦA ownScr own1
  rw [scopedRest0_eq]
  simp only [owns_whole]
  iintro ⟨⟨⟨%f0, H0⟩, ⟨%f1, H1⟩, ⟨%f2, H2⟩, ⟨%f3, H3⟩, ⟨%f4, H4⟩⟩, HP⟩
  isplitl [H0 H1 H2 H3 H4]
  · iexists (⟨fun _ => Classical.arbitrary _, fun _ => Classical.arbitrary _, fun _ => Classical.arbitrary _, fun _ => Classical.arbitrary _,
      fun _ => Classical.arbitrary _, fun _ => Classical.arbitrary _, fun _ => Classical.arbitrary _, fun _ => Classical.arbitrary _,
      f0, f1, f2, f3, f4⟩ : St F)
    isplitr; · ipureintro; exact h0 _
    isplitl [H0]; · iexact H0
    isplitl [H1]; · iexact H1
    isplitl [H2]; · iexact H2
    isplitl [H3]; · iexact H3
    iexact H4
  · iexact HP

/-- and forgotten after the last. -/
theorem scr_out {aft : Dev nD → Aft F} {Inv : Dev nD → Fin (cfg0.N + 1) → St F → Prop} (c : Dev nD) :
    (rdat m aft Inv c).Φ (Fin.last cfg0.N) ⊢ Pipeline.ΦA spec0 c := by
  show iprop((∃ st, ⌜Inv c (Fin.last cfg0.N) st⌝ ∗ ownScr c st) ∗ ∃ r, prngReg c r) ⊢ _
  unfold Pipeline.ΦA ownScr own1
  rw [scopedRest0_eq]
  simp only [owns_whole]
  iintro ⟨⟨%st, -, H0, H1, H2, H3, H4⟩, HP⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  · iexact HP

set_option backward.isDefEq.respectTransparency.types false in
/-- The run: every execution ends, the arrays as the relations say, every other buffer as the region found it, every
    counter at zero. -/
theorem run_main {aft : Dev nD → Aft F} {Inv : Dev nD → Fin (cfg0.N + 1) → St F → Prop} (h0 : ∀ c st, Inv c 0 st)
    (h : ∀ c, Step m aft Inv c) :
    θ_run defs (onTc (τ := τ) (main (F := F))) (s₀ m ρ)
      (fun r => RDat.FramePost (cfgs 0) (rdat m aft Inv) (V m) r ∧ r.2.sem = fun _ => 0) :=
  RDat.θ_run_frame_track (Q' := _) cfgs (0 : Fin 1) launch0 defs₀ Variants.none (rdat m aft Inv) m ρ main
    (hbody := fun c => obligation (h c)) (hshare := fun c w => by unfold RDat.share; exact ite_self _) (howed := fun _ _ => rfl)
    (V := V m) (hmain := hmain m Variants.none) (hA := fun _ _ => rfl)
    (hin := fun c => scr_in m c (h0 c)) (hout := fun c => scr_out m c)

/-- The arguments after such a run. -/
theorem args_of {aft : Dev nD → Aft F} {Inv : Dev nD → Fin (cfg0.N + 1) → St F → Prop} {r : PUnit × MemSt nD τ sig (Elt F)}
    (h : RDat.FramePost (cfgs 0) (rdat m aft Inv) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.arr_in c 0 rfl).trans (V_main_arg0 m c), (h.arr_in c 1 rfl).trans (V_main_arg1 m c), (h.arr_in c 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame alone: nothing said of the results. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => args_of m h.1 c, h.2⟩)
    (run_main m ρ (aft := fun _ _ _ _ _ => True) (Inv := fun _ _ _ => True) (fun _ _ => trivial)
      fun _ _ _ _ _ _ => ⟨trivial, trivial, trivial, trivial, trivial, trivial, trivial, trivial, trivial⟩)

end Cert.KernelIdeal.Hand
-- ==== Proof.Ideal.Geo.lean ====
/-
  The blocks of the attention call's windows: the block of each at a point of the grid, and the points at which blocks are
  fetched and written back. Point `t` is point `t % 121` of head group `t / 121`.
-/
module

public import proofs.«01_k».proof.Proof.Gen.KernelIdeal
public import proofs.«01_k».proof.Proof.Ideal.Cells
public import Idealize.ShloMosaic.Lib.Pipeline.ValueKit
public import Idealize.ShloMosaic.Lib.Decide

@[expose] public section

noncomputable section

namespace Cert.KernelIdeal.Hand

open Cert.KernelIdeal Cert.KernelIdeal.Gen
open Idealize.ShloMosaic

theorem coords_1 : ∀ t : Fin grid0.N, (grid0.coords t 1).val = t.val % 121 := by decide +kernel

/-- The batch of a point. -/
abbrev bat (t : ℕ) : ℕ := t / 121 / 8
/-- The key/value head of a point. -/
abbrev kvh (t : ℕ) : ℕ := t / 121 % 8

theorem index_0 : ∀ t : Fin grid0.N, win0_0.index t = ![bat t.val, min (t.val % 121) 119, kvh t.val] := by decide +kernel
theorem index_1 : ∀ t : Fin grid0.N, win0_1.index t = ![bat t.val, kvh t.val, 0, 0] := by decide +kernel
theorem index_2 : ∀ t : Fin grid0.N, win0_2.index t = ![bat t.val, kvh t.val, 0, 0] := by decide +kernel
theorem index_3 : ∀ t : Fin grid0.N, win0_3.index t = ![bat t.val, kvh t.val, 0, 0] := by decide +kernel
theorem index_4 : ∀ t : Fin grid0.N, win0_4.index t = ![bat t.val, kvh t.val, 0, 0] := by decide +kernel
theorem index_5 : ∀ t : Fin grid0.N, win0_5.index t = ![bat t.val, t.val % 121 - 1, kvh t.val] := by decide +kernel
theorem index_6 : ∀ t : Fin grid0.N, win0_6.index t = ![bat t.val, min (t.val % 121) 119, kvh t.val] := by decide +kernel
theorem index_7 : ∀ t : Fin grid0.N, win0_7.index t = ![t.val / 121, min (t.val % 121) 119, 0, 0] := by decide +kernel

theorem fetch_0 : ∀ t : Fin grid0.N, win0_0.fetch t = true ↔ t.val % 121 ≠ 120 := by decide +kernel
theorem flush_5 : ∀ t : Fin grid0.N, win0_5.flush t = true ↔ t.val % 121 ≠ 0 := by decide +kernel
theorem flush_6 : ∀ t : Fin grid0.N, win0_6.flush t = true ↔ t.val % 121 ≠ 119 := by decide +kernel
theorem flush_7 : ∀ t : Fin grid0.N, win0_7.flush t = true ↔ t.val % 121 ≠ 119 := by decide +kernel
theorem noflush_0 : ∀ t : Fin grid0.N, win0_0.flush t = false := by decide +kernel
theorem noflush_1 : ∀ t : Fin grid0.N, win0_1.flush t = false := by decide +kernel
theorem noflush_2 : ∀ t : Fin grid0.N, win0_2.flush t = false := by decide +kernel
theorem noflush_3 : ∀ t : Fin grid0.N, win0_3.flush t = false := by decide +kernel
theorem noflush_4 : ∀ t : Fin grid0.N, win0_4.flush t = false := by decide +kernel

theorem covers_5 : win0_5.Covers := by decide +kernel
theorem covers_6 : win0_6.Covers := by decide +kernel
theorem covers_7 : win0_7.Covers := by decide +kernel

theorem lt_N (t : Fin grid0.N) : t.val < 1936 := t.isLt

theorem emb_0 (t : Fin grid0.N) (y : win0_0.block.Idx) :
    ((win0_0.blk t).view.emb y : S2x15360x5120.Idx) = ix3
      ⟨bat t.val, by have := lt_N t; unfold bat; omega⟩ ⟨128 * (min (t.val % 121) 119) + (y 1).val, by have : (y 1).val < 128 := (y 1).isLt; omega⟩ ⟨640 * kvh t.val + (y 2).val, by have : (y 2).val < 640 := (y 2).isLt; unfold kvh; omega⟩ := by
  blk_ext [index_0]

theorem emb_6 (t : Fin grid0.N) (y : win0_6.block.Idx) :
    ((win0_6.blk t).view.emb y : S2x15360x5120.Idx) = ix3
      ⟨bat t.val, by have := lt_N t; unfold bat; omega⟩ ⟨128 * (min (t.val % 121) 119) + (y 1).val, by have : (y 1).val < 128 := (y 1).isLt; omega⟩ ⟨640 * kvh t.val + (y 2).val, by have : (y 2).val < 640 := (y 2).isLt; unfold kvh; omega⟩ := by
  blk_ext [index_6]

theorem emb_5 (t : Fin grid0.N) (y : win0_5.block.Idx) :
    ((win0_5.blk t).view.emb y : S2x15360x5120.Idx) = ix3
      ⟨bat t.val, by have := lt_N t; unfold bat; omega⟩ ⟨128 * (t.val % 121 - 1) + (y 1).val, by have : (y 1).val < 128 := (y 1).isLt; omega⟩ ⟨640 * kvh t.val + (y 2).val, by have : (y 2).val < 640 := (y 2).isLt; unfold kvh; omega⟩ := by
  blk_ext [index_5]

theorem emb_1 (t : Fin grid0.N) (y : win0_1.block.Idx) :
    ((win0_1.blk t).view.emb y : S2x8x15360x256.Idx) = ix4
      ⟨bat t.val, by have := lt_N t; unfold bat; omega⟩ ⟨kvh t.val, by unfold kvh; omega⟩ ⟨(y 2).val, (y 2).isLt⟩ ⟨(y 3).val, (y 3).isLt⟩ := by
  blk_ext [index_1]

theorem emb_2 (t : Fin grid0.N) (y : win0_2.block.Idx) :
    ((win0_2.blk t).view.emb y : S2x8x160x15360.Idx) = ix4
      ⟨bat t.val, by have := lt_N t; unfold bat; omega⟩ ⟨kvh t.val, by unfold kvh; omega⟩ ⟨(y 2).val, (y 2).isLt⟩ ⟨(y 3).val, (y 3).isLt⟩ := by
  blk_ext [index_2]

theorem emb_3 (t : Fin grid0.N) (y : win0_3.block.Idx) :
    ((win0_3.blk t).view.emb y : S2x8x240x128.Idx) = ix4
      ⟨bat t.val, by have := lt_N t; unfold bat; omega⟩ ⟨kvh t.val, by unfold kvh; omega⟩ ⟨(y 2).val, (y 2).isLt⟩ ⟨(y 3).val, (y 3).isLt⟩ := by
  blk_ext [index_3]

theorem emb_4 (t : Fin grid0.N) (y : win0_4.block.Idx) :
    ((win0_4.blk t).view.emb y : S2x8x160x128.Idx) = ix4
      ⟨bat t.val, by have := lt_N t; unfold bat; omega⟩ ⟨kvh t.val, by unfold kvh; omega⟩ ⟨(y 2).val, (y 2).isLt⟩ ⟨(y 3).val, (y 3).isLt⟩ := by
  blk_ext [index_4]

theorem emb_7 (t : Fin grid0.N) (y : win0_7.block.Idx) :
    ((win0_7.blk t).view.emb y : S16x120x4x128.Idx) = ix4
      ⟨t.val / 121, by have := lt_N t; omega⟩ ⟨min (t.val % 121) 119, by omega⟩ ⟨(y 2).val, (y 2).isLt⟩ ⟨(y 3).val, (y 3).isLt⟩ := by
  blk_ext [index_7]

end Cert.KernelIdeal.Hand
-- ==== Proof.Ideal.Whole.lean ====
/-
  The arrays after a run of the attention call: output, codes and scales, by cells of the arrays it reads.
-/
module

public import proofs.«01_k».proof.Proof.Ideal.Track
public import proofs.«01_k».proof.Proof.Ideal.Attend
public import proofs.«01_k».proof.Proof.Ideal.Geo
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (RDat)

variable (m : (ℓ : Loc nD τ sig) → Buf (Elt Ideal) ℓ) (ρ : Dev nD → PrngReg)

/-- The queries, -/
abbrev X0 (c : Dev nD) : S2x15360x5120.Idx → EReal := V m c main_arg0
/-- the key codes, -/
abbrev K0 (c : Dev nD) : S2x8x15360x256.Idx → EReal := V m c main_arg1
/-- the value codes, -/
abbrev VT0 (c : Dev nD) : S2x8x160x15360.Idx → EReal := V m c main_arg2
/-- the key scales and the value scales as the call finds them. -/
abbrev KS0 (c : Dev nD) : S2x8x240x128.Idx → EReal := V m c main_v1
abbrev VS0 (c : Dev nD) : S2x8x160x128.Idx → EReal := V m c main_v3

/-- The output's cell: from the keys of the chunks up to the query's. -/
def outK (c : Dev nD) (b q l : ℕ) : EReal := attn (X0 m c) (K0 m c) (VT0 m c) (KS0 m c) (VS0 m c) (512 * ((q / 128 + 4) / 4)) b q l

/-- What a point leaves for the output: the block before's. -/
def outAt (c : Dev nD) (t : ℕ) (X : S1x128x640.Idx → EReal) : Prop :=
  t % 121 ≠ 0 → ∀ r < 128, ∀ l < 640, at3 X 0 r l = outK m c (bat t) (128 * (t % 121 - 1) + r) (640 * kvh t + l)
/-- What a point leaves for the codes: its own block's, and at a head's last point still the block's before; -/
def codesAt (c : Dev nD) (t : ℕ) (X : S1x128x640.Idx → EReal) : Prop :=
  ∀ r < 128, ∀ l < 640, at3 X 0 r l = code (X0 m c) (bat t) (128 * min (t % 121) 119 + r) (640 * kvh t + l)
/-- and for the scales. -/
def scalesAt (c : Dev nD) (t : ℕ) (X : S1x1x4x128.Idx → EReal) : Prop :=
  ∀ h < 4, ∀ l < 128, at4 X 0 0 h l = scaleC (tq (X0 m c) (bat t) (min (t % 121) 119) (4 * kvh t + h))

/-- What a point leaves in the staging buffers. -/
def aft (c : Dev nD) : Aft Ideal := fun w => match w with
  | ⟨1, _⟩ => fun _ Y X => X = Y
  | ⟨2, _⟩ => fun _ Y X => X = Y
  | ⟨3, _⟩ => fun _ Y X => X = Y
  | ⟨4, _⟩ => fun _ Y X => X = Y
  | ⟨5, _⟩ => fun t _ X => outAt m c t.val X
  | ⟨6, _⟩ => fun t _ X => codesAt m c t.val X
  | ⟨7, _⟩ => fun t _ X => scalesAt m c t.val X
  | _ => fun _ _ _ => True

/-- The scratch between points: after a point that makes scores, that block's. -/
def inv (c : Dev nD) (t : Fin (cfg0.N + 1)) (st : St Ideal) : Prop :=
  t.val % 121 ≠ 0 → Left st (X0 m c) (K0 m c) (KS0 m c) (bat t.val) (t.val % 121 - 1) (kvh t.val)

/-- A window of one block a head, which the body leaves alone, is found as the head's first point fetched it. -/
theorem found_first (c : Dev nD) (w : Fin cfg0.W) (hfe : ∀ t, (cfg0.win w).fetch t = true ↔ t.val % 121 = 0)
    (hfl : ∀ t, (cfg0.win w).flush t = false) (hA : ∀ t Y X, aft m c w t Y X → X = Y) :
    ∀ (n : ℕ) (t : Fin cfg0.N) (Y), t.val = n → (rdat m (aft m) (inv m) c).Finds w t Y →
      ∃ t₀ : Fin cfg0.N, t₀.val / 121 = t.val / 121 ∧ (cfg0.win w).fetch t₀ = true ∧ (rdat m (aft m) (inv m) c).Finds w t₀ Y := by
  intro n
  induction n with
  | zero => intro t Y ht h; exact ⟨t, rfl, (hfe t).2 (by rw [ht]), h⟩
  | succ n ih =>
    intro t Y ht h
    by_cases h0 : t.val % 121 = 0
    · exact ⟨t, rfl, (hfe t).2 h0, h⟩
    · have hf : (cfg0.win w).fetch t = false := by
        rw [← Bool.not_eq_true, hfe]; exact h0
      obtain g | ⟨Z, hZ, g⟩ := (RDat.finds_of_pos (rdat m (aft m) (inv m) c) (w := w) (t := t) hf (by omega) Y).1 h
      · rw [hfl] at g; exact absurd g (by decide)
      · have e : Y = Z := hA _ _ _ g
        obtain ⟨t₀, h1, h2, h3⟩ := ih _ Z (by show t.val - 1 = n; omega) hZ
        refine ⟨t₀, h1.trans ?_, h2, e ▸ h3⟩
        show (t.val - 1) / 121 = t.val / 121
        omega

theorem found_x (c : Dev nD) (t : Fin cfg0.N) (ht : t.val % 121 ≠ 120) {Y : S1x128x640.Idx → EReal}
    (h : (rdat m (aft m) (inv m) c).Finds 0 t Y) :
    ∀ r < 128, ∀ l < 640, at3 Y 0 r l = at3 (X0 m c) (bat t.val) (128 * min (t.val % 121) 119 + r) (640 * kvh t.val + l) := by
  obtain ⟨d, e⟩ := (RDat.finds_of_fetch (rdat m (aft m) (inv m) c) (w := 0) (t := t) ((fetch_0 t).2 ht) Y).1 h
  have e' : Y = fun y => X0 m c ((win0_0.blk t).view.emb y) := e
  intro r hr l hl
  have := lt_N t
  rw [at3_of Y (by omega : 0 < 1) hr hl, e',
    at3_of _ (by unfold bat; omega : bat t.val < 2) (by omega) (by unfold kvh; omega : 640 * kvh t.val + l < 5120)]
  exact congrArg (X0 m c) (emb_0 t _)

/-- At a head's last point the codes found are those left at the point before. -/
theorem found_6 (c : Dev nD) (t : Fin cfg0.N) (ht : t.val % 121 = 120) {Y : S1x128x640.Idx → EReal}
    (h : (rdat m (aft m) (inv m) c).Finds 6 t Y) : codesAt m c t.val Y := by
  have := lt_N t
  have hf : win0_6.fetch t = false := rfl
  have hn : ¬ win0_6.flush ⟨t.val - 1, Nat.lt_of_le_of_lt (Nat.sub_le _ _) t.isLt⟩ = true := fun h => (flush_6 _).1 h (by show (t.val - 1) % 121 = 119; omega)
  obtain h | ⟨Z, -, h⟩ := (RDat.finds_of_pos (rdat m (aft m) (inv m) c) (w := 6) (t := t) (by rw [show (cfg0.win 6).fetch t = false from hf]) (by omega) Y).1 h
  · exact absurd h hn
  · have h : codesAt m c (t.val - 1) Y := h
    unfold codesAt bat kvh at h ⊢
    rw [show (t.val - 1) / 121 = t.val / 121 by omega, show min ((t.val - 1) % 121) 119 = min (t.val % 121) 119 by omega] at h
    exact h

theorem found_7 (c : Dev nD) (t : Fin cfg0.N) (ht : t.val % 121 = 120) {Y : S1x1x4x128.Idx → EReal}
    (h : (rdat m (aft m) (inv m) c).Finds 7 t Y) : scalesAt m c t.val Y := by
  have := lt_N t
  have hf : win0_7.fetch t = false := rfl
  have hn : ¬ win0_7.flush ⟨t.val - 1, Nat.lt_of_le_of_lt (Nat.sub_le _ _) t.isLt⟩ = true := fun h => (flush_7 _).1 h (by show (t.val - 1) % 121 = 119; omega)
  obtain h | ⟨Z, -, h⟩ := (RDat.finds_of_pos (rdat m (aft m) (inv m) c) (w := 7) (t := t) (by rw [show (cfg0.win 7).fetch t = false from hf]) (by omega) Y).1 h
  · exact absurd h hn
  · have h : scalesAt m c (t.val - 1) Y := h
    unfold scalesAt bat kvh at h ⊢
    rw [show (t.val - 1) / 121 = t.val / 121 by omega, show min ((t.val - 1) % 121) 119 = min (t.val % 121) 119 by omega] at h
    exact h

theorem found_1 (c : Dev nD) (t : Fin cfg0.N) {Y : S1x1x15360x256.Idx → EReal} (h : (rdat m (aft m) (inv m) c).Finds 1 t Y) :
    ∀ r < 15360, ∀ l < 256, at4 Y 0 0 r l = at4 (K0 m c) (bat t.val) (kvh t.val) r l := by
  obtain ⟨t₀, e0, hf, h⟩ := found_first m c 1 fetch0_1 noflush_1 (fun _ _ _ h => h) t.val t Y rfl h
  obtain ⟨d, e⟩ := (RDat.finds_of_fetch (rdat m (aft m) (inv m) c) (w := 1) (t := t₀) hf Y).1 h
  have e' : Y = fun y => K0 m c ((win0_1.blk t₀).view.emb y) := e
  intro r hr l hl
  have := lt_N t
  unfold bat kvh
  rw [← e0]
  have := lt_N t₀
  rw [at4_of Y (by omega : 0 < 1) (by omega : 0 < 1) hr hl, e', at4_of _ (by omega : t₀.val / 121 / 8 < 2) (by omega : t₀.val / 121 % 8 < 8) hr hl]
  exact congrArg (K0 m c) (emb_1 t₀ _)

theorem found_2 (c : Dev nD) (t : Fin cfg0.N) {Y : S1x1x160x15360.Idx → EReal} (h : (rdat m (aft m) (inv m) c).Finds 2 t Y) :
    ∀ r < 160, ∀ l < 15360, at4 Y 0 0 r l = at4 (VT0 m c) (bat t.val) (kvh t.val) r l := by
  obtain ⟨t₀, e0, hf, h⟩ := found_first m c 2 fetch0_2 noflush_2 (fun _ _ _ h => h) t.val t Y rfl h
  obtain ⟨d, e⟩ := (RDat.finds_of_fetch (rdat m (aft m) (inv m) c) (w := 2) (t := t₀) hf Y).1 h
  have e' : Y = fun y => VT0 m c ((win0_2.blk t₀).view.emb y) := e
  intro r hr l hl
  have := lt_N t
  unfold bat kvh
  rw [← e0]
  have := lt_N t₀
  rw [at4_of Y (by omega : 0 < 1) (by omega : 0 < 1) hr hl, e', at4_of _ (by omega : t₀.val / 121 / 8 < 2) (by omega : t₀.val / 121 % 8 < 8) hr hl]
  exact congrArg (VT0 m c) (emb_2 t₀ _)

theorem found_3 (c : Dev nD) (t : Fin cfg0.N) {Y : S1x1x240x128.Idx → EReal} (h : (rdat m (aft m) (inv m) c).Finds 3 t Y) :
    ∀ r < 240, ∀ l < 128, at4 Y 0 0 r l = at4 (KS0 m c) (bat t.val) (kvh t.val) r l := by
  obtain ⟨t₀, e0, hf, h⟩ := found_first m c 3 fetch0_3 noflush_3 (fun _ _ _ h => h) t.val t Y rfl h
  obtain ⟨d, e⟩ := (RDat.finds_of_fetch (rdat m (aft m) (inv m) c) (w := 3) (t := t₀) hf Y).1 h
  have e' : Y = fun y => KS0 m c ((win0_3.blk t₀).view.emb y) := e
  intro r hr l hl
  have := lt_N t
  unfold bat kvh
  rw [← e0]
  have := lt_N t₀
  rw [at4_of Y (by omega : 0 < 1) (by omega : 0 < 1) hr hl, e', at4_of _ (by omega : t₀.val / 121 / 8 < 2) (by omega : t₀.val / 121 % 8 < 8) hr hl]
  exact congrArg (KS0 m c) (emb_3 t₀ _)

theorem found_4 (c : Dev nD) (t : Fin cfg0.N) {Y : S1x1x160x128.Idx → EReal} (h : (rdat m (aft m) (inv m) c).Finds 4 t Y) :
    ∀ r < 160, ∀ l < 128, at4 Y 0 0 r l = at4 (VS0 m c) (bat t.val) (kvh t.val) r l := by
  obtain ⟨t₀, e0, hf, h⟩ := found_first m c 4 fetch0_4 noflush_4 (fun _ _ _ h => h) t.val t Y rfl h
  obtain ⟨d, e⟩ := (RDat.finds_of_fetch (rdat m (aft m) (inv m) c) (w := 4) (t := t₀) hf Y).1 h
  have e' : Y = fun y => VS0 m c ((win0_4.blk t₀).view.emb y) := e
  intro r hr l hl
  have := lt_N t
  unfold bat kvh
  rw [← e0]
  have := lt_N t₀
  rw [at4_of Y (by omega : 0 < 1) (by omega : 0 < 1) hr hl, e', at4_of _ (by omega : t₀.val / 121 / 8 < 2) (by omega : t₀.val / 121 % 8 < 8) hr hl]
  exact congrArg (VS0 m c) (emb_4 t₀ _)

theorem step (c : Dev nD) : Step m (aft m) (inv m) c := by
  intro t st Y hY hI
  have hc := coords_1 t
  have hN := lt_N t
  have hv := found_2 m c t (hY 2)
  have hs := found_4 m c t (hY 4)
  suffices H : inv m c t.succ (body stOps (grid0.coords t) (atPoint st Y)).2 ∧ (body stOps (grid0.coords t) (atPoint st Y)).2.kp = Y 1
      ∧ (body stOps (grid0.coords t) (atPoint st Y)).2.vt = Y 2 ∧ (body stOps (grid0.coords t) (atPoint st Y)).2.ksl = Y 3
      ∧ (body stOps (grid0.coords t) (atPoint st Y)).2.vs = Y 4 ∧ outAt m c t.val (body stOps (grid0.coords t) (atPoint st Y)).2.out
      ∧ codesAt m c t.val (body stOps (grid0.coords t) (atPoint st Y)).2.qc ∧ scalesAt m c t.val (body stOps (grid0.coords t) (atPoint st Y)).2.qs from
    ⟨H.1, trivial, H.2.1, H.2.2.1, H.2.2.2.1, H.2.2.2.2.1, H.2.2.2.2.2.1, H.2.2.2.2.2.2.1, H.2.2.2.2.2.2.2⟩
  have hL : t.val % 121 ≠ 0 → Left (atPoint st Y) (X0 m c) (K0 m c) (KS0 m c) (bat t.val) (t.val % 121 - 1) (kvh t.val) := fun h =>
    ⟨(hI h).s, (hI h).m8⟩
  have hO : t.val % 121 ≠ 0 → ∀ r < 128, ∀ l < 640, outF (atPoint st Y) (512 * ((t.val % 121 - 1 + 4) / 4)) r l
      = outK m c (bat t.val) (128 * (t.val % 121 - 1) + r) (640 * kvh t.val + l) := by
    intro h r hr l hl
    unfold outK
    rw [show (128 * (t.val % 121 - 1) + r) / 128 = t.val % 121 - 1 by omega]
    exact outF_eq (atPoint st Y) (X0 m c) (K0 m c) (VT0 m c) (KS0 m c) (VS0 m c) (bat t.val) (t.val % 121 - 1) (kvh t.val) (by omega) (hL h) hv hs hr hl
  by_cases h : t.val % 121 = 120
  · have P : PointHi (atPoint st Y) (body stOps (grid0.coords t) (atPoint st Y)).2 := point_hi (grid0.coords t) (by omega) (atPoint st Y)
    refine ⟨fun h' => absurd (show (t.val + 1) % 121 = 0 by omega) h', P.kp, P.vt, P.ksl, P.vs, fun _ r hr l hl => ?_, ?_, ?_⟩
    · rw [P.out r hr l hl, ← hO (by omega) r hr l hl, h]
    · rw [P.qc]; exact found_6 m c t h (hY 6)
    · rw [P.qs]; exact found_7 m c t h (hY 7)
  · obtain ⟨b, Q, P⟩ : ∃ b, Quantised { atPoint st Y with acc := zacc (atPoint st Y).acc } b ∧ PointLo (grid0.coords t 1).val (atPoint st Y) b (body stOps (grid0.coords t) (atPoint st Y)).2 :=
      point_lo (grid0.coords t) (by omega) (atPoint st Y)
    rw [hc] at P
    have hx := found_x m c t h (hY 0)
    have ht := fun {h : ℕ} (hh : h < 4) => tv_eq { atPoint st Y with acc := zacc (atPoint st Y).acc } (X0 m c) (bat t.val) (min (t.val % 121) 119) (kvh t.val) hx hh
    have hx' : ∀ r < 128, ∀ l < 640, at3 (atPoint st Y).x 0 r l = at3 (X0 m c) (bat t.val) (128 * (t.val % 121) + r) (640 * kvh t.val + l) := by
      rw [show min (t.val % 121) 119 = t.val % 121 by omega] at hx
      exact hx
    have hM := fun {c' r : ℕ} (h1 : c' < 512) (h2 : r < 15360) => msk_eq { atPoint st Y with acc := zacc (atPoint st Y).acc } b Q (X0 m c) (K0 m c) (KS0 m c) (bat t.val) (t.val % 121) (kvh t.val) hx'
      (found_1 m c t (hY 1)) (found_3 m c t (hY 3)) h1 h2
    refine ⟨fun h' => ?_, P.kp, P.vt, P.ksl, P.vs, fun h0 r hr l hl => ?_, ?_, ?_⟩
    · have e : (t.val + 1) / 121 = t.val / 121 ∧ (t.val + 1) % 121 - 1 = t.val % 121 := by omega
      show Left _ _ _ _ ((t.val + 1) / 121 / 8) ((t.val + 1) % 121 - 1) ((t.val + 1) / 121 % 8)
      rw [e.1, e.2]
      refine ⟨fun c' hc' r hr => ?_, fun c' hc' => ?_⟩
      · rw [P.s r c' hc' hr]
        exact hM hc' (by omega)
      · rw [P.m8 0 (by omega) c' hc']
        congr 1
        exact top_congr fun r hr => hM hc' (by omega)
    · rw [P.out (by omega) r hr l hl, ← hO h0 r hr l hl, show t.val % 121 - 1 + 4 = t.val % 121 + 3 by omega]
    · rw [P.qc]
      intro r hr l hl
      rw [Q.qc r hr l hl, ht (by omega : l / 160 < 4)]
      unfold code
      rw [show (128 * min (t.val % 121) 119 + r) / 128 = min (t.val % 121) 119 by omega,
        show (640 * kvh t.val + l) / 160 = 4 * kvh t.val + l / 160 by omega]
      exact congrArg (fun v => clip (v * _)) (hx r hr l hl)
    · rw [P.qs]
      intro k hk l hl
      rw [Q.qs k hk l hl, ht hk]

/-- The output at the end; -/
def G5 (c : Dev nD) : S2x15360x5120.Idx → EReal := fun i => outK m c (i 0).val (i 1).val (i 2).val
/-- the codes; -/
def G6 (c : Dev nD) : S2x15360x5120.Idx → EReal := fun i => code (X0 m c) (i 0).val (i 1).val (i 2).val
/-- the scales. -/
def G7 (c : Dev nD) : S16x120x4x128.Idx → EReal := fun i => scaleC (tq (X0 m c) ((i 0).val / 8) (i 1).val (4 * ((i 0).val % 8) + (i 2).val))

theorem final_5 (c : Dev nD) {r : PUnit × MemSt nD τ sig (Elt Ideal)} (h : RDat.FramePost (cfgs 0) (rdat m (aft m) (inv m)) (V m) r) :
    r.2.mem ((c.tc : Thread nD τ).loc main_v4_0) = G5 m c := by
  obtain ⟨X, hX, hA⟩ := h.exists_exact c
  refine (hA 5).trans ?_
  refine ((rdat m (aft m) (inv m) c).withAfter X).arrAt_eq_of_covers 5 (G5 m c) covers_5 fun t hf y => ?_
  have hC : outAt m c t.val (X 5 t) := by
    obtain ⟨Z, -, h⟩ := hX 5 t hf
    exact h
  have e := emb_5 t y
  have hy1 : (y 1).val < 128 := (y 1).isLt
  have hy2 : (y 2).val < 640 := (y 2).isLt
  have hy0 : (y 0).val < 1 := (y 0).isLt
  have hv := hC ((flush_5 t).1 hf) (y 1).val hy1 (y 2).val hy2
  rw [at3_of _ (by omega : 0 < 1) hy1 hy2] at hv
  have hG : G5 m c ((win0_5.blk t).view.emb y) = outK m c (bat t.val) (128 * (t.val % 121 - 1) + (y 1).val) (640 * kvh t.val + (y 2).val) :=
    congrArg (G5 m c) e
  refine Eq.trans ?_ hG.symm
  rw [← hv]
  blk_simp
  refine congrArg (X 5 t) ?_
  funext a
  match a with
  | ⟨0, _⟩ => exact Fin.ext (by show (y 0).val = 0; omega)
  | ⟨1, _⟩ => rfl
  | ⟨2, _⟩ => rfl

theorem final_6 (c : Dev nD) {r : PUnit × MemSt nD τ sig (Elt Ideal)} (h : RDat.FramePost (cfgs 0) (rdat m (aft m) (inv m)) (V m) r) :
    r.2.mem ((c.tc : Thread nD τ).loc main_v4_1) = G6 m c := by
  obtain ⟨X, hX, hA⟩ := h.exists_exact c
  refine (hA 6).trans ?_
  refine ((rdat m (aft m) (inv m) c).withAfter X).arrAt_eq_of_covers 6 (G6 m c) covers_6 fun t hf y => ?_
  have hC : codesAt m c t.val (X 6 t) := by
    obtain ⟨Z, -, h⟩ := hX 6 t hf
    exact h
  have e := emb_6 t y
  have hy1 : (y 1).val < 128 := (y 1).isLt
  have hy2 : (y 2).val < 640 := (y 2).isLt
  have hy0 : (y 0).val < 1 := (y 0).isLt
  have hv := hC (y 1).val hy1 (y 2).val hy2
  rw [at3_of _ (by omega : 0 < 1) hy1 hy2] at hv
  have hG : G6 m c ((win0_6.blk t).view.emb y) = code (X0 m c) (bat t.val) (128 * min (t.val % 121) 119 + (y 1).val) (640 * kvh t.val + (y 2).val) :=
    congrArg (G6 m c) e
  refine Eq.trans ?_ hG.symm
  rw [← hv]
  blk_simp
  refine congrArg (X 6 t) ?_
  funext a
  match a with
  | ⟨0, _⟩ => exact Fin.ext (by show (y 0).val = 0; omega)
  | ⟨1, _⟩ => rfl
  | ⟨2, _⟩ => rfl

theorem G7_at (c : Dev nD) (a : Fin 16) (n : Fin 120) (g : Fin 4) (l : Fin 128) :
    G7 m c (ix4 a n g l) = scaleC (tq (X0 m c) (a.val / 8) n.val (4 * (a.val % 8) + g.val)) := rfl

theorem final_7 (c : Dev nD) {r : PUnit × MemSt nD τ sig (Elt Ideal)} (h : RDat.FramePost (cfgs 0) (rdat m (aft m) (inv m)) (V m) r) :
    r.2.mem ((c.tc : Thread nD τ).loc main_v4_2) = G7 m c := by
  obtain ⟨X, hX, hA⟩ := h.exists_exact c
  refine (hA 7).trans ?_
  refine ((rdat m (aft m) (inv m) c).withAfter X).arrAt_eq_of_covers 7 (G7 m c) covers_7 fun t hf y => ?_
  have hC : scalesAt m c t.val (X 7 t) := by
    obtain ⟨Z, -, h⟩ := hX 7 t hf
    exact h
  have e := emb_7 t y
  have hy2 : (y 2).val < 4 := (y 2).isLt
  have hy3 : (y 3).val < 128 := (y 3).isLt
  have hy0 : (y 0).val < 1 := (y 0).isLt
  have hy1 : (y 1).val < 1 := (y 1).isLt
  have hv := hC (y 2).val hy2 (y 3).val hy3
  rw [at4_of _ (by omega : 0 < 1) (by omega : 0 < 1) hy2 hy3] at hv
  have hG : G7 m c ((win0_7.blk t).view.emb y) = scaleC (tq (X0 m c) (bat t.val) (min (t.val % 121) 119) (4 * kvh t.val + (y 2).val)) :=
    (congrArg (G7 m c) e).trans (G7_at m c _ _ _ _)
  refine Eq.trans ?_ hG.symm
  rw [← hv]
  blk_simp
  refine congrArg (X 7 t) ?_
  funext a
  match a with
  | ⟨0, _⟩ => exact Fin.ext (by show (y 0).val = 0; omega)
  | ⟨1, _⟩ => exact Fin.ext (by show (y 1).val = 0; omega)
  | ⟨2, _⟩ => rfl
  | ⟨3, _⟩ => rfl

end Cert.KernelIdeal.Hand
-- ==== Proof.Ideal.Entry.lean ====
/-
  The scales of the keys and of the values that the kernel finds: those given, the same in every lane.
-/
module

public import proofs.«01_k».proof.Proof.Ideal.Whole

@[expose] public section

noncomputable section

namespace Cert.KernelIdeal.Hand

open Idealize.ShloMosaic Idealize.ShloMosaic.Tactic Idealize.SL.Sem
open Cert.KernelIdeal Cert.KernelIdeal.Gen

variable (m : (ℓ : Loc nD τ sig) → Buf (Elt Ideal) ℓ)

theorem KS0_at (c : Dev nD) (b : Fin 2) (h : Fin 8) (g : Fin 240) (l : Fin 128) :
    KS0 m c (ix4 b h g l) = (m ((c.tc : Thread nD τ).loc main_arg3) : S2x8x240.Idx → EReal) (ix3 b h g) := by
  unfold KS0
  entry_read
  refine congrArg (m ((c.tc : Thread nD τ).loc main_arg3) : S2x8x240.Idx → EReal) ?_
  funext a
  fin_cases a <;> rfl

theorem VS0_at (c : Dev nD) (b : Fin 2) (h : Fin 8) (d : Fin 160) (l : Fin 128) :
    VS0 m c (ix4 b h d l) = (m ((c.tc : Thread nD τ).loc main_arg4) : S2x8x160.Idx → EReal) (ix3 b h d) := by
  unfold VS0
  entry_read
  refine congrArg (m ((c.tc : Thread nD τ).loc main_arg4) : S2x8x160.Idx → EReal) ?_
  funext a
  fin_cases a <;> rfl

end Cert.KernelIdeal.Hand

end
-- ==== Proof.lean ====
/-
  The proof of `Cert.Claim`: the frames, the ledger of the idealization, and the results of kernel and reference equal.
-/
module

public import proofs.«01_k».proof.Defs
public import proofs.«01_k».proof.Proof.Bits.Track
public import proofs.«01_k».proof.Proof.Meet
public import proofs.«01_k».proof.Proof.Ideal.Entry
public import proofs.«01_k».proof.Proof.Gen.ReferenceIdeal.Frame
public import proofs.«01_k».proof.Proof.Gen.ReferenceIdeal.Value

@[expose] public section

noncomputable section

namespace Cert.Proof

open Idealize.ShloMosaic Idealize.SL.Sem

open Cert.Meet in
/-- The output, the codes and the scales, from memories agreeing on the arguments. -/
theorem results : Cert.algebraic_KernelIdeal_ReferenceIdeal_pre_finite_queries := by
  intro m g m' g' hp ha
  refine ⟨fun c => Cert.KernelIdeal.Hand.G5 m c, fun c => Cert.KernelIdeal.Hand.G6 m c, fun c => Cert.KernelIdeal.Hand.G7 m c, ?_, ?_⟩
  · refine (θ_run _ _ _).mono (fun r h c => ?_) (Cert.KernelIdeal.Hand.run_main (aft := Cert.KernelIdeal.Hand.aft m) (Inv := Cert.KernelIdeal.Hand.inv m) m g
      (fun _ _ h => absurd rfl h) fun c => Cert.KernelIdeal.Hand.step m c)
    exact ⟨Cert.KernelIdeal.Hand.final_5 m c h.1, Cert.KernelIdeal.Hand.final_6 m c h.1, Cert.KernelIdeal.Hand.final_7 m c h.1,
      Cert.KernelIdeal.Hand.args_of m h.1 c⟩
  · refine (θ_run _ _ _).mono (fun r h c => ?_) (Cert.ReferenceIdeal.Value.run m' g')
    obtain ⟨h5, h6, h7, hk⟩ := h c
    have hX : Tame (Cert.KernelIdeal.Hand.X0 m c) := by
      have h := tame_of _ _ _ _ _ (hp c)
      rwa [← Cert.KernelIdeal.Gen.V_main_arg0 m c] at h
    have hA : m' ((c.tc : Thread Cert.ReferenceIdeal.nD Cert.ReferenceIdeal.τ).loc Cert.ReferenceIdeal.main_arg0) = Cert.KernelIdeal.Hand.X0 m c :=
      (ha c).1.trans (Cert.KernelIdeal.Gen.V_main_arg0 m c).symm
    have hB : m' ((c.tc : Thread Cert.ReferenceIdeal.nD Cert.ReferenceIdeal.τ).loc Cert.ReferenceIdeal.main_arg1) = Cert.KernelIdeal.Hand.K0 m c :=
      (ha c).2.1.trans (Cert.KernelIdeal.Gen.V_main_arg1 m c).symm
    have hC : m' ((c.tc : Thread Cert.ReferenceIdeal.nD Cert.ReferenceIdeal.τ).loc Cert.ReferenceIdeal.main_arg2) = Cert.KernelIdeal.Hand.VT0 m c :=
      (ha c).2.2.1.trans (Cert.KernelIdeal.Gen.V_main_arg2 m c).symm
    refine ⟨h5.trans (funext fun i => ?_), h6.trans (funext fun i => ?_), h7.trans (funext fun i => ?_), hk⟩
    · show Cert.ReferenceIdeal.Gen.k0_pay1 (F := Ideal) (Cert.ReferenceIdeal.Gen.k0_pay8 (F := Ideal) (m' ((c.tc : Thread Cert.ReferenceIdeal.nD Cert.ReferenceIdeal.τ).loc Cert.ReferenceIdeal.main_arg2)))
        (Cert.ReferenceIdeal.Gen.k0_pay9 (F := Ideal) (Cert.ReferenceIdeal.Gen.k0_pay4 (F := Ideal) (m' ((c.tc : Thread Cert.ReferenceIdeal.nD Cert.ReferenceIdeal.τ).loc Cert.ReferenceIdeal.main_arg0)))
          (Cert.ReferenceIdeal.Gen.k0_pay6 (F := Ideal) (m' ((c.tc : Thread Cert.ReferenceIdeal.nD Cert.ReferenceIdeal.τ).loc Cert.ReferenceIdeal.main_arg0)))
          (keys (m' ((c.tc : Thread Cert.ReferenceIdeal.nD Cert.ReferenceIdeal.τ).loc Cert.ReferenceIdeal.main_arg1)))
          (m' ((c.tc : Thread Cert.ReferenceIdeal.nD Cert.ReferenceIdeal.τ).loc Cert.ReferenceIdeal.main_arg3)))
        (m' ((c.tc : Thread Cert.ReferenceIdeal.nD Cert.ReferenceIdeal.τ).loc Cert.ReferenceIdeal.main_arg4)) i = _
      rw [hA, hB, hC, (ha c).2.2.2.1, (ha c).2.2.2.2]
      have e : i = ix3 (i 0 : Fin 2) (i 1 : Fin 15360) (i 2 : Fin 5120) := by funext a; fin_cases a <;> rfl
      rw [e]
      exact out_eq hX _ _ _ _ _ (Cert.KernelIdeal.Hand.KS0_at m c) _ (Cert.KernelIdeal.Hand.VS0_at m c) _ _ _
    · show Cert.ReferenceIdeal.Gen.k0_pay5 (F := Ideal) (m' ((c.tc : Thread Cert.ReferenceIdeal.nD Cert.ReferenceIdeal.τ).loc Cert.ReferenceIdeal.main_arg0)) i = _
      rw [hA]
      have e : i = ix3 (i 0 : Fin 2) (i 1 : Fin 15360) (i 2 : Fin 5120) := by funext a; fin_cases a <;> rfl
      rw [e]
      exact code_eq hX _ _ _
    · show Cert.ReferenceIdeal.Gen.k0_pay7 (F := Ideal) (m' ((c.tc : Thread Cert.ReferenceIdeal.nD Cert.ReferenceIdeal.τ).loc Cert.ReferenceIdeal.main_arg0)) i = _
      rw [hA]
      have e : i = ix4 (i 0 : Fin 16) (i 1 : Fin 120) (i 2 : Fin 4) (i 3 : Fin 128) := by funext a; fin_cases a <;> rfl
      rw [e]
      exact scale_eq hX _ _ _ _

theorem claim : Cert.Claim :=
  ⟨Cert.Kernel.Gen.facts, Cert.KernelIdeal.Gen.facts, Cert.ReferenceIdeal.Gen.facts, inferInstance,
    fun m g _ => Cert.Kernel.Hand.frame_run m g,
    fun m g _ => Cert.KernelIdeal.Hand.frame_run m g,
    fun m g _ => Cert.KernelIdeal.Hand.frame_run m g,
    fun m g _ => Cert.ReferenceIdeal.Gen.frame m g,
    fun m g _ => Cert.ReferenceIdeal.Gen.frame m g,
    IdealRules.named_const.statement _ _ .f32 _ _ rfl,
    results⟩

end Cert.Proof

end
